-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attention [hPre_finite_attention : Cert.Pre_finite_attention.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_AttentionIdeal (m : (ℓ : Loc Cert.AttentionIdeal.nD Cert.AttentionIdeal.τ Cert.AttentionIdeal.sig) → Buf (Elt Ideal) ℓ) : Prop :=
  True

def Pre_AttentionIdeal_finite_attention [hPre_finite_attention : Cert.Pre_finite_attention.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_attention.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7)) (m ((c.tc : Thread Cert.AttentionIdeal.nD Cert.AttentionIdeal.τ).loc Cert.AttentionIdeal.main_arg8)) (m ((c.tc : Thread Cert.AttentionIdeal.nD Cert.AttentionIdeal.τ).loc Cert.AttentionIdeal.main_arg9)) (m ((c.tc : Thread Cert.AttentionIdeal.nD Cert.AttentionIdeal.τ).loc Cert.AttentionIdeal.main_arg10))).1 = (fun _ => 1#1)
    ∧ (Cert.Pre_finite_attention.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7)) (m ((c.tc : Thread Cert.AttentionIdeal.nD Cert.AttentionIdeal.τ).loc Cert.AttentionIdeal.main_arg8)) (m ((c.tc : Thread Cert.AttentionIdeal.nD Cert.AttentionIdeal.τ).loc Cert.AttentionIdeal.main_arg9)) (m ((c.tc : Thread Cert.AttentionIdeal.nD Cert.AttentionIdeal.τ).loc Cert.AttentionIdeal.main_arg10))).2 = (fun _ => 1#1)

def Pre_ConvolutionIdeal (m : (ℓ : Loc Cert.ConvolutionIdeal.nD Cert.ConvolutionIdeal.τ Cert.ConvolutionIdeal.sig) → Buf (Elt Ideal) ℓ) : Prop :=
  True

def Pre_FinalFfn (m : (ℓ : Loc Cert.FinalFfn.nD Cert.FinalFfn.τ Cert.FinalFfn.sig) → Buf (Elt Bits) ℓ) : Prop :=
  True

def Pre_FinalFfnIdeal (m : (ℓ : Loc Cert.FinalFfnIdeal.nD Cert.FinalFfnIdeal.τ Cert.FinalFfnIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_PreFfn (m : (ℓ : Loc Cert.PreFfn.nD Cert.PreFfn.τ Cert.PreFfn.sig) → Buf (Elt Bits) ℓ) : Prop :=
  True

def Pre_PreFfnIdeal (m : (ℓ : Loc Cert.PreFfnIdeal.nD Cert.PreFfnIdeal.τ Cert.PreFfnIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_PostFfn (m : (ℓ : Loc Cert.PostFfn.nD Cert.PostFfn.τ Cert.PostFfn.sig) → Buf (Elt Bits) ℓ) : Prop :=
  True

def Pre_PostFfnIdeal (m : (ℓ : Loc Cert.PostFfnIdeal.nD Cert.PostFfnIdeal.τ Cert.PostFfnIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_FirstFfn (m : (ℓ : Loc Cert.FirstFfn.nD Cert.FirstFfn.τ Cert.FirstFfn.sig) → Buf (Elt Bits) ℓ) : Prop :=
  True

def Pre_FirstFfnIdeal (m : (ℓ : Loc Cert.FirstFfnIdeal.nD Cert.FirstFfnIdeal.τ Cert.FirstFfnIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_attention [hKernelIdeal : Cert.KernelIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10))
      ∧ r.2.sem = fun _ => 0)

def quiescent_AttentionIdeal_pre_finite_attention [hAttentionIdeal : Cert.AttentionIdeal.Facts] [hPre_finite_attention : Cert.Pre_finite_attention.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_attention m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10))
      ∧ r.2.sem = fun _ => 0)

def quiescent_ConvolutionIdeal [hConvolutionIdeal : Cert.ConvolutionIdeal.Facts] : Prop :=
  ∀ (m : (ℓ : Loc Cert.ConvolutionIdeal.nD Cert.ConvolutionIdeal.τ Cert.ConvolutionIdeal.sig) → Buf (Elt Ideal) ℓ) (g : Dev Cert.ConvolutionIdeal.nD → PrngReg), Pre_ConvolutionIdeal m →
    θ_run (Cert.ConvolutionIdeal.defs (F := Ideal)) (onTc (τ := Cert.ConvolutionIdeal.τ) (Cert.ConvolutionIdeal.main (F := Ideal))) ⟨m, fun _ => 0, g⟩ (fun r => (∀ c : Dev Cert.ConvolutionIdeal.nD,
      r.2.mem ((c.tc : Thread Cert.ConvolutionIdeal.nD Cert.ConvolutionIdeal.τ).loc Cert.ConvolutionIdeal.main_arg0) = m ((c.tc : Thread Cert.ConvolutionIdeal.nD Cert.ConvolutionIdeal.τ).loc Cert.ConvolutionIdeal.main_arg0)
      ∧ r.2.mem ((c.tc : Thread Cert.ConvolutionIdeal.nD Cert.ConvolutionIdeal.τ).loc Cert.ConvolutionIdeal.main_arg1) = m ((c.tc : Thread Cert.ConvolutionIdeal.nD Cert.ConvolutionIdeal.τ).loc Cert.ConvolutionIdeal.main_arg1)
      ∧ r.2.mem ((c.tc : Thread Cert.ConvolutionIdeal.nD Cert.ConvolutionIdeal.τ).loc Cert.ConvolutionIdeal.main_arg2) = m ((c.tc : Thread Cert.ConvolutionIdeal.nD Cert.ConvolutionIdeal.τ).loc Cert.ConvolutionIdeal.main_arg2)
      ∧ r.2.mem ((c.tc : Thread Cert.ConvolutionIdeal.nD Cert.ConvolutionIdeal.τ).loc Cert.ConvolutionIdeal.main_arg3) = m ((c.tc : Thread Cert.ConvolutionIdeal.nD Cert.ConvolutionIdeal.τ).loc Cert.ConvolutionIdeal.main_arg3)
      ∧ r.2.mem ((c.tc : Thread Cert.ConvolutionIdeal.nD Cert.ConvolutionIdeal.τ).loc Cert.ConvolutionIdeal.main_arg4) = m ((c.tc : Thread Cert.ConvolutionIdeal.nD Cert.ConvolutionIdeal.τ).loc Cert.ConvolutionIdeal.main_arg4)
      ∧ r.2.mem ((c.tc : Thread Cert.ConvolutionIdeal.nD Cert.ConvolutionIdeal.τ).loc Cert.ConvolutionIdeal.main_arg5) = m ((c.tc : Thread Cert.ConvolutionIdeal.nD Cert.ConvolutionIdeal.τ).loc Cert.ConvolutionIdeal.main_arg5)
      ∧ r.2.mem ((c.tc : Thread Cert.ConvolutionIdeal.nD Cert.ConvolutionIdeal.τ).loc Cert.ConvolutionIdeal.main_arg6) = m ((c.tc : Thread Cert.ConvolutionIdeal.nD Cert.ConvolutionIdeal.τ).loc Cert.ConvolutionIdeal.main_arg6)
      ∧ r.2.mem ((c.tc : Thread Cert.ConvolutionIdeal.nD Cert.ConvolutionIdeal.τ).loc Cert.ConvolutionIdeal.main_arg7) = m ((c.tc : Thread Cert.ConvolutionIdeal.nD Cert.ConvolutionIdeal.τ).loc Cert.ConvolutionIdeal.main_arg7)
      ∧ r.2.mem ((c.tc : Thread Cert.ConvolutionIdeal.nD Cert.ConvolutionIdeal.τ).loc Cert.ConvolutionIdeal.main_arg8) = m ((c.tc : Thread Cert.ConvolutionIdeal.nD Cert.ConvolutionIdeal.τ).loc Cert.ConvolutionIdeal.main_arg8)
      ∧ r.2.mem ((c.tc : Thread Cert.ConvolutionIdeal.nD Cert.ConvolutionIdeal.τ).loc Cert.ConvolutionIdeal.main_arg9) = m ((c.tc : Thread Cert.ConvolutionIdeal.nD Cert.ConvolutionIdeal.τ).loc Cert.ConvolutionIdeal.main_arg9)
      ∧ r.2.mem ((c.tc : Thread Cert.ConvolutionIdeal.nD Cert.ConvolutionIdeal.τ).loc Cert.ConvolutionIdeal.main_arg10) = m ((c.tc : Thread Cert.ConvolutionIdeal.nD Cert.ConvolutionIdeal.τ).loc Cert.ConvolutionIdeal.main_arg10))
      ∧ r.2.sem = fun _ => 0)

def quiescent_FinalFfn [hFinalFfn : Cert.FinalFfn.Facts] : Prop :=
  ∀ (m : (ℓ : Loc Cert.FinalFfn.nD Cert.FinalFfn.τ Cert.FinalFfn.sig) → Buf (Elt Bits) ℓ) (g : Dev Cert.FinalFfn.nD → PrngReg), Pre_FinalFfn m →
    θ_run (Cert.FinalFfn.defs (F := Bits)) (onTc (τ := Cert.FinalFfn.τ) (Cert.FinalFfn.main (F := Bits))) ⟨m, fun _ => 0, g⟩ (fun r => (∀ c : Dev Cert.FinalFfn.nD,
      r.2.mem ((c.tc : Thread Cert.FinalFfn.nD Cert.FinalFfn.τ).loc Cert.FinalFfn.main_arg0) = m ((c.tc : Thread Cert.FinalFfn.nD Cert.FinalFfn.τ).loc Cert.FinalFfn.main_arg0)
      ∧ r.2.mem ((c.tc : Thread Cert.FinalFfn.nD Cert.FinalFfn.τ).loc Cert.FinalFfn.main_arg1) = m ((c.tc : Thread Cert.FinalFfn.nD Cert.FinalFfn.τ).loc Cert.FinalFfn.main_arg1)
      ∧ r.2.mem ((c.tc : Thread Cert.FinalFfn.nD Cert.FinalFfn.τ).loc Cert.FinalFfn.main_arg2) = m ((c.tc : Thread Cert.FinalFfn.nD Cert.FinalFfn.τ).loc Cert.FinalFfn.main_arg2)
      ∧ r.2.mem ((c.tc : Thread Cert.FinalFfn.nD Cert.FinalFfn.τ).loc Cert.FinalFfn.main_arg3) = m ((c.tc : Thread Cert.FinalFfn.nD Cert.FinalFfn.τ).loc Cert.FinalFfn.main_arg3)
      ∧ r.2.mem ((c.tc : Thread Cert.FinalFfn.nD Cert.FinalFfn.τ).loc Cert.FinalFfn.main_arg4) = m ((c.tc : Thread Cert.FinalFfn.nD Cert.FinalFfn.τ).loc Cert.FinalFfn.main_arg4)
      ∧ r.2.mem ((c.tc : Thread Cert.FinalFfn.nD Cert.FinalFfn.τ).loc Cert.FinalFfn.main_arg5) = m ((c.tc : Thread Cert.FinalFfn.nD Cert.FinalFfn.τ).loc Cert.FinalFfn.main_arg5)
      ∧ r.2.mem ((c.tc : Thread Cert.FinalFfn.nD Cert.FinalFfn.τ).loc Cert.FinalFfn.main_arg6) = m ((c.tc : Thread Cert.FinalFfn.nD Cert.FinalFfn.τ).loc Cert.FinalFfn.main_arg6)
      ∧ r.2.mem ((c.tc : Thread Cert.FinalFfn.nD Cert.FinalFfn.τ).loc Cert.FinalFfn.main_arg7) = m ((c.tc : Thread Cert.FinalFfn.nD Cert.FinalFfn.τ).loc Cert.FinalFfn.main_arg7))
      ∧ r.2.sem = fun _ => 0)

def quiescent_FinalFfnIdeal [hFinalFfnIdeal : Cert.FinalFfnIdeal.Facts] : Prop :=
  ∀ (m : (ℓ : Loc Cert.FinalFfnIdeal.nD Cert.FinalFfnIdeal.τ Cert.FinalFfnIdeal.sig) → Buf (Elt Ideal) ℓ) (g : Dev Cert.FinalFfnIdeal.nD → PrngReg), Pre_FinalFfnIdeal m →
    θ_run (Cert.FinalFfnIdeal.defs (F := Ideal)) (onTc (τ := Cert.FinalFfnIdeal.τ) (Cert.FinalFfnIdeal.main (F := Ideal))) ⟨m, fun _ => 0, g⟩ (fun r => (∀ c : Dev Cert.FinalFfnIdeal.nD,
      r.2.mem ((c.tc : Thread Cert.FinalFfnIdeal.nD Cert.FinalFfnIdeal.τ).loc Cert.FinalFfnIdeal.main_arg0) = m ((c.tc : Thread Cert.FinalFfnIdeal.nD Cert.FinalFfnIdeal.τ).loc Cert.FinalFfnIdeal.main_arg0)
      ∧ r.2.mem ((c.tc : Thread Cert.FinalFfnIdeal.nD Cert.FinalFfnIdeal.τ).loc Cert.FinalFfnIdeal.main_arg1) = m ((c.tc : Thread Cert.FinalFfnIdeal.nD Cert.FinalFfnIdeal.τ).loc Cert.FinalFfnIdeal.main_arg1)
      ∧ r.2.mem ((c.tc : Thread Cert.FinalFfnIdeal.nD Cert.FinalFfnIdeal.τ).loc Cert.FinalFfnIdeal.main_arg2) = m ((c.tc : Thread Cert.FinalFfnIdeal.nD Cert.FinalFfnIdeal.τ).loc Cert.FinalFfnIdeal.main_arg2)
      ∧ r.2.mem ((c.tc : Thread Cert.FinalFfnIdeal.nD Cert.FinalFfnIdeal.τ).loc Cert.FinalFfnIdeal.main_arg3) = m ((c.tc : Thread Cert.FinalFfnIdeal.nD Cert.FinalFfnIdeal.τ).loc Cert.FinalFfnIdeal.main_arg3)
      ∧ r.2.mem ((c.tc : Thread Cert.FinalFfnIdeal.nD Cert.FinalFfnIdeal.τ).loc Cert.FinalFfnIdeal.main_arg4) = m ((c.tc : Thread Cert.FinalFfnIdeal.nD Cert.FinalFfnIdeal.τ).loc Cert.FinalFfnIdeal.main_arg4)
      ∧ r.2.mem ((c.tc : Thread Cert.FinalFfnIdeal.nD Cert.FinalFfnIdeal.τ).loc Cert.FinalFfnIdeal.main_arg5) = m ((c.tc : Thread Cert.FinalFfnIdeal.nD Cert.FinalFfnIdeal.τ).loc Cert.FinalFfnIdeal.main_arg5)
      ∧ r.2.mem ((c.tc : Thread Cert.FinalFfnIdeal.nD Cert.FinalFfnIdeal.τ).loc Cert.FinalFfnIdeal.main_arg6) = m ((c.tc : Thread Cert.FinalFfnIdeal.nD Cert.FinalFfnIdeal.τ).loc Cert.FinalFfnIdeal.main_arg6)
      ∧ r.2.mem ((c.tc : Thread Cert.FinalFfnIdeal.nD Cert.FinalFfnIdeal.τ).loc Cert.FinalFfnIdeal.main_arg7) = m ((c.tc : Thread Cert.FinalFfnIdeal.nD Cert.FinalFfnIdeal.τ).loc Cert.FinalFfnIdeal.main_arg7))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5)
      ∧ r.2.mem ((c.tc : Thread Cert.FinalRefIdeal.nD Cert.FinalRefIdeal.τ).loc Cert.FinalRefIdeal.main_arg6) = m ((c.tc : Thread Cert.FinalRefIdeal.nD Cert.FinalRefIdeal.τ).loc Cert.FinalRefIdeal.main_arg6)
      ∧ r.2.mem ((c.tc : Thread Cert.FinalRefIdeal.nD Cert.FinalRefIdeal.τ).loc Cert.FinalRefIdeal.main_arg7) = m ((c.tc : Thread Cert.FinalRefIdeal.nD Cert.FinalRefIdeal.τ).loc Cert.FinalRefIdeal.main_arg7))
      ∧ r.2.sem = fun _ => 0)

def quiescent_PreFfn [hPreFfn : Cert.PreFfn.Facts] : Prop :=
  ∀ (m : (ℓ : Loc Cert.PreFfn.nD Cert.PreFfn.τ Cert.PreFfn.sig) → Buf (Elt Bits) ℓ) (g : Dev Cert.PreFfn.nD → PrngReg), Pre_PreFfn m →
    θ_run (Cert.PreFfn.defs (F := Bits)) (onTc (τ := Cert.PreFfn.τ) (Cert.PreFfn.main (F := Bits))) ⟨m, fun _ => 0, g⟩ (fun r => (∀ c : Dev Cert.PreFfn.nD,
      r.2.mem ((c.tc : Thread Cert.PreFfn.nD Cert.PreFfn.τ).loc Cert.PreFfn.main_arg0) = m ((c.tc : Thread Cert.PreFfn.nD Cert.PreFfn.τ).loc Cert.PreFfn.main_arg0)
      ∧ r.2.mem ((c.tc : Thread Cert.PreFfn.nD Cert.PreFfn.τ).loc Cert.PreFfn.main_arg1) = m ((c.tc : Thread Cert.PreFfn.nD Cert.PreFfn.τ).loc Cert.PreFfn.main_arg1)
      ∧ r.2.mem ((c.tc : Thread Cert.PreFfn.nD Cert.PreFfn.τ).loc Cert.PreFfn.main_arg2) = m ((c.tc : Thread Cert.PreFfn.nD Cert.PreFfn.τ).loc Cert.PreFfn.main_arg2)
      ∧ r.2.mem ((c.tc : Thread Cert.PreFfn.nD Cert.PreFfn.τ).loc Cert.PreFfn.main_arg3) = m ((c.tc : Thread Cert.PreFfn.nD Cert.PreFfn.τ).loc Cert.PreFfn.main_arg3)
      ∧ r.2.mem ((c.tc : Thread Cert.PreFfn.nD Cert.PreFfn.τ).loc Cert.PreFfn.main_arg4) = m ((c.tc : Thread Cert.PreFfn.nD Cert.PreFfn.τ).loc Cert.PreFfn.main_arg4)
      ∧ r.2.mem ((c.tc : Thread Cert.PreFfn.nD Cert.PreFfn.τ).loc Cert.PreFfn.main_arg5) = m ((c.tc : Thread Cert.PreFfn.nD Cert.PreFfn.τ).loc Cert.PreFfn.main_arg5)
      ∧ r.2.mem ((c.tc : Thread Cert.PreFfn.nD Cert.PreFfn.τ).loc Cert.PreFfn.main_arg6) = m ((c.tc : Thread Cert.PreFfn.nD Cert.PreFfn.τ).loc Cert.PreFfn.main_arg6))
      ∧ r.2.sem = fun _ => 0)

def quiescent_PreFfnIdeal [hPreFfnIdeal : Cert.PreFfnIdeal.Facts] : Prop :=
  ∀ (m : (ℓ : Loc Cert.PreFfnIdeal.nD Cert.PreFfnIdeal.τ Cert.PreFfnIdeal.sig) → Buf (Elt Ideal) ℓ) (g : Dev Cert.PreFfnIdeal.nD → PrngReg), Pre_PreFfnIdeal m →
    θ_run (Cert.PreFfnIdeal.defs (F := Ideal)) (onTc (τ := Cert.PreFfnIdeal.τ) (Cert.PreFfnIdeal.main (F := Ideal))) ⟨m, fun _ => 0, g⟩ (fun r => (∀ c : Dev Cert.PreFfnIdeal.nD,
      r.2.mem ((c.tc : Thread Cert.PreFfnIdeal.nD Cert.PreFfnIdeal.τ).loc Cert.PreFfnIdeal.main_arg0) = m ((c.tc : Thread Cert.PreFfnIdeal.nD Cert.PreFfnIdeal.τ).loc Cert.PreFfnIdeal.main_arg0)
      ∧ r.2.mem ((c.tc : Thread Cert.PreFfnIdeal.nD Cert.PreFfnIdeal.τ).loc Cert.PreFfnIdeal.main_arg1) = m ((c.tc : Thread Cert.PreFfnIdeal.nD Cert.PreFfnIdeal.τ).loc Cert.PreFfnIdeal.main_arg1)
      ∧ r.2.mem ((c.tc : Thread Cert.PreFfnIdeal.nD Cert.PreFfnIdeal.τ).loc Cert.PreFfnIdeal.main_arg2) = m ((c.tc : Thread Cert.PreFfnIdeal.nD Cert.PreFfnIdeal.τ).loc Cert.PreFfnIdeal.main_arg2)
      ∧ r.2.mem ((c.tc : Thread Cert.PreFfnIdeal.nD Cert.PreFfnIdeal.τ).loc Cert.PreFfnIdeal.main_arg3) = m ((c.tc : Thread Cert.PreFfnIdeal.nD Cert.PreFfnIdeal.τ).loc Cert.PreFfnIdeal.main_arg3)
      ∧ r.2.mem ((c.tc : Thread Cert.PreFfnIdeal.nD Cert.PreFfnIdeal.τ).loc Cert.PreFfnIdeal.main_arg4) = m ((c.tc : Thread Cert.PreFfnIdeal.nD Cert.PreFfnIdeal.τ).loc Cert.PreFfnIdeal.main_arg4)
      ∧ r.2.mem ((c.tc : Thread Cert.PreFfnIdeal.nD Cert.PreFfnIdeal.τ).loc Cert.PreFfnIdeal.main_arg5) = m ((c.tc : Thread Cert.PreFfnIdeal.nD Cert.PreFfnIdeal.τ).loc Cert.PreFfnIdeal.main_arg5)
      ∧ r.2.mem ((c.tc : Thread Cert.PreFfnIdeal.nD Cert.PreFfnIdeal.τ).loc Cert.PreFfnIdeal.main_arg6) = m ((c.tc : Thread Cert.PreFfnIdeal.nD Cert.PreFfnIdeal.τ).loc Cert.PreFfnIdeal.main_arg6))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6))
      ∧ r.2.sem = fun _ => 0)

def quiescent_PostFfn [hPostFfn : Cert.PostFfn.Facts] : Prop :=
  ∀ (m : (ℓ : Loc Cert.PostFfn.nD Cert.PostFfn.τ Cert.PostFfn.sig) → Buf (Elt Bits) ℓ) (g : Dev Cert.PostFfn.nD → PrngReg), Pre_PostFfn m →
    θ_run (Cert.PostFfn.defs (F := Bits)) (onTc (τ := Cert.PostFfn.τ) (Cert.PostFfn.main (F := Bits))) ⟨m, fun _ => 0, g⟩ (fun r => (∀ c : Dev Cert.PostFfn.nD,
      r.2.mem ((c.tc : Thread Cert.PostFfn.nD Cert.PostFfn.τ).loc Cert.PostFfn.main_arg0) = m ((c.tc : Thread Cert.PostFfn.nD Cert.PostFfn.τ).loc Cert.PostFfn.main_arg0)
      ∧ r.2.mem ((c.tc : Thread Cert.PostFfn.nD Cert.PostFfn.τ).loc Cert.PostFfn.main_arg1) = m ((c.tc : Thread Cert.PostFfn.nD Cert.PostFfn.τ).loc Cert.PostFfn.main_arg1)
      ∧ r.2.mem ((c.tc : Thread Cert.PostFfn.nD Cert.PostFfn.τ).loc Cert.PostFfn.main_arg2) = m ((c.tc : Thread Cert.PostFfn.nD Cert.PostFfn.τ).loc Cert.PostFfn.main_arg2)
      ∧ r.2.mem ((c.tc : Thread Cert.PostFfn.nD Cert.PostFfn.τ).loc Cert.PostFfn.main_arg3) = m ((c.tc : Thread Cert.PostFfn.nD Cert.PostFfn.τ).loc Cert.PostFfn.main_arg3)
      ∧ r.2.mem ((c.tc : Thread Cert.PostFfn.nD Cert.PostFfn.τ).loc Cert.PostFfn.main_arg4) = m ((c.tc : Thread Cert.PostFfn.nD Cert.PostFfn.τ).loc Cert.PostFfn.main_arg4)
      ∧ r.2.mem ((c.tc : Thread Cert.PostFfn.nD Cert.PostFfn.τ).loc Cert.PostFfn.main_arg5) = m ((c.tc : Thread Cert.PostFfn.nD Cert.PostFfn.τ).loc Cert.PostFfn.main_arg5)
      ∧ r.2.mem ((c.tc : Thread Cert.PostFfn.nD Cert.PostFfn.τ).loc Cert.PostFfn.main_arg6) = m ((c.tc : Thread Cert.PostFfn.nD Cert.PostFfn.τ).loc Cert.PostFfn.main_arg6))
      ∧ r.2.sem = fun _ => 0)

def quiescent_PostFfnIdeal [hPostFfnIdeal : Cert.PostFfnIdeal.Facts] : Prop :=
  ∀ (m : (ℓ : Loc Cert.PostFfnIdeal.nD Cert.PostFfnIdeal.τ Cert.PostFfnIdeal.sig) → Buf (Elt Ideal) ℓ) (g : Dev Cert.PostFfnIdeal.nD → PrngReg), Pre_PostFfnIdeal m →
    θ_run (Cert.PostFfnIdeal.defs (F := Ideal)) (onTc (τ := Cert.PostFfnIdeal.τ) (Cert.PostFfnIdeal.main (F := Ideal))) ⟨m, fun _ => 0, g⟩ (fun r => (∀ c : Dev Cert.PostFfnIdeal.nD,
      r.2.mem ((c.tc : Thread Cert.PostFfnIdeal.nD Cert.PostFfnIdeal.τ).loc Cert.PostFfnIdeal.main_arg0) = m ((c.tc : Thread Cert.PostFfnIdeal.nD Cert.PostFfnIdeal.τ).loc Cert.PostFfnIdeal.main_arg0)
      ∧ r.2.mem ((c.tc : Thread Cert.PostFfnIdeal.nD Cert.PostFfnIdeal.τ).loc Cert.PostFfnIdeal.main_arg1) = m ((c.tc : Thread Cert.PostFfnIdeal.nD Cert.PostFfnIdeal.τ).loc Cert.PostFfnIdeal.main_arg1)
      ∧ r.2.mem ((c.tc : Thread Cert.PostFfnIdeal.nD Cert.PostFfnIdeal.τ).loc Cert.PostFfnIdeal.main_arg2) = m ((c.tc : Thread Cert.PostFfnIdeal.nD Cert.PostFfnIdeal.τ).loc Cert.PostFfnIdeal.main_arg2)
      ∧ r.2.mem ((c.tc : Thread Cert.PostFfnIdeal.nD Cert.PostFfnIdeal.τ).loc Cert.PostFfnIdeal.main_arg3) = m ((c.tc : Thread Cert.PostFfnIdeal.nD Cert.PostFfnIdeal.τ).loc Cert.PostFfnIdeal.main_arg3)
      ∧ r.2.mem ((c.tc : Thread Cert.PostFfnIdeal.nD Cert.PostFfnIdeal.τ).loc Cert.PostFfnIdeal.main_arg4) = m ((c.tc : Thread Cert.PostFfnIdeal.nD Cert.PostFfnIdeal.τ).loc Cert.PostFfnIdeal.main_arg4)
      ∧ r.2.mem ((c.tc : Thread Cert.PostFfnIdeal.nD Cert.PostFfnIdeal.τ).loc Cert.PostFfnIdeal.main_arg5) = m ((c.tc : Thread Cert.PostFfnIdeal.nD Cert.PostFfnIdeal.τ).loc Cert.PostFfnIdeal.main_arg5)
      ∧ r.2.mem ((c.tc : Thread Cert.PostFfnIdeal.nD Cert.PostFfnIdeal.τ).loc Cert.PostFfnIdeal.main_arg6) = m ((c.tc : Thread Cert.PostFfnIdeal.nD Cert.PostFfnIdeal.τ).loc Cert.PostFfnIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_FirstFfn [hFirstFfn : Cert.FirstFfn.Facts] : Prop :=
  ∀ (m : (ℓ : Loc Cert.FirstFfn.nD Cert.FirstFfn.τ Cert.FirstFfn.sig) → Buf (Elt Bits) ℓ) (g : Dev Cert.FirstFfn.nD → PrngReg), Pre_FirstFfn m →
    θ_run (Cert.FirstFfn.defs (F := Bits)) (onTc (τ := Cert.FirstFfn.τ) (Cert.FirstFfn.main (F := Bits))) ⟨m, fun _ => 0, g⟩ (fun r => (∀ c : Dev Cert.FirstFfn.nD,
      r.2.mem ((c.tc : Thread Cert.FirstFfn.nD Cert.FirstFfn.τ).loc Cert.FirstFfn.main_arg0) = m ((c.tc : Thread Cert.FirstFfn.nD Cert.FirstFfn.τ).loc Cert.FirstFfn.main_arg0)
      ∧ r.2.mem ((c.tc : Thread Cert.FirstFfn.nD Cert.FirstFfn.τ).loc Cert.FirstFfn.main_arg1) = m ((c.tc : Thread Cert.FirstFfn.nD Cert.FirstFfn.τ).loc Cert.FirstFfn.main_arg1)
      ∧ r.2.mem ((c.tc : Thread Cert.FirstFfn.nD Cert.FirstFfn.τ).loc Cert.FirstFfn.main_arg2) = m ((c.tc : Thread Cert.FirstFfn.nD Cert.FirstFfn.τ).loc Cert.FirstFfn.main_arg2)
      ∧ r.2.mem ((c.tc : Thread Cert.FirstFfn.nD Cert.FirstFfn.τ).loc Cert.FirstFfn.main_arg3) = m ((c.tc : Thread Cert.FirstFfn.nD Cert.FirstFfn.τ).loc Cert.FirstFfn.main_arg3)
      ∧ r.2.mem ((c.tc : Thread Cert.FirstFfn.nD Cert.FirstFfn.τ).loc Cert.FirstFfn.main_arg4) = m ((c.tc : Thread Cert.FirstFfn.nD Cert.FirstFfn.τ).loc Cert.FirstFfn.main_arg4)
      ∧ r.2.mem ((c.tc : Thread Cert.FirstFfn.nD Cert.FirstFfn.τ).loc Cert.FirstFfn.main_arg5) = m ((c.tc : Thread Cert.FirstFfn.nD Cert.FirstFfn.τ).loc Cert.FirstFfn.main_arg5)
      ∧ r.2.mem ((c.tc : Thread Cert.FirstFfn.nD Cert.FirstFfn.τ).loc Cert.FirstFfn.main_arg6) = m ((c.tc : Thread Cert.FirstFfn.nD Cert.FirstFfn.τ).loc Cert.FirstFfn.main_arg6)
      ∧ r.2.mem ((c.tc : Thread Cert.FirstFfn.nD Cert.FirstFfn.τ).loc Cert.FirstFfn.main_arg7) = m ((c.tc : Thread Cert.FirstFfn.nD Cert.FirstFfn.τ).loc Cert.FirstFfn.main_arg7))
      ∧ r.2.sem = fun _ => 0)

def quiescent_FirstFfnIdeal [hFirstFfnIdeal : Cert.FirstFfnIdeal.Facts] : Prop :=
  ∀ (m : (ℓ : Loc Cert.FirstFfnIdeal.nD Cert.FirstFfnIdeal.τ Cert.FirstFfnIdeal.sig) → Buf (Elt Ideal) ℓ) (g : Dev Cert.FirstFfnIdeal.nD → PrngReg), Pre_FirstFfnIdeal m →
    θ_run (Cert.FirstFfnIdeal.defs (F := Ideal)) (onTc (τ := Cert.FirstFfnIdeal.τ) (Cert.FirstFfnIdeal.main (F := Ideal))) ⟨m, fun _ => 0, g⟩ (fun r => (∀ c : Dev Cert.FirstFfnIdeal.nD,
      r.2.mem ((c.tc : Thread Cert.FirstFfnIdeal.nD Cert.FirstFfnIdeal.τ).loc Cert.FirstFfnIdeal.main_arg0) = m ((c.tc : Thread Cert.FirstFfnIdeal.nD Cert.FirstFfnIdeal.τ).loc Cert.FirstFfnIdeal.main_arg0)
      ∧ r.2.mem ((c.tc : Thread Cert.FirstFfnIdeal.nD Cert.FirstFfnIdeal.τ).loc Cert.FirstFfnIdeal.main_arg1) = m ((c.tc : Thread Cert.FirstFfnIdeal.nD Cert.FirstFfnIdeal.τ).loc Cert.FirstFfnIdeal.main_arg1)
      ∧ r.2.mem ((c.tc : Thread Cert.FirstFfnIdeal.nD Cert.FirstFfnIdeal.τ).loc Cert.FirstFfnIdeal.main_arg2) = m ((c.tc : Thread Cert.FirstFfnIdeal.nD Cert.FirstFfnIdeal.τ).loc Cert.FirstFfnIdeal.main_arg2)
      ∧ r.2.mem ((c.tc : Thread Cert.FirstFfnIdeal.nD Cert.FirstFfnIdeal.τ).loc Cert.FirstFfnIdeal.main_arg3) = m ((c.tc : Thread Cert.FirstFfnIdeal.nD Cert.FirstFfnIdeal.τ).loc Cert.FirstFfnIdeal.main_arg3)
      ∧ r.2.mem ((c.tc : Thread Cert.FirstFfnIdeal.nD Cert.FirstFfnIdeal.τ).loc Cert.FirstFfnIdeal.main_arg4) = m ((c.tc : Thread Cert.FirstFfnIdeal.nD Cert.FirstFfnIdeal.τ).loc Cert.FirstFfnIdeal.main_arg4)
      ∧ r.2.mem ((c.tc : Thread Cert.FirstFfnIdeal.nD Cert.FirstFfnIdeal.τ).loc Cert.FirstFfnIdeal.main_arg5) = m ((c.tc : Thread Cert.FirstFfnIdeal.nD Cert.FirstFfnIdeal.τ).loc Cert.FirstFfnIdeal.main_arg5)
      ∧ r.2.mem ((c.tc : Thread Cert.FirstFfnIdeal.nD Cert.FirstFfnIdeal.τ).loc Cert.FirstFfnIdeal.main_arg6) = m ((c.tc : Thread Cert.FirstFfnIdeal.nD Cert.FirstFfnIdeal.τ).loc Cert.FirstFfnIdeal.main_arg6)
      ∧ r.2.mem ((c.tc : Thread Cert.FirstFfnIdeal.nD Cert.FirstFfnIdeal.τ).loc Cert.FirstFfnIdeal.main_arg7) = m ((c.tc : Thread Cert.FirstFfnIdeal.nD Cert.FirstFfnIdeal.τ).loc Cert.FirstFfnIdeal.main_arg7))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def preserves_Kernel_KernelIdeal : Prop :=
  True

def algebraic_KernelIdeal_AttentionIdeal_on_attention_columns_pre_finite_attention [hKernelIdeal : Cert.KernelIdeal.Facts] [hAttentionIdeal : Cert.AttentionIdeal.Facts] [hPre_finite_attention : Cert.Pre_finite_attention.Facts] [hOn_attention_columns : Cert.On_attention_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.AttentionIdeal.nD Cert.AttentionIdeal.τ Cert.AttentionIdeal.sig) → Buf (Elt Ideal) ℓ) (g' : Dev Cert.AttentionIdeal.nD → PrngReg), Pre_KernelIdeal_finite_attention m →
    (∀ c : Dev Cert.KernelIdeal.nD,
      m' ((c.tc : Thread Cert.AttentionIdeal.nD Cert.AttentionIdeal.τ).loc Cert.AttentionIdeal.main_arg0) = m ((c.tc : Thread Cert.KernelIdeal.nD Cert.KernelIdeal.τ).loc Cert.KernelIdeal.main_arg0)
      ∧ m' ((c.tc : Thread Cert.AttentionIdeal.nD Cert.AttentionIdeal.τ).loc Cert.AttentionIdeal.main_arg1) = m ((c.tc : Thread Cert.KernelIdeal.nD Cert.KernelIdeal.τ).loc Cert.KernelIdeal.main_arg1)
      ∧ m' ((c.tc : Thread Cert.AttentionIdeal.nD Cert.AttentionIdeal.τ).loc Cert.AttentionIdeal.main_arg2) = m ((c.tc : Thread Cert.KernelIdeal.nD Cert.KernelIdeal.τ).loc Cert.KernelIdeal.main_arg2)
      ∧ m' ((c.tc : Thread Cert.AttentionIdeal.nD Cert.AttentionIdeal.τ).loc Cert.AttentionIdeal.main_arg3) = m ((c.tc : Thread Cert.KernelIdeal.nD Cert.KernelIdeal.τ).loc Cert.KernelIdeal.main_arg3)
      ∧ m' ((c.tc : Thread Cert.AttentionIdeal.nD Cert.AttentionIdeal.τ).loc Cert.AttentionIdeal.main_arg4) = m ((c.tc : Thread Cert.KernelIdeal.nD Cert.KernelIdeal.τ).loc Cert.KernelIdeal.main_arg4)
      ∧ m' ((c.tc : Thread Cert.AttentionIdeal.nD Cert.AttentionIdeal.τ).loc Cert.AttentionIdeal.main_arg5) = m ((c.tc : Thread Cert.KernelIdeal.nD Cert.KernelIdeal.τ).loc Cert.KernelIdeal.main_arg5)
      ∧ m' ((c.tc : Thread Cert.AttentionIdeal.nD Cert.AttentionIdeal.τ).loc Cert.AttentionIdeal.main_arg6) = m ((c.tc : Thread Cert.KernelIdeal.nD Cert.KernelIdeal.τ).loc Cert.KernelIdeal.main_arg6)
      ∧ m' ((c.tc : Thread Cert.AttentionIdeal.nD Cert.AttentionIdeal.τ).loc Cert.AttentionIdeal.main_arg7) = m ((c.tc : Thread Cert.KernelIdeal.nD Cert.KernelIdeal.τ).loc Cert.KernelIdeal.main_arg7)
      ∧ m' ((c.tc : Thread Cert.AttentionIdeal.nD Cert.AttentionIdeal.τ).loc Cert.AttentionIdeal.main_arg8) = m ((c.tc : Thread Cert.KernelIdeal.nD Cert.KernelIdeal.τ).loc Cert.KernelIdeal.main_arg8)
      ∧ m' ((c.tc : Thread Cert.AttentionIdeal.nD Cert.AttentionIdeal.τ).loc Cert.AttentionIdeal.main_arg9) = m ((c.tc : Thread Cert.KernelIdeal.nD Cert.KernelIdeal.τ).loc Cert.KernelIdeal.main_arg9)
      ∧ m' ((c.tc : Thread Cert.AttentionIdeal.nD Cert.AttentionIdeal.τ).loc Cert.AttentionIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 4224, 1024]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v174) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.AttentionIdeal.defs (F := Ideal)) (onTc (τ := Cert.AttentionIdeal.τ) (Cert.AttentionIdeal.main (F := Ideal))) ⟨m', fun _ => 0, g'⟩ (fun r => ∀ c : Dev Cert.AttentionIdeal.nD,
          (∀ i : (⟨3, ![8, 4224, 1024]⟩ : Shape).Idx, (Cert.On_attention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.AttentionIdeal.nD Cert.AttentionIdeal.τ).loc Cert.AttentionIdeal.main_v99) i = v0 c i)
          ∧ r.2.mem ((c.tc : Thread Cert.AttentionIdeal.nD Cert.AttentionIdeal.τ).loc Cert.AttentionIdeal.main_arg0) = m' ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m' ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m' ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m' ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m' ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m' ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m' ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m' ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m' ((c.tc : Thread Cert.AttentionIdeal.nD Cert.AttentionIdeal.τ).loc Cert.AttentionIdeal.main_arg8)
          ∧ r.2.mem ((c.tc : Thread Cert.AttentionIdeal.nD Cert.AttentionIdeal.τ).loc Cert.AttentionIdeal.main_arg9) = m' ((c.tc : Thread Cert.AttentionIdeal.nD Cert.AttentionIdeal.τ).loc Cert.AttentionIdeal.main_arg9)
          ∧ r.2.mem ((c.tc : Thread Cert.AttentionIdeal.nD Cert.AttentionIdeal.τ).loc Cert.AttentionIdeal.main_arg10) = m' ((c.tc : Thread Cert.AttentionIdeal.nD Cert.AttentionIdeal.τ).loc Cert.AttentionIdeal.main_arg10))

def algebraic_KernelIdeal_ConvolutionIdeal_on_convolution_columns [hKernelIdeal : Cert.KernelIdeal.Facts] [hConvolutionIdeal : Cert.ConvolutionIdeal.Facts] [hOn_convolution_columns : Cert.On_convolution_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ConvolutionIdeal.nD Cert.ConvolutionIdeal.τ Cert.ConvolutionIdeal.sig) → Buf (Elt Ideal) ℓ) (g' : Dev Cert.ConvolutionIdeal.nD → PrngReg), Pre_KernelIdeal m →
    (∀ c : Dev Cert.KernelIdeal.nD,
      m' ((c.tc : Thread Cert.ConvolutionIdeal.nD Cert.ConvolutionIdeal.τ).loc Cert.ConvolutionIdeal.main_arg0) = m ((c.tc : Thread Cert.KernelIdeal.nD Cert.KernelIdeal.τ).loc Cert.KernelIdeal.main_arg0)
      ∧ m' ((c.tc : Thread Cert.ConvolutionIdeal.nD Cert.ConvolutionIdeal.τ).loc Cert.ConvolutionIdeal.main_arg1) = m ((c.tc : Thread Cert.KernelIdeal.nD Cert.KernelIdeal.τ).loc Cert.KernelIdeal.main_arg1)
      ∧ m' ((c.tc : Thread Cert.ConvolutionIdeal.nD Cert.ConvolutionIdeal.τ).loc Cert.ConvolutionIdeal.main_arg2) = m ((c.tc : Thread Cert.KernelIdeal.nD Cert.KernelIdeal.τ).loc Cert.KernelIdeal.main_arg2)
      ∧ m' ((c.tc : Thread Cert.ConvolutionIdeal.nD Cert.ConvolutionIdeal.τ).loc Cert.ConvolutionIdeal.main_arg3) = m ((c.tc : Thread Cert.KernelIdeal.nD Cert.KernelIdeal.τ).loc Cert.KernelIdeal.main_arg3)
      ∧ m' ((c.tc : Thread Cert.ConvolutionIdeal.nD Cert.ConvolutionIdeal.τ).loc Cert.ConvolutionIdeal.main_arg4) = m ((c.tc : Thread Cert.KernelIdeal.nD Cert.KernelIdeal.τ).loc Cert.KernelIdeal.main_arg4)
      ∧ m' ((c.tc : Thread Cert.ConvolutionIdeal.nD Cert.ConvolutionIdeal.τ).loc Cert.ConvolutionIdeal.main_arg5) = m ((c.tc : Thread Cert.KernelIdeal.nD Cert.KernelIdeal.τ).loc Cert.KernelIdeal.main_arg5)
      ∧ m' ((c.tc : Thread Cert.ConvolutionIdeal.nD Cert.ConvolutionIdeal.τ).loc Cert.ConvolutionIdeal.main_arg6) = m ((c.tc : Thread Cert.KernelIdeal.nD Cert.KernelIdeal.τ).loc Cert.KernelIdeal.main_arg6)
      ∧ m' ((c.tc : Thread Cert.ConvolutionIdeal.nD Cert.ConvolutionIdeal.τ).loc Cert.ConvolutionIdeal.main_arg7) = m ((c.tc : Thread Cert.KernelIdeal.nD Cert.KernelIdeal.τ).loc Cert.KernelIdeal.main_arg7)
      ∧ m' ((c.tc : Thread Cert.ConvolutionIdeal.nD Cert.ConvolutionIdeal.τ).loc Cert.ConvolutionIdeal.main_arg8) = m ((c.tc : Thread Cert.KernelIdeal.nD Cert.KernelIdeal.τ).loc Cert.KernelIdeal.main_arg8)
      ∧ m' ((c.tc : Thread Cert.ConvolutionIdeal.nD Cert.ConvolutionIdeal.τ).loc Cert.ConvolutionIdeal.main_arg9) = m ((c.tc : Thread Cert.KernelIdeal.nD Cert.KernelIdeal.τ).loc Cert.KernelIdeal.main_arg9)
      ∧ m' ((c.tc : Thread Cert.ConvolutionIdeal.nD Cert.ConvolutionIdeal.τ).loc Cert.ConvolutionIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 4224, 1024]⟩ : Shape).Idx, (Cert.On_convolution_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v174) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ConvolutionIdeal.defs (F := Ideal)) (onTc (τ := Cert.ConvolutionIdeal.τ) (Cert.ConvolutionIdeal.main (F := Ideal))) ⟨m', fun _ => 0, g'⟩ (fun r => ∀ c : Dev Cert.ConvolutionIdeal.nD,
          (∀ i : (⟨3, ![8, 4224, 1024]⟩ : Shape).Idx, (Cert.On_convolution_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.ConvolutionIdeal.nD Cert.ConvolutionIdeal.τ).loc Cert.ConvolutionIdeal.main_v198) i = v0 c i)
          ∧ r.2.mem ((c.tc : Thread Cert.ConvolutionIdeal.nD Cert.ConvolutionIdeal.τ).loc Cert.ConvolutionIdeal.main_arg0) = m' ((c.tc : Thread Cert.ConvolutionIdeal.nD Cert.ConvolutionIdeal.τ).loc Cert.ConvolutionIdeal.main_arg0)
          ∧ r.2.mem ((c.tc : Thread Cert.ConvolutionIdeal.nD Cert.ConvolutionIdeal.τ).loc Cert.ConvolutionIdeal.main_arg1) = m' ((c.tc : Thread Cert.ConvolutionIdeal.nD Cert.ConvolutionIdeal.τ).loc Cert.ConvolutionIdeal.main_arg1)
          ∧ r.2.mem ((c.tc : Thread Cert.ConvolutionIdeal.nD Cert.ConvolutionIdeal.τ).loc Cert.ConvolutionIdeal.main_arg2) = m' ((c.tc : Thread Cert.ConvolutionIdeal.nD Cert.ConvolutionIdeal.τ).loc Cert.ConvolutionIdeal.main_arg2)
          ∧ r.2.mem ((c.tc : Thread Cert.ConvolutionIdeal.nD Cert.ConvolutionIdeal.τ).loc Cert.ConvolutionIdeal.main_arg3) = m' ((c.tc : Thread Cert.ConvolutionIdeal.nD Cert.ConvolutionIdeal.τ).loc Cert.ConvolutionIdeal.main_arg3)
          ∧ r.2.mem ((c.tc : Thread Cert.ConvolutionIdeal.nD Cert.ConvolutionIdeal.τ).loc Cert.ConvolutionIdeal.main_arg4) = m' ((c.tc : Thread Cert.ConvolutionIdeal.nD Cert.ConvolutionIdeal.τ).loc Cert.ConvolutionIdeal.main_arg4)
          ∧ r.2.mem ((c.tc : Thread Cert.ConvolutionIdeal.nD Cert.ConvolutionIdeal.τ).loc Cert.ConvolutionIdeal.main_arg5) = m' ((c.tc : Thread Cert.ConvolutionIdeal.nD Cert.ConvolutionIdeal.τ).loc Cert.ConvolutionIdeal.main_arg5)
          ∧ r.2.mem ((c.tc : Thread Cert.ConvolutionIdeal.nD Cert.ConvolutionIdeal.τ).loc Cert.ConvolutionIdeal.main_arg6) = m' ((c.tc : Thread Cert.ConvolutionIdeal.nD Cert.ConvolutionIdeal.τ).loc Cert.ConvolutionIdeal.main_arg6)
          ∧ r.2.mem ((c.tc : Thread Cert.ConvolutionIdeal.nD Cert.ConvolutionIdeal.τ).loc Cert.ConvolutionIdeal.main_arg7) = m' ((c.tc : Thread Cert.ConvolutionIdeal.nD Cert.ConvolutionIdeal.τ).loc Cert.ConvolutionIdeal.main_arg7)
          ∧ r.2.mem ((c.tc : Thread Cert.ConvolutionIdeal.nD Cert.ConvolutionIdeal.τ).loc Cert.ConvolutionIdeal.main_arg8) = m' ((c.tc : Thread Cert.ConvolutionIdeal.nD Cert.ConvolutionIdeal.τ).loc Cert.ConvolutionIdeal.main_arg8)
          ∧ r.2.mem ((c.tc : Thread Cert.ConvolutionIdeal.nD Cert.ConvolutionIdeal.τ).loc Cert.ConvolutionIdeal.main_arg9) = m' ((c.tc : Thread Cert.ConvolutionIdeal.nD Cert.ConvolutionIdeal.τ).loc Cert.ConvolutionIdeal.main_arg9)
          ∧ r.2.mem ((c.tc : Thread Cert.ConvolutionIdeal.nD Cert.ConvolutionIdeal.τ).loc Cert.ConvolutionIdeal.main_arg10) = m' ((c.tc : Thread Cert.ConvolutionIdeal.nD Cert.ConvolutionIdeal.τ).loc Cert.ConvolutionIdeal.main_arg10))

def preserves_FinalFfn_FinalFfnIdeal : Prop :=
  True

def algebraic_FinalFfnIdeal_FinalRefIdeal [hFinalFfnIdeal : Cert.FinalFfnIdeal.Facts] [hFinalRefIdeal : Cert.FinalRefIdeal.Facts] : Prop :=
  ∀ (m : (ℓ : Loc Cert.FinalFfnIdeal.nD Cert.FinalFfnIdeal.τ Cert.FinalFfnIdeal.sig) → Buf (Elt Ideal) ℓ) (g : Dev Cert.FinalFfnIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalFfnIdeal m →
    (∀ c : Dev Cert.FinalFfnIdeal.nD,
      m' ((c.tc : Thread Cert.FinalRefIdeal.nD Cert.FinalRefIdeal.τ).loc Cert.FinalRefIdeal.main_arg0) = m ((c.tc : Thread Cert.FinalFfnIdeal.nD Cert.FinalFfnIdeal.τ).loc Cert.FinalFfnIdeal.main_arg0)
      ∧ m' ((c.tc : Thread Cert.FinalRefIdeal.nD Cert.FinalRefIdeal.τ).loc Cert.FinalRefIdeal.main_arg1) = m ((c.tc : Thread Cert.FinalFfnIdeal.nD Cert.FinalFfnIdeal.τ).loc Cert.FinalFfnIdeal.main_arg1)
      ∧ m' ((c.tc : Thread Cert.FinalRefIdeal.nD Cert.FinalRefIdeal.τ).loc Cert.FinalRefIdeal.main_arg2) = m ((c.tc : Thread Cert.FinalFfnIdeal.nD Cert.FinalFfnIdeal.τ).loc Cert.FinalFfnIdeal.main_arg2)
      ∧ m' ((c.tc : Thread Cert.FinalRefIdeal.nD Cert.FinalRefIdeal.τ).loc Cert.FinalRefIdeal.main_arg3) = m ((c.tc : Thread Cert.FinalFfnIdeal.nD Cert.FinalFfnIdeal.τ).loc Cert.FinalFfnIdeal.main_arg3)
      ∧ m' ((c.tc : Thread Cert.FinalRefIdeal.nD Cert.FinalRefIdeal.τ).loc Cert.FinalRefIdeal.main_arg4) = m ((c.tc : Thread Cert.FinalFfnIdeal.nD Cert.FinalFfnIdeal.τ).loc Cert.FinalFfnIdeal.main_arg4)
      ∧ m' ((c.tc : Thread Cert.FinalRefIdeal.nD Cert.FinalRefIdeal.τ).loc Cert.FinalRefIdeal.main_arg5) = m ((c.tc : Thread Cert.FinalFfnIdeal.nD Cert.FinalFfnIdeal.τ).loc Cert.FinalFfnIdeal.main_arg5)
      ∧ m' ((c.tc : Thread Cert.FinalRefIdeal.nD Cert.FinalRefIdeal.τ).loc Cert.FinalRefIdeal.main_arg6) = m ((c.tc : Thread Cert.FinalFfnIdeal.nD Cert.FinalFfnIdeal.τ).loc Cert.FinalFfnIdeal.main_arg6)
      ∧ m' ((c.tc : Thread Cert.FinalRefIdeal.nD Cert.FinalRefIdeal.τ).loc Cert.FinalRefIdeal.main_arg7) = m ((c.tc : Thread Cert.FinalFfnIdeal.nD Cert.FinalFfnIdeal.τ).loc Cert.FinalFfnIdeal.main_arg7)) →
    ∃ (v0 : (c : Dev Cert.FinalFfnIdeal.nD) → Buf (Elt Ideal) ((c.tc : Thread Cert.FinalFfnIdeal.nD Cert.FinalFfnIdeal.τ).loc Cert.FinalFfnIdeal.main_v10)),
      θ_run (Cert.FinalFfnIdeal.defs (F := Ideal)) (onTc (τ := Cert.FinalFfnIdeal.τ) (Cert.FinalFfnIdeal.main (F := Ideal))) ⟨m, fun _ => 0, g⟩ (fun r => ∀ c : Dev Cert.FinalFfnIdeal.nD,
          r.2.mem ((c.tc : Thread Cert.FinalFfnIdeal.nD Cert.FinalFfnIdeal.τ).loc Cert.FinalFfnIdeal.main_v10) = v0 c
          ∧ r.2.mem ((c.tc : Thread Cert.FinalFfnIdeal.nD Cert.FinalFfnIdeal.τ).loc Cert.FinalFfnIdeal.main_arg0) = m ((c.tc : Thread Cert.FinalFfnIdeal.nD Cert.FinalFfnIdeal.τ).loc Cert.FinalFfnIdeal.main_arg0)
          ∧ r.2.mem ((c.tc : Thread Cert.FinalFfnIdeal.nD Cert.FinalFfnIdeal.τ).loc Cert.FinalFfnIdeal.main_arg1) = m ((c.tc : Thread Cert.FinalFfnIdeal.nD Cert.FinalFfnIdeal.τ).loc Cert.FinalFfnIdeal.main_arg1)
          ∧ r.2.mem ((c.tc : Thread Cert.FinalFfnIdeal.nD Cert.FinalFfnIdeal.τ).loc Cert.FinalFfnIdeal.main_arg2) = m ((c.tc : Thread Cert.FinalFfnIdeal.nD Cert.FinalFfnIdeal.τ).loc Cert.FinalFfnIdeal.main_arg2)
          ∧ r.2.mem ((c.tc : Thread Cert.FinalFfnIdeal.nD Cert.FinalFfnIdeal.τ).loc Cert.FinalFfnIdeal.main_arg3) = m ((c.tc : Thread Cert.FinalFfnIdeal.nD Cert.FinalFfnIdeal.τ).loc Cert.FinalFfnIdeal.main_arg3)
          ∧ r.2.mem ((c.tc : Thread Cert.FinalFfnIdeal.nD Cert.FinalFfnIdeal.τ).loc Cert.FinalFfnIdeal.main_arg4) = m ((c.tc : Thread Cert.FinalFfnIdeal.nD Cert.FinalFfnIdeal.τ).loc Cert.FinalFfnIdeal.main_arg4)
          ∧ r.2.mem ((c.tc : Thread Cert.FinalFfnIdeal.nD Cert.FinalFfnIdeal.τ).loc Cert.FinalFfnIdeal.main_arg5) = m ((c.tc : Thread Cert.FinalFfnIdeal.nD Cert.FinalFfnIdeal.τ).loc Cert.FinalFfnIdeal.main_arg5)
          ∧ r.2.mem ((c.tc : Thread Cert.FinalFfnIdeal.nD Cert.FinalFfnIdeal.τ).loc Cert.FinalFfnIdeal.main_arg6) = m ((c.tc : Thread Cert.FinalFfnIdeal.nD Cert.FinalFfnIdeal.τ).loc Cert.FinalFfnIdeal.main_arg6)
          ∧ r.2.mem ((c.tc : Thread Cert.FinalFfnIdeal.nD Cert.FinalFfnIdeal.τ).loc Cert.FinalFfnIdeal.main_arg7) = m ((c.tc : Thread Cert.FinalFfnIdeal.nD Cert.FinalFfnIdeal.τ).loc Cert.FinalFfnIdeal.main_arg7))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v47) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5)
          ∧ r.2.mem ((c.tc : Thread Cert.FinalRefIdeal.nD Cert.FinalRefIdeal.τ).loc Cert.FinalRefIdeal.main_arg6) = m' ((c.tc : Thread Cert.FinalRefIdeal.nD Cert.FinalRefIdeal.τ).loc Cert.FinalRefIdeal.main_arg6)
          ∧ r.2.mem ((c.tc : Thread Cert.FinalRefIdeal.nD Cert.FinalRefIdeal.τ).loc Cert.FinalRefIdeal.main_arg7) = m' ((c.tc : Thread Cert.FinalRefIdeal.nD Cert.FinalRefIdeal.τ).loc Cert.FinalRefIdeal.main_arg7))

def preserves_PreFfn_PreFfnIdeal : Prop :=
  True

def algebraic_PreFfnIdeal_PreRefIdeal [hPreFfnIdeal : Cert.PreFfnIdeal.Facts] [hPreRefIdeal : Cert.PreRefIdeal.Facts] : Prop :=
  ∀ (m : (ℓ : Loc Cert.PreFfnIdeal.nD Cert.PreFfnIdeal.τ Cert.PreFfnIdeal.sig) → Buf (Elt Ideal) ℓ) (g : Dev Cert.PreFfnIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreFfnIdeal m →
    (∀ c : Dev Cert.PreFfnIdeal.nD,
      m' ((c.tc : Thread Cert.PreRefIdeal.nD Cert.PreRefIdeal.τ).loc Cert.PreRefIdeal.main_arg0) = m ((c.tc : Thread Cert.PreFfnIdeal.nD Cert.PreFfnIdeal.τ).loc Cert.PreFfnIdeal.main_arg0)
      ∧ m' ((c.tc : Thread Cert.PreRefIdeal.nD Cert.PreRefIdeal.τ).loc Cert.PreRefIdeal.main_arg1) = m ((c.tc : Thread Cert.PreFfnIdeal.nD Cert.PreFfnIdeal.τ).loc Cert.PreFfnIdeal.main_arg1)
      ∧ m' ((c.tc : Thread Cert.PreRefIdeal.nD Cert.PreRefIdeal.τ).loc Cert.PreRefIdeal.main_arg2) = m ((c.tc : Thread Cert.PreFfnIdeal.nD Cert.PreFfnIdeal.τ).loc Cert.PreFfnIdeal.main_arg2)
      ∧ m' ((c.tc : Thread Cert.PreRefIdeal.nD Cert.PreRefIdeal.τ).loc Cert.PreRefIdeal.main_arg3) = m ((c.tc : Thread Cert.PreFfnIdeal.nD Cert.PreFfnIdeal.τ).loc Cert.PreFfnIdeal.main_arg3)
      ∧ m' ((c.tc : Thread Cert.PreRefIdeal.nD Cert.PreRefIdeal.τ).loc Cert.PreRefIdeal.main_arg4) = m ((c.tc : Thread Cert.PreFfnIdeal.nD Cert.PreFfnIdeal.τ).loc Cert.PreFfnIdeal.main_arg4)
      ∧ m' ((c.tc : Thread Cert.PreRefIdeal.nD Cert.PreRefIdeal.τ).loc Cert.PreRefIdeal.main_arg5) = m ((c.tc : Thread Cert.PreFfnIdeal.nD Cert.PreFfnIdeal.τ).loc Cert.PreFfnIdeal.main_arg5)
      ∧ m' ((c.tc : Thread Cert.PreRefIdeal.nD Cert.PreRefIdeal.τ).loc Cert.PreRefIdeal.main_arg6) = m ((c.tc : Thread Cert.PreFfnIdeal.nD Cert.PreFfnIdeal.τ).loc Cert.PreFfnIdeal.main_arg6)) →
    ∃ (v0 : (c : Dev Cert.PreFfnIdeal.nD) → Buf (Elt Ideal) ((c.tc : Thread Cert.PreFfnIdeal.nD Cert.PreFfnIdeal.τ).loc Cert.PreFfnIdeal.main_v7)),
      θ_run (Cert.PreFfnIdeal.defs (F := Ideal)) (onTc (τ := Cert.PreFfnIdeal.τ) (Cert.PreFfnIdeal.main (F := Ideal))) ⟨m, fun _ => 0, g⟩ (fun r => ∀ c : Dev Cert.PreFfnIdeal.nD,
          r.2.mem ((c.tc : Thread Cert.PreFfnIdeal.nD Cert.PreFfnIdeal.τ).loc Cert.PreFfnIdeal.main_v7) = v0 c
          ∧ r.2.mem ((c.tc : Thread Cert.PreFfnIdeal.nD Cert.PreFfnIdeal.τ).loc Cert.PreFfnIdeal.main_arg0) = m ((c.tc : Thread Cert.PreFfnIdeal.nD Cert.PreFfnIdeal.τ).loc Cert.PreFfnIdeal.main_arg0)
          ∧ r.2.mem ((c.tc : Thread Cert.PreFfnIdeal.nD Cert.PreFfnIdeal.τ).loc Cert.PreFfnIdeal.main_arg1) = m ((c.tc : Thread Cert.PreFfnIdeal.nD Cert.PreFfnIdeal.τ).loc Cert.PreFfnIdeal.main_arg1)
          ∧ r.2.mem ((c.tc : Thread Cert.PreFfnIdeal.nD Cert.PreFfnIdeal.τ).loc Cert.PreFfnIdeal.main_arg2) = m ((c.tc : Thread Cert.PreFfnIdeal.nD Cert.PreFfnIdeal.τ).loc Cert.PreFfnIdeal.main_arg2)
          ∧ r.2.mem ((c.tc : Thread Cert.PreFfnIdeal.nD Cert.PreFfnIdeal.τ).loc Cert.PreFfnIdeal.main_arg3) = m ((c.tc : Thread Cert.PreFfnIdeal.nD Cert.PreFfnIdeal.τ).loc Cert.PreFfnIdeal.main_arg3)
          ∧ r.2.mem ((c.tc : Thread Cert.PreFfnIdeal.nD Cert.PreFfnIdeal.τ).loc Cert.PreFfnIdeal.main_arg4) = m ((c.tc : Thread Cert.PreFfnIdeal.nD Cert.PreFfnIdeal.τ).loc Cert.PreFfnIdeal.main_arg4)
          ∧ r.2.mem ((c.tc : Thread Cert.PreFfnIdeal.nD Cert.PreFfnIdeal.τ).loc Cert.PreFfnIdeal.main_arg5) = m ((c.tc : Thread Cert.PreFfnIdeal.nD Cert.PreFfnIdeal.τ).loc Cert.PreFfnIdeal.main_arg5)
          ∧ r.2.mem ((c.tc : Thread Cert.PreFfnIdeal.nD Cert.PreFfnIdeal.τ).loc Cert.PreFfnIdeal.main_arg6) = m ((c.tc : Thread Cert.PreFfnIdeal.nD Cert.PreFfnIdeal.τ).loc Cert.PreFfnIdeal.main_arg6))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v33) = v0 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6))

def preserves_PostFfn_PostFfnIdeal : Prop :=
  True

def algebraic_PostFfnIdeal_PostRefIdeal [hPostFfnIdeal : Cert.PostFfnIdeal.Facts] [hPostRefIdeal : Cert.PostRefIdeal.Facts] : Prop :=
  ∀ (m : (ℓ : Loc Cert.PostFfnIdeal.nD Cert.PostFfnIdeal.τ Cert.PostFfnIdeal.sig) → Buf (Elt Ideal) ℓ) (g : Dev Cert.PostFfnIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostFfnIdeal m →
    (∀ c : Dev Cert.PostFfnIdeal.nD,
      m' ((c.tc : Thread Cert.PostRefIdeal.nD Cert.PostRefIdeal.τ).loc Cert.PostRefIdeal.main_arg0) = m ((c.tc : Thread Cert.PostFfnIdeal.nD Cert.PostFfnIdeal.τ).loc Cert.PostFfnIdeal.main_arg0)
      ∧ m' ((c.tc : Thread Cert.PostRefIdeal.nD Cert.PostRefIdeal.τ).loc Cert.PostRefIdeal.main_arg1) = m ((c.tc : Thread Cert.PostFfnIdeal.nD Cert.PostFfnIdeal.τ).loc Cert.PostFfnIdeal.main_arg1)
      ∧ m' ((c.tc : Thread Cert.PostRefIdeal.nD Cert.PostRefIdeal.τ).loc Cert.PostRefIdeal.main_arg2) = m ((c.tc : Thread Cert.PostFfnIdeal.nD Cert.PostFfnIdeal.τ).loc Cert.PostFfnIdeal.main_arg2)
      ∧ m' ((c.tc : Thread Cert.PostRefIdeal.nD Cert.PostRefIdeal.τ).loc Cert.PostRefIdeal.main_arg3) = m ((c.tc : Thread Cert.PostFfnIdeal.nD Cert.PostFfnIdeal.τ).loc Cert.PostFfnIdeal.main_arg3)
      ∧ m' ((c.tc : Thread Cert.PostRefIdeal.nD Cert.PostRefIdeal.τ).loc Cert.PostRefIdeal.main_arg4) = m ((c.tc : Thread Cert.PostFfnIdeal.nD Cert.PostFfnIdeal.τ).loc Cert.PostFfnIdeal.main_arg4)
      ∧ m' ((c.tc : Thread Cert.PostRefIdeal.nD Cert.PostRefIdeal.τ).loc Cert.PostRefIdeal.main_arg5) = m ((c.tc : Thread Cert.PostFfnIdeal.nD Cert.PostFfnIdeal.τ).loc Cert.PostFfnIdeal.main_arg5)
      ∧ m' ((c.tc : Thread Cert.PostRefIdeal.nD Cert.PostRefIdeal.τ).loc Cert.PostRefIdeal.main_arg6) = m ((c.tc : Thread Cert.PostFfnIdeal.nD Cert.PostFfnIdeal.τ).loc Cert.PostFfnIdeal.main_arg6)) →
    ∃ (v0 : (c : Dev Cert.PostFfnIdeal.nD) → Buf (Elt Ideal) ((c.tc : Thread Cert.PostFfnIdeal.nD Cert.PostFfnIdeal.τ).loc Cert.PostFfnIdeal.main_v10_0)) (v1 : (c : Dev Cert.PostFfnIdeal.nD) → Buf (Elt Ideal) ((c.tc : Thread Cert.PostFfnIdeal.nD Cert.PostFfnIdeal.τ).loc Cert.PostFfnIdeal.main_v10_1)) (v2 : (c : Dev Cert.PostFfnIdeal.nD) → Buf (Elt Ideal) ((c.tc : Thread Cert.PostFfnIdeal.nD Cert.PostFfnIdeal.τ).loc Cert.PostFfnIdeal.main_v10_2)) (v3 : (c : Dev Cert.PostFfnIdeal.nD) → Buf (Elt Ideal) ((c.tc : Thread Cert.PostFfnIdeal.nD Cert.PostFfnIdeal.τ).loc Cert.PostFfnIdeal.main_v10_3)) (v4 : (c : Dev Cert.PostFfnIdeal.nD) → Buf (Elt Ideal) ((c.tc : Thread Cert.PostFfnIdeal.nD Cert.PostFfnIdeal.τ).loc Cert.PostFfnIdeal.main_v10_4)),
      θ_run (Cert.PostFfnIdeal.defs (F := Ideal)) (onTc (τ := Cert.PostFfnIdeal.τ) (Cert.PostFfnIdeal.main (F := Ideal))) ⟨m, fun _ => 0, g⟩ (fun r => ∀ c : Dev Cert.PostFfnIdeal.nD,
          r.2.mem ((c.tc : Thread Cert.PostFfnIdeal.nD Cert.PostFfnIdeal.τ).loc Cert.PostFfnIdeal.main_v10_0) = v0 c
          ∧ r.2.mem ((c.tc : Thread Cert.PostFfnIdeal.nD Cert.PostFfnIdeal.τ).loc Cert.PostFfnIdeal.main_v10_1) = v1 c
          ∧ r.2.mem ((c.tc : Thread Cert.PostFfnIdeal.nD Cert.PostFfnIdeal.τ).loc Cert.PostFfnIdeal.main_v10_2) = v2 c
          ∧ r.2.mem ((c.tc : Thread Cert.PostFfnIdeal.nD Cert.PostFfnIdeal.τ).loc Cert.PostFfnIdeal.main_v10_3) = v3 c
          ∧ r.2.mem ((c.tc : Thread Cert.PostFfnIdeal.nD Cert.PostFfnIdeal.τ).loc Cert.PostFfnIdeal.main_v10_4) = v4 c
          ∧ r.2.mem ((c.tc : Thread Cert.PostFfnIdeal.nD Cert.PostFfnIdeal.τ).loc Cert.PostFfnIdeal.main_arg0) = m ((c.tc : Thread Cert.PostFfnIdeal.nD Cert.PostFfnIdeal.τ).loc Cert.PostFfnIdeal.main_arg0)
          ∧ r.2.mem ((c.tc : Thread Cert.PostFfnIdeal.nD Cert.PostFfnIdeal.τ).loc Cert.PostFfnIdeal.main_arg1) = m ((c.tc : Thread Cert.PostFfnIdeal.nD Cert.PostFfnIdeal.τ).loc Cert.PostFfnIdeal.main_arg1)
          ∧ r.2.mem ((c.tc : Thread Cert.PostFfnIdeal.nD Cert.PostFfnIdeal.τ).loc Cert.PostFfnIdeal.main_arg2) = m ((c.tc : Thread Cert.PostFfnIdeal.nD Cert.PostFfnIdeal.τ).loc Cert.PostFfnIdeal.main_arg2)
          ∧ r.2.mem ((c.tc : Thread Cert.PostFfnIdeal.nD Cert.PostFfnIdeal.τ).loc Cert.PostFfnIdeal.main_arg3) = m ((c.tc : Thread Cert.PostFfnIdeal.nD Cert.PostFfnIdeal.τ).loc Cert.PostFfnIdeal.main_arg3)
          ∧ r.2.mem ((c.tc : Thread Cert.PostFfnIdeal.nD Cert.PostFfnIdeal.τ).loc Cert.PostFfnIdeal.main_arg4) = m ((c.tc : Thread Cert.PostFfnIdeal.nD Cert.PostFfnIdeal.τ).loc Cert.PostFfnIdeal.main_arg4)
          ∧ r.2.mem ((c.tc : Thread Cert.PostFfnIdeal.nD Cert.PostFfnIdeal.τ).loc Cert.PostFfnIdeal.main_arg5) = m ((c.tc : Thread Cert.PostFfnIdeal.nD Cert.PostFfnIdeal.τ).loc Cert.PostFfnIdeal.main_arg5)
          ∧ r.2.mem ((c.tc : Thread Cert.PostFfnIdeal.nD Cert.PostFfnIdeal.τ).loc Cert.PostFfnIdeal.main_arg6) = m ((c.tc : Thread Cert.PostFfnIdeal.nD Cert.PostFfnIdeal.τ).loc Cert.PostFfnIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v28) = v0 c
          ∧ r.2.mem ((c.tc : Thread Cert.PostRefIdeal.nD Cert.PostRefIdeal.τ).loc Cert.PostRefIdeal.main_v47) = v1 c
          ∧ r.2.mem ((c.tc : Thread Cert.PostRefIdeal.nD Cert.PostRefIdeal.τ).loc Cert.PostRefIdeal.main_v49) = v2 c
          ∧ r.2.mem ((c.tc : Thread Cert.PostRefIdeal.nD Cert.PostRefIdeal.τ).loc Cert.PostRefIdeal.main_v51) = v3 c
          ∧ r.2.mem ((c.tc : Thread Cert.PostRefIdeal.nD Cert.PostRefIdeal.τ).loc Cert.PostRefIdeal.main_v53) = v4 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_FirstFfn_FirstFfnIdeal : Prop :=
  True

def algebraic_FirstFfnIdeal_FirstRefIdeal [hFirstFfnIdeal : Cert.FirstFfnIdeal.Facts] [hFirstRefIdeal : Cert.FirstRefIdeal.Facts] : Prop :=
  ∀ (m : (ℓ : Loc Cert.FirstFfnIdeal.nD Cert.FirstFfnIdeal.τ Cert.FirstFfnIdeal.sig) → Buf (Elt Ideal) ℓ) (g : Dev Cert.FirstFfnIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstFfnIdeal m →
    (∀ c : Dev Cert.FirstFfnIdeal.nD,
      m' ((c.tc : Thread Cert.FirstRefIdeal.nD Cert.FirstRefIdeal.τ).loc Cert.FirstRefIdeal.main_arg0) = m ((c.tc : Thread Cert.FirstFfnIdeal.nD Cert.FirstFfnIdeal.τ).loc Cert.FirstFfnIdeal.main_arg0)
      ∧ m' ((c.tc : Thread Cert.FirstRefIdeal.nD Cert.FirstRefIdeal.τ).loc Cert.FirstRefIdeal.main_arg1) = m ((c.tc : Thread Cert.FirstFfnIdeal.nD Cert.FirstFfnIdeal.τ).loc Cert.FirstFfnIdeal.main_arg1)
      ∧ m' ((c.tc : Thread Cert.FirstRefIdeal.nD Cert.FirstRefIdeal.τ).loc Cert.FirstRefIdeal.main_arg2) = m ((c.tc : Thread Cert.FirstFfnIdeal.nD Cert.FirstFfnIdeal.τ).loc Cert.FirstFfnIdeal.main_arg2)
      ∧ m' ((c.tc : Thread Cert.FirstRefIdeal.nD Cert.FirstRefIdeal.τ).loc Cert.FirstRefIdeal.main_arg3) = m ((c.tc : Thread Cert.FirstFfnIdeal.nD Cert.FirstFfnIdeal.τ).loc Cert.FirstFfnIdeal.main_arg3)
      ∧ m' ((c.tc : Thread Cert.FirstRefIdeal.nD Cert.FirstRefIdeal.τ).loc Cert.FirstRefIdeal.main_arg4) = m ((c.tc : Thread Cert.FirstFfnIdeal.nD Cert.FirstFfnIdeal.τ).loc Cert.FirstFfnIdeal.main_arg4)
      ∧ m' ((c.tc : Thread Cert.FirstRefIdeal.nD Cert.FirstRefIdeal.τ).loc Cert.FirstRefIdeal.main_arg5) = m ((c.tc : Thread Cert.FirstFfnIdeal.nD Cert.FirstFfnIdeal.τ).loc Cert.FirstFfnIdeal.main_arg5)
      ∧ m' ((c.tc : Thread Cert.FirstRefIdeal.nD Cert.FirstRefIdeal.τ).loc Cert.FirstRefIdeal.main_arg6) = m ((c.tc : Thread Cert.FirstFfnIdeal.nD Cert.FirstFfnIdeal.τ).loc Cert.FirstFfnIdeal.main_arg6)
      ∧ m' ((c.tc : Thread Cert.FirstRefIdeal.nD Cert.FirstRefIdeal.τ).loc Cert.FirstRefIdeal.main_arg7) = m ((c.tc : Thread Cert.FirstFfnIdeal.nD Cert.FirstFfnIdeal.τ).loc Cert.FirstFfnIdeal.main_arg7)) →
    ∃ (v0 : (c : Dev Cert.FirstFfnIdeal.nD) → Buf (Elt Ideal) ((c.tc : Thread Cert.FirstFfnIdeal.nD Cert.FirstFfnIdeal.τ).loc Cert.FirstFfnIdeal.main_v13_0)) (v1 : (c : Dev Cert.FirstFfnIdeal.nD) → Buf (Elt Ideal) ((c.tc : Thread Cert.FirstFfnIdeal.nD Cert.FirstFfnIdeal.τ).loc Cert.FirstFfnIdeal.main_v13_1)) (v2 : (c : Dev Cert.FirstFfnIdeal.nD) → Buf (Elt Ideal) ((c.tc : Thread Cert.FirstFfnIdeal.nD Cert.FirstFfnIdeal.τ).loc Cert.FirstFfnIdeal.main_v13_2)) (v3 : (c : Dev Cert.FirstFfnIdeal.nD) → Buf (Elt Ideal) ((c.tc : Thread Cert.FirstFfnIdeal.nD Cert.FirstFfnIdeal.τ).loc Cert.FirstFfnIdeal.main_v13_3)) (v4 : (c : Dev Cert.FirstFfnIdeal.nD) → Buf (Elt Ideal) ((c.tc : Thread Cert.FirstFfnIdeal.nD Cert.FirstFfnIdeal.τ).loc Cert.FirstFfnIdeal.main_v13_4)),
      θ_run (Cert.FirstFfnIdeal.defs (F := Ideal)) (onTc (τ := Cert.FirstFfnIdeal.τ) (Cert.FirstFfnIdeal.main (F := Ideal))) ⟨m, fun _ => 0, g⟩ (fun r => ∀ c : Dev Cert.FirstFfnIdeal.nD,
          r.2.mem ((c.tc : Thread Cert.FirstFfnIdeal.nD Cert.FirstFfnIdeal.τ).loc Cert.FirstFfnIdeal.main_v13_0) = v0 c
          ∧ r.2.mem ((c.tc : Thread Cert.FirstFfnIdeal.nD Cert.FirstFfnIdeal.τ).loc Cert.FirstFfnIdeal.main_v13_1) = v1 c
          ∧ r.2.mem ((c.tc : Thread Cert.FirstFfnIdeal.nD Cert.FirstFfnIdeal.τ).loc Cert.FirstFfnIdeal.main_v13_2) = v2 c
          ∧ r.2.mem ((c.tc : Thread Cert.FirstFfnIdeal.nD Cert.FirstFfnIdeal.τ).loc Cert.FirstFfnIdeal.main_v13_3) = v3 c
          ∧ r.2.mem ((c.tc : Thread Cert.FirstFfnIdeal.nD Cert.FirstFfnIdeal.τ).loc Cert.FirstFfnIdeal.main_v13_4) = v4 c
          ∧ r.2.mem ((c.tc : Thread Cert.FirstFfnIdeal.nD Cert.FirstFfnIdeal.τ).loc Cert.FirstFfnIdeal.main_arg0) = m ((c.tc : Thread Cert.FirstFfnIdeal.nD Cert.FirstFfnIdeal.τ).loc Cert.FirstFfnIdeal.main_arg0)
          ∧ r.2.mem ((c.tc : Thread Cert.FirstFfnIdeal.nD Cert.FirstFfnIdeal.τ).loc Cert.FirstFfnIdeal.main_arg1) = m ((c.tc : Thread Cert.FirstFfnIdeal.nD Cert.FirstFfnIdeal.τ).loc Cert.FirstFfnIdeal.main_arg1)
          ∧ r.2.mem ((c.tc : Thread Cert.FirstFfnIdeal.nD Cert.FirstFfnIdeal.τ).loc Cert.FirstFfnIdeal.main_arg2) = m ((c.tc : Thread Cert.FirstFfnIdeal.nD Cert.FirstFfnIdeal.τ).loc Cert.FirstFfnIdeal.main_arg2)
          ∧ r.2.mem ((c.tc : Thread Cert.FirstFfnIdeal.nD Cert.FirstFfnIdeal.τ).loc Cert.FirstFfnIdeal.main_arg3) = m ((c.tc : Thread Cert.FirstFfnIdeal.nD Cert.FirstFfnIdeal.τ).loc Cert.FirstFfnIdeal.main_arg3)
          ∧ r.2.mem ((c.tc : Thread Cert.FirstFfnIdeal.nD Cert.FirstFfnIdeal.τ).loc Cert.FirstFfnIdeal.main_arg4) = m ((c.tc : Thread Cert.FirstFfnIdeal.nD Cert.FirstFfnIdeal.τ).loc Cert.FirstFfnIdeal.main_arg4)
          ∧ r.2.mem ((c.tc : Thread Cert.FirstFfnIdeal.nD Cert.FirstFfnIdeal.τ).loc Cert.FirstFfnIdeal.main_arg5) = m ((c.tc : Thread Cert.FirstFfnIdeal.nD Cert.FirstFfnIdeal.τ).loc Cert.FirstFfnIdeal.main_arg5)
          ∧ r.2.mem ((c.tc : Thread Cert.FirstFfnIdeal.nD Cert.FirstFfnIdeal.τ).loc Cert.FirstFfnIdeal.main_arg6) = m ((c.tc : Thread Cert.FirstFfnIdeal.nD Cert.FirstFfnIdeal.τ).loc Cert.FirstFfnIdeal.main_arg6)
          ∧ r.2.mem ((c.tc : Thread Cert.FirstFfnIdeal.nD Cert.FirstFfnIdeal.τ).loc Cert.FirstFfnIdeal.main_arg7) = m ((c.tc : Thread Cert.FirstFfnIdeal.nD Cert.FirstFfnIdeal.τ).loc Cert.FirstFfnIdeal.main_arg7))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v33) = v0 c
          ∧ r.2.mem ((c.tc : Thread Cert.FirstRefIdeal.nD Cert.FirstRefIdeal.τ).loc Cert.FirstRefIdeal.main_v52) = v1 c
          ∧ r.2.mem ((c.tc : Thread Cert.FirstRefIdeal.nD Cert.FirstRefIdeal.τ).loc Cert.FirstRefIdeal.main_v54) = v2 c
          ∧ r.2.mem ((c.tc : Thread Cert.FirstRefIdeal.nD Cert.FirstRefIdeal.τ).loc Cert.FirstRefIdeal.main_v56) = v3 c
          ∧ r.2.mem ((c.tc : Thread Cert.FirstRefIdeal.nD Cert.FirstRefIdeal.τ).loc Cert.FirstRefIdeal.main_v58) = v4 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7))

def Claim : Prop :=
  ∃ (hKernel : Cert.Kernel.Facts) (hKernelIdeal : Cert.KernelIdeal.Facts) (hAttentionIdeal : Cert.AttentionIdeal.Facts) (hConvolutionIdeal : Cert.ConvolutionIdeal.Facts) (hFinalFfn : Cert.FinalFfn.Facts) (hFinalFfnIdeal : Cert.FinalFfnIdeal.Facts) (hFinalRefIdeal : Cert.FinalRefIdeal.Facts) (hPreFfn : Cert.PreFfn.Facts) (hPreFfnIdeal : Cert.PreFfnIdeal.Facts) (hPreRefIdeal : Cert.PreRefIdeal.Facts) (hPostFfn : Cert.PostFfn.Facts) (hPostFfnIdeal : Cert.PostFfnIdeal.Facts) (hPostRefIdeal : Cert.PostRefIdeal.Facts) (hFirstFfn : Cert.FirstFfn.Facts) (hFirstFfnIdeal : Cert.FirstFfnIdeal.Facts) (hFirstRefIdeal : Cert.FirstRefIdeal.Facts) (hPre_finite_attention : Cert.Pre_finite_attention.Facts) (hOn_attention_columns : Cert.On_attention_columns.Facts) (hOn_convolution_columns : Cert.On_convolution_columns.Facts),
    quiescent_Kernel (hKernel := hKernel)
    ∧ quiescent_KernelIdeal (hKernelIdeal := hKernelIdeal)
    ∧ quiescent_KernelIdeal_pre_finite_attention (hKernelIdeal := hKernelIdeal) (hPre_finite_attention := hPre_finite_attention)
    ∧ quiescent_AttentionIdeal (hAttentionIdeal := hAttentionIdeal)
    ∧ quiescent_AttentionIdeal_pre_finite_attention (hAttentionIdeal := hAttentionIdeal) (hPre_finite_attention := hPre_finite_attention)
    ∧ quiescent_ConvolutionIdeal (hConvolutionIdeal := hConvolutionIdeal)
    ∧ quiescent_FinalFfn (hFinalFfn := hFinalFfn)
    ∧ quiescent_FinalFfnIdeal (hFinalFfnIdeal := hFinalFfnIdeal)
    ∧ quiescent_FinalRefIdeal (hFinalRefIdeal := hFinalRefIdeal)
    ∧ quiescent_PreFfn (hPreFfn := hPreFfn)
    ∧ quiescent_PreFfnIdeal (hPreFfnIdeal := hPreFfnIdeal)
    ∧ quiescent_PreRefIdeal (hPreRefIdeal := hPreRefIdeal)
    ∧ quiescent_PostFfn (hPostFfn := hPostFfn)
    ∧ quiescent_PostFfnIdeal (hPostFfnIdeal := hPostFfnIdeal)
    ∧ quiescent_PostRefIdeal (hPostRefIdeal := hPostRefIdeal)
    ∧ quiescent_FirstFfn (hFirstFfn := hFirstFfn)
    ∧ quiescent_FirstFfnIdeal (hFirstFfnIdeal := hFirstFfnIdeal)
    ∧ quiescent_FirstRefIdeal (hFirstRefIdeal := hFirstRefIdeal)
    ∧ preserves_Kernel_KernelIdeal
    ∧ algebraic_KernelIdeal_AttentionIdeal_on_attention_columns_pre_finite_attention (hKernelIdeal := hKernelIdeal) (hAttentionIdeal := hAttentionIdeal) (hPre_finite_attention := hPre_finite_attention) (hOn_attention_columns := hOn_attention_columns)
    ∧ algebraic_KernelIdeal_ConvolutionIdeal_on_convolution_columns (hKernelIdeal := hKernelIdeal) (hConvolutionIdeal := hConvolutionIdeal) (hOn_convolution_columns := hOn_convolution_columns)
    ∧ preserves_FinalFfn_FinalFfnIdeal
    ∧ algebraic_FinalFfnIdeal_FinalRefIdeal (hFinalFfnIdeal := hFinalFfnIdeal) (hFinalRefIdeal := hFinalRefIdeal)
    ∧ preserves_PreFfn_PreFfnIdeal
    ∧ algebraic_PreFfnIdeal_PreRefIdeal (hPreFfnIdeal := hPreFfnIdeal) (hPreRefIdeal := hPreRefIdeal)
    ∧ preserves_PostFfn_PostFfnIdeal
    ∧ algebraic_PostFfnIdeal_PostRefIdeal (hPostFfnIdeal := hPostFfnIdeal) (hPostRefIdeal := hPostRefIdeal)
    ∧ preserves_FirstFfn_FirstFfnIdeal
    ∧ algebraic_FirstFfnIdeal_FirstRefIdeal (hFirstFfnIdeal := hFirstFfnIdeal) (hFirstRefIdeal := hFirstRefIdeal)
-- ==== On_attention_columns.lean ====
abbrev S8x4224x384 : Shape := ⟨3, ![8, 4224, 384]⟩
abbrev S8x4224x1152 : Shape := ⟨3, ![8, 4224, 1152]⟩
abbrev S8x4224x640 : Shape := ⟨3, ![8, 4224, 640]⟩
abbrev S8x4224x512 : Shape := ⟨3, ![8, 4224, 512]⟩
abbrev S384 : Shape := ⟨1, ![384]⟩
abbrev S64 : Shape := ⟨1, ![64]⟩
abbrev S6 : Shape := ⟨1, ![6]⟩
abbrev S31x256 : Shape := ⟨2, ![31, 256]⟩
abbrev S256 : Shape := ⟨1, ![256]⟩
abbrev S8x4224x1024 : Shape := ⟨3, ![8, 4224, 1024]⟩
abbrev S_ : Shape := ⟨0, ![]⟩

class Facts : Prop where
  bcast_S_S8x4224x1024 : S_.BroadcastsInDim S8x4224x1024 (![] : Fin 0 → Fin S8x4224x1024.rank)

variable [Facts]

def fn {F : FTy → Type} [FloatOps F] (main_arg0 : FVec F S8x4224x384 .f32) (main_arg1 : FVec F S8x4224x1152 .bf16) (main_arg2 : FVec F S8x4224x640 .bf16) (main_arg3 : FVec F S8x4224x512 .bf16) (main_arg4 : FVec F S384 .f32) (main_arg5 : FVec F S64 .f32) (main_arg6 : FVec F S6 .f32) (main_arg7 : FVec F S31x256 .f32) (main_arg8 : FVec F S256 .f32) (main_arg9 : FVec F S256 .f32) (main_arg10 : FVec F S256 .f32) : IVec S8x4224x1024 1 :=
  let main_v0 : IVec S8x4224x1024 32 := iotaInDim S8x4224x1024 32 2
  let main_c : IVec S_ 32 := constantI S_ 32 384#32
  let main_v1 : IVec S8x4224x1024 32 := broadcastInDim S8x4224x1024 ![] bcast_S_S8x4224x1024 main_c
  let main_v2 : IVec S8x4224x1024 1 := cmpi .sge main_v0 main_v1
  let main_c_0 : IVec S_ 32 := constantI S_ 32 768#32
  let main_v3 : IVec S8x4224x1024 32 := broadcastInDim S8x4224x1024 ![] bcast_S_S8x4224x1024 main_c_0
  let main_v4 : IVec S8x4224x1024 1 := cmpi .slt main_v0 main_v3
  let main_v5 : IVec S8x4224x1024 1 := andi main_v2 main_v4
  main_v5
-- ==== On_convolution_columns.lean ====
abbrev S8x4224x384 : Shape := ⟨3, ![8, 4224, 384]⟩
abbrev S8x4224x1152 : Shape := ⟨3, ![8, 4224, 1152]⟩
abbrev S8x4224x640 : Shape := ⟨3, ![8, 4224, 640]⟩
abbrev S8x4224x512 : Shape := ⟨3, ![8, 4224, 512]⟩
abbrev S384 : Shape := ⟨1, ![384]⟩
abbrev S64 : Shape := ⟨1, ![64]⟩
abbrev S6 : Shape := ⟨1, ![6]⟩
abbrev S31x256 : Shape := ⟨2, ![31, 256]⟩
abbrev S256 : Shape := ⟨1, ![256]⟩
abbrev S8x4224x1024 : Shape := ⟨3, ![8, 4224, 1024]⟩
abbrev S_ : Shape := ⟨0, ![]⟩

class Facts : Prop where
  bcast_S_S8x4224x1024 : S_.BroadcastsInDim S8x4224x1024 (![] : Fin 0 → Fin S8x4224x1024.rank)

variable [Facts]

def fn {F : FTy → Type} [FloatOps F] (main_arg0 : FVec F S8x4224x384 .f32) (main_arg1 : FVec F S8x4224x1152 .bf16) (main_arg2 : FVec F S8x4224x640 .bf16) (main_arg3 : FVec F S8x4224x512 .bf16) (main_arg4 : FVec F S384 .f32) (main_arg5 : FVec F S64 .f32) (main_arg6 : FVec F S6 .f32) (main_arg7 : FVec F S31x256 .f32) (main_arg8 : FVec F S256 .f32) (main_arg9 : FVec F S256 .f32) (main_arg10 : FVec F S256 .f32) : IVec S8x4224x1024 1 :=
  let main_v0 : IVec S8x4224x1024 32 := iotaInDim S8x4224x1024 32 2
  let main_c : IVec S_ 32 := constantI S_ 32 768#32
  let main_v1 : IVec S8x4224x1024 32 := broadcastInDim S8x4224x1024 ![] bcast_S_S8x4224x1024 main_c
  let main_v2 : IVec S8x4224x1024 1 := cmpi .sge main_v0 main_v1
  main_v2
-- ==== Pre_finite_attention.lean ====
abbrev S8x4224x384 : Shape := ⟨3, ![8, 4224, 384]⟩
abbrev S8x4224x1152 : Shape := ⟨3, ![8, 4224, 1152]⟩
abbrev S8x4224x640 : Shape := ⟨3, ![8, 4224, 640]⟩
abbrev S8x4224x512 : Shape := ⟨3, ![8, 4224, 512]⟩
abbrev S384 : Shape := ⟨1, ![384]⟩
abbrev S64 : Shape := ⟨1, ![64]⟩
abbrev S6 : Shape := ⟨1, ![6]⟩
abbrev S31x256 : Shape := ⟨2, ![31, 256]⟩
abbrev S256 : Shape := ⟨1, ![256]⟩
abbrev S_ : Shape := ⟨0, ![]⟩

class Facts : Prop where
  slices_S8x4224x640_S8x4224x512_0_0_0 : S8x4224x640.Slices ![0, 0, 0] S8x4224x512
  bitsLt_bf16_f32 : FTy.bits .bf16 < FTy.bits .f32
  bcast_S_S8x4224x512 : S_.BroadcastsInDim S8x4224x512 (![] : Fin 0 → Fin S8x4224x512.rank)
  bcast_S_S6 : S_.BroadcastsInDim S6 (![] : Fin 0 → Fin S6.rank)

variable [Facts]

def fn {F : FTy → Type} [FloatOps F] (main_arg0 : FVec F S8x4224x384 .f32) (main_arg1 : FVec F S8x4224x1152 .bf16) (main_arg2 : FVec F S8x4224x640 .bf16) (main_arg3 : FVec F S8x4224x512 .bf16) (main_arg4 : FVec F S384 .f32) (main_arg5 : FVec F S64 .f32) (main_arg6 : FVec F S6 .f32) (main_arg7 : FVec F S31x256 .f32) (main_arg8 : FVec F S256 .f32) (main_arg9 : FVec F S256 .f32) (main_arg10 : FVec F S256 .f32) : IVec S8x4224x512 1 × IVec S6 1 :=
  let main_v0 : FVec F S8x4224x512 .bf16 := (extractStridedSlice S8x4224x512 ![0, 0, 0] · slices_S8x4224x640_S8x4224x512_0_0_0) main_arg2
  let main_v1 : FVec F S8x4224x512 .f32 := (extf .f32 · bitsLt_bf16_f32) main_v0
  let main_v2 : FVec F S8x4224x512 .f32 := Host.absf main_v1
  let main_cst : FVec F S_ .f32 := constant S_ .f32 0x7F800000#32
  let main_v3 : FVec F S8x4224x512 .f32 := broadcastInDim S8x4224x512 ![] bcast_S_S8x4224x512 main_cst
  let main_v4 : IVec S8x4224x512 1 := cmpf .olt main_v2 main_v3
  let main_v5 : FVec F S6 .f32 := Host.absf main_arg6
  let main_cst_0 : FVec F S_ .f32 := constant S_ .f32 0x7F800000#32
  let main_v6 : FVec F S6 .f32 := broadcastInDim S6 ![] bcast_S_S6 main_cst_0
  let main_v7 : IVec S6 1 := cmpf .olt main_v5 main_v6
  (main_v4, main_v7)
-- ==== Kernel.lean ====
abbrev S8x4224x384 : Shape := ⟨3, ![8, 4224, 384]⟩
abbrev S8x4224x1152 : Shape := ⟨3, ![8, 4224, 1152]⟩
abbrev S8x4224x640 : Shape := ⟨3, ![8, 4224, 640]⟩
abbrev S8x4224x512 : Shape := ⟨3, ![8, 4224, 512]⟩
abbrev S384 : Shape := ⟨1, ![384]⟩
abbrev S64 : Shape := ⟨1, ![64]⟩
abbrev S6 : Shape := ⟨1, ![6]⟩
abbrev S31x256 : Shape := ⟨2, ![31, 256]⟩
abbrev S256 : Shape := ⟨1, ![256]⟩
abbrev S_ : Shape := ⟨0, ![]⟩
abbrev S1x384 : Shape := ⟨2, ![1, 384]⟩
abbrev S3x384 : Shape := ⟨2, ![3, 384]⟩
abbrev S1x64 : Shape := ⟨2, ![1, 64]⟩
abbrev S6x64 : Shape := ⟨2, ![6, 64]⟩
abbrev S1x256 : Shape := ⟨2, ![1, 256]⟩
abbrev S128x256 : Shape := ⟨2, ![128, 256]⟩
abbrev S512x256 : Shape := ⟨2, ![512, 256]⟩
abbrev S384x384 : Shape := ⟨2, ![384, 384]⟩
abbrev S3x272x128 : Shape := ⟨3, ![3, 272, 128]⟩
abbrev S128x31x160 : Shape := ⟨3, ![128, 31, 160]⟩
abbrev S128x4960 : Shape := ⟨2, ![128, 4960]⟩
abbrev S31x1x256 : Shape := ⟨3, ![31, 1, 256]⟩
abbrev S31x160x256 : Shape := ⟨3, ![31, 160, 256]⟩
abbrev S8x4224x1024 : Shape := ⟨3, ![8, 4224, 1024]⟩
abbrev S1x384x384 : Shape := ⟨3, ![1, 384, 384]⟩
abbrev S1x384x1152 : Shape := ⟨3, ![1, 384, 1152]⟩
abbrev S1x384x640 : Shape := ⟨3, ![1, 384, 640]⟩
abbrev S1x128x640 : Shape := ⟨3, ![1, 128, 640]⟩
abbrev S1x384x512 : Shape := ⟨3, ![1, 384, 512]⟩
abbrev S1x128x512 : Shape := ⟨3, ![1, 128, 512]⟩
abbrev S1x384x1024 : Shape := ⟨3, ![1, 384, 1024]⟩
abbrev S3x128x128 : Shape := ⟨3, ![3, 128, 128]⟩
abbrev S3x512x384 : Shape := ⟨3, ![3, 512, 384]⟩
abbrev S1x32x512 : Shape := ⟨3, ![1, 32, 512]⟩
abbrev S32x512 : Shape := ⟨2, ![32, 512]⟩
abbrev S32x256 : Shape := ⟨2, ![32, 256]⟩
abbrev S1x128x128 : Shape := ⟨3, ![1, 128, 128]⟩
abbrev S128x128 : Shape := ⟨2, ![128, 128]⟩
abbrev S1x128x256 : Shape := ⟨3, ![1, 128, 256]⟩
abbrev S1x128 : Shape := ⟨2, ![1, 128]⟩
abbrev S1x128x384 : Shape := ⟨3, ![1, 128, 384]⟩
abbrev S128x384 : Shape := ⟨2, ![128, 384]⟩
abbrev S256x384 : Shape := ⟨2, ![256, 384]⟩
abbrev S256x256 : Shape := ⟨2, ![256, 256]⟩
abbrev S1x512x384 : Shape := ⟨3, ![1, 512, 384]⟩
abbrev S512x384 : Shape := ⟨2, ![512, 384]⟩
abbrev S1x16x256 : Shape := ⟨3, ![1, 16, 256]⟩
abbrev S16x256 : Shape := ⟨2, ![16, 256]⟩
abbrev S272x256 : Shape := ⟨2, ![272, 256]⟩
abbrev S272x128 : Shape := ⟨2, ![272, 128]⟩
abbrev S768x128 : Shape := ⟨2, ![768, 128]⟩
abbrev S1 : Shape := ⟨1, ![1]⟩
abbrev S1x768 : Shape := ⟨2, ![1, 768]⟩
abbrev S128x512 : Shape := ⟨2, ![128, 512]⟩
abbrev S160x256 : Shape := ⟨2, ![160, 256]⟩
abbrev S256x128 : Shape := ⟨2, ![256, 128]⟩
abbrev S1x272x128 : Shape := ⟨3, ![1, 272, 128]⟩
abbrev S272x768 : Shape := ⟨2, ![272, 768]⟩
abbrev S1x160x256 : Shape := ⟨3, ![1, 160, 256]⟩
abbrev S1280x256 : Shape := ⟨2, ![1280, 256]⟩
abbrev S128x1280 : Shape := ⟨2, ![128, 1280]⟩
abbrev S768 : Shape := ⟨1, ![768]⟩
abbrev S16x128 : Shape := ⟨2, ![16, 128]⟩
abbrev S32x128 : Shape := ⟨2, ![32, 128]⟩
abbrev S64x128 : Shape := ⟨2, ![64, 128]⟩
abbrev S128x768 : Shape := ⟨2, ![128, 768]⟩
abbrev S16x272 : Shape := ⟨2, ![16, 272]⟩
abbrev S16x768 : Shape := ⟨2, ![16, 768]⟩
abbrev S1120x256 : Shape := ⟨2, ![1120, 256]⟩
abbrev S128x1120 : Shape := ⟨2, ![128, 1120]⟩
abbrev S128 : Shape := ⟨1, ![128]⟩
abbrev S128x1 : Shape := ⟨2, ![128, 1]⟩
abbrev S128x1024 : Shape := ⟨2, ![128, 1024]⟩
abbrev S1x128x1024 : Shape := ⟨3, ![1, 128, 1024]⟩

abbrev nBuf : Space → Nat
  | .hbm => 278
  | .vmem => 29
  | .smem => 1
  | _ => 0

abbrev hbmTy0_0 (i : Nat) : BufTy := match i % 128 with
  | 0 => ⟨S8x4224x384, .f32⟩
  | 1 => ⟨S8x4224x1152, .bf16⟩
  | 2 => ⟨S8x4224x640, .bf16⟩
  | 3 => ⟨S8x4224x512, .bf16⟩
  | 4 => ⟨S384, .f32⟩
  | 5 => ⟨S64, .f32⟩
  | 6 => ⟨S6, .f32⟩
  | 7 => ⟨S31x256, .f32⟩
  | 8 => ⟨S256, .f32⟩
  | 9 => ⟨S256, .f32⟩
  | 10 => ⟨S256, .f32⟩
  | 11 => ⟨S384, .f32⟩
  | 12 => ⟨S384, .f32⟩
  | 13 => ⟨S384, .f32⟩
  | 14 => ⟨S_, .f32⟩
  | 15 => ⟨S384, .f32⟩
  | 16 => ⟨S384, .f32⟩
  | 17 => ⟨S1x384, .f32⟩
  | 18 => ⟨S1x384, .f32⟩
  | 19 => ⟨S1x384, .f32⟩
  | 20 => ⟨S3x384, .f32⟩
  | 21 => ⟨S1x64, .f32⟩
  | 22 => ⟨S6x64, .f32⟩
  | 23 => ⟨S384, .f32⟩
  | 24 => ⟨S1x384, .f32⟩
  | 25 => ⟨S1x256, .f32⟩
  | 26 => ⟨S1x256, .f32⟩
  | 27 => ⟨S1x256, .f32⟩
  | 28 => ⟨S128x256, .i32⟩
  | 29 => ⟨S128x256, .i32⟩
  | 30 => ⟨S_, .i32⟩
  | 31 => ⟨S128x256, .i32⟩
  | 32 => ⟨S128x256, .i32⟩
  | 33 => ⟨S128x256, .i1⟩
  | 34 => ⟨S_, .i32⟩
  | 35 => ⟨S128x256, .i32⟩
  | 36 => ⟨S128x256, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S128x256, .i1⟩
  | 44 => ⟨S128x256, .i1⟩
  | 45 => ⟨S128x256, .i1⟩
  | 46 => ⟨S128x256, .i1⟩
  | 47 => ⟨S128x256, .i1⟩
  | 48 => ⟨S128x256, .i1⟩
  | 49 => ⟨S128x256, .i1⟩
  | 50 => ⟨S_, .i32⟩
  | 51 => ⟨S128x256, .i32⟩
  | 52 => ⟨S128x256, .i32⟩
  | 53 => ⟨S_, .i32⟩
  | 54 => ⟨S128x256, .i32⟩
  | 55 => ⟨S128x256, .i32⟩
  | 56 => ⟨S_, .i32⟩
  | 57 => ⟨S128x256, .i32⟩
  | 58 => ⟨S128x256, .i32⟩
  | 59 => ⟨S128x256, .i1⟩
  | 60 => ⟨S128x256, .i1⟩
  | 61 => ⟨S128x256, .i1⟩
  | 62 => ⟨S128x256, .i1⟩
  | 63 => ⟨S128x256, .i1⟩
  | 64 => ⟨S128x256, .i1⟩
  | 65 => ⟨S128x256, .i1⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i32⟩
  | 72 => ⟨S_, .i32⟩
  | 73 => ⟨S128x256, .i32⟩
  | 74 => ⟨S128x256, .i32⟩
  | 75 => ⟨S128x256, .i1⟩
  | 76 => ⟨S128x256, .i1⟩
  | 77 => ⟨S128x256, .i1⟩
  | 78 => ⟨S128x256, .i1⟩
  | 79 => ⟨S128x256, .i1⟩
  | 80 => ⟨S128x256, .i1⟩
  | 81 => ⟨S128x256, .i1⟩
  | 82 => ⟨S_, .f32⟩
  | 83 => ⟨S_, .f32⟩
  | 84 => ⟨S128x256, .f32⟩
  | 85 => ⟨S128x256, .f32⟩
  | 86 => ⟨S128x256, .f32⟩
  | 87 => ⟨S_, .f32⟩
  | 88 => ⟨S_, .f32⟩
  | 89 => ⟨S128x256, .f32⟩
  | 90 => ⟨S128x256, .f32⟩
  | 91 => ⟨S128x256, .f32⟩
  | 92 => ⟨S_, .f32⟩
  | 93 => ⟨S_, .f32⟩
  | 94 => ⟨S128x256, .f32⟩
  | 95 => ⟨S128x256, .f32⟩
  | 96 => ⟨S128x256, .f32⟩
  | 97 => ⟨S_, .f32⟩
  | 98 => ⟨S_, .f32⟩
  | 99 => ⟨S128x256, .f32⟩
  | 100 => ⟨S128x256, .f32⟩
  | 101 => ⟨S128x256, .f32⟩
  | 102 => ⟨S512x256, .f32⟩
  | 103 => ⟨S512x256, .bf16⟩
  | 104 => ⟨S128x256, .i32⟩
  | 105 => ⟨S128x256, .i32⟩
  | 106 => ⟨S_, .i32⟩
  | 107 => ⟨S128x256, .i32⟩
  | 108 => ⟨S128x256, .i32⟩
  | 109 => ⟨S_, .f32⟩
  | 110 => ⟨S128x256, .f32⟩
  | 111 => ⟨S_, .i32⟩
  | 112 => ⟨S128x256, .i32⟩
  | 113 => ⟨S128x256, .i32⟩
  | 114 => ⟨S_, .i32⟩
  | 115 => ⟨S128x256, .i32⟩
  | 116 => ⟨S128x256, .i32⟩
  | 117 => ⟨S128x256, .i1⟩
  | 118 => ⟨S_, .f32⟩
  | 119 => ⟨S_, .f32⟩
  | 120 => ⟨S128x256, .f32⟩
  | 121 => ⟨S128x256, .f32⟩
  | 122 => ⟨S_, .i32⟩
  | 123 => ⟨S128x256, .i32⟩
  | 124 => ⟨S128x256, .i32⟩
  | 125 => ⟨S_, .i32⟩
  | 126 => ⟨S128x256, .i32⟩
  | 127 => ⟨S128x256, .i32⟩
  | _ => ⟨S8x4224x384, .f32⟩

abbrev hbmTy0_1 (i : Nat) : BufTy := match i % 128 with
  | 0 => ⟨S128x256, .i1⟩
  | 1 => ⟨S_, .f32⟩
  | 2 => ⟨S_, .f32⟩
  | 3 => ⟨S128x256, .f32⟩
  | 4 => ⟨S128x256, .f32⟩
  | 5 => ⟨S_, .i32⟩
  | 6 => ⟨S128x256, .i32⟩
  | 7 => ⟨S128x256, .i32⟩
  | 8 => ⟨S_, .i32⟩
  | 9 => ⟨S128x256, .i32⟩
  | 10 => ⟨S128x256, .i32⟩
  | 11 => ⟨S128x256, .i1⟩
  | 12 => ⟨S_, .f32⟩
  | 13 => ⟨S_, .f32⟩
  | 14 => ⟨S128x256, .f32⟩
  | 15 => ⟨S128x256, .f32⟩
  | 16 => ⟨S_, .i32⟩
  | 17 => ⟨S128x256, .i32⟩
  | 18 => ⟨S128x256, .i32⟩
  | 19 => ⟨S_, .i32⟩
  | 20 => ⟨S128x256, .i32⟩
  | 21 => ⟨S128x256, .i32⟩
  | 22 => ⟨S128x256, .i1⟩
  | 23 => ⟨S_, .f32⟩
  | 24 => ⟨S_, .f32⟩
  | 25 => ⟨S128x256, .f32⟩
  | 26 => ⟨S128x256, .f32⟩
  | 27 => ⟨S_, .i32⟩
  | 28 => ⟨S128x256, .i32⟩
  | 29 => ⟨S128x256, .i32⟩
  | 30 => ⟨S_, .i32⟩
  | 31 => ⟨S128x256, .i32⟩
  | 32 => ⟨S128x256, .i32⟩
  | 33 => ⟨S128x256, .i1⟩
  | 34 => ⟨S_, .f32⟩
  | 35 => ⟨S_, .f32⟩
  | 36 => ⟨S128x256, .f32⟩
  | 37 => ⟨S128x256, .f32⟩
  | 38 => ⟨S_, .i32⟩
  | 39 => ⟨S128x256, .i32⟩
  | 40 => ⟨S128x256, .i32⟩
  | 41 => ⟨S_, .i32⟩
  | 42 => ⟨S128x256, .i32⟩
  | 43 => ⟨S128x256, .i32⟩
  | 44 => ⟨S128x256, .i1⟩
  | 45 => ⟨S_, .f32⟩
  | 46 => ⟨S_, .f32⟩
  | 47 => ⟨S128x256, .f32⟩
  | 48 => ⟨S128x256, .f32⟩
  | 49 => ⟨S_, .i32⟩
  | 50 => ⟨S128x256, .i32⟩
  | 51 => ⟨S128x256, .i32⟩
  | 52 => ⟨S_, .i32⟩
  | 53 => ⟨S128x256, .i32⟩
  | 54 => ⟨S128x256, .i32⟩
  | 55 => ⟨S128x256, .i1⟩
  | 56 => ⟨S_, .f32⟩
  | 57 => ⟨S_, .f32⟩
  | 58 => ⟨S128x256, .f32⟩
  | 59 => ⟨S128x256, .f32⟩
  | 60 => ⟨S128x256, .i1⟩
  | 61 => ⟨S_, .f32⟩
  | 62 => ⟨S_, .f32⟩
  | 63 => ⟨S128x256, .f32⟩
  | 64 => ⟨S128x256, .f32⟩
  | 65 => ⟨S128x256, .bf16⟩
  | 66 => ⟨S384x384, .i32⟩
  | 67 => ⟨S_, .i32⟩
  | 68 => ⟨S384x384, .i32⟩
  | 69 => ⟨S384x384, .i32⟩
  | 70 => ⟨S384x384, .i32⟩
  | 71 => ⟨S_, .i32⟩
  | 72 => ⟨S384x384, .i32⟩
  | 73 => ⟨S384x384, .i32⟩
  | 74 => ⟨S384x384, .i1⟩
  | 75 => ⟨S_, .f32⟩
  | 76 => ⟨S_, .f32⟩
  | 77 => ⟨S384x384, .f32⟩
  | 78 => ⟨S384x384, .f32⟩
  | 79 => ⟨S384x384, .f32⟩
  | 80 => ⟨S384x384, .bf16⟩
  | 81 => ⟨S3x272x128, .i32⟩
  | 82 => ⟨S3x272x128, .i32⟩
  | 83 => ⟨S3x272x128, .i32⟩
  | 84 => ⟨S_, .i32⟩
  | 85 => ⟨S3x272x128, .i32⟩
  | 86 => ⟨S3x272x128, .i1⟩
  | 87 => ⟨S3x272x128, .i1⟩
  | 88 => ⟨S3x272x128, .i1⟩
  | 89 => ⟨S_, .i32⟩
  | 90 => ⟨S3x272x128, .i32⟩
  | 91 => ⟨S3x272x128, .i1⟩
  | 92 => ⟨S3x272x128, .i1⟩
  | 93 => ⟨S_, .i32⟩
  | 94 => ⟨S3x272x128, .i32⟩
  | 95 => ⟨S3x272x128, .i1⟩
  | 96 => ⟨S_, .i32⟩
  | 97 => ⟨S3x272x128, .i32⟩
  | 98 => ⟨S3x272x128, .i1⟩
  | 99 => ⟨S3x272x128, .i1⟩
  | 100 => ⟨S_, .i32⟩
  | 101 => ⟨S3x272x128, .i32⟩
  | 102 => ⟨S3x272x128, .i32⟩
  | 103 => ⟨S3x272x128, .i1⟩
  | 104 => ⟨S3x272x128, .i1⟩
  | 105 => ⟨S_, .i32⟩
  | 106 => ⟨S3x272x128, .i32⟩
  | 107 => ⟨S3x272x128, .i1⟩
  | 108 => ⟨S3x272x128, .i1⟩
  | 109 => ⟨S_, .i32⟩
  | 110 => ⟨S3x272x128, .i32⟩
  | 111 => ⟨S3x272x128, .i1⟩
  | 112 => ⟨S_, .i32⟩
  | 113 => ⟨S3x272x128, .i32⟩
  | 114 => ⟨S3x272x128, .i1⟩
  | 115 => ⟨S_, .i32⟩
  | 116 => ⟨S3x272x128, .i32⟩
  | 117 => ⟨S3x272x128, .i32⟩
  | 118 => ⟨S_, .i32⟩
  | 119 => ⟨S3x272x128, .i32⟩
  | 120 => ⟨S3x272x128, .i32⟩
  | 121 => ⟨S3x272x128, .i1⟩
  | 122 => ⟨S3x272x128, .i1⟩
  | 123 => ⟨S3x272x128, .i1⟩
  | 124 => ⟨S3x272x128, .i1⟩
  | 125 => ⟨S3x272x128, .i1⟩
  | 126 => ⟨S_, .f32⟩
  | 127 => ⟨S_, .f32⟩
  | _ => ⟨S8x4224x384, .f32⟩

abbrev hbmTy0_2 (i : Nat) : BufTy := match i % 128 with
  | 0 => ⟨S3x272x128, .f32⟩
  | 1 => ⟨S3x272x128, .f32⟩
  | 2 => ⟨S3x272x128, .f32⟩
  | 3 => ⟨S128x31x160, .i32⟩
  | 4 => ⟨S128x31x160, .i32⟩
  | 5 => ⟨S128x31x160, .i32⟩
  | 6 => ⟨S_, .i32⟩
  | 7 => ⟨S128x31x160, .i32⟩
  | 8 => ⟨S128x31x160, .i32⟩
  | 9 => ⟨S128x31x160, .i32⟩
  | 10 => ⟨S128x31x160, .i1⟩
  | 11 => ⟨S_, .f32⟩
  | 12 => ⟨S_, .f32⟩
  | 13 => ⟨S128x31x160, .f32⟩
  | 14 => ⟨S128x31x160, .f32⟩
  | 15 => ⟨S128x31x160, .f32⟩
  | 16 => ⟨S128x4960, .f32⟩
  | 17 => ⟨S128x4960, .bf16⟩
  | 18 => ⟨S31x256, .bf16⟩
  | 19 => ⟨S31x1x256, .bf16⟩
  | 20 => ⟨S31x160x256, .bf16⟩
  | 21 => ⟨S8x4224x1024, .bf16⟩
  | _ => ⟨S8x4224x384, .f32⟩

abbrev hbmTy (i : Nat) : BufTy := match i / 128 with
  | 0 => hbmTy0_0 i
  | 1 => hbmTy0_1 i
  | 2 => hbmTy0_2 i
  | _ => ⟨S8x4224x384, .f32⟩

abbrev bufTy : (tb : Table) → Fin (tcTables nBuf tb) → BufTy
  | .hbm, ⟨i, _⟩ => hbmTy i
  | .local _ .vmem, ⟨0, _⟩ => ⟨S1x384x384, .f32⟩
  | .local _ .vmem, ⟨1, _⟩ => ⟨S1x384x384, .f32⟩
  | .local _ .vmem, ⟨2, _⟩ => ⟨S1x384x1152, .bf16⟩
  | .local _ .vmem, ⟨3, _⟩ => ⟨S1x384x1152, .bf16⟩
  | .local _ .vmem, ⟨4, _⟩ => ⟨S1x384x640, .bf16⟩
  | .local _ .vmem, ⟨5, _⟩ => ⟨S1x384x640, .bf16⟩
  | .local _ .vmem, ⟨6, _⟩ => ⟨S1x128x640, .bf16⟩
  | .local _ .vmem, ⟨7, _⟩ => ⟨S1x128x640, .bf16⟩
  | .local _ .vmem, ⟨8, _⟩ => ⟨S1x128x640, .bf16⟩
  | .local _ .vmem, ⟨9, _⟩ => ⟨S1x128x640, .bf16⟩
  | .local _ .vmem, ⟨10, _⟩ => ⟨S1x384x512, .bf16⟩
  | .local _ .vmem, ⟨11, _⟩ => ⟨S1x384x512, .bf16⟩
  | .local _ .vmem, ⟨12, _⟩ => ⟨S1x128x512, .bf16⟩
  | .local _ .vmem, ⟨13, _⟩ => ⟨S1x128x512, .bf16⟩
  | .local _ .vmem, ⟨14, _⟩ => ⟨S3x384, .f32⟩
  | .local _ .vmem, ⟨15, _⟩ => ⟨S1x384, .f32⟩
  | .local _ .vmem, ⟨16, _⟩ => ⟨S31x160x256, .bf16⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S512x256, .bf16⟩
  | .local _ .vmem, ⟨21, _⟩ => ⟨S128x256, .bf16⟩
  | .local _ .vmem, ⟨22, _⟩ => ⟨S384x384, .bf16⟩
  | .local _ .vmem, ⟨23, _⟩ => ⟨S3x272x128, .f32⟩
  | .local _ .vmem, ⟨24, _⟩ => ⟨S128x4960, .bf16⟩
  | .local _ .vmem, ⟨25, _⟩ => ⟨S1x384x1024, .bf16⟩
  | .local _ .vmem, ⟨26, _⟩ => ⟨S1x384x1024, .bf16⟩
  | .local _ .vmem, ⟨27, _⟩ => ⟨S3x128x128, .f32⟩
  | .local _ .vmem, ⟨28, _⟩ => ⟨S3x512x384, .f32⟩
  | .local _ .smem, ⟨0, _⟩ => ⟨S6, .f32⟩
  | _, _ => ⟨S8x4224x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_cst_10 : Ref sig .tc := ⟨.hbm, 83, rfl⟩
abbrev main_call0_v0 : Ref sig .tc := ⟨.hbm, 84, rfl⟩
abbrev main_call0_v1 : Ref sig .tc := ⟨.hbm, 85, rfl⟩
abbrev main_v60 : Ref sig .tc := ⟨.hbm, 86, rfl⟩
abbrev main_cst_11 : Ref sig .tc := ⟨.hbm, 87, rfl⟩
abbrev main_cst_12 : Ref sig .tc := ⟨.hbm, 88, rfl⟩
abbrev main_call1_v0 : Ref sig .tc := ⟨.hbm, 89, rfl⟩
abbrev main_call1_v1 : Ref sig .tc := ⟨.hbm, 90, rfl⟩
abbrev main_v61 : Ref sig .tc := ⟨.hbm, 91, rfl⟩
abbrev main_cst_13 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v62 : Ref sig .tc := ⟨.hbm, 96, rfl⟩
abbrev main_cst_15 : Ref sig .tc := ⟨.hbm, 97, rfl⟩
abbrev main_cst_16 : Ref sig .tc := ⟨.hbm, 98, rfl⟩
abbrev main_call3_v0 : Ref sig .tc := ⟨.hbm, 99, rfl⟩
abbrev main_call3_v1 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_17 : Ref sig .tc := ⟨.hbm, 106, rfl⟩
abbrev main_v68 : Ref sig .tc := ⟨.hbm, 107, rfl⟩
abbrev main_v69 : Ref sig .tc := ⟨.hbm, 108, rfl⟩
abbrev main_cst_18 : Ref sig .tc := ⟨.hbm, 109, rfl⟩
abbrev main_v70 : Ref sig .tc := ⟨.hbm, 110, rfl⟩
abbrev main_c_19 : Ref sig .tc := ⟨.hbm, 111, rfl⟩
abbrev main_v71 : Ref sig .tc := ⟨.hbm, 112, rfl⟩
abbrev main_v72 : Ref sig .tc := ⟨.hbm, 113, rfl⟩
abbrev main_c_20 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_21 : Ref sig .tc := ⟨.hbm, 118, rfl⟩
abbrev main_call4_v0 : Ref sig .tc := ⟨.hbm, 119, rfl⟩
abbrev main_call4_v1 : Ref sig .tc := ⟨.hbm, 120, rfl⟩
abbrev main_v76 : Ref sig .tc := ⟨.hbm, 121, rfl⟩
abbrev main_c_22 : Ref sig .tc := ⟨.hbm, 122, rfl⟩
abbrev main_v77 : Ref sig .tc := ⟨.hbm, 123, rfl⟩
abbrev main_v78 : Ref sig .tc := ⟨.hbm, 124, rfl⟩
abbrev main_c_23 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_24 : Ref sig .tc := ⟨.hbm, 129, rfl⟩
abbrev main_call5_v0 : Ref sig .tc := ⟨.hbm, 130, rfl⟩
abbrev main_call5_v1 : Ref sig .tc := ⟨.hbm, 131, rfl⟩
abbrev main_v82 : Ref sig .tc := ⟨.hbm, 132, rfl⟩
abbrev main_c_25 : Ref sig .tc := ⟨.hbm, 133, rfl⟩
abbrev main_v83 : Ref sig .tc := ⟨.hbm, 134, rfl⟩
abbrev main_v84 : Ref sig .tc := ⟨.hbm, 135, rfl⟩
abbrev main_c_26 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_27 : Ref sig .tc := ⟨.hbm, 140, rfl⟩
abbrev main_call6_v0 : Ref sig .tc := ⟨.hbm, 141, rfl⟩
abbrev main_call6_v1 : Ref sig .tc := ⟨.hbm, 142, rfl⟩
abbrev main_v88 : Ref sig .tc := ⟨.hbm, 143, rfl⟩
abbrev main_c_28 : Ref sig .tc := ⟨.hbm, 144, rfl⟩
abbrev main_v89 : Ref sig .tc := ⟨.hbm, 145, rfl⟩
abbrev main_v90 : Ref sig .tc := ⟨.hbm, 146, rfl⟩
abbrev main_c_29 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_30 : Ref sig .tc := ⟨.hbm, 151, rfl⟩
abbrev main_call7_v0 : Ref sig .tc := ⟨.hbm, 152, rfl⟩
abbrev main_call7_v1 : Ref sig .tc := ⟨.hbm, 153, rfl⟩
abbrev main_v94 : Ref sig .tc := ⟨.hbm, 154, rfl⟩
abbrev main_c_31 : Ref sig .tc := ⟨.hbm, 155, rfl⟩
abbrev main_v95 : Ref sig .tc := ⟨.hbm, 156, rfl⟩
abbrev main_v96 : Ref sig .tc := ⟨.hbm, 157, rfl⟩
abbrev main_c_32 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_33 : Ref sig .tc := ⟨.hbm, 162, rfl⟩
abbrev main_call8_v0 : Ref sig .tc := ⟨.hbm, 163, rfl⟩
abbrev main_call8_v1 : Ref sig .tc := ⟨.hbm, 164, rfl⟩
abbrev main_v100 : Ref sig .tc := ⟨.hbm, 165, rfl⟩
abbrev main_c_34 : Ref sig .tc := ⟨.hbm, 166, rfl⟩
abbrev main_v101 : Ref sig .tc := ⟨.hbm, 167, rfl⟩
abbrev main_v102 : Ref sig .tc := ⟨.hbm, 168, rfl⟩
abbrev main_c_35 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_36 : Ref sig .tc := ⟨.hbm, 173, rfl⟩
abbrev main_call9_v0 : Ref sig .tc := ⟨.hbm, 174, rfl⟩
abbrev main_call9_v1 : Ref sig .tc := ⟨.hbm, 175, rfl⟩
abbrev main_v106 : Ref sig .tc := ⟨.hbm, 176, rfl⟩
abbrev main_c_37 : Ref sig .tc := ⟨.hbm, 177, rfl⟩
abbrev main_v107 : Ref sig .tc := ⟨.hbm, 178, rfl⟩
abbrev main_v108 : Ref sig .tc := ⟨.hbm, 179, rfl⟩
abbrev main_c_38 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_39 : Ref sig .tc := ⟨.hbm, 184, rfl⟩
abbrev main_call10_v0 : Ref sig .tc := ⟨.hbm, 185, rfl⟩
abbrev main_call10_v1 : Ref sig .tc := ⟨.hbm, 186, rfl⟩
abbrev main_v112 : Ref sig .tc := ⟨.hbm, 187, rfl⟩
abbrev main_v113 : Ref sig .tc := ⟨.hbm, 188, rfl⟩
abbrev main_cst_40 : Ref sig .tc := ⟨.hbm, 189, rfl⟩
abbrev main_call11_v0 : Ref sig .tc := ⟨.hbm, 190, rfl⟩
abbrev main_call11_v1 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_c_41 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_c_42 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_cst_43 : Ref sig .tc := ⟨.hbm, 203, rfl⟩
abbrev main_cst_44 : Ref sig .tc := ⟨.hbm, 204, rfl⟩
abbrev main_call12_v0 : Ref sig .tc := ⟨.hbm, 205, rfl⟩
abbrev main_call12_v1 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_c_45 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_c_46 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_c_47 : Ref sig .tc := ⟨.hbm, 221, rfl⟩
abbrev main_v135 : Ref sig .tc := ⟨.hbm, 222, rfl⟩
abbrev main_v136 : Ref sig .tc := ⟨.hbm, 223, rfl⟩
abbrev main_c_48 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_c_49 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_c_50 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_c_51 : Ref sig .tc := ⟨.hbm, 237, rfl⟩
abbrev main_v147 : Ref sig .tc := ⟨.hbm, 238, rfl⟩
abbrev main_v148 : Ref sig .tc := ⟨.hbm, 239, rfl⟩
abbrev main_c_52 : Ref sig .tc := ⟨.hbm, 240, rfl⟩
abbrev main_v149 : Ref sig .tc := ⟨.hbm, 241, rfl⟩
abbrev main_v150 : Ref sig .tc := ⟨.hbm, 242, rfl⟩
abbrev main_c_53 : Ref sig .tc := ⟨.hbm, 243, rfl⟩
abbrev main_v151 : Ref sig .tc := ⟨.hbm, 244, rfl⟩
abbrev main_v152 : Ref sig .tc := ⟨.hbm, 245, rfl⟩
abbrev main_c_54 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_55 : Ref sig .tc := ⟨.hbm, 254, rfl⟩
abbrev main_cst_56 : Ref sig .tc := ⟨.hbm, 255, rfl⟩
abbrev main_call13_v0 : Ref sig .tc := ⟨.hbm, 256, rfl⟩
abbrev main_call13_v1 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_c_57 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_cst_58 : Ref sig .tc := ⟨.hbm, 267, rfl⟩
abbrev main_cst_59 : Ref sig .tc := ⟨.hbm, 268, rfl⟩
abbrev main_call14_v0 : Ref sig .tc := ⟨.hbm, 269, rfl⟩
abbrev main_call14_v1 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![8, 11], ![false, false]⟩

def k0_off1 (i : grid0.Coords) (c0_i32_15 : BitVec 32) : Fin 3 → Nat :=
  let arg1 : BitVec 32 := BitVec.ofNat 32 (i 1).val
  let c3_i32 : BitVec 32 := 3#32
  let v27 : BitVec 32 := Scalar.muli arg1 c3_i32
  let v28 : BitVec 32 := Scalar.addi v27 c0_i32_15
  let c2_i32_320 : BitVec 32 := 2#32
  let v611 : BitVec 32 := Scalar.minsi v28 c2_i32_320
  let v612 : Index := Scalar.indexCast v611
  let c0_321 : Index := 0#32
  let c0_322 : Index := 0#32
  ![v612.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S31x160x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S384x384 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S3x272x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x4960 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x384x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== AttentionIdeal.lean ====
abbrev S8x4224x384 : Shape := ⟨3, ![8, 4224, 384]⟩
abbrev S8x4224x1152 : Shape := ⟨3, ![8, 4224, 1152]⟩
abbrev S8x4224x640 : Shape := ⟨3, ![8, 4224, 640]⟩
abbrev S8x4224x512 : Shape := ⟨3, ![8, 4224, 512]⟩
abbrev S384 : Shape := ⟨1, ![384]⟩
abbrev S64 : Shape := ⟨1, ![64]⟩
abbrev S6 : Shape := ⟨1, ![6]⟩
abbrev S31x256 : Shape := ⟨2, ![31, 256]⟩
abbrev S256 : Shape := ⟨1, ![256]⟩
abbrev S8x4112x640 : Shape := ⟨3, ![8, 4112, 640]⟩
abbrev S8x4112x384 : Shape := ⟨3, ![8, 4112, 384]⟩
abbrev S8x4112x3x2x64 : Shape := ⟨5, ![8, 4112, 3, 2, 64]⟩
abbrev S8x4112x2x3x64 : Shape := ⟨5, ![8, 4112, 2, 3, 64]⟩
abbrev S8x4112x128 : Shape := ⟨3, ![8, 4112, 128]⟩
abbrev S_ : Shape := ⟨0, ![]⟩
abbrev S8x33x128x2x3x64 : Shape := ⟨6, ![8, 33, 128, 2, 3, 64]⟩
abbrev S8x4224x128 : Shape := ⟨3, ![8, 4224, 128]⟩
abbrev S8x33x128x2x64 : Shape := ⟨5, ![8, 33, 128, 2, 64]⟩
abbrev S8x1x128x2x64 : Shape := ⟨5, ![8, 1, 128, 2, 64]⟩
abbrev S8x32x128x2x64 : Shape := ⟨5, ![8, 32, 128, 2, 64]⟩
abbrev S8x33x256x2x64 : Shape := ⟨5, ![8, 33, 256, 2, 64]⟩
abbrev S8x16x128 : Shape := ⟨3, ![8, 16, 128]⟩
abbrev S8x16x2x64 : Shape := ⟨4, ![8, 16, 2, 64]⟩
abbrev S8x33x2x256x128x3 : Shape := ⟨6, ![8, 33, 2, 256, 128, 3]⟩
abbrev S8x33x2x3x128x256 : Shape := ⟨6, ![8, 33, 2, 3, 128, 256]⟩
abbrev S8x2x16x33x128x3 : Shape := ⟨6, ![8, 2, 16, 33, 128, 3]⟩
abbrev S8x33x2x3x128x16 : Shape := ⟨6, ![8, 33, 2, 3, 128, 16]⟩
abbrev S8x33x2x3x128x272 : Shape := ⟨6, ![8, 33, 2, 3, 128, 272]⟩
abbrev S4224 : Shape := ⟨1, ![4224]⟩
abbrev S33x128 : Shape := ⟨2, ![33, 128]⟩
abbrev S33 : Shape := ⟨1, ![33]⟩
abbrev S33x1 : Shape := ⟨2, ![33, 1]⟩
abbrev S1x256 : Shape := ⟨2, ![1, 256]⟩
abbrev S33x256 : Shape := ⟨2, ![33, 256]⟩
abbrev S33x128x1 : Shape := ⟨3, ![33, 128, 1]⟩
abbrev S33x1x256 : Shape := ⟨3, ![33, 1, 256]⟩
abbrev S33x128x256 : Shape := ⟨3, ![33, 128, 256]⟩
abbrev S16 : Shape := ⟨1, ![16]⟩
abbrev S1x1x16 : Shape := ⟨3, ![1, 1, 16]⟩
abbrev S33x128x16 : Shape := ⟨3, ![33, 128, 16]⟩
abbrev S33x128x272 : Shape := ⟨3, ![33, 128, 272]⟩
abbrev S1x33x1x1x128x272 : Shape := ⟨6, ![1, 33, 1, 1, 128, 272]⟩
abbrev S1x1x2x3x1x1 : Shape := ⟨6, ![1, 1, 2, 3, 1, 1]⟩
abbrev S8x33x2x3x128x1 : Shape := ⟨6, ![8, 33, 2, 3, 128, 1]⟩
abbrev S8x33x2x3x128x273 : Shape := ⟨6, ![8, 33, 2, 3, 128, 273]⟩
abbrev S8x33x2x3x128 : Shape := ⟨5, ![8, 33, 2, 3, 128]⟩
abbrev S8x33x2x64x3x128 : Shape := ⟨6, ![8, 33, 2, 64, 3, 128]⟩
abbrev S8x2x64x33x3x128 : Shape := ⟨6, ![8, 2, 64, 33, 3, 128]⟩
abbrev S8x4224x1024 : Shape := ⟨3, ![8, 4224, 1024]⟩

abbrev nBuf : Space → Nat
  | .hbm => 133
  | .vmem => 0
  | .smem => 0
  | _ => 0

abbrev hbmTy0_0 (i : Nat) : BufTy := match i % 128 with
  | 0 => ⟨S8x4224x384, .f32⟩
  | 1 => ⟨S8x4224x1152, .bf16⟩
  | 2 => ⟨S8x4224x640, .bf16⟩
  | 3 => ⟨S8x4224x512, .bf16⟩
  | 4 => ⟨S384, .f32⟩
  | 5 => ⟨S64, .f32⟩
  | 6 => ⟨S6, .f32⟩
  | 7 => ⟨S31x256, .f32⟩
  | 8 => ⟨S256, .f32⟩
  | 9 => ⟨S256, .f32⟩
  | 10 => ⟨S256, .f32⟩
  | 11 => ⟨S8x4224x640, .f32⟩
  | 12 => ⟨S8x4112x640, .f32⟩
  | 13 => ⟨S8x4112x384, .f32⟩
  | 14 => ⟨S8x4112x3x2x64, .f32⟩
  | 15 => ⟨S8x4112x2x3x64, .f32⟩
  | 16 => ⟨S8x4112x384, .f32⟩
  | 17 => ⟨S8x4112x128, .f32⟩
  | 18 => ⟨S8x4112x128, .f32⟩
  | 19 => ⟨S_, .i32⟩
  | 20 => ⟨S_, .f32⟩
  | 21 => ⟨S8x4224x384, .f32⟩
  | 22 => ⟨S8x33x128x2x3x64, .f32⟩
  | 23 => ⟨S_, .i32⟩
  | 24 => ⟨S_, .f32⟩
  | 25 => ⟨S8x4224x128, .f32⟩
  | 26 => ⟨S8x33x128x2x64, .f32⟩
  | 27 => ⟨S_, .i32⟩
  | 28 => ⟨S_, .f32⟩
  | 29 => ⟨S8x4224x128, .f32⟩
  | 30 => ⟨S8x33x128x2x64, .f32⟩
  | 31 => ⟨S8x1x128x2x64, .f32⟩
  | 32 => ⟨S_, .f32⟩
  | 33 => ⟨S8x1x128x2x64, .f32⟩
  | 34 => ⟨S8x32x128x2x64, .f32⟩
  | 35 => ⟨S8x33x128x2x64, .f32⟩
  | 36 => ⟨S8x33x256x2x64, .f32⟩
  | 37 => ⟨S8x1x128x2x64, .f32⟩
  | 38 => ⟨S_, .f32⟩
  | 39 => ⟨S8x1x128x2x64, .f32⟩
  | 40 => ⟨S8x32x128x2x64, .f32⟩
  | 41 => ⟨S8x33x128x2x64, .f32⟩
  | 42 => ⟨S8x33x256x2x64, .f32⟩
  | 43 => ⟨S8x16x128, .f32⟩
  | 44 => ⟨S8x16x2x64, .f32⟩
  | 45 => ⟨S8x16x128, .f32⟩
  | 46 => ⟨S8x16x2x64, .f32⟩
  | 47 => ⟨S8x33x2x256x128x3, .f32⟩
  | 48 => ⟨S8x33x2x3x128x256, .f32⟩
  | 49 => ⟨S8x2x16x33x128x3, .f32⟩
  | 50 => ⟨S8x33x2x3x128x16, .f32⟩
  | 51 => ⟨S8x33x2x3x128x272, .f32⟩
  | 52 => ⟨S4224, .i32⟩
  | 53 => ⟨S33x128, .i32⟩
  | 54 => ⟨S33, .i32⟩
  | 55 => ⟨S33x1, .i32⟩
  | 56 => ⟨S_, .i32⟩
  | 57 => ⟨S33x1, .i32⟩
  | 58 => ⟨S33x1, .i32⟩
  | 59 => ⟨S_, .i32⟩
  | 60 => ⟨S33x1, .i32⟩
  | 61 => ⟨S33x1, .i32⟩
  | 62 => ⟨S256, .i32⟩
  | 63 => ⟨S1x256, .i32⟩
  | 64 => ⟨S33x256, .i32⟩
  | 65 => ⟨S33x256, .i32⟩
  | 66 => ⟨S33x256, .i32⟩
  | 67 => ⟨S33x128x1, .i32⟩
  | 68 => ⟨S33x1x256, .i32⟩
  | 69 => ⟨S_, .i32⟩
  | 70 => ⟨S33x1x256, .i32⟩
  | 71 => ⟨S33x1x256, .i1⟩
  | 72 => ⟨S33x128x256, .i32⟩
  | 73 => ⟨S33x128x256, .i32⟩
  | 74 => ⟨S33x128x256, .i1⟩
  | 75 => ⟨S33x128x256, .i1⟩
  | 76 => ⟨S33x128x256, .i1⟩
  | 77 => ⟨S33x128x256, .i32⟩
  | 78 => ⟨S33x128x256, .i32⟩
  | 79 => ⟨S33x128x256, .i32⟩
  | 80 => ⟨S_, .i32⟩
  | 81 => ⟨S33x128x256, .i32⟩
  | 82 => ⟨S33x128x256, .i1⟩
  | 83 => ⟨S33x128x256, .i1⟩
  | 84 => ⟨S16, .i32⟩
  | 85 => ⟨S_, .i32⟩
  | 86 => ⟨S16, .i32⟩
  | 87 => ⟨S16, .i32⟩
  | 88 => ⟨S1x1x16, .i32⟩
  | 89 => ⟨S33x128x16, .i32⟩
  | 90 => ⟨S33x128x16, .i32⟩
  | 91 => ⟨S33x128x16, .i1⟩
  | 92 => ⟨S33x128x272, .i1⟩
  | 93 => ⟨S1x33x1x1x128x272, .i1⟩
  | 94 => ⟨S_, .f32⟩
  | 95 => ⟨S_, .f32⟩
  | 96 => ⟨S8x33x2x3x128x272, .i1⟩
  | 97 => ⟨S8x33x2x3x128x272, .f32⟩
  | 98 => ⟨S8x33x2x3x128x272, .f32⟩
  | 99 => ⟨S1x1x2x3x1x1, .f32⟩
  | 100 => ⟨S8x33x2x3x128x1, .f32⟩
  | 101 => ⟨S8x33x2x3x128x273, .f32⟩
  | 102 => ⟨S_, .f32⟩
  | 103 => ⟨S8x33x2x3x128, .f32⟩
  | 104 => ⟨S_, .f32⟩
  | 105 => ⟨S8x33x2x3x128, .f32⟩
  | 106 => ⟨S8x33x2x3x128, .f32⟩
  | 107 => ⟨S8x33x2x3x128x1, .f32⟩
  | 108 => ⟨S8x33x2x3x128x273, .f32⟩
  | 109 => ⟨S8x33x2x3x128x273, .f32⟩
  | 110 => ⟨S8x33x2x3x128x273, .f32⟩
  | 111 => ⟨S_, .f32⟩
  | 112 => ⟨S8x33x2x3x128, .f32⟩
  | 113 => ⟨S8x33x2x3x128x1, .f32⟩
  | 114 => ⟨S8x33x2x3x128x273, .f32⟩
  | 115 => ⟨S8x33x2x3x128x273, .f32⟩
  | 116 => ⟨S8x33x2x3x128x272, .f32⟩
  | 117 => ⟨S8x33x2x3x128x256, .f32⟩
  | 118 => ⟨S8x33x2x64x3x128, .f32⟩
  | 119 => ⟨S8x33x128x2x3x64, .f32⟩
  | 120 => ⟨S8x33x2x3x128x16, .f32⟩
  | 121 => ⟨S8x2x64x33x3x128, .f32⟩
  | 122 => ⟨S8x33x128x2x3x64, .f32⟩
  | 123 => ⟨S8x33x128x2x3x64, .f32⟩
  | 124 => ⟨S8x4224x384, .f32⟩
  | 125 => ⟨S8x4112x384, .f32⟩
  | 126 => ⟨S8x4112x2x3x64, .f32⟩
  | 127 => ⟨S8x4112x3x2x64, .f32⟩
  | _ => ⟨S8x4224x384, .f32⟩

abbrev hbmTy0_1 (i : Nat) : BufTy := match i % 128 with
  | 0 => ⟨S8x4112x384, .f32⟩
  | 1 => ⟨S_, .i32⟩
  | 2 => ⟨S_, .f32⟩
  | 3 => ⟨S8x4224x1024, .f32⟩
  | 4 => ⟨S8x4224x1024, .bf16⟩
  | _ => ⟨S8x4224x384, .f32⟩

abbrev hbmTy (i : Nat) : BufTy := match i / 128 with
  | 0 => hbmTy0_0 i
  | 1 => hbmTy0_1 i
  | _ => ⟨S8x4224x384, .f32⟩

abbrev bufTy : (tb : Table) → Fin (tcTables nBuf tb) → BufTy
  | .hbm, ⟨i, _⟩ => hbmTy i
  | _, _ => ⟨S8x4224x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_call2_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_3 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_12 : Ref sig .tc := ⟨.hbm, 129, rfl⟩
abbrev main_call4_v0 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== ConvolutionIdeal.lean ====
abbrev S8x4224x384 : Shape := ⟨3, ![8, 4224, 384]⟩
abbrev S8x4224x1152 : Shape := ⟨3, ![8, 4224, 1152]⟩
abbrev S8x4224x640 : Shape := ⟨3, ![8, 4224, 640]⟩
abbrev S8x4224x512 : Shape := ⟨3, ![8, 4224, 512]⟩
abbrev S384 : Shape := ⟨1, ![384]⟩
abbrev S64 : Shape := ⟨1, ![64]⟩
abbrev S6 : Shape := ⟨1, ![6]⟩
abbrev S31x256 : Shape := ⟨2, ![31, 256]⟩
abbrev S256 : Shape := ⟨1, ![256]⟩
abbrev S8x4224x256 : Shape := ⟨3, ![8, 4224, 256]⟩
abbrev S_ : Shape := ⟨0, ![]⟩
abbrev S8x4254x256 : Shape := ⟨3, ![8, 4254, 256]⟩
abbrev S1x31x256 : Shape := ⟨3, ![1, 31, 256]⟩
abbrev S1x1x256 : Shape := ⟨3, ![1, 1, 256]⟩
abbrev S8x4224 : Shape := ⟨2, ![8, 4224]⟩
abbrev S8x4224x1 : Shape := ⟨3, ![8, 4224, 1]⟩
abbrev S8x4112x256 : Shape := ⟨3, ![8, 4112, 256]⟩
abbrev S8x4224x1024 : Shape := ⟨3, ![8, 4224, 1024]⟩

abbrev nBuf : Space → Nat
  | .hbm => 230
  | .vmem => 0
  | .smem => 0
  | _ => 0

abbrev hbmTy0_0 (i : Nat) : BufTy := match i % 128 with
  | 0 => ⟨S8x4224x384, .f32⟩
  | 1 => ⟨S8x4224x1152, .bf16⟩
  | 2 => ⟨S8x4224x640, .bf16⟩
  | 3 => ⟨S8x4224x512, .bf16⟩
  | 4 => ⟨S384, .f32⟩
  | 5 => ⟨S64, .f32⟩
  | 6 => ⟨S6, .f32⟩
  | 7 => ⟨S31x256, .f32⟩
  | 8 => ⟨S256, .f32⟩
  | 9 => ⟨S256, .f32⟩
  | 10 => ⟨S256, .f32⟩
  | 11 => ⟨S8x4224x512, .f32⟩
  | 12 => ⟨S8x4224x256, .f32⟩
  | 13 => ⟨S8x4224x256, .f32⟩
  | 14 => ⟨S8x4224x256, .f32⟩
  | 15 => ⟨S8x4224x256, .f32⟩
  | 16 => ⟨S_, .f32⟩
  | 17 => ⟨S8x4224x256, .f32⟩
  | 18 => ⟨S8x4224x256, .f32⟩
  | 19 => ⟨S_, .f32⟩
  | 20 => ⟨S8x4224x256, .f32⟩
  | 21 => ⟨S8x4224x256, .f32⟩
  | 22 => ⟨S8x4224x256, .f32⟩
  | 23 => ⟨S_, .i32⟩
  | 24 => ⟨S_, .f32⟩
  | 25 => ⟨S8x4254x256, .f32⟩
  | 26 => ⟨S1x31x256, .f32⟩
  | 27 => ⟨S8x4224x256, .f32⟩
  | 28 => ⟨S1x1x256, .f32⟩
  | 29 => ⟨S8x4224x256, .f32⟩
  | 30 => ⟨S8x4224x256, .f32⟩
  | 31 => ⟨S_, .f32⟩
  | 32 => ⟨S8x4224x256, .f32⟩
  | 33 => ⟨S8x4224x256, .f32⟩
  | 34 => ⟨S8x4224x256, .f32⟩
  | 35 => ⟨S1x1x256, .f32⟩
  | 36 => ⟨S8x4224x256, .f32⟩
  | 37 => ⟨S8x4224x256, .f32⟩
  | 38 => ⟨S8x4224x256, .f32⟩
  | 39 => ⟨S8x4224x256, .f32⟩
  | 40 => ⟨S1x1x256, .f32⟩
  | 41 => ⟨S8x4224x256, .f32⟩
  | 42 => ⟨S8x4224x256, .f32⟩
  | 43 => ⟨S8x4224x256, .f32⟩
  | 44 => ⟨S8x4224x256, .f32⟩
  | 45 => ⟨S1x1x256, .f32⟩
  | 46 => ⟨S8x4224x256, .f32⟩
  | 47 => ⟨S8x4224x256, .f32⟩
  | 48 => ⟨S8x4224x256, .f32⟩
  | 49 => ⟨S8x4224x256, .f32⟩
  | 50 => ⟨S1x1x256, .f32⟩
  | 51 => ⟨S8x4224x256, .f32⟩
  | 52 => ⟨S8x4224x256, .f32⟩
  | 53 => ⟨S8x4224x256, .f32⟩
  | 54 => ⟨S8x4224x256, .f32⟩
  | 55 => ⟨S1x1x256, .f32⟩
  | 56 => ⟨S8x4224x256, .f32⟩
  | 57 => ⟨S8x4224x256, .f32⟩
  | 58 => ⟨S8x4224x256, .f32⟩
  | 59 => ⟨S8x4224x256, .f32⟩
  | 60 => ⟨S1x1x256, .f32⟩
  | 61 => ⟨S8x4224x256, .f32⟩
  | 62 => ⟨S8x4224x256, .f32⟩
  | 63 => ⟨S8x4224x256, .f32⟩
  | 64 => ⟨S8x4224x256, .f32⟩
  | 65 => ⟨S1x1x256, .f32⟩
  | 66 => ⟨S8x4224x256, .f32⟩
  | 67 => ⟨S8x4224x256, .f32⟩
  | 68 => ⟨S8x4224x256, .f32⟩
  | 69 => ⟨S8x4224x256, .f32⟩
  | 70 => ⟨S1x1x256, .f32⟩
  | 71 => ⟨S8x4224x256, .f32⟩
  | 72 => ⟨S8x4224x256, .f32⟩
  | 73 => ⟨S8x4224x256, .f32⟩
  | 74 => ⟨S8x4224x256, .f32⟩
  | 75 => ⟨S1x1x256, .f32⟩
  | 76 => ⟨S8x4224x256, .f32⟩
  | 77 => ⟨S8x4224x256, .f32⟩
  | 78 => ⟨S8x4224x256, .f32⟩
  | 79 => ⟨S8x4224x256, .f32⟩
  | 80 => ⟨S1x1x256, .f32⟩
  | 81 => ⟨S8x4224x256, .f32⟩
  | 82 => ⟨S8x4224x256, .f32⟩
  | 83 => ⟨S8x4224x256, .f32⟩
  | 84 => ⟨S8x4224x256, .f32⟩
  | 85 => ⟨S1x1x256, .f32⟩
  | 86 => ⟨S8x4224x256, .f32⟩
  | 87 => ⟨S8x4224x256, .f32⟩
  | 88 => ⟨S8x4224x256, .f32⟩
  | 89 => ⟨S8x4224x256, .f32⟩
  | 90 => ⟨S1x1x256, .f32⟩
  | 91 => ⟨S8x4224x256, .f32⟩
  | 92 => ⟨S8x4224x256, .f32⟩
  | 93 => ⟨S8x4224x256, .f32⟩
  | 94 => ⟨S8x4224x256, .f32⟩
  | 95 => ⟨S1x1x256, .f32⟩
  | 96 => ⟨S8x4224x256, .f32⟩
  | 97 => ⟨S8x4224x256, .f32⟩
  | 98 => ⟨S8x4224x256, .f32⟩
  | 99 => ⟨S8x4224x256, .f32⟩
  | 100 => ⟨S1x1x256, .f32⟩
  | 101 => ⟨S8x4224x256, .f32⟩
  | 102 => ⟨S8x4224x256, .f32⟩
  | 103 => ⟨S8x4224x256, .f32⟩
  | 104 => ⟨S8x4224x256, .f32⟩
  | 105 => ⟨S1x1x256, .f32⟩
  | 106 => ⟨S8x4224x256, .f32⟩
  | 107 => ⟨S8x4224x256, .f32⟩
  | 108 => ⟨S8x4224x256, .f32⟩
  | 109 => ⟨S8x4224x256, .f32⟩
  | 110 => ⟨S1x1x256, .f32⟩
  | 111 => ⟨S8x4224x256, .f32⟩
  | 112 => ⟨S8x4224x256, .f32⟩
  | 113 => ⟨S8x4224x256, .f32⟩
  | 114 => ⟨S8x4224x256, .f32⟩
  | 115 => ⟨S1x1x256, .f32⟩
  | 116 => ⟨S8x4224x256, .f32⟩
  | 117 => ⟨S8x4224x256, .f32⟩
  | 118 => ⟨S8x4224x256, .f32⟩
  | 119 => ⟨S8x4224x256, .f32⟩
  | 120 => ⟨S1x1x256, .f32⟩
  | 121 => ⟨S8x4224x256, .f32⟩
  | 122 => ⟨S8x4224x256, .f32⟩
  | 123 => ⟨S8x4224x256, .f32⟩
  | 124 => ⟨S8x4224x256, .f32⟩
  | 125 => ⟨S1x1x256, .f32⟩
  | 126 => ⟨S8x4224x256, .f32⟩
  | 127 => ⟨S8x4224x256, .f32⟩
  | _ => ⟨S8x4224x384, .f32⟩

abbrev hbmTy0_1 (i : Nat) : BufTy := match i % 128 with
  | 0 => ⟨S8x4224x256, .f32⟩
  | 1 => ⟨S8x4224x256, .f32⟩
  | 2 => ⟨S1x1x256, .f32⟩
  | 3 => ⟨S8x4224x256, .f32⟩
  | 4 => ⟨S8x4224x256, .f32⟩
  | 5 => ⟨S8x4224x256, .f32⟩
  | 6 => ⟨S8x4224x256, .f32⟩
  | 7 => ⟨S1x1x256, .f32⟩
  | 8 => ⟨S8x4224x256, .f32⟩
  | 9 => ⟨S8x4224x256, .f32⟩
  | 10 => ⟨S8x4224x256, .f32⟩
  | 11 => ⟨S8x4224x256, .f32⟩
  | 12 => ⟨S1x1x256, .f32⟩
  | 13 => ⟨S8x4224x256, .f32⟩
  | 14 => ⟨S8x4224x256, .f32⟩
  | 15 => ⟨S8x4224x256, .f32⟩
  | 16 => ⟨S8x4224x256, .f32⟩
  | 17 => ⟨S1x1x256, .f32⟩
  | 18 => ⟨S8x4224x256, .f32⟩
  | 19 => ⟨S8x4224x256, .f32⟩
  | 20 => ⟨S8x4224x256, .f32⟩
  | 21 => ⟨S8x4224x256, .f32⟩
  | 22 => ⟨S1x1x256, .f32⟩
  | 23 => ⟨S8x4224x256, .f32⟩
  | 24 => ⟨S8x4224x256, .f32⟩
  | 25 => ⟨S8x4224x256, .f32⟩
  | 26 => ⟨S8x4224x256, .f32⟩
  | 27 => ⟨S1x1x256, .f32⟩
  | 28 => ⟨S8x4224x256, .f32⟩
  | 29 => ⟨S8x4224x256, .f32⟩
  | 30 => ⟨S8x4224x256, .f32⟩
  | 31 => ⟨S8x4224x256, .f32⟩
  | 32 => ⟨S1x1x256, .f32⟩
  | 33 => ⟨S8x4224x256, .f32⟩
  | 34 => ⟨S8x4224x256, .f32⟩
  | 35 => ⟨S8x4224x256, .f32⟩
  | 36 => ⟨S8x4224x256, .f32⟩
  | 37 => ⟨S1x1x256, .f32⟩
  | 38 => ⟨S8x4224x256, .f32⟩
  | 39 => ⟨S8x4224x256, .f32⟩
  | 40 => ⟨S8x4224x256, .f32⟩
  | 41 => ⟨S8x4224x256, .f32⟩
  | 42 => ⟨S1x1x256, .f32⟩
  | 43 => ⟨S8x4224x256, .f32⟩
  | 44 => ⟨S8x4224x256, .f32⟩
  | 45 => ⟨S8x4224x256, .f32⟩
  | 46 => ⟨S8x4224x256, .f32⟩
  | 47 => ⟨S1x1x256, .f32⟩
  | 48 => ⟨S8x4224x256, .f32⟩
  | 49 => ⟨S8x4224x256, .f32⟩
  | 50 => ⟨S8x4224x256, .f32⟩
  | 51 => ⟨S8x4224x256, .f32⟩
  | 52 => ⟨S1x1x256, .f32⟩
  | 53 => ⟨S8x4224x256, .f32⟩
  | 54 => ⟨S8x4224x256, .f32⟩
  | 55 => ⟨S8x4224x256, .f32⟩
  | 56 => ⟨S1x1x256, .f32⟩
  | 57 => ⟨S8x4224x256, .f32⟩
  | 58 => ⟨S8x4224x256, .f32⟩
  | 59 => ⟨S_, .f32⟩
  | 60 => ⟨S8x4224, .f32⟩
  | 61 => ⟨S8x4224x1, .f32⟩
  | 62 => ⟨S_, .f32⟩
  | 63 => ⟨S8x4224x1, .f32⟩
  | 64 => ⟨S8x4224x1, .f32⟩
  | 65 => ⟨S8x4224x256, .f32⟩
  | 66 => ⟨S8x4224x256, .f32⟩
  | 67 => ⟨S8x4224x256, .f32⟩
  | 68 => ⟨S_, .f32⟩
  | 69 => ⟨S8x4224, .f32⟩
  | 70 => ⟨S8x4224x1, .f32⟩
  | 71 => ⟨S_, .f32⟩
  | 72 => ⟨S8x4224x1, .f32⟩
  | 73 => ⟨S8x4224x1, .f32⟩
  | 74 => ⟨S8x4224x256, .f32⟩
  | 75 => ⟨S8x4224x256, .f32⟩
  | 76 => ⟨S_, .f32⟩
  | 77 => ⟨S8x4224x1, .f32⟩
  | 78 => ⟨S8x4224x1, .f32⟩
  | 79 => ⟨S8x4224x1, .f32⟩
  | 80 => ⟨S8x4224x256, .f32⟩
  | 81 => ⟨S8x4224x256, .f32⟩
  | 82 => ⟨S1x1x256, .f32⟩
  | 83 => ⟨S8x4224x256, .f32⟩
  | 84 => ⟨S8x4224x256, .f32⟩
  | 85 => ⟨S1x1x256, .f32⟩
  | 86 => ⟨S8x4224x256, .f32⟩
  | 87 => ⟨S8x4224x256, .f32⟩
  | 88 => ⟨S8x4224x256, .f32⟩
  | 89 => ⟨S8x4224x256, .f32⟩
  | 90 => ⟨S_, .f32⟩
  | 91 => ⟨S8x4224x256, .f32⟩
  | 92 => ⟨S8x4224x256, .f32⟩
  | 93 => ⟨S_, .f32⟩
  | 94 => ⟨S8x4224x256, .f32⟩
  | 95 => ⟨S8x4224x256, .f32⟩
  | 96 => ⟨S8x4224x256, .f32⟩
  | 97 => ⟨S8x4112x256, .f32⟩
  | 98 => ⟨S_, .i32⟩
  | 99 => ⟨S_, .f32⟩
  | 100 => ⟨S8x4224x1024, .f32⟩
  | 101 => ⟨S8x4224x1024, .bf16⟩
  | _ => ⟨S8x4224x384, .f32⟩

abbrev hbmTy (i : Nat) : BufTy := match i / 128 with
  | 0 => hbmTy0_0 i
  | 1 => hbmTy0_1 i
  | _ => ⟨S8x4224x384, .f32⟩

abbrev bufTy : (tb : Table) → Fin (tcTables nBuf tb) → BufTy
  | .hbm, ⟨i, _⟩ => hbmTy i
  | _, _ => ⟨S8x4224x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_cst_2 : Ref sig .tc := ⟨.hbm, 187, rfl⟩
abbrev main_v171 : Ref sig .tc := ⟨.hbm, 188, rfl⟩
abbrev main_v172 : Ref sig .tc := ⟨.hbm, 189, rfl⟩
abbrev main_cst_3 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_cst_4 : Ref sig .tc := ⟨.hbm, 196, rfl⟩
abbrev main_v178 : Ref sig .tc := ⟨.hbm, 197, rfl⟩
abbrev main_v179 : Ref sig .tc := ⟨.hbm, 198, rfl⟩
abbrev main_cst_5 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_cst_6 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_call1_v0 : Ref sig .tc := ⟨.hbm, 216, rfl⟩
abbrev main_call1_v1 : Ref sig .tc := ⟨.hbm, 217, rfl⟩
abbrev main_call1_cst : Ref sig .tc := ⟨.hbm, 218, rfl⟩
abbrev main_call1_v2 : Ref sig .tc := ⟨.hbm, 219, rfl⟩
abbrev main_call1_v3 : Ref sig .tc := ⟨.hbm, 220, rfl⟩
abbrev main_call1_cst_0 : Ref sig .tc := ⟨.hbm, 221, rfl⟩
abbrev main_call1_v4 : Ref sig .tc := ⟨.hbm, 222, rfl⟩
abbrev main_call1_v5 : Ref sig .tc := ⟨.hbm, 223, rfl⟩
abbrev main_v195 : Ref sig .tc := ⟨.hbm, 224, rfl⟩
abbrev main_v196 : Ref sig .tc := ⟨.hbm, 225, rfl⟩
abbrev main_c_7 : Ref sig .tc := ⟨.hbm, 226, rfl⟩
abbrev main_call2_v0 : Ref sig .tc := ⟨.hbm, 227, rfl⟩
abbrev main_v197 : Ref sig .tc := ⟨.hbm, 228, rfl⟩
abbrev main_v198 : Ref sig .tc := ⟨.hbm, 229, rfl⟩

abbrev nD : Nat := 1
abbrev τ : Topo := Topo.v7x

variable {F : FTy → Type} [FloatOps F]
-- ==== FinalFfn.lean ====
abbrev S8x4224x1024 : Shape := ⟨3, ![8, 4224, 1024]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S8x33x128x1024 : Shape := ⟨4, ![8, 33, 128, 1024]⟩
abbrev S1x1024 : Shape := ⟨2, ![1, 1024]⟩
abbrev S8x4096x1024 : Shape := ⟨3, ![8, 4096, 1024]⟩
abbrev S1x4x128x1024 : Shape := ⟨4, ![1, 4, 128, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x512x1024 : Shape := ⟨3, ![1, 512, 1024]⟩
abbrev S512x2816 : Shape := ⟨2, ![512, 2816]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S1x1024x512 : Shape := ⟨3, ![1, 1024, 512]⟩
abbrev S1024x512 : Shape := ⟨2, ![1024, 512]⟩
abbrev S512x512 : Shape := ⟨2, ![512, 512]⟩
abbrev S2816x1024 : Shape := ⟨2, ![2816, 1024]⟩

abbrev nBuf : Space → Nat
  | .hbm => 19
  | .vmem => 13
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .bf16⟩
  | .hbm, ⟨2, _⟩ => ⟨S4x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S8x33x128x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4x1024x2816, .bf16⟩
  | .hbm, ⟨13, _⟩ => ⟨S4x1024x2816, .bf16⟩
  | .hbm, ⟨14, _⟩ => ⟨S4x2816x1024, .bf16⟩
  | .hbm, ⟨15, _⟩ => ⟨S8x33x128x1024, .bf16⟩
  | .hbm, ⟨16, _⟩ => ⟨S4x1024x1024, .bf16⟩
  | .hbm, ⟨17, _⟩ => ⟨S1x1024, .f32⟩
  | .hbm, ⟨18, _⟩ => ⟨S8x4096x1024, .f32⟩
  | .local _ .vmem, ⟨0, _⟩ => ⟨S1x4x128x1024, .f32⟩
  | .local _ .vmem, ⟨1, _⟩ => ⟨S1x4x128x1024, .f32⟩
  | .local _ .vmem, ⟨2, _⟩ => ⟨S1x4x128x1024, .bf16⟩
  | .local _ .vmem, ⟨3, _⟩ => ⟨S1x4x128x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x2816, .bf16⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi c1_i32 v0
  let c0_i32 : BitVec 32 := 0#32
  let c0_i32_0 : BitVec 32 := 0#32
  let c0_i32_1 : BitVec 32 := 0#32
  ![arg0.toNat, v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi c1_i32 v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FinalRefIdeal.lean ====
abbrev S8x4224x1024 : Shape := ⟨3, ![8, 4224, 1024]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4224x2816 : Shape := ⟨3, ![8, 4224, 2816]⟩
abbrev S8x4096x1024 : Shape := ⟨3, ![8, 4096, 1024]⟩
abbrev S8x4096 : Shape := ⟨2, ![8, 4096]⟩
abbrev S8x4096x1 : Shape := ⟨3, ![8, 4096, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .bf16⟩
  | .hbm, ⟨2, _⟩ => ⟨S4x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1024, .f32⟩
  | .hbm, ⟨8, _⟩ => ⟨S8x4224x1024, .f32⟩
  | .hbm, ⟨9, _⟩ => ⟨S1x1024x1024, .f32⟩
  | .hbm, ⟨10, _⟩ => ⟨S1024x1024, .f32⟩
  | .hbm, ⟨11, _⟩ => ⟨S8x4224x1024, .f32⟩
  | .hbm, ⟨12, _⟩ => ⟨S8x4224x1024, .f32⟩
  | .hbm, ⟨13, _⟩ => ⟨S1x1024, .f32⟩
  | .hbm, ⟨14, _⟩ => ⟨S1024, .f32⟩
  | .hbm, ⟨15, _⟩ => ⟨S8x4224x1024, .f32⟩
  | .hbm, ⟨16, _⟩ => ⟨S_, .f32⟩
  | .hbm, ⟨17, _⟩ => ⟨S8x4224, .f32⟩
  | .hbm, ⟨18, _⟩ => ⟨S8x4224x1, .f32⟩
  | .hbm, ⟨19, _⟩ => ⟨S_, .f32⟩
  | .hbm, ⟨20, _⟩ => ⟨S8x4224x1, .f32⟩
  | .hbm, ⟨21, _⟩ => ⟨S8x4224x1, .f32⟩
  | .hbm, ⟨22, _⟩ => ⟨S_, .f32⟩
  | .hbm, ⟨23, _⟩ => ⟨S8x4224x1, .f32⟩
  | .hbm, ⟨24, _⟩ => ⟨S8x4224x1, .f32⟩
  | .hbm, ⟨25, _⟩ => ⟨S8x4224x1, .f32⟩
  | .hbm, ⟨26, _⟩ => ⟨S8x4224x1024, .f32⟩
  | .hbm, ⟨27, _⟩ => ⟨S8x4224x1024, .f32⟩
  | .hbm, ⟨28, _⟩ => ⟨S1x1x1024, .f32⟩
  | .hbm, ⟨29, _⟩ => ⟨S8x4224x1024, .f32⟩
  | .hbm, ⟨30, _⟩ => ⟨S8x4224x1024, .f32⟩
  | .hbm, ⟨31, _⟩ => ⟨S1x1024x2816, .f32⟩
  | .hbm, ⟨32, _⟩ => ⟨S1024x2816, .f32⟩
  | .hbm, ⟨33, _⟩ => ⟨S1x1024x2816, .f32⟩
  | .hbm, ⟨34, _⟩ => ⟨S1024x2816, .f32⟩
  | .hbm, ⟨35, _⟩ => ⟨S1x2816x1024, .f32⟩
  | .hbm, ⟨36, _⟩ => ⟨S2816x1024, .f32⟩
  | .hbm, ⟨37, _⟩ => ⟨S8x4224x2816, .f32⟩
  | .hbm, ⟨38, _⟩ => ⟨S8x4224x2816, .f32⟩
  | .hbm, ⟨39, _⟩ => ⟨S8x4224x2816, .f32⟩
  | .hbm, ⟨40, _⟩ => ⟨S_, .f32⟩
  | .hbm, ⟨41, _⟩ => ⟨S8x4224x2816, .f32⟩
  | .hbm, ⟨42, _⟩ => ⟨S8x4224x2816, .f32⟩
  | .hbm, ⟨43, _⟩ => ⟨S_, .f32⟩
  | .hbm, ⟨44, _⟩ => ⟨S8x4224x2816, .f32⟩
  | .hbm, ⟨45, _⟩ => ⟨S8x4224x2816, .f32⟩
  | .hbm, ⟨46, _⟩ => ⟨S8x4224x2816, .f32⟩
  | .hbm, ⟨47, _⟩ => ⟨S8x4224x2816, .f32⟩
  | .hbm, ⟨48, _⟩ => ⟨S8x4224x2816, .f32⟩
  | .hbm, ⟨49, _⟩ => ⟨S8x4224x1024, .f32⟩
  | .hbm, ⟨50, _⟩ => ⟨S_, .f32⟩
  | .hbm, ⟨51, _⟩ => ⟨S8x4224x1024, .f32⟩
  | .hbm, ⟨52, _⟩ => ⟨S8x4224x1024, .f32⟩
  | .hbm, ⟨53, _⟩ => ⟨S8x4224x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1, .f32⟩
  | .hbm, ⟨66, _⟩ => ⟨S8x4096x1024, .f32⟩
  | .hbm, ⟨67, _⟩ => ⟨S8x4096x1024, .f32⟩
  | .hbm, ⟨68, _⟩ => ⟨S1x1x1024, .f32⟩
  | .hbm, ⟨69, _⟩ => ⟨S8x4096x1024, .f32⟩
  | .hbm, ⟨70, _⟩ => ⟨S8x4096x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== PreFfn.lean ====
abbrev S33792x1024 : Shape := ⟨2, ![33792, 1024]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S768x1024 : Shape := ⟨2, ![768, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S768x2816 : Shape := ⟨2, ![768, 2816]⟩
abbrev S1024x1024 : Shape := ⟨2, ![1024, 1024]⟩
abbrev S768 : Shape := ⟨1, ![768]⟩
abbrev S768x1 : Shape := ⟨2, ![768, 1]⟩
abbrev S1x1024x768 : Shape := ⟨3, ![1, 1024, 768]⟩
abbrev S1024x768 : Shape := ⟨2, ![1024, 768]⟩
abbrev S768x768 : Shape := ⟨2, ![768, 768]⟩
abbrev S1x1024x512 : Shape := ⟨3, ![1, 1024, 512]⟩
abbrev S1024x512 : Shape := ⟨2, ![1024, 512]⟩
abbrev S768x512 : Shape := ⟨2, ![768, 512]⟩
abbrev S2816x1024 : Shape := ⟨2, ![2816, 1024]⟩

abbrev nBuf : Space → Nat
  | .hbm => 15
  | .vmem => 12
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S4x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4x1024x2816, .bf16⟩
  | .hbm, ⟨11, _⟩ => ⟨S4x1024x2816, .bf16⟩
  | .hbm, ⟨12, _⟩ => ⟨S4x2816x1024, .bf16⟩
  | .hbm, ⟨13, _⟩ => ⟨S4x1024x1024, .bf16⟩
  | .hbm, ⟨14, _⟩ => ⟨S33792x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .bf16⟩
  | .local _ .vmem, ⟨3, _⟩ => ⟨S768x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S768x1024, .f32⟩
  | .local _ .vmem, ⟨10, _⟩ => ⟨S768x1024, .f32⟩
  | .local _ .vmem, ⟨11, _⟩ => ⟨S768x2816, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PreRefIdeal.lean ====
abbrev S33792x1024 : Shape := ⟨2, ![33792, 1024]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33792x2816 : Shape := ⟨2, ![33792, 2816]⟩

abbrev nBuf : Space → Nat
  | .hbm => 53
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x1024, .bf16⟩
  | .hbm, ⟨2, _⟩ => ⟨S4x1024x1024, .f32⟩
  | .hbm, ⟨3, _⟩ => ⟨S4x1024, .f32⟩
  | .hbm, ⟨4, _⟩ => ⟨S4x1024x2816, .f32⟩
  | .hbm, ⟨5, _⟩ => ⟨S4x1024x2816, .f32⟩
  | .hbm, ⟨6, _⟩ => ⟨S4x2816x1024, .f32⟩
  | .hbm, ⟨7, _⟩ => ⟨S33792x1024, .f32⟩
  | .hbm, ⟨8, _⟩ => ⟨S1x1024x1024, .f32⟩
  | .hbm, ⟨9, _⟩ => ⟨S1024x1024, .f32⟩
  | .hbm, ⟨10, _⟩ => ⟨S33792x1024, .f32⟩
  | .hbm, ⟨11, _⟩ => ⟨S33792x1024, .f32⟩
  | .hbm, ⟨12, _⟩ => ⟨S1x1024, .f32⟩
  | .hbm, ⟨13, _⟩ => ⟨S1024, .f32⟩
  | .hbm, ⟨14, _⟩ => ⟨S33792x1024, .f32⟩
  | .hbm, ⟨15, _⟩ => ⟨S_, .f32⟩
  | .hbm, ⟨16, _⟩ => ⟨S33792, .f32⟩
  | .hbm, ⟨17, _⟩ => ⟨S33792x1, .f32⟩
  | .hbm, ⟨18, _⟩ => ⟨S_, .f32⟩
  | .hbm, ⟨19, _⟩ => ⟨S33792x1, .f32⟩
  | .hbm, ⟨20, _⟩ => ⟨S33792x1, .f32⟩
  | .hbm, ⟨21, _⟩ => ⟨S_, .f32⟩
  | .hbm, ⟨22, _⟩ => ⟨S33792x1, .f32⟩
  | .hbm, ⟨23, _⟩ => ⟨S33792x1, .f32⟩
  | .hbm, ⟨24, _⟩ => ⟨S33792x1, .f32⟩
  | .hbm, ⟨25, _⟩ => ⟨S33792x1024, .f32⟩
  | .hbm, ⟨26, _⟩ => ⟨S33792x1024, .f32⟩
  | .hbm, ⟨27, _⟩ => ⟨S1x1024, .f32⟩
  | .hbm, ⟨28, _⟩ => ⟨S33792x1024, .f32⟩
  | .hbm, ⟨29, _⟩ => ⟨S33792x1024, .f32⟩
  | .hbm, ⟨30, _⟩ => ⟨S1x1024x2816, .f32⟩
  | .hbm, ⟨31, _⟩ => ⟨S1024x2816, .f32⟩
  | .hbm, ⟨32, _⟩ => ⟨S1x1024x2816, .f32⟩
  | .hbm, ⟨33, _⟩ => ⟨S1024x2816, .f32⟩
  | .hbm, ⟨34, _⟩ => ⟨S1x2816x1024, .f32⟩
  | .hbm, ⟨35, _⟩ => ⟨S2816x1024, .f32⟩
  | .hbm, ⟨36, _⟩ => ⟨S33792x2816, .f32⟩
  | .hbm, ⟨37, _⟩ => ⟨S33792x2816, .f32⟩
  | .hbm, ⟨38, _⟩ => ⟨S33792x2816, .f32⟩
  | .hbm, ⟨39, _⟩ => ⟨S_, .f32⟩
  | .hbm, ⟨40, _⟩ => ⟨S33792x2816, .f32⟩
  | .hbm, ⟨41, _⟩ => ⟨S33792x2816, .f32⟩
  | .hbm, ⟨42, _⟩ => ⟨S_, .f32⟩
  | .hbm, ⟨43, _⟩ => ⟨S33792x2816, .f32⟩
  | .hbm, ⟨44, _⟩ => ⟨S33792x2816, .f32⟩
  | .hbm, ⟨45, _⟩ => ⟨S33792x2816, .f32⟩
  | .hbm, ⟨46, _⟩ => ⟨S33792x2816, .f32⟩
  | .hbm, ⟨47, _⟩ => ⟨S33792x2816, .f32⟩
  | .hbm, ⟨48, _⟩ => ⟨S33792x1024, .f32⟩
  | .hbm, ⟨49, _⟩ => ⟨S_, .f32⟩
  | .hbm, ⟨50, _⟩ => ⟨S33792x1024, .f32⟩
  | .hbm, ⟨51, _⟩ => ⟨S33792x1024, .f32⟩
  | .hbm, ⟨52, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== PostFfn.lean ====
abbrev S33792x1024 : Shape := ⟨2, ![33792, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1024x2688 : Shape := ⟨3, ![4, 1024, 2688]⟩
abbrev S1x1024 : Shape := ⟨2, ![1, 1024]⟩
abbrev S1024 : Shape := ⟨1, ![1024]⟩
abbrev S33792x384 : Shape := ⟨2, ![33792, 384]⟩
abbrev S33792x1152 : Shape := ⟨2, ![33792, 1152]⟩
abbrev S33792x640 : Shape := ⟨2, ![33792, 640]⟩
abbrev S33792x512 : Shape := ⟨2, ![33792, 512]⟩
abbrev S768x1024 : Shape := ⟨2, ![768, 1024]⟩
abbrev S1x1024x2816 : Shape := ⟨3, ![1, 1024, 2816]⟩
abbrev S1x2816x1024 : Shape := ⟨3, ![1, 2816, 1024]⟩
abbrev S1x1024x2688 : Shape := ⟨3, ![1, 1024, 2688]⟩
abbrev S768x384 : Shape := ⟨2, ![768, 384]⟩
abbrev S768x1152 : Shape := ⟨2, ![768, 1152]⟩
abbrev S768x640 : Shape := ⟨2, ![768, 640]⟩
abbrev S768x512 : Shape := ⟨2, ![768, 512]⟩
abbrev S768x2816 : Shape := ⟨2, ![768, 2816]⟩
abbrev S768 : Shape := ⟨1, ![768]⟩
abbrev S768x1 : Shape := ⟨2, ![768, 1]⟩
abbrev S1x1024x768 : Shape := ⟨3, ![1, 1024, 768]⟩
abbrev S1024x768 : Shape := ⟨2, ![1024, 768]⟩
abbrev S768x768 : Shape := ⟨2, ![768, 768]⟩
abbrev S1x1024x512 : Shape := ⟨3, ![1, 1024, 512]⟩
abbrev S1024x512 : Shape := ⟨2, ![1024, 512]⟩
abbrev S2816x1024 : Shape := ⟨2, ![2816, 1024]⟩
abbrev S1x1024x384 : Shape := ⟨3, ![1, 1024, 384]⟩
abbrev S1024x384 : Shape := ⟨2, ![1024, 384]⟩
abbrev S1x1024x1152 : Shape := ⟨3, ![1, 1024, 1152]⟩
abbrev S1024x1152 : Shape := ⟨2, ![1024, 1152]⟩
abbrev S1x1024x640 : Shape := ⟨3, ![1, 1024, 640]⟩
abbrev S1024x640 : Shape := ⟨2, ![1024, 640]⟩

abbrev nBuf : Space → Nat
  | .hbm => 22
  | .vmem => 19
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024, .f32⟩
  | .hbm, ⟨6, _⟩ => ⟨S4x1024x2688, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4x1024x2816, .bf16⟩
  | .hbm, ⟨11, _⟩ => ⟨S4x1024x2816, .bf16⟩
  | .hbm, ⟨12, _⟩ => ⟨S4x2816x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4x1024x2688, .bf16⟩
  | .hbm, ⟨17, _⟩ => ⟨S33792x1024, .f32⟩
  | .hbm, ⟨18, _⟩ => ⟨S33792x384, .f32⟩
  | .hbm, ⟨19, _⟩ => ⟨S33792x1152, .bf16⟩
  | .hbm, ⟨20, _⟩ => ⟨S33792x640, .bf16⟩
  | .hbm, ⟨21, _⟩ => ⟨S33792x512, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1x1024x2688, .bf16⟩
  | .local _ .vmem, ⟨8, _⟩ => ⟨S768x1024, .f32⟩
  | .local _ .vmem, ⟨9, _⟩ => ⟨S768x1024, .f32⟩
  | .local _ .vmem, ⟨10, _⟩ => ⟨S768x384, .f32⟩
  | .local _ .vmem, ⟨11, _⟩ => ⟨S768x384, .f32⟩
  | .local _ .vmem, ⟨12, _⟩ => ⟨S768x1152, .bf16⟩
  | .local _ .vmem, ⟨13, _⟩ => ⟨S768x1152, .bf16⟩
  | .local _ .vmem, ⟨14, _⟩ => ⟨S768x640, .bf16⟩
  | .local _ .vmem, ⟨15, _⟩ => ⟨S768x640, .bf16⟩
  | .local _ .vmem, ⟨16, _⟩ => ⟨S768x512, .bf16⟩
  | .local _ .vmem, ⟨17, _⟩ => ⟨S768x512, .bf16⟩
  | .local _ .vmem, ⟨18, _⟩ => ⟨S768x2816, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2688 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostRefIdeal.lean ====
abbrev S33792x1024 : Shape := ⟨2, ![33792, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1024x2688 : Shape := ⟨3, ![4, 1024, 2688]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33792x2816 : Shape := ⟨2, ![33792, 2816]⟩
abbrev S1x1024x2688 : Shape := ⟨3, ![1, 1024, 2688]⟩
abbrev S1024x2688 : Shape := ⟨2, ![1024, 2688]⟩
abbrev S33792x2688 : Shape := ⟨2, ![33792, 2688]⟩
abbrev S33792x384 : Shape := ⟨2, ![33792, 384]⟩
abbrev S33792x1152 : Shape := ⟨2, ![33792, 1152]⟩
abbrev S33792x640 : Shape := ⟨2, ![33792, 640]⟩
abbrev S33792x512 : Shape := ⟨2, ![33792, 512]⟩

abbrev nBuf : Space → Nat
  | .hbm => 76
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024, .f32⟩
  | .hbm, ⟨6, _⟩ => ⟨S4x1024x2688, .f32⟩
  | .hbm, ⟨7, _⟩ => ⟨S1x1024, .f32⟩
  | .hbm, ⟨8, _⟩ => ⟨S1024, .f32⟩
  | .hbm, ⟨9, _⟩ => ⟨S33792x1024, .f32⟩
  | .hbm, ⟨10, _⟩ => ⟨S_, .f32⟩
  | .hbm, ⟨11, _⟩ => ⟨S33792, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S_, .f32⟩
  | .hbm, ⟨17, _⟩ => ⟨S33792x1, .f32⟩
  | .hbm, ⟨18, _⟩ => ⟨S33792x1, .f32⟩
  | .hbm, ⟨19, _⟩ => ⟨S33792x1, .f32⟩
  | .hbm, ⟨20, _⟩ => ⟨S33792x1024, .f32⟩
  | .hbm, ⟨21, _⟩ => ⟨S33792x1024, .f32⟩
  | .hbm, ⟨22, _⟩ => ⟨S1x1024, .f32⟩
  | .hbm, ⟨23, _⟩ => ⟨S33792x1024, .f32⟩
  | .hbm, ⟨24, _⟩ => ⟨S33792x1024, .f32⟩
  | .hbm, ⟨25, _⟩ => ⟨S1x1024x2816, .f32⟩
  | .hbm, ⟨26, _⟩ => ⟨S1024x2816, .f32⟩
  | .hbm, ⟨27, _⟩ => ⟨S1x1024x2816, .f32⟩
  | .hbm, ⟨28, _⟩ => ⟨S1024x2816, .f32⟩
  | .hbm, ⟨29, _⟩ => ⟨S1x2816x1024, .f32⟩
  | .hbm, ⟨30, _⟩ => ⟨S2816x1024, .f32⟩
  | .hbm, ⟨31, _⟩ => ⟨S33792x2816, .f32⟩
  | .hbm, ⟨32, _⟩ => ⟨S33792x2816, .f32⟩
  | .hbm, ⟨33, _⟩ => ⟨S33792x2816, .f32⟩
  | .hbm, ⟨34, _⟩ => ⟨S_, .f32⟩
  | .hbm, ⟨35, _⟩ => ⟨S33792x2816, .f32⟩
  | .hbm, ⟨36, _⟩ => ⟨S33792x2816, .f32⟩
  | .hbm, ⟨37, _⟩ => ⟨S_, .f32⟩
  | .hbm, ⟨38, _⟩ => ⟨S33792x2816, .f32⟩
  | .hbm, ⟨39, _⟩ => ⟨S33792x2816, .f32⟩
  | .hbm, ⟨40, _⟩ => ⟨S33792x2816, .f32⟩
  | .hbm, ⟨41, _⟩ => ⟨S33792x2816, .f32⟩
  | .hbm, ⟨42, _⟩ => ⟨S33792x2816, .f32⟩
  | .hbm, ⟨43, _⟩ => ⟨S33792x1024, .f32⟩
  | .hbm, ⟨44, _⟩ => ⟨S_, .f32⟩
  | .hbm, ⟨45, _⟩ => ⟨S33792x1024, .f32⟩
  | .hbm, ⟨46, _⟩ => ⟨S33792x1024, .f32⟩
  | .hbm, ⟨47, _⟩ => ⟨S33792x1024, .f32⟩
  | .hbm, ⟨48, _⟩ => ⟨S1x1024, .f32⟩
  | .hbm, ⟨49, _⟩ => ⟨S1024, .f32⟩
  | .hbm, ⟨50, _⟩ => ⟨S33792x1024, .f32⟩
  | .hbm, ⟨51, _⟩ => ⟨S_, .f32⟩
  | .hbm, ⟨52, _⟩ => ⟨S33792, .f32⟩
  | .hbm, ⟨53, _⟩ => ⟨S33792x1, .f32⟩
  | .hbm, ⟨54, _⟩ => ⟨S_, .f32⟩
  | .hbm, ⟨55, _⟩ => ⟨S33792x1, .f32⟩
  | .hbm, ⟨56, _⟩ => ⟨S33792x1, .f32⟩
  | .hbm, ⟨57, _⟩ => ⟨S_, .f32⟩
  | .hbm, ⟨58, _⟩ => ⟨S33792x1, .f32⟩
  | .hbm, ⟨59, _⟩ => ⟨S33792x1, .f32⟩
  | .hbm, ⟨60, _⟩ => ⟨S33792x1, .f32⟩
  | .hbm, ⟨61, _⟩ => ⟨S33792x1024, .f32⟩
  | .hbm, ⟨62, _⟩ => ⟨S33792x1024, .f32⟩
  | .hbm, ⟨63, _⟩ => ⟨S1x1024, .f32⟩
  | .hbm, ⟨64, _⟩ => ⟨S33792x1024, .f32⟩
  | .hbm, ⟨65, _⟩ => ⟨S33792x1024, .f32⟩
  | .hbm, ⟨66, _⟩ => ⟨S1x1024x2688, .f32⟩
  | .hbm, ⟨67, _⟩ => ⟨S1024x2688, .f32⟩
  | .hbm, ⟨68, _⟩ => ⟨S33792x2688, .f32⟩
  | .hbm, ⟨69, _⟩ => ⟨S33792x384, .f32⟩
  | .hbm, ⟨70, _⟩ => ⟨S33792x1152, .f32⟩
  | .hbm, ⟨71, _⟩ => ⟨S33792x1152, .bf16⟩
  | .hbm, ⟨72, _⟩ => ⟨S33792x640, .f32⟩
  | .hbm, ⟨73, _⟩ => ⟨S33792x640, .bf16⟩
  | .hbm, ⟨74, _⟩ => ⟨S33792x512, .f32⟩
  | .hbm, ⟨75, _⟩ => ⟨S33792x512, .bf16⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== FirstFfn.lean ====
abbrev S8x4096x1024 : Shape := ⟨3, ![8, 4096, 1024]⟩
abbrev S16x1024 : Shape := ⟨2, ![16, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1024x2688 : Shape := ⟨3, ![4, 1024, 2688]⟩
abbrev S_ : Shape := ⟨0, ![]⟩
abbrev S112x1024 : Shape := ⟨2, ![112, 1024]⟩
abbrev S128x1024 : Shape := ⟨2, ![128, 1024]⟩
abbrev S8x32x128x1024 : Shape := ⟨4, ![8, 32, 128, 1024]⟩
abbrev S1x1024 : Shape := ⟨2, ![1, 1024]⟩
abbrev S1024 : Shape := ⟨1, ![1024]⟩
abbrev S33792x1024 : Shape := ⟨2, ![33792, 1024]⟩
abbrev S33792x384 : Shape := ⟨2, ![33792, 384]⟩
abbrev S33792x1152 : Shape := ⟨2, ![33792, 1152]⟩
abbrev S33792x640 : Shape := ⟨2, ![33792, 640]⟩
abbrev S33792x512 : Shape := ⟨2, ![33792, 512]⟩
abbrev S1x3x128x1024 : Shape := ⟨4, ![1, 3, 128, 1024]⟩
abbrev S1x1024x2816 : Shape := ⟨3, ![1, 1024, 2816]⟩
abbrev S1x2816x1024 : Shape := ⟨3, ![1, 2816, 1024]⟩
abbrev S1x1024x2688 : Shape := ⟨3, ![1, 1024, 2688]⟩
abbrev S384x1024 : Shape := ⟨2, ![384, 1024]⟩
abbrev S384x384 : Shape := ⟨2, ![384, 384]⟩
abbrev S384x1152 : Shape := ⟨2, ![384, 1152]⟩
abbrev S384x640 : Shape := ⟨2, ![384, 640]⟩
abbrev S384x512 : Shape := ⟨2, ![384, 512]⟩
abbrev S384x2816 : Shape := ⟨2, ![384, 2816]⟩
abbrev S256x1024 : Shape := ⟨2, ![256, 1024]⟩
abbrev S384 : Shape := ⟨1, ![384]⟩
abbrev S384x1 : Shape := ⟨2, ![384, 1]⟩
abbrev S1x1024x768 : Shape := ⟨3, ![1, 1024, 768]⟩
abbrev S1024x768 : Shape := ⟨2, ![1024, 768]⟩
abbrev S384x768 : Shape := ⟨2, ![384, 768]⟩
abbrev S1x1024x512 : Shape := ⟨3, ![1, 1024, 512]⟩
abbrev S1024x512 : Shape := ⟨2, ![1024, 512]⟩
abbrev S2816x1024 : Shape := ⟨2, ![2816, 1024]⟩
abbrev S1x1024x384 : Shape := ⟨3, ![1, 1024, 384]⟩
abbrev S1024x384 : Shape := ⟨2, ![1024, 384]⟩
abbrev S1x1024x1152 : Shape := ⟨3, ![1, 1024, 1152]⟩
abbrev S1024x1152 : Shape := ⟨2, ![1024, 1152]⟩
abbrev S1x1024x640 : Shape := ⟨3, ![1, 1024, 640]⟩
abbrev S1024x640 : Shape := ⟨2, ![1024, 640]⟩

abbrev nBuf : Space → Nat
  | .hbm => 27
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S4x1024, .f32⟩
  | .hbm, ⟨7, _⟩ => ⟨S4x1024x2688, .f32⟩
  | .hbm, ⟨8, _⟩ => ⟨S_, .f32⟩
  | .hbm, ⟨9, _⟩ => ⟨S112x1024, .f32⟩
  | .hbm, ⟨10, _⟩ => ⟨S128x1024, .f32⟩
  | .hbm, ⟨11, _⟩ => ⟨S8x32x128x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4x1024x2816, .bf16⟩
  | .hbm, ⟨16, _⟩ => ⟨S4x1024x2816, .bf16⟩
  | .hbm, ⟨17, _⟩ => ⟨S4x2816x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S4x1024x2688, .bf16⟩
  | .hbm, ⟨22, _⟩ => ⟨S33792x1024, .f32⟩
  | .hbm, ⟨23, _⟩ => ⟨S33792x384, .f32⟩
  | .hbm, ⟨24, _⟩ => ⟨S33792x1152, .bf16⟩
  | .hbm, ⟨25, _⟩ => ⟨S33792x640, .bf16⟩
  | .hbm, ⟨26, _⟩ => ⟨S33792x512, .bf16⟩
  | .local _ .vmem, ⟨0, _⟩ => ⟨S1x3x128x1024, .f32⟩
  | .local _ .vmem, ⟨1, _⟩ => ⟨S1x3x128x1024, .f32⟩
  | .local _ .vmem, ⟨2, _⟩ => ⟨S128x1024, .f32⟩
  | .local _ .vmem, ⟨3, _⟩ => ⟨S1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x1024, .f32⟩
  | .local _ .vmem, ⟨8, _⟩ => ⟨S1x1024x2688, .bf16⟩
  | .local _ .vmem, ⟨9, _⟩ => ⟨S384x1024, .f32⟩
  | .local _ .vmem, ⟨10, _⟩ => ⟨S384x1024, .f32⟩
  | .local _ .vmem, ⟨11, _⟩ => ⟨S384x384, .f32⟩
  | .local _ .vmem, ⟨12, _⟩ => ⟨S384x384, .f32⟩
  | .local _ .vmem, ⟨13, _⟩ => ⟨S384x1152, .bf16⟩
  | .local _ .vmem, ⟨14, _⟩ => ⟨S384x1152, .bf16⟩
  | .local _ .vmem, ⟨15, _⟩ => ⟨S384x640, .bf16⟩
  | .local _ .vmem, ⟨16, _⟩ => ⟨S384x640, .bf16⟩
  | .local _ .vmem, ⟨17, _⟩ => ⟨S384x512, .bf16⟩
  | .local _ .vmem, ⟨18, _⟩ => ⟨S384x512, .bf16⟩
  | .local _ .vmem, ⟨19, _⟩ => ⟨S384x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 11], ![false, false]⟩

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x3x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2688 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x1152 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S384x640 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FirstRefIdeal.lean ====
abbrev S8x4096x1024 : Shape := ⟨3, ![8, 4096, 1024]⟩
abbrev S16x1024 : Shape := ⟨2, ![16, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1024x2688 : Shape := ⟨3, ![4, 1024, 2688]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S_ : Shape := ⟨0, ![]⟩
abbrev S8x4224x1024 : Shape := ⟨3, ![8, 4224, 1024]⟩
abbrev S33792x1024 : Shape := ⟨2, ![33792, 1024]⟩
abbrev S1x1024 : Shape := ⟨2, ![1, 1024]⟩
abbrev S1024 : Shape := ⟨1, ![1024]⟩
abbrev S33792 : Shape := ⟨1, ![33792]⟩
abbrev S33792x1 : Shape := ⟨2, ![33792, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S33792x2816 : Shape := ⟨2, ![33792, 2816]⟩
abbrev S1x1024x2688 : Shape := ⟨3, ![1, 1024, 2688]⟩
abbrev S1024x2688 : Shape := ⟨2, ![1024, 2688]⟩
abbrev S33792x2688 : Shape := ⟨2, ![33792, 2688]⟩
abbrev S33792x384 : Shape := ⟨2, ![33792, 384]⟩
abbrev S33792x1152 : Shape := ⟨2, ![33792, 1152]⟩
abbrev S33792x640 : Shape := ⟨2, ![33792, 640]⟩
abbrev S33792x512 : Shape := ⟨2, ![33792, 512]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S4x1024, .f32⟩
  | .hbm, ⟨7, _⟩ => ⟨S4x1024x2688, .f32⟩
  | .hbm, ⟨8, _⟩ => ⟨S1x16x1024, .f32⟩
  | .hbm, ⟨9, _⟩ => ⟨S8x16x1024, .f32⟩
  | .hbm, ⟨10, _⟩ => ⟨S8x4112x1024, .f32⟩
  | .hbm, ⟨11, _⟩ => ⟨S_, .i32⟩
  | .hbm, ⟨12, _⟩ => ⟨S_, .f32⟩
  | .hbm, ⟨13, _⟩ => ⟨S8x4224x1024, .f32⟩
  | .hbm, ⟨14, _⟩ => ⟨S33792x1024, .f32⟩
  | .hbm, ⟨15, _⟩ => ⟨S1x1024, .f32⟩
  | .hbm, ⟨16, _⟩ => ⟨S1024, .f32⟩
  | .hbm, ⟨17, _⟩ => ⟨S33792x1024, .f32⟩
  | .hbm, ⟨18, _⟩ => ⟨S_, .f32⟩
  | .hbm, ⟨19, _⟩ => ⟨S33792, .f32⟩
  | .hbm, ⟨20, _⟩ => ⟨S33792x1, .f32⟩
  | .hbm, ⟨21, _⟩ => ⟨S_, .f32⟩
  | .hbm, ⟨22, _⟩ => ⟨S33792x1, .f32⟩
  | .hbm, ⟨23, _⟩ => ⟨S33792x1, .f32⟩
  | .hbm, ⟨24, _⟩ => ⟨S_, .f32⟩
  | .hbm, ⟨25, _⟩ => ⟨S33792x1, .f32⟩
  | .hbm, ⟨26, _⟩ => ⟨S33792x1, .f32⟩
  | .hbm, ⟨27, _⟩ => ⟨S33792x1, .f32⟩
  | .hbm, ⟨28, _⟩ => ⟨S33792x1024, .f32⟩
  | .hbm, ⟨29, _⟩ => ⟨S33792x1024, .f32⟩
  | .hbm, ⟨30, _⟩ => ⟨S1x1024, .f32⟩
  | .hbm, ⟨31, _⟩ => ⟨S33792x1024, .f32⟩
  | .hbm, ⟨32, _⟩ => ⟨S33792x1024, .f32⟩
  | .hbm, ⟨33, _⟩ => ⟨S1x1024x2816, .f32⟩
  | .hbm, ⟨34, _⟩ => ⟨S1024x2816, .f32⟩
  | .hbm, ⟨35, _⟩ => ⟨S1x1024x2816, .f32⟩
  | .hbm, ⟨36, _⟩ => ⟨S1024x2816, .f32⟩
  | .hbm, ⟨37, _⟩ => ⟨S1x2816x1024, .f32⟩
  | .hbm, ⟨38, _⟩ => ⟨S2816x1024, .f32⟩
  | .hbm, ⟨39, _⟩ => ⟨S33792x2816, .f32⟩
  | .hbm, ⟨40, _⟩ => ⟨S33792x2816, .f32⟩
  | .hbm, ⟨41, _⟩ => ⟨S33792x2816, .f32⟩
  | .hbm, ⟨42, _⟩ => ⟨S_, .f32⟩
  | .hbm, ⟨43, _⟩ => ⟨S33792x2816, .f32⟩
  | .hbm, ⟨44, _⟩ => ⟨S33792x2816, .f32⟩
  | .hbm, ⟨45, _⟩ => ⟨S_, .f32⟩
  | .hbm, ⟨46, _⟩ => ⟨S33792x2816, .f32⟩
  | .hbm, ⟨47, _⟩ => ⟨S33792x2816, .f32⟩
  | .hbm, ⟨48, _⟩ => ⟨S33792x2816, .f32⟩
  | .hbm, ⟨49, _⟩ => ⟨S33792x2816, .f32⟩
  | .hbm, ⟨50, _⟩ => ⟨S33792x2816, .f32⟩
  | .hbm, ⟨51, _⟩ => ⟨S33792x1024, .f32⟩
  | .hbm, ⟨52, _⟩ => ⟨S_, .f32⟩
  | .hbm, ⟨53, _⟩ => ⟨S33792x1024, .f32⟩
  | .hbm, ⟨54, _⟩ => ⟨S33792x1024, .f32⟩
  | .hbm, ⟨55, _⟩ => ⟨S33792x1024, .f32⟩
  | .hbm, ⟨56, _⟩ => ⟨S1x1024, .f32⟩
  | .hbm, ⟨57, _⟩ => ⟨S1024, .f32⟩
  | .hbm, ⟨58, _⟩ => ⟨S33792x1024, .f32⟩
  | .hbm, ⟨59, _⟩ => ⟨S_, .f32⟩
  | .hbm, ⟨60, _⟩ => ⟨S33792, .f32⟩
  | .hbm, ⟨61, _⟩ => ⟨S33792x1, .f32⟩
  | .hbm, ⟨62, _⟩ => ⟨S_, .f32⟩
  | .hbm, ⟨63, _⟩ => ⟨S33792x1, .f32⟩
  | .hbm, ⟨64, _⟩ => ⟨S33792x1, .f32⟩
  | .hbm, ⟨65, _⟩ => ⟨S_, .f32⟩
  | .hbm, ⟨66, _⟩ => ⟨S33792x1, .f32⟩
  | .hbm, ⟨67, _⟩ => ⟨S33792x1, .f32⟩
  | .hbm, ⟨68, _⟩ => ⟨S33792x1, .f32⟩
  | .hbm, ⟨69, _⟩ => ⟨S33792x1024, .f32⟩
  | .hbm, ⟨70, _⟩ => ⟨S33792x1024, .f32⟩
  | .hbm, ⟨71, _⟩ => ⟨S1x1024, .f32⟩
  | .hbm, ⟨72, _⟩ => ⟨S33792x1024, .f32⟩
  | .hbm, ⟨73, _⟩ => ⟨S33792x1024, .f32⟩
  | .hbm, ⟨74, _⟩ => ⟨S1x1024x2688, .f32⟩
  | .hbm, ⟨75, _⟩ => ⟨S1024x2688, .f32⟩
  | .hbm, ⟨76, _⟩ => ⟨S33792x2688, .f32⟩
  | .hbm, ⟨77, _⟩ => ⟨S33792x384, .f32⟩
  | .hbm, ⟨78, _⟩ => ⟨S33792x1152, .f32⟩
  | .hbm, ⟨79, _⟩ => ⟨S33792x1152, .bf16⟩
  | .hbm, ⟨80, _⟩ => ⟨S33792x640, .f32⟩
  | .hbm, ⟨81, _⟩ => ⟨S33792x640, .bf16⟩
  | .hbm, ⟨82, _⟩ => ⟨S33792x512, .f32⟩
  | .hbm, ⟨83, _⟩ => ⟨S33792x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Proof.Ffn.Row.lean ====
module

public import Idealize.ShloMosaic.Lib.Pointwise

@[expose] public section

/-! One row of the feed-forward layer over the extended reals: the normalisation of a row, a row times a matrix, the
gated activation, and the half step. The kernels and the references are read as these, row by row. -/

noncomputable section

namespace Cert.Ffn

open Idealize.ShloMosaic

/-- The factor that normalises a row: one over the root of its mean square plus the small constant. -/
def scale (x : Fin 1024 → EReal) : EReal :=
  Ideal.rsqrt (Ideal.div (∑ k, x k * x k) (Ideal.ofBits .f32 0x44800000#32) + Ideal.ofBits .f32 0x358637BD#32)

/-- A row normalised and weighted. -/
def rms (x g : Fin 1024 → EReal) : Fin 1024 → EReal := fun j => x j * scale x * g j

/-- A row times a matrix. -/
def dot {K N : Nat} (x : Fin K → EReal) (w : Fin K → Fin N → EReal) : Fin N → EReal := fun j => ∑ k, x k * w k j

/-- The gated activation of one element. -/
def act (a b : EReal) : EReal := a * Ideal.div 1 (1 + Ideal.exp (-a)) * b

/-- A row plus half its feed-forward image. -/
def ffn {D : Nat} (h g : Fin 1024 → EReal) (wg wu : Fin 1024 → Fin D → EReal) (wd : Fin D → Fin 1024 → EReal) :
    Fin 1024 → EReal := fun j =>
  h j + Ideal.ofBits .f32 0x3F000000#32 * dot (fun f => act (dot (rms h g) wg f) (dot (rms h g) wu f)) wd j

end Cert.Ffn
-- ==== Proof.Ffn.Cols.lean ====
module

public import Idealize.ShloMosaic.Lib.Pointwise
public import Idealize.ShloMosaic.Lib.Pipeline.ValueKit

@[expose] public section

/-! A buffer of 2816 columns written in four column stripes, read back at an index. -/

namespace Cert.Ffn

open Idealize.ShloMosaic

/-- Four stores of whole column stripes: at row `r` and column `f` the buffer holds what the stripe of `f` was given. -/
theorem stripes_at {Val : EltTy → Type} [∀ e, Nonempty (Val e)] {e : EltTy} {R : Nat}
    (p0 p1 p2 : (⟨2, ![R, 768]⟩ : Shape).Idx → Val e) (p3 : (⟨2, ![R, 512]⟩ : Shape).Idx → Val e)
    (i0 : ∀ a, ![0, 0] a + ![R, 768] a ≤ (⟨2, ![R, 2816]⟩ : Shape).size a)
    (i1 : ∀ a, ![0, 768] a + ![R, 768] a ≤ (⟨2, ![R, 2816]⟩ : Shape).size a)
    (i2 : ∀ a, ![0, 1536] a + ![R, 768] a ≤ (⟨2, ![R, 2816]⟩ : Shape).size a)
    (i3 : ∀ a, ![0, 2304] a + ![R, 512] a ≤ (⟨2, ![R, 2816]⟩ : Shape).size a)
    (r : Fin R) (f : Fin 2816) (v : Val e)
    (h0 : ∀ g : Fin 768, (f : ℕ) = g → p0 (ix2 r g) = v) (h1 : ∀ g : Fin 768, (f : ℕ) = 768 + g → p1 (ix2 r g) = v)
    (h2 : ∀ g : Fin 768, (f : ℕ) = 1536 + g → p2 (ix2 r g) = v)
    (h3 : ∀ g : Fin 512, (f : ℕ) = 2304 + g → p3 (ix2 r g) = v) :
    View.canon [(⟨Rect.unit (s := ⟨2, ![R, 2816]⟩) ![0, 2304] ![R, 512] i3, p3⟩ : View.Piece Val ⟨2, ![R, 2816]⟩ e),
      ⟨Rect.unit (s := ⟨2, ![R, 2816]⟩) ![0, 1536] ![R, 768] i2, p2⟩, ⟨Rect.unit (s := ⟨2, ![R, 2816]⟩) ![0, 768] ![R, 768] i1, p1⟩,
      ⟨Rect.unit (s := ⟨2, ![R, 2816]⟩) ![0, 0] ![R, 768] i0, p0⟩] (ix2 r f) = v := by
  have hf := f.isLt
  refine View.canon_eq_of_allAt _ _ _ ?_ ?_
  · by_cases c1 : (f : ℕ) < 768
    · exact ⟨_, .tail _ (.tail _ (.tail _ (.head _))), (Rect.mem_set_unit (inb := i0)).mpr fun a => match a with
        | ⟨0, _⟩ => ⟨Nat.zero_le _, show (r : ℕ) < 0 + R by have := r.isLt; omega⟩
        | ⟨1, _⟩ => ⟨Nat.zero_le _, show (f : ℕ) < 0 + 768 by omega⟩⟩
    · by_cases c2 : (f : ℕ) < 1536
      · exact ⟨_, .tail _ (.tail _ (.head _)), (Rect.mem_set_unit (inb := i1)).mpr fun a => match a with
          | ⟨0, _⟩ => ⟨Nat.zero_le _, show (r : ℕ) < 0 + R by have := r.isLt; omega⟩
          | ⟨1, _⟩ => ⟨show 768 ≤ (f : ℕ) by omega, show (f : ℕ) < 768 + 768 by omega⟩⟩
      · by_cases c3 : (f : ℕ) < 2304
        · exact ⟨_, .tail _ (.head _), (Rect.mem_set_unit (inb := i2)).mpr fun a => match a with
            | ⟨0, _⟩ => ⟨Nat.zero_le _, show (r : ℕ) < 0 + R by have := r.isLt; omega⟩
            | ⟨1, _⟩ => ⟨show 1536 ≤ (f : ℕ) by omega, show (f : ℕ) < 1536 + 768 by omega⟩⟩
        · exact ⟨_, .head _, (Rect.mem_set_unit (inb := i3)).mpr fun a => match a with
            | ⟨0, _⟩ => ⟨Nat.zero_le _, show (r : ℕ) < 0 + R by have := r.isLt; omega⟩
            | ⟨1, _⟩ => ⟨show 2304 ≤ (f : ℕ) by omega, show (f : ℕ) < 2304 + 512 by omega⟩⟩
  · refine View.allAt_cons_unit _ _ _ _ _ ?_ (View.allAt_cons_unit _ _ _ _ _ ?_ (View.allAt_cons_unit _ _ _ _ _ ?_
      (View.allAt_cons_unit _ _ _ _ _ ?_ (View.allAt_nil _ _))))
    · intro x hx
      obtain ⟨a, b, rfl⟩ : ∃ (a : Fin R) (b : Fin 512), x = ix2 a b := ⟨x 0, x 1, eq_ix2 x⟩
      have ha : (r : ℕ) = 0 + a := hx 0
      obtain rfl : r = a := Fin.ext (by omega)
      exact h3 b (hx 1)
    · intro x hx
      obtain ⟨a, b, rfl⟩ : ∃ (a : Fin R) (b : Fin 768), x = ix2 a b := ⟨x 0, x 1, eq_ix2 x⟩
      have ha : (r : ℕ) = 0 + a := hx 0
      obtain rfl : r = a := Fin.ext (by omega)
      exact h2 b (hx 1)
    · intro x hx
      obtain ⟨a, b, rfl⟩ : ∃ (a : Fin R) (b : Fin 768), x = ix2 a b := ⟨x 0, x 1, eq_ix2 x⟩
      have ha : (r : ℕ) = 0 + a := hx 0
      obtain rfl : r = a := Fin.ext (by omega)
      exact h1 b (hx 1)
    · intro x hx
      obtain ⟨a, b, rfl⟩ : ∃ (a : Fin R) (b : Fin 768), x = ix2 a b := ⟨x 0, x 1, eq_ix2 x⟩
      have ha : (r : ℕ) = 0 + a := hx 0
      obtain rfl : r = a := Fin.ext (by omega)
      have hb : (f : ℕ) = 0 + b := hx 1
      exact h0 b (by omega)

/-- Subtracting from zero negates. -/
theorem zero_sub_eq (a : EReal) : 0 - a = -a := by rw [sub_eq_add_neg, zero_add]

end Cert.Ffn
-- ==== Proof.Ffn.FinalRef.lean ====
module

public import proofs.«01_k».proof.Proof.Gen.FinalRefIdeal.Read
public import proofs.«01_k».proof.Proof.Ffn.Row

@[expose] public section

/-! The reference of the last call, read row by row. -/

set_option maxRecDepth 16384

noncomputable section

namespace Cert.FinalRefIdeal.Rows

open Cert.FinalRefIdeal Cert.FinalRefIdeal.Read Idealize.ShloMosaic Cert.Ffn

variable (x0 : (⟨S8x4224x1024, .f32⟩ : BufTy).Contents (Elt Ideal)) (x1 : (⟨S8x4224x1024, .bf16⟩ : BufTy).Contents (Elt Ideal))
  (x2 : (⟨S4x1024x1024, .f32⟩ : BufTy).Contents (Elt Ideal)) (x3 : (⟨S4x1024, .f32⟩ : BufTy).Contents (Elt Ideal))
  (x4 x5 : (⟨S4x1024x2816, .f32⟩ : BufTy).Contents (Elt Ideal)) (x6 : (⟨S4x2816x1024, .f32⟩ : BufTy).Contents (Elt Ideal))
  (x7 : (⟨S1024, .f32⟩ : BufTy).Contents (Elt Ideal)) (b : Fin 8) (r : Fin 4224)

/-- The hidden row after the output projection. -/
theorem hidden_at (j : Fin 1024) : val_main_v4 (F := Ideal) x0 x1 x2 (ix3 b r j)
    = x0 (ix3 b r j) + dot (fun k => x1 (ix3 b r k)) (fun k l => x2 (ix3 3 k l)) j := by
  pointwise [val_main_v4, val_main_v3, val_main_v2, val_main_v1, val_main_v0, dot]

/-- The hidden row normalised. -/
theorem normed_at (j : Fin 1024) : val_main_v19 (F := Ideal) x0 x1 x2 x3 (ix3 b r j)
    = rms (fun k => val_main_v4 (F := Ideal) x0 x1 x2 (ix3 b r k)) (fun k => x3 (ix2 3 k)) j := by
  pointwise [val_main_v19, val_main_v18, val_main_v17, val_main_v16, val_main_v15, val_main_v14, val_main_v13, val_main_v12,
    val_main_v11, val_main_v10, val_main_v9, val_main_v8, val_main_v7, val_main_v6, val_main_v5, val_main_cst, val_main_cst_0,
    val_main_cst_1, rms, scale]

/-- The gated activation. -/
theorem act_at (f : Fin 2816) : val_main_v29 (F := Ideal) x0 x1 x2 x3 x4 x5 (ix3 b r f)
    = act (dot (fun k => val_main_v19 (F := Ideal) x0 x1 x2 x3 (ix3 b r k)) (fun k f => x4 (ix3 3 k f)) f)
        (dot (fun k => val_main_v19 (F := Ideal) x0 x1 x2 x3 (ix3 b r k)) (fun k f => x5 (ix3 3 k f)) f) := by
  pointwise [val_main_v29, val_main_v28, val_main_v27, val_main_v26, val_main_v25, val_main_v24, val_main_v23, val_main_v22,
    val_main_v21, val_main_v20, val_main_call0_v5, val_main_call0_v4, val_main_call0_v3, val_main_call0_v2, val_main_call0_v1,
    val_main_call0_v0, val_main_call0_cst, val_main_call0_cst_0, act, dot]

/-- The hidden row after the feed-forward layer. -/
theorem ffn_at (j : Fin 1024) : val_main_v33 (F := Ideal) x0 x1 x2 x3 x4 x5 x6 (ix3 b r j)
    = ffn (fun k => val_main_v4 (F := Ideal) x0 x1 x2 (ix3 b r k)) (fun k => x3 (ix2 3 k)) (fun k f => x4 (ix3 3 k f))
        (fun k f => x5 (ix3 3 k f)) (fun f l => x6 (ix3 3 f l)) j := by
  have ha := fun f => act_at x0 x1 x2 x3 x4 x5 b r f
  simp only [normed_at] at ha
  pointwise [val_main_v33, val_main_v32, val_main_v31, val_main_v30, val_main_v25, val_main_v24, val_main_cst_2, ha]
  rfl

/-- The result: a row of frames after the feed-forward layer, normalised. -/
theorem out_at (r : Fin 4096) (j : Fin 1024) : val_main_v47 (F := Ideal) x0 x1 x2 x3 x4 x5 x6 x7 (ix3 b r j)
    = rms (fun k => val_main_v33 (F := Ideal) x0 x1 x2 x3 x4 x5 x6 (ix3 b ⟨128 + r, by omega⟩ k)) (fun k => x7 (ix1 k)) j := by
  pointwise [val_main_v47, val_main_v46, val_main_v45, val_main_v44, val_main_v43, val_main_v42, val_main_v41, val_main_v40,
    val_main_v39, val_main_v38, val_main_v37, val_main_v36, val_main_v35, val_main_v34, val_main_cst_3, val_main_cst_4,
    val_main_cst_5, rms, scale]

end Cert.FinalRefIdeal.Rows
-- ==== Proof.Ffn.Final.lean ====
module

public import proofs.«01_k».proof.Proof.Gen.FinalFfnIdeal.Value
public import proofs.«01_k».proof.Proof.Ffn.Row
public import proofs.«01_k».proof.Proof.Ffn.Cols
public import proofs.«01_k».proof.Proof.Ffn.FinalRef
public import Idealize.ShloMosaic.Lib.Pipeline.ValueKit

@[expose] public section

set_option maxRecDepth 16384
noncomputable section

/-! The last call of the stack: what each grid point leaves in its output block, row by row. -/

namespace Cert.FinalFfnIdeal.Rows

open Cert.FinalFfnIdeal Cert.FinalFfnIdeal.Gen Idealize.ShloMosaic Idealize.ShloMosaic.TcCoe Idealize.SL.Sem Idealize.ShloMosaic.Tactic Cert.Ffn

variable (m : (ℓ : Loc nD τ sig) → Buf (Elt Ideal) ℓ)

theorem pay3_at (v0 : Vec Ideal S1x4x128x1024 .f32) (v3 : Vec Ideal S1x4x128x1024 .bf16) (v6 : Vec Ideal S1x1024x1024 .bf16) (v10 : Vec Ideal S1x1024 .f32) (r : Fin 512) (j : Fin 1024) :
    k0_pay3 (F := Ideal) v0 v3 v6 v10 (ix2 r j) = rms (fun k => k0_pay2 (F := Ideal) v0 v3 v6 (ix2 r k)) (fun k => v10 (ix2 0 k)) j := by
  pointwise [k0_pay3, rms, scale]

theorem pay2_at (v0 : Vec Ideal S1x4x128x1024 .f32) (v3 : Vec Ideal S1x4x128x1024 .bf16) (v6 : Vec Ideal S1x1024x1024 .bf16) (r : Fin 512) (j : Fin 1024) :
    k0_pay2 (F := Ideal) v0 v3 v6 (ix2 r j) = v0 (ix4 0 ⟨r / 128, by omega⟩ ⟨r % 128, by omega⟩ j) + dot (fun k => v3 (ix4 0 ⟨r / 128, by omega⟩ ⟨r % 128, by omega⟩ k)) (fun k l => v6 (ix3 0 k l)) j := by
  pointwise [k0_pay2, dot]

theorem scratch_at (v0 : Vec Ideal S1x4x128x1024 .f32) (v3 : Vec Ideal S1x4x128x1024 .bf16) (v6 : Vec Ideal S1x1024x1024 .bf16) (v10 : Vec Ideal S1x1024 .f32)
    (wg wu : Vec Ideal S1x1024x2816 .bf16) (r : Fin 512) (f : Fin 2816) :
    View.canon (Val := Elt Ideal) (e := .bf16) [⟨Rect.unit ![0, 2304] ![512, 512] inb_S512x2816_S512x512_0_2304,
              k0_pay11 (F := Ideal) (k0_pay3 v0 v3 v6 v10) (View.ld wg (Rect.unit ![0, 0, 2304] ![1, 1024, 512] inb_S1x1024x2816_S1x1024x512_0_0_2304))
                (View.ld wu (Rect.unit ![0, 0, 2304] ![1, 1024, 512] inb_S1x1024x2816_S1x1024x512_0_0_2304))⟩,
            ⟨Rect.unit ![0, 1536] ![512, 768] inb_S512x2816_S512x768_0_1536,
              k0_pay10 (F := Ideal) (k0_pay3 v0 v3 v6 v10) (k0_pay9 (k0_pay3 v0 v3 v6 v10) (View.ld wg (Rect.unit ![0, 0, 1536] ![1, 1024, 768] inb_S1x1024x2816_S1x1024x768_0_0_1536)))
                (View.ld wu (Rect.unit ![0, 0, 1536] ![1, 1024, 768] inb_S1x1024x2816_S1x1024x768_0_0_1536))⟩,
            ⟨Rect.unit ![0, 768] ![512, 768] inb_S512x2816_S512x768_0_768,
              k0_pay8 (F := Ideal) (k0_pay3 v0 v3 v6 v10) (View.ld wg (Rect.unit ![0, 0, 768] ![1, 1024, 768] inb_S1x1024x2816_S1x1024x768_0_0_768))
                (View.ld wu (Rect.unit ![0, 0, 768] ![1, 1024, 768] inb_S1x1024x2816_S1x1024x768_0_0_768))⟩,
            ⟨Rect.unit ![0, 0] ![512, 768] inb_S512x2816_S512x768_0_0,
              k0_pay7 (F := Ideal) (k0_pay4 v0 v3 v6 v10 (View.ld wg (Rect.unit ![0, 0, 0] ![1, 1024, 768] inb_S1x1024x2816_S1x1024x768_0_0_0)))
                (k0_pay5 v0 v3 v6 v10 (View.ld wu (Rect.unit ![0, 0, 0] ![1, 1024, 768] inb_S1x1024x2816_S1x1024x768_0_0_0)))
                k0_pay6⟩] (ix2 r f)
      = act (dot (fun k => k0_pay3 (F := Ideal) v0 v3 v6 v10 (ix2 r k)) (fun k f => wg (ix3 0 k f)) f)
          (dot (fun k => k0_pay3 (F := Ideal) v0 v3 v6 v10 (ix2 r k)) (fun k f => wu (ix3 0 k f)) f) := by
  refine stripes_at _ _ _ _ _ _ _ _ r f _ ?_ ?_ ?_ ?_ <;> intro g hg <;>
    pointwise [k0_pay11, k0_pay10, k0_pay9, k0_pay8, k0_pay7, k0_pay4, k0_pay5, k0_pay6, act, dot] <;>
    simp only [zero_sub_eq, ← hg, Fin.eta]

theorem pay1_at (v9 : Vec Ideal S512x1024 .f32) (a : Vec Ideal S512x2816 .bf16) (wd : Vec Ideal S1x2816x1024 .bf16) (gf : Vec Ideal S1x1024 .f32) (r : Fin 512) (j : Fin 1024) :
    k0_pay1 (F := Ideal) v9 a wd gf (ix3 0 r j) = rms (fun j => v9 (ix2 r j) + Ideal.ofBits .f32 0x3F000000#32 * dot (fun f => a (ix2 r f)) (fun f l => wd (ix3 0 f l)) j) (fun k => gf (ix2 0 k)) j := by
  pointwise [k0_pay1, rms, scale, dot]

theorem outs_at (c : Dev nD) (t : Fin cfg0.N) (r : Fin 512) (j : Fin 1024) :
    outsAt0 m c t (ix3 0 r j) =
      rms (ffn (fun j => k0_pay2 (F := Ideal) (iblk m c 0 t) (iblk m c 1 t) (iblk m c 2 t) (ix2 r j)) (fun k => iblk m c 3 t (ix2 0 k))
        (fun k f => iblk m c 4 t (ix3 0 k f)) (fun k f => iblk m c 5 t (ix3 0 k f)) (fun f j => iblk m c 6 t (ix3 0 f j)))
        (fun k => iblk m c 7 t (ix2 0 k)) j := by
  unfold outsAt0 out0_A_8
  rw [View.read_writes_eq_canon _ _ _ (cover0_A_8 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero (by decide), View.readCov_eq_canon']
  rw [View.ld_unit_zero (S := S1x4x128x1024) (by decide) _ (iblk m c 0 t), View.ld_unit_zero (S := S1x4x128x1024) (by decide) _ (iblk m c 1 t), View.ld_unit_zero (S := S1x1024x1024) (by decide) _ (iblk m c 2 t), View.ld_unit_zero (S := S1x1024) (by decide) _ (iblk m c 3 t), View.ld_unit_zero (S := S1x2816x1024) (by decide) _ (iblk m c 6 t), View.ld_unit_zero (S := S1x1024) (by decide) _ (iblk m c 7 t)]
  generalize iblk m c 0 t = v0
  generalize iblk m c 1 t = v3
  generalize iblk m c 2 t = v6
  generalize iblk m c 3 t = v10
  generalize iblk m c 4 t = wg
  generalize iblk m c 5 t = wu
  generalize iblk m c 6 t = wd
  generalize iblk m c 7 t = gf
  have hs := fun f => scratch_at v0 v3 v6 v10 wg wu r f
  simp only [pay3_at] at hs
  rw [pay1_at]
  refine congrFun (congrArg (fun x => rms x _) (funext fun l => ?_)) j
  refine congrArg (fun x => k0_pay2 v0 v3 v6 (ix2 r l) + Ideal.ofBits .f32 0x3F000000#32 * dot x _ l) (funext fun f => ?_)
  rw [← hs f]
  pointwise

theorem idx0 : ∀ t : Fin cfg0.N, win0_0.index t = ![(grid0.coords t 0).val, 1 + 4 * (grid0.coords t 1).val, 0, 0] := (by decide +kernel : ∀ t : Fin grid0.N, _)
theorem idx1 : ∀ t : Fin cfg0.N, win0_1.index t = ![(grid0.coords t 0).val, 1 + 4 * (grid0.coords t 1).val, 0, 0] := (by decide +kernel : ∀ t : Fin grid0.N, _)
theorem idx : ∀ t : Fin cfg0.N, win0_2.index t = ![3, 0, 0] ∧ win0_3.index t = ![0, 0] ∧ win0_4.index t = ![3, 0, 0] ∧ win0_5.index t = ![3, 0, 0]
    ∧ win0_6.index t = ![3, 0, 0] ∧ win0_7.index t = ![0, 0] ∧ win0_8.index t = ![(grid0.coords t 0).val, (grid0.coords t 1).val, 0] := (by decide +kernel : ∀ t : Fin grid0.N, _)
theorem bounds : ∀ t : Fin cfg0.N, (grid0.coords t 0).val < 8 ∧ (grid0.coords t 1).val < 8 := (by decide +kernel : ∀ t : Fin grid0.N, _)

theorem blk0_at (c : Dev nD) (t : Fin cfg0.N) (a : Fin 4) (q : Fin 128) (j : Fin 1024) (b : Fin 8) (s : Fin 4224) (hb : (b : ℕ) = (grid0.coords t 0).val)
    (hs : (s : ℕ) = 128 + 512 * (grid0.coords t 1).val + 128 * a + q) :
    iblk m c 0 t (ix4 0 a q j) = m ((c : Thread nD τ).loc main_arg0) (ix3 b s j) := by
  have e : ∀ ax, (((View.whole main_v0).slice (win0_0.rect t)).emb (ix4 0 a q j) ax : ℕ) = win0_0.index t ax + (ix4 (n0 := 1) (n1 := 4) 0 a q j ax : ℕ) := fun ax => Pipeline.Window.rect_emb_val_off win0_0 t (ix4 0 a q j) ax
  have e0 : (((View.whole main_v0).slice (win0_0.rect t)).emb (ix4 0 a q j) 0 : ℕ) = (grid0.coords t 0).val := by rw [e 0, idx0]; rfl
  have e1 : (((View.whole main_v0).slice (win0_0.rect t)).emb (ix4 0 a q j) 1 : ℕ) = 1 + 4 * (grid0.coords t 1).val + a := by rw [e 1, idx0]; rfl
  have e2 : (((View.whole main_v0).slice (win0_0.rect t)).emb (ix4 0 a q j) 2 : ℕ) = q := by rw [e 2, idx0]; exact Nat.zero_add _
  have e3 : (((View.whole main_v0).slice (win0_0.rect t)).emb (ix4 0 a q j) 3 : ℕ) = j := by rw [e 3, idx0]; exact Nat.zero_add _
  blk_ext! [iblk, V]
  all_goals omega

theorem blk2_at (c : Dev nD) (t : Fin cfg0.N) (k l : Fin 1024) : iblk m c 2 t (ix3 0 k l) = m ((c : Thread nD τ).loc main_arg2) (ix3 3 k l) := by
  have e := (idx t).1
  blk_ext! [iblk, V, e]

theorem blk3_at (c : Dev nD) (t : Fin cfg0.N) (k : Fin 1024) : iblk m c 3 t (ix2 0 k) = m ((c : Thread nD τ).loc main_arg3) (ix2 3 k) := by
  have e := (idx t).2.1
  blk_ext! [iblk, V, e]

theorem blk1_at (c : Dev nD) (t : Fin cfg0.N) (a : Fin 4) (q : Fin 128) (j : Fin 1024) (b : Fin 8) (s : Fin 4224) (hb : (b : ℕ) = (grid0.coords t 0).val)
    (hs : (s : ℕ) = 128 + 512 * (grid0.coords t 1).val + 128 * a + q) :
    iblk m c 1 t (ix4 0 a q j) = m ((c : Thread nD τ).loc main_arg1) (ix3 b s j) := by
  have e : ∀ ax, (((View.whole main_v7).slice (win0_1.rect t)).emb (ix4 0 a q j) ax : ℕ) = win0_1.index t ax + (ix4 (n0 := 1) (n1 := 4) 0 a q j ax : ℕ) := fun ax => Pipeline.Window.rect_emb_val_off win0_1 t (ix4 0 a q j) ax
  have e0 : (((View.whole main_v7).slice (win0_1.rect t)).emb (ix4 0 a q j) 0 : ℕ) = (grid0.coords t 0).val := by rw [e 0, idx1]; rfl
  have e1 : (((View.whole main_v7).slice (win0_1.rect t)).emb (ix4 0 a q j) 1 : ℕ) = 1 + 4 * (grid0.coords t 1).val + a := by rw [e 1, idx1]; rfl
  have e2 : (((View.whole main_v7).slice (win0_1.rect t)).emb (ix4 0 a q j) 2 : ℕ) = q := by rw [e 2, idx1]; exact Nat.zero_add _
  have e3 : (((View.whole main_v7).slice (win0_1.rect t)).emb (ix4 0 a q j) 3 : ℕ) = j := by rw [e 3, idx1]; exact Nat.zero_add _
  blk_ext! [iblk, V]
  all_goals omega

theorem blk4_at (c : Dev nD) (t : Fin cfg0.N) (k : Fin 1024) (f : Fin 2816) : iblk m c 4 t (ix3 0 k f) = m ((c : Thread nD τ).loc main_arg4) (ix3 3 k f) := by
  have e := (idx t).2.2.1
  blk_ext! [iblk, V, e]

theorem blk5_at (c : Dev nD) (t : Fin cfg0.N) (k : Fin 1024) (f : Fin 2816) : iblk m c 5 t (ix3 0 k f) = m ((c : Thread nD τ).loc main_arg5) (ix3 3 k f) := by
  have e := (idx t).2.2.2.1
  blk_ext! [iblk, V, e]

theorem blk6_at (c : Dev nD) (t : Fin cfg0.N) (f : Fin 2816) (k : Fin 1024) : iblk m c 6 t (ix3 0 f k) = m ((c : Thread nD τ).loc main_arg6) (ix3 3 f k) := by
  have e := (idx t).2.2.2.2.1
  blk_ext! [iblk, V, e]

theorem blk7_at (c : Dev nD) (t : Fin cfg0.N) (k : Fin 1024) : iblk m c 7 t (ix2 0 k) = m ((c : Thread nD τ).loc main_arg7) (ix1 k) := by
  have e := (idx t).2.2.2.2.2.1
  blk_ext! [iblk, V, e]

/-- A row of a block is the reference's row. -/
theorem row_eq (c : Dev nD) (t : Fin cfg0.N) (hb : (grid0.coords t 0).val < 8 ∧ (grid0.coords t 1).val < 8) (r : Fin 512) (j : Fin 1024) :
    outsAt0 m c t (ix3 0 r j) = Cert.FinalRefIdeal.Read.val_main_v47 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (ix3 (n0 := 8) (n1 := 4096) (n2 := 1024) ⟨(grid0.coords t 0).val, hb.1⟩ ⟨512 * (grid0.coords t 1).val + r, by omega⟩ j) := by
  have h0 := fun k => blk0_at m c t ⟨r / 128, by omega⟩ ⟨r % 128, by omega⟩ k ⟨(grid0.coords t 0).val, hb.1⟩ ⟨128 + (512 * (grid0.coords t 1).val + r), by omega⟩ rfl (by dsimp only; omega)
  have h1 := fun k => blk1_at m c t ⟨r / 128, by omega⟩ ⟨r % 128, by omega⟩ k ⟨(grid0.coords t 0).val, hb.1⟩ ⟨128 + (512 * (grid0.coords t 1).val + r), by omega⟩ rfl (by dsimp only; omega)
  rw [outs_at, Cert.FinalRefIdeal.Rows.out_at]
  simp only [Cert.FinalRefIdeal.Rows.ffn_at, Cert.FinalRefIdeal.Rows.hidden_at, pay2_at, blk2_at, blk3_at, blk4_at, blk5_at, blk6_at, blk7_at, h0, h1]

/-- Every index of the result lies in a block that is written back. -/
theorem covers : (cfg0.win 8).Covers := by decide +kernel

/-- The result array is the reference of the arguments. -/
theorem arr_eq (c : Dev nD) : (dats m 0 c).arrAt 8 cfg0.N = Cert.FinalRefIdeal.Read.val_main_v47 (F := Ideal)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 8 _ covers fun t hf y => ?_
  have hb := bounds t
  obtain ⟨z, r, j, rfl⟩ : ∃ (z : Fin 1) (r : Fin 512) (j : Fin 1024), y = ix3 z r j := ⟨y 0, y 1, y 2, eq_ix3 y⟩
  obtain rfl : z = 0 := Subsingleton.elim _ _
  have hemb : ((cfg0.win 8).blk t).view.emb (ix3 0 r j) = ix3 (n0 := 8) (n1 := 4096) (n2 := 1024) ⟨(grid0.coords t 0).val, hb.1⟩ ⟨512 * (grid0.coords t 1).val + r, by omega⟩ j := by
    blk_ext [(idx t).2.2.2.2.2.2]
  rw [hemb, ← row_eq m c t hb r j, after0_8]
  generalize outsAt0 m c t = F
  rfl

end Cert.FinalFfnIdeal.Rows
-- ==== Proof.Ffn.FinalClaim.lean ====
module

public import proofs.«01_k».proof.Defs
public import proofs.«01_k».proof.Proof.Gen.FinalRefIdeal.Run
public import proofs.«01_k».proof.Proof.Ffn.Final
public import Idealize.ShloMosaic.Lib.Claim

@[expose] public section

noncomputable section

namespace Cert.Ffn

open Idealize.ShloMosaic Idealize.SL.Sem

/-- The last call computes its reference. -/
theorem final : Cert.algebraic_FinalFfnIdeal_FinalRefIdeal (hFinalFfnIdeal := Cert.FinalFfnIdeal.Gen.facts) (hFinalRefIdeal := Cert.FinalRefIdeal.Gen.facts) := by
  pair_intro
  · run_from Cert.FinalFfnIdeal.Value.run_blocks m g
  · run_from Cert.FinalRefIdeal.Value.run m' g'
    obtain ⟨h0, h1, h2, h3, h4, h5, h6, h7⟩ := hagree c
    refine (Cert.FinalRefIdeal.Read.val_main_v47_eq m' c).trans ?_
    rw [h0, h1, h2, h3, h4, h5, h6, h7]
    exact (Cert.FinalFfnIdeal.Rows.arr_eq m c).symm

end Cert.Ffn
-- ==== Proof.Ffn.PreRef.lean ====
module

public import proofs.«01_k».proof.Proof.Gen.PreRefIdeal.Read
public import proofs.«01_k».proof.Proof.Ffn.Row

@[expose] public section

/-! The reference of the last feed-forward call of a layer, read row by row. -/

set_option maxRecDepth 16384

noncomputable section

namespace Cert.PreRefIdeal.Rows

open Cert.PreRefIdeal Cert.PreRefIdeal.Read Idealize.ShloMosaic Cert.Ffn

variable (x0 : (⟨S33792x1024, .f32⟩ : BufTy).Contents (Elt Ideal)) (x1 : (⟨S33792x1024, .bf16⟩ : BufTy).Contents (Elt Ideal))
  (x2 : (⟨S4x1024x1024, .f32⟩ : BufTy).Contents (Elt Ideal)) (x3 : (⟨S4x1024, .f32⟩ : BufTy).Contents (Elt Ideal))
  (x4 x5 : (⟨S4x1024x2816, .f32⟩ : BufTy).Contents (Elt Ideal)) (x6 : (⟨S4x2816x1024, .f32⟩ : BufTy).Contents (Elt Ideal))
  (r : Fin 33792)

/-- The hidden row after the output projection. -/
theorem hidden_at (j : Fin 1024) : val_main_v4 (F := Ideal) x0 x1 x2 (ix2 r j)
    = x0 (ix2 r j) + dot (fun k => x1 (ix2 r k)) (fun k l => x2 (ix3 0 k l)) j := by
  pointwise [val_main_v4, val_main_v3, val_main_v2, val_main_v1, val_main_v0, dot]

/-- The hidden row normalised. -/
theorem normed_at (j : Fin 1024) : val_main_v19 (F := Ideal) x0 x1 x2 x3 (ix2 r j)
    = rms (fun k => val_main_v4 (F := Ideal) x0 x1 x2 (ix2 r k)) (fun k => x3 (ix2 0 k)) j := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, rms, scale]

/-- The gated activation. -/
theorem act_at (f : Fin 2816) : val_main_v29 (F := Ideal) x0 x1 x2 x3 x4 x5 (ix2 r f)
    = act (dot (fun k => val_main_v19 (F := Ideal) x0 x1 x2 x3 (ix2 r k)) (fun k f => x4 (ix3 0 k f)) f)
        (dot (fun k => val_main_v19 (F := Ideal) x0 x1 x2 x3 (ix2 r k)) (fun k f => x5 (ix3 0 k f)) f) := by
  pointwise [val_main_v29, val_main_v28, val_main_v27, val_main_v26, val_main_v25, val_main_v24, val_main_v23, val_main_v22, val_main_v21, val_main_v20, val_main_call0_v5, val_main_call0_v4, val_main_call0_v3, val_main_call0_v2, val_main_call0_v1,
    val_main_call0_v0, val_main_call0_cst, val_main_call0_cst_0, act, dot]

/-- The hidden row after the feed-forward layer. -/
theorem ffn_at (j : Fin 1024) : val_main_v33 (F := Ideal) x0 x1 x2 x3 x4 x5 x6 (ix2 r j)
    = ffn (fun k => val_main_v4 (F := Ideal) x0 x1 x2 (ix2 r k)) (fun k => x3 (ix2 0 k)) (fun k f => x4 (ix3 0 k f))
        (fun k f => x5 (ix3 0 k f)) (fun f l => x6 (ix3 0 f l)) j := by
  have ha := fun f => act_at x0 x1 x2 x3 x4 x5 r f
  simp only [normed_at] at ha
  pointwise [val_main_v33, val_main_v32, val_main_v31, val_main_v30, val_main_v25, val_main_v24, val_main_cst_2, ha]
  rfl

end Cert.PreRefIdeal.Rows
-- ==== Proof.Ffn.Pre.lean ====
module

public import proofs.«01_k».proof.Proof.Gen.PreFfnIdeal.Value
public import proofs.«01_k».proof.Proof.Ffn.Row
public import proofs.«01_k».proof.Proof.Ffn.Cols
public import proofs.«01_k».proof.Proof.Ffn.PreRef
public import Idealize.ShloMosaic.Lib.Pipeline.ValueKit

@[expose] public section

set_option maxRecDepth 16384
noncomputable section

/-! The last feed-forward call of a layer: what each grid point leaves in its output block, row by row. -/

namespace Cert.PreFfnIdeal.Rows

open Cert.PreFfnIdeal Cert.PreFfnIdeal.Gen Idealize.ShloMosaic Idealize.ShloMosaic.TcCoe Idealize.SL.Sem Idealize.ShloMosaic.Tactic Cert.Ffn

variable (m : (ℓ : Loc nD τ sig) → Buf (Elt Ideal) ℓ)

/-- The hidden rows after the output projection. -/
theorem hid_at (v0 : Vec Ideal S768x1024 .f32) (v1 : Vec Ideal S768x1024 .bf16) (v2 : Vec Ideal S1x1024x1024 .bf16) (r : Fin 768) (j : Fin 1024) :
    k0_pay2 (F := Ideal) v0 v1 v2 (ix2 r j) = v0 (ix2 r j) + dot (fun k => v1 (ix2 r k)) (fun k l => v2 (ix3 0 k l)) j := by
  pointwise [k0_pay2, dot]

/-- The hidden rows normalised. -/
theorem norm_at (v0 : Vec Ideal S768x1024 .f32) (v1 : Vec Ideal S768x1024 .bf16) (v2 : Vec Ideal S1x1024x1024 .bf16) (v6 : Vec Ideal S1x1024 .f32) (r : Fin 768) (j : Fin 1024) :
    k0_pay3 (F := Ideal) v0 v1 v2 v6 (ix2 r j) = rms (fun k => k0_pay2 (F := Ideal) v0 v1 v2 (ix2 r k)) (fun k => v6 (ix2 0 k)) j := by
  pointwise [k0_pay3, rms, scale]

/-- The gated activation, written in four column stripes. -/
theorem scratch_at (v0 : Vec Ideal S768x1024 .f32) (v1 : Vec Ideal S768x1024 .bf16) (v2 : Vec Ideal S1x1024x1024 .bf16) (v6 : Vec Ideal S1x1024 .f32)
    (wg wu : Vec Ideal S1x1024x2816 .bf16) (r : Fin 768) (f : Fin 2816) :
    View.canon (Val := Elt Ideal) (e := .bf16) [⟨Rect.unit ![0, 2304] ![768, 512] inb_S768x2816_S768x512_0_2304,
              k0_pay12 (F := Ideal) (k0_pay3 v0 v1 v2 v6) (View.ld wg (Rect.unit ![0, 0, 2304] ![1, 1024, 512] inb_S1x1024x2816_S1x1024x512_0_0_2304))
                (View.ld wu (Rect.unit ![0, 0, 2304] ![1, 1024, 512] inb_S1x1024x2816_S1x1024x512_0_0_2304))⟩,
            ⟨Rect.unit ![0, 1536] ![768, 768] inb_S768x2816_S768x768_0_1536,
              k0_pay11 (F := Ideal) (k0_pay8 (k0_pay3 v0 v1 v2 v6) (View.ld wg (Rect.unit ![0, 0, 1536] ![1, 1024, 768] inb_S1x1024x2816_S1x1024x768_0_0_1536)))
                (k0_pay9 (k0_pay3 v0 v1 v2 v6) (View.ld wu (Rect.unit ![0, 0, 1536] ![1, 1024, 768] inb_S1x1024x2816_S1x1024x768_0_0_1536)))
                (k0_pay10 (k0_pay3 v0 v1 v2 v6) (View.ld wg (Rect.unit ![0, 0, 1536] ![1, 1024, 768] inb_S1x1024x2816_S1x1024x768_0_0_1536))) (FloatOps.ofBits FTy.f32 1065353216#32)⟩,
            ⟨Rect.unit ![0, 768] ![768, 768] inb_S768x2816_S768x768_0_768,
              k0_pay7 (F := Ideal) (k0_pay3 v0 v1 v2 v6) (View.ld wg (Rect.unit ![0, 0, 768] ![1, 1024, 768] inb_S1x1024x2816_S1x1024x768_0_0_768))
                (View.ld wu (Rect.unit ![0, 0, 768] ![1, 1024, 768] inb_S1x1024x2816_S1x1024x768_0_0_768))⟩,
            ⟨Rect.unit ![0, 0] ![768, 768] inb_S768x2816_S768x768_0_0,
              k0_pay6 (F := Ideal) (k0_pay4 v0 v1 v2 v6 (View.ld wu (Rect.unit ![0, 0, 0] ![1, 1024, 768] inb_S1x1024x2816_S1x1024x768_0_0_0)))
                (k0_pay5 v0 v1 v2 v6 (View.ld wg (Rect.unit ![0, 0, 0] ![1, 1024, 768] inb_S1x1024x2816_S1x1024x768_0_0_0)))⟩] (ix2 r f)
      = act (dot (fun k => k0_pay3 (F := Ideal) v0 v1 v2 v6 (ix2 r k)) (fun k f => wg (ix3 0 k f)) f)
          (dot (fun k => k0_pay3 (F := Ideal) v0 v1 v2 v6 (ix2 r k)) (fun k f => wu (ix3 0 k f)) f) := by
  refine stripes_at _ _ _ _ _ _ _ _ r f _ ?_ ?_ ?_ ?_ <;> intro g hg <;>
    pointwise [k0_pay12, k0_pay11, k0_pay10, k0_pay9, k0_pay8, k0_pay7, k0_pay4, k0_pay5, k0_pay6, act, dot] <;>
    simp only [zero_sub_eq, ← hg, Fin.eta]

/-- The last stage: half the activation's image is added. -/
theorem down_at (v5 : Vec Ideal S768x1024 .f32) (a : Vec Ideal S768x2816 .bf16) (wd : Vec Ideal S1x2816x1024 .bf16) (r : Fin 768) (j : Fin 1024) :
    k0_pay1 (F := Ideal) v5 (k0_pay13 a wd) (ix2 r j) = v5 (ix2 r j) + Ideal.ofBits .f32 0x3F000000#32 * dot (fun f => a (ix2 r f)) (fun f l => wd (ix3 0 f l)) j := by
  pointwise [k0_pay1, k0_pay13, dot]

/-- A row of the output block. -/
theorem outs_at (c : Dev nD) (t : Fin cfg0.N) (r : Fin 768) (j : Fin 1024) :
    outsAt0 m c t (ix2 r j) =
      ffn (fun j => k0_pay2 (F := Ideal) (iblk m c 0 t) (iblk m c 1 t) (iblk m c 2 t) (ix2 r j)) (fun k => iblk m c 3 t (ix2 0 k))
        (fun k f => iblk m c 4 t (ix3 0 k f)) (fun k f => iblk m c 5 t (ix3 0 k f)) (fun f j => iblk m c 6 t (ix3 0 f j)) j := by
  unfold outsAt0 out0_A_7
  rw [View.read_writes_eq_canon _ _ _ (cover0_A_7 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero (by decide), View.readCov_eq_canon']
  rw [View.ld_unit_zero (S := S768x1024) (by decide) _ (iblk m c 0 t), View.ld_unit_zero (S := S768x1024) (by decide) _ (iblk m c 1 t), View.ld_unit_zero (S := S1x1024x1024) (by decide) _ (iblk m c 2 t), View.ld_unit_zero (S := S1x1024) (by decide) _ (iblk m c 3 t), View.ld_unit_zero (S := S1x2816x1024) (by decide) _ (iblk m c 6 t)]
  generalize iblk m c 0 t = v0
  generalize iblk m c 1 t = v1
  generalize iblk m c 2 t = v2
  generalize iblk m c 3 t = v6
  generalize iblk m c 4 t = wg
  generalize iblk m c 5 t = wu
  generalize iblk m c 6 t = wd
  have hs := fun f => scratch_at v0 v1 v2 v6 wg wu r f
  simp only [norm_at] at hs
  rw [down_at]
  refine congrArg (fun x => k0_pay2 v0 v1 v2 (ix2 r j) + Ideal.ofBits .f32 0x3F000000#32 * dot x _ j) (funext fun f => ?_)
  rw [← hs f]
  pointwise

theorem idx : ∀ t : Fin cfg0.N, win0_0.index t = ![(grid0.coords t 0).val, 0] ∧ win0_1.index t = ![(grid0.coords t 0).val, 0] ∧ win0_2.index t = ![0, 0, 0]
    ∧ win0_3.index t = ![0, 0] ∧ win0_4.index t = ![0, 0, 0] ∧ win0_5.index t = ![0, 0, 0]
    ∧ win0_6.index t = ![0, 0, 0] ∧ win0_7.index t = ![(grid0.coords t 0).val, 0] := (by decide +kernel : ∀ t : Fin grid0.N, _)
theorem bounds : ∀ t : Fin cfg0.N, (grid0.coords t 0).val < 44 := (by decide +kernel : ∀ t : Fin grid0.N, _)

theorem blk0_at (c : Dev nD) (t : Fin cfg0.N) (r : Fin 768) (j : Fin 1024) (R : Fin 33792) (hR : (R : ℕ) = 768 * (grid0.coords t 0).val + r) :
    iblk m c 0 t (ix2 r j) = m ((c : Thread nD τ).loc main_arg0) (ix2 R j) := by
  have e := (idx t).1
  blk_ext! [iblk, V, e]
theorem blk1_at (c : Dev nD) (t : Fin cfg0.N) (r : Fin 768) (j : Fin 1024) (R : Fin 33792) (hR : (R : ℕ) = 768 * (grid0.coords t 0).val + r) :
    iblk m c 1 t (ix2 r j) = m ((c : Thread nD τ).loc main_arg1) (ix2 R j) := by
  have e := (idx t).2.1
  blk_ext! [iblk, V, e]
theorem blk2_at (c : Dev nD) (t : Fin cfg0.N) (k l : Fin 1024) : iblk m c 2 t (ix3 0 k l) = m ((c : Thread nD τ).loc main_arg2) (ix3 0 k l) := by
  have e := (idx t).2.2.1
  blk_ext! [iblk, V, e]
theorem blk3_at (c : Dev nD) (t : Fin cfg0.N) (k : Fin 1024) : iblk m c 3 t (ix2 0 k) = m ((c : Thread nD τ).loc main_arg3) (ix2 0 k) := by
  have e := (idx t).2.2.2.1
  blk_ext! [iblk, V, e]
theorem blk4_at (c : Dev nD) (t : Fin cfg0.N) (k : Fin 1024) (f : Fin 2816) : iblk m c 4 t (ix3 0 k f) = m ((c : Thread nD τ).loc main_arg4) (ix3 0 k f) := by
  have e := (idx t).2.2.2.2.1
  blk_ext! [iblk, V, e]
theorem blk5_at (c : Dev nD) (t : Fin cfg0.N) (k : Fin 1024) (f : Fin 2816) : iblk m c 5 t (ix3 0 k f) = m ((c : Thread nD τ).loc main_arg5) (ix3 0 k f) := by
  have e := (idx t).2.2.2.2.2.1
  blk_ext! [iblk, V, e]
theorem blk6_at (c : Dev nD) (t : Fin cfg0.N) (f : Fin 2816) (k : Fin 1024) : iblk m c 6 t (ix3 0 f k) = m ((c : Thread nD τ).loc main_arg6) (ix3 0 f k) := by
  have e := (idx t).2.2.2.2.2.2.1
  blk_ext! [iblk, V, e]

/-- A row of a block is the reference's row. -/
theorem row_eq (c : Dev nD) (t : Fin cfg0.N) (hb : (grid0.coords t 0).val < 44) (r : Fin 768) (j : Fin 1024) :
    outsAt0 m c t (ix2 r j) = Cert.PreRefIdeal.Read.val_main_v33 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (ix2 (n0 := 33792) (n1 := 1024) ⟨768 * (grid0.coords t 0).val + r, by omega⟩ j) := by
  have h0 := fun k => blk0_at m c t r k ⟨768 * (grid0.coords t 0).val + r, by omega⟩ rfl
  have h1 := fun k => blk1_at m c t r k ⟨768 * (grid0.coords t 0).val + r, by omega⟩ rfl
  rw [outs_at, Cert.PreRefIdeal.Rows.ffn_at]
  simp only [Cert.PreRefIdeal.Rows.hidden_at, hid_at, blk2_at, blk3_at, blk4_at, blk5_at, blk6_at, h0, h1]

/-- Every index of the result lies in a block that is written back. -/
theorem covers : (cfg0.win 7).Covers := by decide +kernel

/-- The result array is the reference of the arguments. -/
theorem arr_eq (c : Dev nD) : (dats m 0 c).arrAt 7 cfg0.N = Cert.PreRefIdeal.Read.val_main_v33 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ covers fun t hf y => ?_
  have hb := bounds t
  obtain ⟨r, j, rfl⟩ : ∃ (r : Fin 768) (j : Fin 1024), y = ix2 r j := ⟨y 0, y 1, eq_ix2 y⟩
  have hemb : ((cfg0.win 7).blk t).view.emb (ix2 r j) = ix2 (n0 := 33792) (n1 := 1024) ⟨768 * (grid0.coords t 0).val + r, by omega⟩ j := by
    blk_ext [(idx t).2.2.2.2.2.2.2]
  rw [hemb, ← row_eq m c t hb r j, after0_7]
  generalize outsAt0 m c t = F
  rfl

end Cert.PreFfnIdeal.Rows
-- ==== Proof.Ffn.PreClaim.lean ====
module

public import proofs.«01_k».proof.Defs
public import proofs.«01_k».proof.Proof.Gen.PreRefIdeal.Run
public import proofs.«01_k».proof.Proof.Ffn.Pre
public import Idealize.ShloMosaic.Lib.Claim

@[expose] public section

noncomputable section

namespace Cert.Ffn

open Idealize.ShloMosaic Idealize.SL.Sem

/-- The last feed-forward call of a layer computes its reference. -/
theorem pre : Cert.algebraic_PreFfnIdeal_PreRefIdeal (hPreFfnIdeal := Cert.PreFfnIdeal.Gen.facts) (hPreRefIdeal := Cert.PreRefIdeal.Gen.facts) := by
  pair_intro
  · run_from Cert.PreFfnIdeal.Value.run_blocks m g
  · run_from Cert.PreRefIdeal.Value.run m' g'
    obtain ⟨h0, h1, h2, h3, h4, h5, h6⟩ := hagree c
    refine (Cert.PreRefIdeal.Read.val_main_v33_eq m' c).trans ?_
    rw [h0, h1, h2, h3, h4, h5, h6]
    exact (Cert.PreFfnIdeal.Rows.arr_eq m c).symm

end Cert.Ffn
-- ==== Proof.Ffn.PostRef.lean ====
module

public import proofs.«01_k».proof.Proof.Gen.PostRefIdeal.Read
public import proofs.«01_k».proof.Proof.Ffn.Row

@[expose] public section

/-! The reference of the first feed-forward call of a layer, read row by row. -/

set_option maxRecDepth 16384

noncomputable section

namespace Cert.PostRefIdeal.Rows

open Cert.PostRefIdeal Cert.PostRefIdeal.Read Idealize.ShloMosaic Cert.Ffn

variable (x0 : (⟨S33792x1024, .f32⟩ : BufTy).Contents (Elt Ideal))
  (x1 : (⟨S4x1024, .f32⟩ : BufTy).Contents (Elt Ideal))
  (x2 x3 : (⟨S4x1024x2816, .f32⟩ : BufTy).Contents (Elt Ideal)) (x4 : (⟨S4x2816x1024, .f32⟩ : BufTy).Contents (Elt Ideal))
  (x5 : (⟨S4x1024, .f32⟩ : BufTy).Contents (Elt Ideal)) (x6 : (⟨S4x1024x2688, .f32⟩ : BufTy).Contents (Elt Ideal)) (r : Fin 33792)

/-- The hidden row normalised. -/
theorem normed_at (j : Fin 1024) : val_main_v14 (F := Ideal) x0 x1 (ix2 r j)
    = rms (fun k => x0 (ix2 r k)) (fun k => x1 (ix2 1 k)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, rms, scale]

/-- The gated activation. -/
theorem act_at (f : Fin 2816) : val_main_v24 (F := Ideal) x0 x1 x2 x3 (ix2 r f)
    = act (dot (fun k => val_main_v14 (F := Ideal) x0 x1 (ix2 r k)) (fun k f => x2 (ix3 1 k f)) f)
        (dot (fun k => val_main_v14 (F := Ideal) x0 x1 (ix2 r k)) (fun k f => x3 (ix3 1 k f)) f) := by
  pointwise [val_main_v24, val_main_v23, val_main_v22, val_main_v21, val_main_v20, val_main_v19, val_main_v18, val_main_v17, val_main_v16, val_main_v15, val_main_call0_v5, val_main_call0_v4, val_main_call0_v3, val_main_call0_v2, val_main_call0_v1,
    val_main_call0_v0, val_main_call0_cst, val_main_call0_cst_0, act, dot]

/-- The hidden row after the feed-forward layer. -/
theorem ffn_at (j : Fin 1024) : val_main_v28 (F := Ideal) x0 x1 x2 x3 x4 (ix2 r j)
    = ffn (fun k => x0 (ix2 r k)) (fun k => x1 (ix2 1 k)) (fun k f => x2 (ix3 1 k f))
        (fun k f => x3 (ix3 1 k f)) (fun f l => x4 (ix3 1 f l)) j := by
  have ha := fun f => act_at x0 x1 x2 x3 r f
  simp only [normed_at] at ha
  pointwise [val_main_v28, val_main_v27, val_main_v26, val_main_v25, val_main_v20, val_main_v19, val_main_cst_2, ha]
  rfl

/-- The new hidden row normalised for the mixer. -/
theorem mixed_at (j : Fin 1024) : val_main_v43 (F := Ideal) x0 x1 x2 x3 x4 x5 (ix2 r j)
    = rms (fun k => val_main_v28 (F := Ideal) x0 x1 x2 x3 x4 (ix2 r k)) (fun k => x5 (ix2 1 k)) j := by
  pointwise [val_main_v43, val_main_v42, val_main_v41, val_main_v40, val_main_v39, val_main_v38, val_main_v37, val_main_v36, val_main_v35, val_main_v34, val_main_v33, val_main_v32, val_main_v31, val_main_v30, val_main_v29, val_main_cst_3, val_main_cst_4, val_main_cst_5, rms, scale]

/-- Columns 0 to 384 of the input projection. -/
theorem proj0_at (j : Fin 384) : val_main_v47 (F := Ideal) x0 x1 x2 x3 x4 x5 x6 (ix2 r j)
    = dot (fun k => val_main_v43 (F := Ideal) x0 x1 x2 x3 x4 x5 (ix2 r k)) (fun k l => x6 (ix3 1 k l)) (⟨0 + j, by omega⟩ : Fin 2688) := by
  pointwise [val_main_v47, val_main_v46, val_main_v45, val_main_v44, dot]

/-- Columns 384 to 1536 of the input projection. -/
theorem proj1_at (j : Fin 1152) : val_main_v49 (F := Ideal) x0 x1 x2 x3 x4 x5 x6 (ix2 r j)
    = dot (fun k => val_main_v43 (F := Ideal) x0 x1 x2 x3 x4 x5 (ix2 r k)) (fun k l => x6 (ix3 1 k l)) (⟨384 + j, by omega⟩ : Fin 2688) := by
  pointwise [val_main_v49, val_main_v48, val_main_v46, val_main_v45, val_main_v44, dot]

/-- Columns 1536 to 2176 of the input projection. -/
theorem proj2_at (j : Fin 640) : val_main_v51 (F := Ideal) x0 x1 x2 x3 x4 x5 x6 (ix2 r j)
    = dot (fun k => val_main_v43 (F := Ideal) x0 x1 x2 x3 x4 x5 (ix2 r k)) (fun k l => x6 (ix3 1 k l)) (⟨1536 + j, by omega⟩ : Fin 2688) := by
  pointwise [val_main_v51, val_main_v50, val_main_v46, val_main_v45, val_main_v44, dot]

/-- Columns 2176 to 2688 of the input projection. -/
theorem proj3_at (j : Fin 512) : val_main_v53 (F := Ideal) x0 x1 x2 x3 x4 x5 x6 (ix2 r j)
    = dot (fun k => val_main_v43 (F := Ideal) x0 x1 x2 x3 x4 x5 (ix2 r k)) (fun k l => x6 (ix3 1 k l)) (⟨2176 + j, by omega⟩ : Fin 2688) := by
  pointwise [val_main_v53, val_main_v52, val_main_v46, val_main_v45, val_main_v44, dot]

end Cert.PostRefIdeal.Rows
-- ==== Proof.Ffn.Post.lean ====
module

public import proofs.«01_k».proof.Proof.Gen.PostFfnIdeal.Value
public import proofs.«01_k».proof.Proof.Ffn.Row
public import proofs.«01_k».proof.Proof.Ffn.Cols
public import proofs.«01_k».proof.Proof.Ffn.PostRef
public import Idealize.ShloMosaic.Lib.Pipeline.ValueKit

@[expose] public section

set_option maxRecDepth 16384
noncomputable section

/-! The first feed-forward call of a layer: what each grid point leaves in its output blocks, row by row. -/

namespace Cert.PostFfnIdeal.Rows

open Cert.PostFfnIdeal Cert.PostFfnIdeal.Gen Idealize.ShloMosaic Idealize.ShloMosaic.TcCoe Idealize.SL.Sem Idealize.ShloMosaic.Tactic Cert.Ffn

variable (m : (ℓ : Loc nD τ sig) → Buf (Elt Ideal) ℓ)

/-- The hidden rows normalised. -/
theorem norm_at (v0 : Vec Ideal S768x1024 .f32) (g : Vec Ideal S1x1024 .f32) (r : Fin 768) (j : Fin 1024) :
    (k0_pay1 (F := Ideal) v0 g) (ix2 r j) = rms (fun k => v0 (ix2 r k)) (fun k => g (ix2 0 k)) j := by
  pointwise [k0_pay1, rms, scale]

/-- The gated activation, written in four column stripes. -/
theorem scratch_at (v0 : Vec Ideal S768x1024 .f32) (g : Vec Ideal S1x1024 .f32) (wg wu : Vec Ideal S1x1024x2816 .bf16) (r : Fin 768) (f : Fin 2816) :
    View.canon (Val := Elt Ideal) (e := .bf16) [⟨Rect.unit ![0, 2304] ![768, 512] inb_S768x2816_S768x512_0_2304,
              k0_pay6 (F := Ideal) (k0_pay1 v0 g) (View.ld wg (Rect.unit ![0, 0, 2304] ![1, 1024, 512] inb_S1x1024x2816_S1x1024x512_0_0_2304))
                (View.ld wu (Rect.unit ![0, 0, 2304] ![1, 1024, 512] inb_S1x1024x2816_S1x1024x512_0_0_2304))⟩,
            ⟨Rect.unit ![0, 1536] ![768, 768] inb_S768x2816_S768x768_0_1536,
              k0_pay5 (F := Ideal) (k0_pay4 (k0_pay1 v0 g) (View.ld wg (Rect.unit ![0, 0, 1536] ![1, 1024, 768] inb_S1x1024x2816_S1x1024x768_0_0_1536))
                (View.ld wu (Rect.unit ![0, 0, 1536] ![1, 1024, 768] inb_S1x1024x2816_S1x1024x768_0_0_1536)))⟩,
            ⟨Rect.unit ![0, 768] ![768, 768] inb_S768x2816_S768x768_0_768,
              k0_pay3 (F := Ideal) (k0_pay1 v0 g) (View.ld wg (Rect.unit ![0, 0, 768] ![1, 1024, 768] inb_S1x1024x2816_S1x1024x768_0_0_768))
                (View.ld wu (Rect.unit ![0, 0, 768] ![1, 1024, 768] inb_S1x1024x2816_S1x1024x768_0_0_768))⟩,
            ⟨Rect.unit ![0, 0] ![768, 768] inb_S768x2816_S768x768_0_0,
              k0_pay2 (F := Ideal) v0 g (View.ld wg (Rect.unit ![0, 0, 0] ![1, 1024, 768] inb_S1x1024x2816_S1x1024x768_0_0_0))
                (View.ld wu (Rect.unit ![0, 0, 0] ![1, 1024, 768] inb_S1x1024x2816_S1x1024x768_0_0_0))⟩] (ix2 r f)
      = act (dot (fun k => (k0_pay1 (F := Ideal) v0 g) (ix2 r k)) (fun k f => wg (ix3 0 k f)) f)
          (dot (fun k => (k0_pay1 (F := Ideal) v0 g) (ix2 r k)) (fun k f => wu (ix3 0 k f)) f) := by
  refine stripes_at _ _ _ _ _ _ _ _ r f _ ?_ ?_ ?_ ?_ <;> intro q hq <;>
    pointwise [k0_pay6, k0_pay5, k0_pay4, k0_pay3, k0_pay2, act, dot] <;>
    simp only [zero_sub_eq, ← hq, Fin.eta]

/-- Half the activation's image is added to the hidden rows. -/
theorem down_at (h : Vec Ideal S768x1024 .f32) (a : Vec Ideal S768x2816 .bf16) (wd : Vec Ideal S1x2816x1024 .bf16) (r : Fin 768) (j : Fin 1024) :
    k0_pay7 (F := Ideal) h a wd (ix2 r j) = h (ix2 r j) + Ideal.ofBits .f32 0x3F000000#32 * dot (fun f => a (ix2 r f)) (fun f l => wd (ix3 0 f l)) j := by
  pointwise [k0_pay7, dot]

/-- Output 1 is the new hidden rows normalised times its columns of the projection. -/
theorem proj0_at (h : Vec Ideal S768x1024 .f32) (a : Vec Ideal S768x2816 .bf16) (wd : Vec Ideal S1x2816x1024 .bf16) (g2 : Vec Ideal S1x1024 .f32) (w : Vec Ideal S1x1024x384 .bf16)
    (r : Fin 768) (j : Fin 384) :
    k0_pay11 (F := Ideal) (k0_pay7 h a wd) (k0_pay8 g2) (k0_pay9 h a wd) w (ix2 r j) = dot (rms (fun k => k0_pay7 (F := Ideal) h a wd (ix2 r k)) (fun k => g2 (ix2 0 k))) (fun k l => w (ix3 0 k l)) j := by
  pointwise [k0_pay11, k0_pay10, k0_pay9, k0_pay8, rms, scale, dot]

/-- Output 2 is the new hidden rows normalised times its columns of the projection. -/
theorem proj1_at (h : Vec Ideal S768x1024 .f32) (a : Vec Ideal S768x2816 .bf16) (wd : Vec Ideal S1x2816x1024 .bf16) (g2 : Vec Ideal S1x1024 .f32) (w : Vec Ideal S1x1024x1152 .bf16)
    (r : Fin 768) (j : Fin 1152) :
    k0_pay12 (F := Ideal) (k0_pay7 h a wd) (k0_pay8 g2) (k0_pay9 h a wd) w (ix2 r j) = dot (rms (fun k => k0_pay7 (F := Ideal) h a wd (ix2 r k)) (fun k => g2 (ix2 0 k))) (fun k l => w (ix3 0 k l)) j := by
  pointwise [k0_pay12, k0_pay10, k0_pay9, k0_pay8, rms, scale, dot]

/-- Output 3 is the new hidden rows normalised times its columns of the projection. -/
theorem proj2_at (h : Vec Ideal S768x1024 .f32) (a : Vec Ideal S768x2816 .bf16) (wd : Vec Ideal S1x2816x1024 .bf16) (g2 : Vec Ideal S1x1024 .f32) (w : Vec Ideal S1x1024x640 .bf16)
    (r : Fin 768) (j : Fin 640) :
    k0_pay13 (F := Ideal) (k0_pay7 h a wd) (k0_pay8 g2) (k0_pay9 h a wd) w (ix2 r j) = dot (rms (fun k => k0_pay7 (F := Ideal) h a wd (ix2 r k)) (fun k => g2 (ix2 0 k))) (fun k l => w (ix3 0 k l)) j := by
  pointwise [k0_pay13, k0_pay10, k0_pay9, k0_pay8, rms, scale, dot]

/-- Output 4 is the new hidden rows normalised times its columns of the projection. -/
theorem proj3_at (h : Vec Ideal S768x1024 .f32) (a : Vec Ideal S768x2816 .bf16) (wd : Vec Ideal S1x2816x1024 .bf16) (g2 : Vec Ideal S1x1024 .f32) (w : Vec Ideal S1x1024x512 .bf16)
    (r : Fin 768) (j : Fin 512) :
    k0_pay14 (F := Ideal) (k0_pay7 h a wd) (k0_pay8 g2) (k0_pay9 h a wd) w (ix2 r j) = dot (rms (fun k => k0_pay7 (F := Ideal) h a wd (ix2 r k)) (fun k => g2 (ix2 0 k))) (fun k l => w (ix3 0 k l)) j := by
  pointwise [k0_pay14, k0_pay10, k0_pay9, k0_pay8, rms, scale, dot]

/-- Output 1 of a row whose activation is the gated one. -/
theorem proj0_row (h : Vec Ideal S768x1024 .f32) (a : Vec Ideal S768x2816 .bf16) (wd : Vec Ideal S1x2816x1024 .bf16) (g2 : Vec Ideal S1x1024 .f32) (w : Vec Ideal S1x1024x384 .bf16)
    (g : Fin 1024 → EReal) (wg wu : Fin 1024 → Fin 2816 → EReal) (r : Fin 768) (j : Fin 384)
    (ha : ∀ f, a (ix2 r f) = act (dot (rms (fun k => h (ix2 r k)) g) wg f) (dot (rms (fun k => h (ix2 r k)) g) wu f)) :
    k0_pay11 (F := Ideal) (k0_pay7 h a wd) (k0_pay8 g2) (k0_pay9 h a wd) w (ix2 r j) = dot (rms (ffn (fun k => h (ix2 r k)) g wg wu (fun f l => wd (ix3 0 f l))) (fun k => g2 (ix2 0 k))) (fun k l => w (ix3 0 k l)) j := by
  rw [proj0_at]
  refine congrArg (fun y => dot (rms y _) _ j) (funext fun l => ?_)
  rw [down_at]
  simp only [ha]
  rfl

/-- Output 2 of a row whose activation is the gated one. -/
theorem proj1_row (h : Vec Ideal S768x1024 .f32) (a : Vec Ideal S768x2816 .bf16) (wd : Vec Ideal S1x2816x1024 .bf16) (g2 : Vec Ideal S1x1024 .f32) (w : Vec Ideal S1x1024x1152 .bf16)
    (g : Fin 1024 → EReal) (wg wu : Fin 1024 → Fin 2816 → EReal) (r : Fin 768) (j : Fin 1152)
    (ha : ∀ f, a (ix2 r f) = act (dot (rms (fun k => h (ix2 r k)) g) wg f) (dot (rms (fun k => h (ix2 r k)) g) wu f)) :
    k0_pay12 (F := Ideal) (k0_pay7 h a wd) (k0_pay8 g2) (k0_pay9 h a wd) w (ix2 r j) = dot (rms (ffn (fun k => h (ix2 r k)) g wg wu (fun f l => wd (ix3 0 f l))) (fun k => g2 (ix2 0 k))) (fun k l => w (ix3 0 k l)) j := by
  rw [proj1_at]
  refine congrArg (fun y => dot (rms y _) _ j) (funext fun l => ?_)
  rw [down_at]
  simp only [ha]
  rfl

/-- Output 3 of a row whose activation is the gated one. -/
theorem proj2_row (h : Vec Ideal S768x1024 .f32) (a : Vec Ideal S768x2816 .bf16) (wd : Vec Ideal S1x2816x1024 .bf16) (g2 : Vec Ideal S1x1024 .f32) (w : Vec Ideal S1x1024x640 .bf16)
    (g : Fin 1024 → EReal) (wg wu : Fin 1024 → Fin 2816 → EReal) (r : Fin 768) (j : Fin 640)
    (ha : ∀ f, a (ix2 r f) = act (dot (rms (fun k => h (ix2 r k)) g) wg f) (dot (rms (fun k => h (ix2 r k)) g) wu f)) :
    k0_pay13 (F := Ideal) (k0_pay7 h a wd) (k0_pay8 g2) (k0_pay9 h a wd) w (ix2 r j) = dot (rms (ffn (fun k => h (ix2 r k)) g wg wu (fun f l => wd (ix3 0 f l))) (fun k => g2 (ix2 0 k))) (fun k l => w (ix3 0 k l)) j := by
  rw [proj2_at]
  refine congrArg (fun y => dot (rms y _) _ j) (funext fun l => ?_)
  rw [down_at]
  simp only [ha]
  rfl

/-- Output 4 of a row whose activation is the gated one. -/
theorem proj3_row (h : Vec Ideal S768x1024 .f32) (a : Vec Ideal S768x2816 .bf16) (wd : Vec Ideal S1x2816x1024 .bf16) (g2 : Vec Ideal S1x1024 .f32) (w : Vec Ideal S1x1024x512 .bf16)
    (g : Fin 1024 → EReal) (wg wu : Fin 1024 → Fin 2816 → EReal) (r : Fin 768) (j : Fin 512)
    (ha : ∀ f, a (ix2 r f) = act (dot (rms (fun k => h (ix2 r k)) g) wg f) (dot (rms (fun k => h (ix2 r k)) g) wu f)) :
    k0_pay14 (F := Ideal) (k0_pay7 h a wd) (k0_pay8 g2) (k0_pay9 h a wd) w (ix2 r j) = dot (rms (ffn (fun k => h (ix2 r k)) g wg wu (fun f l => wd (ix3 0 f l))) (fun k => g2 (ix2 0 k))) (fun k l => w (ix3 0 k l)) j := by
  rw [proj3_at]
  refine congrArg (fun y => dot (rms y _) _ j) (funext fun l => ?_)
  rw [down_at]
  simp only [ha]
  rfl

/-- A row of output 0. -/
theorem outs0_at (c : Dev nD) (t : Fin cfg0.N) (r : Fin 768) (j : Fin 1024) :
    (outsAt0 m c t).1 (ix2 r j) =
      ffn (fun j => iblk m c 0 t (ix2 r j)) (fun k => iblk m c 1 t (ix2 0 k))
        (fun k f => iblk m c 2 t (ix3 0 k f)) (fun k f => iblk m c 3 t (ix3 0 k f)) (fun f j => iblk m c 4 t (ix3 0 f j)) j := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero (by decide), View.readCov_eq_canon']
  rw [View.ld_unit_zero (S := S768x1024) (by decide) _ (iblk m c 0 t), View.ld_unit_zero (S := S1x1024) (by decide) _ (iblk m c 1 t), View.ld_unit_zero (S := S1x2816x1024) (by decide) _ (iblk m c 4 t)]
  generalize iblk m c 0 t = v0
  generalize iblk m c 1 t = g
  generalize iblk m c 2 t = wg
  generalize iblk m c 3 t = wu
  generalize iblk m c 4 t = wd
  have hs := fun f => scratch_at v0 g wg wu r f
  simp only [norm_at] at hs
  rw [down_at]
  refine congrArg (fun y => (show EReal from v0 (ix2 r j)) + Ideal.ofBits .f32 0x3F000000#32 * dot y _ j) (funext fun f => ?_)
  rw [← hs f]
  pointwise

/-- A row of output 1. -/
theorem outs1_at (c : Dev nD) (t : Fin cfg0.N) (r : Fin 768) (j : Fin 384) :
    (outsAt0 m c t).2.1 (ix2 r j) =
      dot (rms (ffn (fun j => iblk m c 0 t (ix2 r j)) (fun k => iblk m c 1 t (ix2 0 k))
        (fun k f => iblk m c 2 t (ix3 0 k f)) (fun k f => iblk m c 3 t (ix3 0 k f)) (fun f j => iblk m c 4 t (ix3 0 f j))) (fun k => iblk m c 5 t (ix2 0 k))) (fun k l => iblk m c 6 t (ix3 0 k l)) (⟨0 + j, by omega⟩ : Fin 2688) := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero (by decide), View.readCov_eq_canon']
  rw [View.ld_unit_zero (S := S768x1024) (by decide) _ (iblk m c 0 t), View.ld_unit_zero (S := S1x1024) (by decide) _ (iblk m c 1 t), View.ld_unit_zero (S := S1x2816x1024) (by decide) _ (iblk m c 4 t), View.ld_unit_zero (S := S1x1024) (by decide) _ (iblk m c 5 t)]
  generalize iblk m c 0 t = v0
  generalize iblk m c 1 t = g
  generalize iblk m c 2 t = wg
  generalize iblk m c 3 t = wu
  generalize iblk m c 4 t = wd
  generalize iblk m c 5 t = g2
  generalize iblk m c 6 t = w
  have hs := fun f => scratch_at v0 g wg wu r f
  simp only [norm_at] at hs
  refine (proj0_row _ _ _ _ _ (fun k => g (ix2 0 k)) (fun k f => wg (ix3 0 k f)) (fun k f => wu (ix3 0 k f)) r j fun f => ?_).trans ?_
  · rw [← hs f]
    pointwise
  · pointwise [dot]

/-- A row of output 2. -/
theorem outs2_at (c : Dev nD) (t : Fin cfg0.N) (r : Fin 768) (j : Fin 1152) :
    (outsAt0 m c t).2.2.1 (ix2 r j) =
      dot (rms (ffn (fun j => iblk m c 0 t (ix2 r j)) (fun k => iblk m c 1 t (ix2 0 k))
        (fun k f => iblk m c 2 t (ix3 0 k f)) (fun k f => iblk m c 3 t (ix3 0 k f)) (fun f j => iblk m c 4 t (ix3 0 f j))) (fun k => iblk m c 5 t (ix2 0 k))) (fun k l => iblk m c 6 t (ix3 0 k l)) (⟨384 + j, by omega⟩ : Fin 2688) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero (by decide), View.readCov_eq_canon']
  rw [View.ld_unit_zero (S := S768x1024) (by decide) _ (iblk m c 0 t), View.ld_unit_zero (S := S1x1024) (by decide) _ (iblk m c 1 t), View.ld_unit_zero (S := S1x2816x1024) (by decide) _ (iblk m c 4 t), View.ld_unit_zero (S := S1x1024) (by decide) _ (iblk m c 5 t)]
  generalize iblk m c 0 t = v0
  generalize iblk m c 1 t = g
  generalize iblk m c 2 t = wg
  generalize iblk m c 3 t = wu
  generalize iblk m c 4 t = wd
  generalize iblk m c 5 t = g2
  generalize iblk m c 6 t = w
  have hs := fun f => scratch_at v0 g wg wu r f
  simp only [norm_at] at hs
  refine (proj1_row _ _ _ _ _ (fun k => g (ix2 0 k)) (fun k f => wg (ix3 0 k f)) (fun k f => wu (ix3 0 k f)) r j fun f => ?_).trans ?_
  · rw [← hs f]
    pointwise
  · pointwise [dot]

/-- A row of output 3. -/
theorem outs3_at (c : Dev nD) (t : Fin cfg0.N) (r : Fin 768) (j : Fin 640) :
    (outsAt0 m c t).2.2.2.1 (ix2 r j) =
      dot (rms (ffn (fun j => iblk m c 0 t (ix2 r j)) (fun k => iblk m c 1 t (ix2 0 k))
        (fun k f => iblk m c 2 t (ix3 0 k f)) (fun k f => iblk m c 3 t (ix3 0 k f)) (fun f j => iblk m c 4 t (ix3 0 f j))) (fun k => iblk m c 5 t (ix2 0 k))) (fun k l => iblk m c 6 t (ix3 0 k l)) (⟨1536 + j, by omega⟩ : Fin 2688) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero (by decide), View.readCov_eq_canon']
  rw [View.ld_unit_zero (S := S768x1024) (by decide) _ (iblk m c 0 t), View.ld_unit_zero (S := S1x1024) (by decide) _ (iblk m c 1 t), View.ld_unit_zero (S := S1x2816x1024) (by decide) _ (iblk m c 4 t), View.ld_unit_zero (S := S1x1024) (by decide) _ (iblk m c 5 t)]
  generalize iblk m c 0 t = v0
  generalize iblk m c 1 t = g
  generalize iblk m c 2 t = wg
  generalize iblk m c 3 t = wu
  generalize iblk m c 4 t = wd
  generalize iblk m c 5 t = g2
  generalize iblk m c 6 t = w
  have hs := fun f => scratch_at v0 g wg wu r f
  simp only [norm_at] at hs
  refine (proj2_row _ _ _ _ _ (fun k => g (ix2 0 k)) (fun k f => wg (ix3 0 k f)) (fun k f => wu (ix3 0 k f)) r j fun f => ?_).trans ?_
  · rw [← hs f]
    pointwise
  · pointwise [dot]

/-- A row of output 4. -/
theorem outs4_at (c : Dev nD) (t : Fin cfg0.N) (r : Fin 768) (j : Fin 512) :
    (outsAt0 m c t).2.2.2.2 (ix2 r j) =
      dot (rms (ffn (fun j => iblk m c 0 t (ix2 r j)) (fun k => iblk m c 1 t (ix2 0 k))
        (fun k f => iblk m c 2 t (ix3 0 k f)) (fun k f => iblk m c 3 t (ix3 0 k f)) (fun f j => iblk m c 4 t (ix3 0 f j))) (fun k => iblk m c 5 t (ix2 0 k))) (fun k l => iblk m c 6 t (ix3 0 k l)) (⟨2176 + j, by omega⟩ : Fin 2688) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rw [View.canon_unit_zero (by decide), View.readCov_eq_canon']
  rw [View.ld_unit_zero (S := S768x1024) (by decide) _ (iblk m c 0 t), View.ld_unit_zero (S := S1x1024) (by decide) _ (iblk m c 1 t), View.ld_unit_zero (S := S1x2816x1024) (by decide) _ (iblk m c 4 t), View.ld_unit_zero (S := S1x1024) (by decide) _ (iblk m c 5 t)]
  generalize iblk m c 0 t = v0
  generalize iblk m c 1 t = g
  generalize iblk m c 2 t = wg
  generalize iblk m c 3 t = wu
  generalize iblk m c 4 t = wd
  generalize iblk m c 5 t = g2
  generalize iblk m c 6 t = w
  have hs := fun f => scratch_at v0 g wg wu r f
  simp only [norm_at] at hs
  refine (proj3_row _ _ _ _ _ (fun k => g (ix2 0 k)) (fun k f => wg (ix3 0 k f)) (fun k f => wu (ix3 0 k f)) r j fun f => ?_).trans ?_
  · rw [← hs f]
    pointwise
  · pointwise [dot]

theorem idx : ∀ t : Fin cfg0.N, win0_0.index t = ![(grid0.coords t 0).val, 0]
    ∧ win0_1.index t = ![0, 0]
    ∧ win0_2.index t = ![1, 0, 0]
    ∧ win0_3.index t = ![1, 0, 0]
    ∧ win0_4.index t = ![1, 0, 0]
    ∧ win0_5.index t = ![0, 0]
    ∧ win0_6.index t = ![1, 0, 0]
    ∧ win0_7.index t = ![(grid0.coords t 0).val, 0]
    ∧ win0_8.index t = ![(grid0.coords t 0).val, 0]
    ∧ win0_9.index t = ![(grid0.coords t 0).val, 0]
    ∧ win0_10.index t = ![(grid0.coords t 0).val, 0]
    ∧ win0_11.index t = ![(grid0.coords t 0).val, 0] := (by decide +kernel : ∀ t : Fin grid0.N, _)
theorem bounds : ∀ t : Fin cfg0.N, (grid0.coords t 0).val < 44 := (by decide +kernel : ∀ t : Fin grid0.N, _)

theorem blk0_at (c : Dev nD) (t : Fin cfg0.N) (r : Fin 768) (j : Fin 1024) (R : Fin 33792) (hR : (R : ℕ) = 768 * (grid0.coords t 0).val + r) :
    iblk m c 0 t (ix2 r j) = m ((c : Thread nD τ).loc main_arg0) (ix2 R j) := by
  have e := (idx t).1
  blk_ext! [iblk, V, e]
theorem blk1_at (c : Dev nD) (t : Fin cfg0.N) (k : Fin 1024) : iblk m c 1 t (ix2 0 k) = m ((c : Thread nD τ).loc main_arg1) (ix2 1 k) := by
  have e := (idx t).2.1
  blk_ext! [iblk, V, e]
theorem blk2_at (c : Dev nD) (t : Fin cfg0.N) (k : Fin 1024) (f : Fin 2816) : iblk m c 2 t (ix3 0 k f) = m ((c : Thread nD τ).loc main_arg2) (ix3 1 k f) := by
  have e := (idx t).2.2.1
  blk_ext! [iblk, V, e]
theorem blk3_at (c : Dev nD) (t : Fin cfg0.N) (k : Fin 1024) (f : Fin 2816) : iblk m c 3 t (ix3 0 k f) = m ((c : Thread nD τ).loc main_arg3) (ix3 1 k f) := by
  have e := (idx t).2.2.2.1
  blk_ext! [iblk, V, e]
theorem blk4_at (c : Dev nD) (t : Fin cfg0.N) (k : Fin 2816) (f : Fin 1024) : iblk m c 4 t (ix3 0 k f) = m ((c : Thread nD τ).loc main_arg4) (ix3 1 k f) := by
  have e := (idx t).2.2.2.2.1
  blk_ext! [iblk, V, e]
theorem blk5_at (c : Dev nD) (t : Fin cfg0.N) (k : Fin 1024) : iblk m c 5 t (ix2 0 k) = m ((c : Thread nD τ).loc main_arg5) (ix2 1 k) := by
  have e := (idx t).2.2.2.2.2.1
  blk_ext! [iblk, V, e]
theorem blk6_at (c : Dev nD) (t : Fin cfg0.N) (k : Fin 1024) (f : Fin 2688) : iblk m c 6 t (ix3 0 k f) = m ((c : Thread nD τ).loc main_arg6) (ix3 1 k f) := by
  have e := (idx t).2.2.2.2.2.2.1
  blk_ext! [iblk, V, e]

/-- A row of output 0 is the reference's row. -/
theorem row0_eq (c : Dev nD) (t : Fin cfg0.N) (hb : (grid0.coords t 0).val < 44) (r : Fin 768) (j : Fin 1024) :
    (outsAt0 m c t).1 (ix2 r j) = Cert.PostRefIdeal.Read.val_main_v28 (F := Ideal)
    (m ((c : Thread nD τ).loc main_arg0)) (m ((c : Thread nD τ).loc main_arg1)) (m ((c : Thread nD τ).loc main_arg2)) (m ((c : Thread nD τ).loc main_arg3)) (m ((c : Thread nD τ).loc main_arg4))
    (ix2 (n0 := 33792) (n1 := 1024) ⟨768 * (grid0.coords t 0).val + r, by omega⟩ j) := by
  have h0 := fun k => blk0_at m c t r k ⟨768 * (grid0.coords t 0).val + r, by omega⟩ rfl
  rw [outs0_at, Cert.PostRefIdeal.Rows.ffn_at]
  simp only [blk1_at, blk2_at, blk3_at, blk4_at, h0]

theorem covers0 : (cfg0.win 7).Covers := by decide +kernel

/-- Output 0 is the reference of the arguments. -/
theorem arr0_eq (c : Dev nD) : (dats m 0 c).arrAt 7 cfg0.N = Cert.PostRefIdeal.Read.val_main_v28 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ covers0 fun t hf y => ?_
  have hb := bounds t
  obtain ⟨r, j, rfl⟩ : ∃ (r : Fin 768) (j : Fin 1024), y = ix2 r j := ⟨y 0, y 1, eq_ix2 y⟩
  have hemb : ((cfg0.win 7).blk t).view.emb (ix2 r j) = ix2 (n0 := 33792) (n1 := 1024) ⟨768 * (grid0.coords t 0).val + r, by omega⟩ j := by
    blk_ext [(idx t).2.2.2.2.2.2.2.1]
  rw [hemb, ← row0_eq m c t hb r j, after0_7]
  generalize (outsAt0 m c t).1 = F
  rfl

/-- A row of output 1 is the reference's row. -/
theorem row1_eq (c : Dev nD) (t : Fin cfg0.N) (hb : (grid0.coords t 0).val < 44) (r : Fin 768) (j : Fin 384) :
    (outsAt0 m c t).2.1 (ix2 r j) = Cert.PostRefIdeal.Read.val_main_v47 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (ix2 (n0 := 33792) (n1 := 384) ⟨768 * (grid0.coords t 0).val + r, by omega⟩ j) := by
  have h0 := fun k => blk0_at m c t r k ⟨768 * (grid0.coords t 0).val + r, by omega⟩ rfl
  rw [outs1_at, Cert.PostRefIdeal.Rows.proj0_at]
  simp only [Cert.PostRefIdeal.Rows.mixed_at, Cert.PostRefIdeal.Rows.ffn_at, blk1_at, blk2_at, blk3_at, blk4_at, blk5_at, blk6_at, h0]

theorem covers1 : (cfg0.win 8).Covers := by decide +kernel

/-- Output 1 is the reference of the arguments. -/
theorem arr1_eq (c : Dev nD) : (dats m 0 c).arrAt 8 cfg0.N = Cert.PostRefIdeal.Read.val_main_v47 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ covers1 fun t hf y => ?_
  have hb := bounds t
  obtain ⟨r, j, rfl⟩ : ∃ (r : Fin 768) (j : Fin 384), y = ix2 r j := ⟨y 0, y 1, eq_ix2 y⟩
  have hemb : ((cfg0.win 8).blk t).view.emb (ix2 r j) = ix2 (n0 := 33792) (n1 := 384) ⟨768 * (grid0.coords t 0).val + r, by omega⟩ j := by
    blk_ext [(idx t).2.2.2.2.2.2.2.2.1]
  rw [hemb, ← row1_eq m c t hb r j, after0_8]
  generalize (outsAt0 m c t).2.1 = F
  rfl

/-- A row of output 2 is the reference's row. -/
theorem row2_eq (c : Dev nD) (t : Fin cfg0.N) (hb : (grid0.coords t 0).val < 44) (r : Fin 768) (j : Fin 1152) :
    (outsAt0 m c t).2.2.1 (ix2 r j) = Cert.PostRefIdeal.Read.val_main_v49 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (ix2 (n0 := 33792) (n1 := 1152) ⟨768 * (grid0.coords t 0).val + r, by omega⟩ j) := by
  have h0 := fun k => blk0_at m c t r k ⟨768 * (grid0.coords t 0).val + r, by omega⟩ rfl
  rw [outs2_at, Cert.PostRefIdeal.Rows.proj1_at]
  simp only [Cert.PostRefIdeal.Rows.mixed_at, Cert.PostRefIdeal.Rows.ffn_at, blk1_at, blk2_at, blk3_at, blk4_at, blk5_at, blk6_at, h0]

theorem covers2 : (cfg0.win 9).Covers := by decide +kernel

/-- Output 2 is the reference of the arguments. -/
theorem arr2_eq (c : Dev nD) : (dats m 0 c).arrAt 9 cfg0.N = Cert.PostRefIdeal.Read.val_main_v49 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ covers2 fun t hf y => ?_
  have hb := bounds t
  obtain ⟨r, j, rfl⟩ : ∃ (r : Fin 768) (j : Fin 1152), y = ix2 r j := ⟨y 0, y 1, eq_ix2 y⟩
  have hemb : ((cfg0.win 9).blk t).view.emb (ix2 r j) = ix2 (n0 := 33792) (n1 := 1152) ⟨768 * (grid0.coords t 0).val + r, by omega⟩ j := by
    blk_ext [(idx t).2.2.2.2.2.2.2.2.2.1]
  rw [hemb, ← row2_eq m c t hb r j, after0_9]
  generalize (outsAt0 m c t).2.2.1 = F
  rfl

/-- A row of output 3 is the reference's row. -/
theorem row3_eq (c : Dev nD) (t : Fin cfg0.N) (hb : (grid0.coords t 0).val < 44) (r : Fin 768) (j : Fin 640) :
    (outsAt0 m c t).2.2.2.1 (ix2 r j) = Cert.PostRefIdeal.Read.val_main_v51 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (ix2 (n0 := 33792) (n1 := 640) ⟨768 * (grid0.coords t 0).val + r, by omega⟩ j) := by
  have h0 := fun k => blk0_at m c t r k ⟨768 * (grid0.coords t 0).val + r, by omega⟩ rfl
  rw [outs3_at, Cert.PostRefIdeal.Rows.proj2_at]
  simp only [Cert.PostRefIdeal.Rows.mixed_at, Cert.PostRefIdeal.Rows.ffn_at, blk1_at, blk2_at, blk3_at, blk4_at, blk5_at, blk6_at, h0]

theorem covers3 : (cfg0.win 10).Covers := by decide +kernel

/-- Output 3 is the reference of the arguments. -/
theorem arr3_eq (c : Dev nD) : (dats m 0 c).arrAt 10 cfg0.N = Cert.PostRefIdeal.Read.val_main_v51 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ covers3 fun t hf y => ?_
  have hb := bounds t
  obtain ⟨r, j, rfl⟩ : ∃ (r : Fin 768) (j : Fin 640), y = ix2 r j := ⟨y 0, y 1, eq_ix2 y⟩
  have hemb : ((cfg0.win 10).blk t).view.emb (ix2 r j) = ix2 (n0 := 33792) (n1 := 640) ⟨768 * (grid0.coords t 0).val + r, by omega⟩ j := by
    blk_ext [(idx t).2.2.2.2.2.2.2.2.2.2.1]
  rw [hemb, ← row3_eq m c t hb r j, after0_10]
  generalize (outsAt0 m c t).2.2.2.1 = F
  rfl

/-- A row of output 4 is the reference's row. -/
theorem row4_eq (c : Dev nD) (t : Fin cfg0.N) (hb : (grid0.coords t 0).val < 44) (r : Fin 768) (j : Fin 512) :
    (outsAt0 m c t).2.2.2.2 (ix2 r j) = Cert.PostRefIdeal.Read.val_main_v53 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (ix2 (n0 := 33792) (n1 := 512) ⟨768 * (grid0.coords t 0).val + r, by omega⟩ j) := by
  have h0 := fun k => blk0_at m c t r k ⟨768 * (grid0.coords t 0).val + r, by omega⟩ rfl
  rw [outs4_at, Cert.PostRefIdeal.Rows.proj3_at]
  simp only [Cert.PostRefIdeal.Rows.mixed_at, Cert.PostRefIdeal.Rows.ffn_at, blk1_at, blk2_at, blk3_at, blk4_at, blk5_at, blk6_at, h0]

theorem covers4 : (cfg0.win 11).Covers := by decide +kernel

/-- Output 4 is the reference of the arguments. -/
theorem arr4_eq (c : Dev nD) : (dats m 0 c).arrAt 11 cfg0.N = Cert.PostRefIdeal.Read.val_main_v53 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ covers4 fun t hf y => ?_
  have hb := bounds t
  obtain ⟨r, j, rfl⟩ : ∃ (r : Fin 768) (j : Fin 512), y = ix2 r j := ⟨y 0, y 1, eq_ix2 y⟩
  have hemb : ((cfg0.win 11).blk t).view.emb (ix2 r j) = ix2 (n0 := 33792) (n1 := 512) ⟨768 * (grid0.coords t 0).val + r, by omega⟩ j := by
    blk_ext [(idx t).2.2.2.2.2.2.2.2.2.2.2]
  rw [hemb, ← row4_eq m c t hb r j, after0_11]
  generalize (outsAt0 m c t).2.2.2.2 = F
  rfl
end Cert.PostFfnIdeal.Rows
-- ==== Proof.Ffn.PostClaim.lean ====
module

public import proofs.«01_k».proof.Defs
public import proofs.«01_k».proof.Proof.Gen.PostRefIdeal.Run
public import proofs.«01_k».proof.Proof.Ffn.Post
public import Idealize.ShloMosaic.Lib.Claim

@[expose] public section

set_option maxHeartbeats 2000000

noncomputable section

namespace Cert.Ffn

open Idealize.ShloMosaic Idealize.SL.Sem

/-- A call between two layers computes its reference. -/
theorem post : Cert.algebraic_PostFfnIdeal_PostRefIdeal (hPostFfnIdeal := Cert.PostFfnIdeal.Gen.facts) (hPostRefIdeal := Cert.PostRefIdeal.Gen.facts) := by
  pair_intro
  · run_from Cert.PostFfnIdeal.Value.run_blocks m g
  · run_from Cert.PostRefIdeal.Value.run m' g'
    · obtain ⟨h0, h1, h2, h3, h4, h5, h6⟩ := hagree c
      refine (Cert.PostRefIdeal.Read.val_main_v28_eq _ _ _ _ _).trans ?_
      exact (Cert.PostFfnIdeal.Rows.arr0_eq m c).symm
    · obtain ⟨h0, h1, h2, h3, h4, h5, h6⟩ := hagree c
      refine (Cert.PostRefIdeal.Read.val_main_v47_eq m' c).trans ?_
      rw [h0, h1, h2, h3, h4, h5, h6]
      exact (Cert.PostFfnIdeal.Rows.arr1_eq m c).symm
    · obtain ⟨h0, h1, h2, h3, h4, h5, h6⟩ := hagree c
      refine (Cert.PostRefIdeal.Read.val_main_v49_eq m' c).trans ?_
      rw [h0, h1, h2, h3, h4, h5, h6]
      exact (Cert.PostFfnIdeal.Rows.arr2_eq m c).symm
    · obtain ⟨h0, h1, h2, h3, h4, h5, h6⟩ := hagree c
      refine (Cert.PostRefIdeal.Read.val_main_v51_eq m' c).trans ?_
      rw [h0, h1, h2, h3, h4, h5, h6]
      exact (Cert.PostFfnIdeal.Rows.arr3_eq m c).symm
    · obtain ⟨h0, h1, h2, h3, h4, h5, h6⟩ := hagree c
      refine (Cert.PostRefIdeal.Read.val_main_v53_eq m' c).trans ?_
      rw [h0, h1, h2, h3, h4, h5, h6]
      exact (Cert.PostFfnIdeal.Rows.arr4_eq m c).symm

end Cert.Ffn
-- ==== Proof.Ffn.FirstRef.lean ====
module

public import proofs.«01_k».proof.Proof.Gen.FirstRefIdeal.Read
public import proofs.«01_k».proof.Proof.Ffn.Row

@[expose] public section

/-! The reference of the first call of the stack, read row by row. -/

set_option maxRecDepth 16384

noncomputable section

namespace Cert.FirstRefIdeal.Rows

open Cert.FirstRefIdeal Cert.FirstRefIdeal.Read Idealize.ShloMosaic Cert.Ffn

variable (x0 : (⟨S8x4096x1024, .f32⟩ : BufTy).Contents (Elt Ideal)) (x1 : (⟨S16x1024, .f32⟩ : BufTy).Contents (Elt Ideal))
  (x2 : (⟨S4x1024, .f32⟩ : BufTy).Contents (Elt Ideal))
  (x3 x4 : (⟨S4x1024x2816, .f32⟩ : BufTy).Contents (Elt Ideal)) (x5 : (⟨S4x2816x1024, .f32⟩ : BufTy).Contents (Elt Ideal))
  (x6 : (⟨S4x1024, .f32⟩ : BufTy).Contents (Elt Ideal)) (x7 : (⟨S4x1024x2688, .f32⟩ : BufTy).Contents (Elt Ideal)) (r : Fin 33792)

/-- The hidden row normalised. -/
theorem normed_at (j : Fin 1024) : val_main_v19 (F := Ideal) x0 x1 x2 (ix2 r j)
    = rms (fun k => val_main_v4 (F := Ideal) x0 x1 (ix2 r k)) (fun k => x2 (ix2 0 k)) j := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1, rms, scale]

/-- The gated activation. -/
theorem act_at (f : Fin 2816) : val_main_v29 (F := Ideal) x0 x1 x2 x3 x4 (ix2 r f)
    = act (dot (fun k => val_main_v19 (F := Ideal) x0 x1 x2 (ix2 r k)) (fun k f => x3 (ix3 0 k f)) f)
        (dot (fun k => val_main_v19 (F := Ideal) x0 x1 x2 (ix2 r k)) (fun k f => x4 (ix3 0 k f)) f) := by
  pointwise [val_main_v29, val_main_v28, val_main_v27, val_main_v26, val_main_v25, val_main_v24, val_main_v23, val_main_v22, val_main_v21, val_main_v20, val_main_call1_v5, val_main_call1_v4, val_main_call1_v3, val_main_call1_v2, val_main_call1_v1,
    val_main_call1_v0, val_main_call1_cst, val_main_call1_cst_0, act, dot]

/-- The hidden row after the feed-forward layer. -/
theorem ffn_at (j : Fin 1024) : val_main_v33 (F := Ideal) x0 x1 x2 x3 x4 x5 (ix2 r j)
    = ffn (fun k => val_main_v4 (F := Ideal) x0 x1 (ix2 r k)) (fun k => x2 (ix2 0 k)) (fun k f => x3 (ix3 0 k f))
        (fun k f => x4 (ix3 0 k f)) (fun f l => x5 (ix3 0 f l)) j := by
  have ha := fun f => act_at x0 x1 x2 x3 x4 r f
  simp only [normed_at] at ha
  pointwise [val_main_v33, val_main_v32, val_main_v31, val_main_v30, val_main_v25, val_main_v24, val_main_cst_2, ha]
  rfl

/-- The new hidden row normalised for the mixer. -/
theorem mixed_at (j : Fin 1024) : val_main_v48 (F := Ideal) x0 x1 x2 x3 x4 x5 x6 (ix2 r j)
    = rms (fun k => val_main_v33 (F := Ideal) x0 x1 x2 x3 x4 x5 (ix2 r k)) (fun k => x6 (ix2 0 k)) j := by
  pointwise [val_main_v48, val_main_v47, val_main_v46, val_main_v45, val_main_v44, val_main_v43, val_main_v42, val_main_v41, val_main_v40, val_main_v39, val_main_v38, val_main_v37, val_main_v36, val_main_v35, val_main_v34, val_main_cst_3, val_main_cst_4, val_main_cst_5, rms, scale]

/-- Columns 0 to 384 of the input projection. -/
theorem proj0_at (j : Fin 384) : val_main_v52 (F := Ideal) x0 x1 x2 x3 x4 x5 x6 x7 (ix2 r j)
    = dot (fun k => val_main_v48 (F := Ideal) x0 x1 x2 x3 x4 x5 x6 (ix2 r k)) (fun k l => x7 (ix3 0 k l)) (⟨0 + j, by omega⟩ : Fin 2688) := by
  pointwise [val_main_v52, val_main_v51, val_main_v50, val_main_v49, dot]

/-- Columns 384 to 1536 of the input projection. -/
theorem proj1_at (j : Fin 1152) : val_main_v54 (F := Ideal) x0 x1 x2 x3 x4 x5 x6 x7 (ix2 r j)
    = dot (fun k => val_main_v48 (F := Ideal) x0 x1 x2 x3 x4 x5 x6 (ix2 r k)) (fun k l => x7 (ix3 0 k l)) (⟨384 + j, by omega⟩ : Fin 2688) := by
  pointwise [val_main_v54, val_main_v53, val_main_v51, val_main_v50, val_main_v49, dot]

/-- Columns 1536 to 2176 of the input projection. -/
theorem proj2_at (j : Fin 640) : val_main_v56 (F := Ideal) x0 x1 x2 x3 x4 x5 x6 x7 (ix2 r j)
    = dot (fun k => val_main_v48 (F := Ideal) x0 x1 x2 x3 x4 x5 x6 (ix2 r k)) (fun k l => x7 (ix3 0 k l)) (⟨1536 + j, by omega⟩ : Fin 2688) := by
  pointwise [val_main_v56, val_main_v55, val_main_v51, val_main_v50, val_main_v49, dot]

/-- Columns 2176 to 2688 of the input projection. -/
theorem proj3_at (j : Fin 512) : val_main_v58 (F := Ideal) x0 x1 x2 x3 x4 x5 x6 x7 (ix2 r j)
    = dot (fun k => val_main_v48 (F := Ideal) x0 x1 x2 x3 x4 x5 x6 (ix2 r k)) (fun k l => x7 (ix3 0 k l)) (⟨2176 + j, by omega⟩ : Fin 2688) := by
  pointwise [val_main_v58, val_main_v57, val_main_v51, val_main_v50, val_main_v49, dot]

end Cert.FirstRefIdeal.Rows
-- ==== Proof.Ffn.Hidden.lean ====
/- The hidden rows the first call of the stack works on: zero rows, the meta rows, then the frames. -/
module

public import proofs.«01_k».proof.Proof.Gen.FirstFfnIdeal.Value
public import proofs.«01_k».proof.Proof.Gen.FirstRefIdeal.Read
public import proofs.«01_k».proof.Proof.Ffn.Row
public import Idealize.ShloMosaic.Lib.Pipeline.ValueKit
@[expose] public section
set_option maxRecDepth 16384
noncomputable section
namespace Cert.FirstRefIdeal.Rows
open Cert.FirstRefIdeal Cert.FirstRefIdeal.Read Idealize.ShloMosaic Cert.Ffn

/-- The integer zero is zero. -/
theorem zero_int : (FloatOps.sitofp FTy.f32 0#32 : Ideal .f32) = (0 : EReal) := by
  show (((0#32 : BitVec 32).toInt : ℝ) : EReal) = 0
  simp

/-- The padded sequence: zero rows, then the meta rows, then the frames. -/
theorem padded_at (x0 : (⟨S8x4096x1024, .f32⟩ : BufTy).Contents (Elt Ideal)) (x1 : (⟨S16x1024, .f32⟩ : BufTy).Contents (Elt Ideal)) (r : Fin 33792) (j : Fin 1024)
    (b : Fin 8) (s : ℕ) (hs : s < 4224) (hr : (r : ℕ) = 4224 * b + s) :
    val_main_v4 (F := Ideal) x0 x1 (ix2 r j) = if h : s < 112 then (0 : EReal) else if h : s < 128 then x1 (ix2 ⟨s - 112, by omega⟩ j)
      else x0 (ix3 b ⟨s - 128, by omega⟩ j) := by
  have h1 : (r : ℕ) / 4224 = b := by omega
  have h2 : (r : ℕ) % 4224 = s := by omega
  pointwise [val_main_v4, val_main_v3, val_main_v2, val_main_v1, val_main_v0, val_main_c, val_main_call0_v0]
  have hb := b.isLt
  by_cases c1 : s < 112
  · refine (dif_neg (by omega)).trans (Eq.trans ?_ (dif_pos c1).symm)
    exact zero_int
  · refine (dif_pos (by omega)).trans (Eq.trans ?_ (dif_neg c1).symm)
    by_cases c2 : s < 128
    · refine (dif_pos (by omega)).trans (Eq.trans ?_ (dif_pos c2).symm)
      refine congrArg (fun q => x1 (ix2 q j)) (Fin.ext ?_)
      dsimp only
      omega
    · refine (dif_neg (by omega)).trans (Eq.trans ?_ (dif_neg c2).symm)
      refine (congrArg (fun q => x0 (ix3 q _ j)) (Fin.ext ?_)).trans (congrArg (fun q => x0 (ix3 b q j)) (Fin.ext ?_))
      · exact h1
      · dsimp only
        omega
end Cert.FirstRefIdeal.Rows
namespace Cert.FirstFfnIdeal.Rows
open Cert.FirstFfnIdeal Cert.FirstFfnIdeal.Gen Idealize.ShloMosaic Idealize.ShloMosaic.TcCoe Idealize.SL.Sem Idealize.ShloMosaic.Tactic Cert.Ffn
variable (m : (ℓ : Loc nD τ sig) → Buf (Elt Ideal) ℓ)

theorem blk1_at (c : Dev nD) (t : Fin cfg0.N) (r : Fin 128) (j : Fin 1024) :
    (show EReal from iblk m c 1 t (ix2 r j)) = if h : (r : ℕ) < 112 then (0 : EReal) else m ((c : Thread nD τ).loc main_arg1) (ix2 ⟨r - 112, by omega⟩ j) := by
  have e : ∀ t : Fin cfg0.N, win0_1.index t = ![0, 0] := (by decide +kernel : ∀ t : Fin grid0.N, _)
  have he : ((cfg0.win 1).blk t).view.emb (ix2 r j) = ix2 (n0 := 128) (n1 := 1024) r j := by blk_ext [e]
  have h : iblk m c 1 t (ix2 r j) = V m c main_v1 (ix2 (n0 := 128) (n1 := 1024) r j) := by
    exact congrArg (V m c main_v1) he
  show iblk m c 1 t (ix2 r j) = _
  rw [h]
  entry_read
  pointwise
theorem idx0 : ∀ t : Fin cfg0.N, win0_0.index t = ![(grid0.coords t 0).val, 3 * (grid0.coords t 1).val - 1, 0, 0] := (by decide +kernel : ∀ t : Fin grid0.N, _)

theorem blk0_at (c : Dev nD) (t : Fin cfg0.N) (a : Fin 3) (q : Fin 128) (j : Fin 1024) (b : Fin 8) (s : Fin 4096) (hb : (b : ℕ) = (grid0.coords t 0).val)
    (hs : (s : ℕ) = 128 * (3 * (grid0.coords t 1).val - 1) + 128 * a + q) :
    iblk m c 0 t (ix4 0 a q j) = m ((c : Thread nD τ).loc main_arg0) (ix3 b s j) := by
  have e : ∀ ax, (((View.whole main_v2).slice (win0_0.rect t)).emb (ix4 0 a q j) ax : ℕ) = win0_0.index t ax + (ix4 (n0 := 1) (n1 := 3) 0 a q j ax : ℕ) := fun ax => Pipeline.Window.rect_emb_val_off win0_0 t (ix4 0 a q j) ax
  have e0 : (((View.whole main_v2).slice (win0_0.rect t)).emb (ix4 0 a q j) 0 : ℕ) = (grid0.coords t 0).val := by rw [e 0, idx0]; rfl
  have e1 : (((View.whole main_v2).slice (win0_0.rect t)).emb (ix4 0 a q j) 1 : ℕ) = 3 * (grid0.coords t 1).val - 1 + a := by rw [e 1, idx0]; rfl
  have e2 : (((View.whole main_v2).slice (win0_0.rect t)).emb (ix4 0 a q j) 2 : ℕ) = q := by rw [e 2, idx0]; exact Nat.zero_add _
  have e3 : (((View.whole main_v2).slice (win0_0.rect t)).emb (ix4 0 a q j) 3 : ℕ) = j := by rw [e 3, idx0]; exact Nat.zero_add _
  blk_ext! [iblk, V]
  all_goals omega

theorem pay2_zero (i : grid0.Coords) (hi : (i 1).val = 0) (x : Vec Ideal S1x3x128x1024 .f32) (hd : Vec Ideal S128x1024 .f32) (r : Fin 384) (j : Fin 1024) :
   k0_pay2 (F := Ideal) i x hd (ix2 r j) = if h : (r : ℕ) < 128 then hd (ix2 ⟨r, h⟩ j) else x (ix4 0 ⟨(r - 128) / 128, by omega⟩ ⟨(r - 128) % 128, by omega⟩ j) := by
  pointwise [k0_pay2]
  rw [hi]
  rfl

theorem pay2_pos (i : grid0.Coords) (hi : (i 1).val ≠ 0) (x : Vec Ideal S1x3x128x1024 .f32) (hd : Vec Ideal S128x1024 .f32) (r : Fin 384) (j : Fin 1024) :
   k0_pay2 (F := Ideal) i x hd (ix2 r j) = x (ix4 0 ⟨r / 128, by omega⟩ ⟨r % 128, by omega⟩ j) := by
  have hc : Scalar.cmpi CmpIPredicate.eq (BitVec.ofNat 32 (i 1).val) 0#32 = 0#1 := by
    have : (i 1).val < 11 := (i 1).isLt
    generalize (i 1).val = n at *
    interval_cases n <;> first | rfl | exact absurd rfl hi
  pointwise [k0_pay2]
  rw [hc]
  rfl

/-- The hidden row of the padded sequence. -/
theorem hid_eq (c : Dev nD) (t : Fin cfg0.N) (hb : (grid0.coords t 0).val < 8 ∧ (grid0.coords t 1).val < 11) (r : Fin 384) (j : Fin 1024) :
    k0_pay2 (F := Ideal) (grid0.coords t) (iblk m c 0 t) (iblk m c 1 t) (ix2 r j) = Cert.FirstRefIdeal.Read.val_main_v4 (F := Ideal)
      (m ((c : Thread nD τ).loc main_arg0)) (m ((c : Thread nD τ).loc main_arg1))
      (ix2 (n0 := 33792) (n1 := 1024) ⟨4224 * (grid0.coords t 0).val + 384 * (grid0.coords t 1).val + r, by omega⟩ j) := by
  rw [Cert.FirstRefIdeal.Rows.padded_at _ _ _ j ⟨(grid0.coords t 0).val, hb.1⟩ (384 * (grid0.coords t 1).val + r) (by omega) (by dsimp only; omega)]
  by_cases hi : (grid0.coords t 1).val = 0
  · rw [pay2_zero _ hi]
    by_cases h : (r : ℕ) < 128
    · rw [dif_pos h]
      refine (blk1_at m c t ⟨r, h⟩ j).trans ?_
      by_cases h' : (r : ℕ) < 112
      · exact (dif_pos h').trans (dif_pos (t := fun _ => (0 : EReal)) (show 384 * (grid0.coords t 1).val + (r : ℕ) < 112 by omega)).symm
      · refine (dif_neg h').trans (((dif_neg (show ¬ 384 * (grid0.coords t 1).val + (r : ℕ) < 112 by omega)).trans (dif_pos (show 384 * (grid0.coords t 1).val + (r : ℕ) < 128 by omega))).trans ?_).symm
        refine congrArg (fun q => m ((c : Thread nD τ).loc main_arg1) (ix2 q j)) (Fin.ext ?_)
        dsimp only
        omega
    · rw [dif_neg h]
      refine Eq.trans ?_ ((dif_neg (show ¬ 384 * (grid0.coords t 1).val + (r : ℕ) < 112 by omega)).trans (dif_neg (show ¬ 384 * (grid0.coords t 1).val + (r : ℕ) < 128 by omega))).symm
      exact blk0_at m c t _ _ j _ _ rfl (by dsimp only; omega)
  · rw [pay2_pos _ hi]
    refine Eq.trans ?_ ((dif_neg (show ¬ 384 * (grid0.coords t 1).val + (r : ℕ) < 112 by omega)).trans (dif_neg (show ¬ 384 * (grid0.coords t 1).val + (r : ℕ) < 128 by omega))).symm
    exact blk0_at m c t _ _ j _ _ rfl (by dsimp only; omega)

end Cert.FirstFfnIdeal.Rows
-- ==== Proof.Ffn.First.lean ====
module

public import proofs.«01_k».proof.Proof.Gen.FirstFfnIdeal.Value
public import proofs.«01_k».proof.Proof.Ffn.Row
public import proofs.«01_k».proof.Proof.Ffn.Cols
public import proofs.«01_k».proof.Proof.Ffn.FirstRef
public import proofs.«01_k».proof.Proof.Ffn.Hidden
public import Idealize.ShloMosaic.Lib.Pipeline.ValueKit

@[expose] public section

set_option maxRecDepth 16384
noncomputable section

/-! The first call of the stack: what each grid point leaves in its output blocks, row by row. -/

namespace Cert.FirstFfnIdeal.Rows

open Cert.FirstFfnIdeal Cert.FirstFfnIdeal.Gen Idealize.ShloMosaic Idealize.ShloMosaic.TcCoe Idealize.SL.Sem Idealize.ShloMosaic.Tactic Cert.Ffn

variable (m : (ℓ : Loc nD τ sig) → Buf (Elt Ideal) ℓ)

/-- The hidden rows normalised. -/
theorem norm_at (i : grid0.Coords) (x : Vec Ideal S1x3x128x1024 .f32) (hd : Vec Ideal S128x1024 .f32) (g : Vec Ideal S1x1024 .f32) (r : Fin 384) (j : Fin 1024) :
    (k0_pay3 (F := Ideal) i x hd g) (ix2 r j) = rms (fun k => (k0_pay2 (F := Ideal) i x hd) (ix2 r k)) (fun k => g (ix2 0 k)) j := by
  pointwise [k0_pay3, rms, scale]

/-- The gated activation, written in four column stripes. -/
theorem scratch_at (i : grid0.Coords) (x : Vec Ideal S1x3x128x1024 .f32) (hd : Vec Ideal S128x1024 .f32) (g : Vec Ideal S1x1024 .f32) (wg wu : Vec Ideal S1x1024x2816 .bf16) (r : Fin 384) (f : Fin 2816) :
    View.canon (Val := Elt Ideal) (e := .bf16) [⟨Rect.unit ![0, 2304] ![384, 512] inb_S384x2816_S384x512_0_2304,
              k0_pay13 (F := Ideal) (k0_pay3 i x hd g) (View.ld wg (Rect.unit ![0, 0, 2304] ![1, 1024, 512] inb_S1x1024x2816_S1x1024x512_0_0_2304))
                (View.ld wu (Rect.unit ![0, 0, 2304] ![1, 1024, 512] inb_S1x1024x2816_S1x1024x512_0_0_2304))⟩,
            ⟨Rect.unit ![0, 1536] ![384, 768] inb_S384x2816_S384x768_0_1536,
              k0_pay12 (F := Ideal) (k0_pay9 (k0_pay3 i x hd g) (View.ld wg (Rect.unit ![0, 0, 1536] ![1, 1024, 768] inb_S1x1024x2816_S1x1024x768_0_0_1536)))
                (k0_pay10 (k0_pay3 i x hd g) (View.ld wu (Rect.unit ![0, 0, 1536] ![1, 1024, 768] inb_S1x1024x2816_S1x1024x768_0_0_1536))) k0_pay11⟩,
            ⟨Rect.unit ![0, 768] ![384, 768] inb_S384x2816_S384x768_0_768,
              k0_pay8 (F := Ideal) (k0_pay3 i x hd g) (View.ld wg (Rect.unit ![0, 0, 768] ![1, 1024, 768] inb_S1x1024x2816_S1x1024x768_0_0_768))
                (View.ld wu (Rect.unit ![0, 0, 768] ![1, 1024, 768] inb_S1x1024x2816_S1x1024x768_0_0_768))⟩,
            ⟨Rect.unit ![0, 0] ![384, 768] inb_S384x2816_S384x768_0_0,
              k0_pay7 (F := Ideal) (k0_pay4 i x hd g (View.ld wg (Rect.unit ![0, 0, 0] ![1, 1024, 768] inb_S1x1024x2816_S1x1024x768_0_0_0)))
                (k0_pay5 i x hd g (View.ld wu (Rect.unit ![0, 0, 0] ![1, 1024, 768] inb_S1x1024x2816_S1x1024x768_0_0_0)))
                (k0_pay6 i x hd g (View.ld wg (Rect.unit ![0, 0, 0] ![1, 1024, 768] inb_S1x1024x2816_S1x1024x768_0_0_0))) (FloatOps.ofBits FTy.f32 1065353216#32)⟩] (ix2 r f)
      = act (dot (fun k => (k0_pay3 (F := Ideal) i x hd g) (ix2 r k)) (fun k f => wg (ix3 0 k f)) f)
          (dot (fun k => (k0_pay3 (F := Ideal) i x hd g) (ix2 r k)) (fun k f => wu (ix3 0 k f)) f) := by
  refine stripes_at _ _ _ _ _ _ _ _ r f _ ?_ ?_ ?_ ?_ <;> intro q hq <;>
    pointwise [k0_pay13, k0_pay12, k0_pay11, k0_pay10, k0_pay9, k0_pay8, k0_pay7, k0_pay6, k0_pay5, k0_pay4, act, dot] <;>
    simp only [zero_sub_eq, ← hq, Fin.eta]

/-- Half the activation's image is added to the hidden rows. -/
theorem down_at (h : Vec Ideal S384x1024 .f32) (a : Vec Ideal S384x2816 .bf16) (wd : Vec Ideal S1x2816x1024 .bf16) (r : Fin 384) (j : Fin 1024) :
    k0_pay15 (F := Ideal) h (k0_pay14 a wd) (ix2 r j) = h (ix2 r j) + Ideal.ofBits .f32 0x3F000000#32 * dot (fun f => a (ix2 r f)) (fun f l => wd (ix3 0 f l)) j := by
  pointwise [k0_pay15, k0_pay14, dot]

/-- Output 1 is the new hidden rows normalised times its columns of the projection. -/
theorem proj0_at (h : Vec Ideal S384x1024 .f32) (a : Vec Ideal S384x2816 .bf16) (wd : Vec Ideal S1x2816x1024 .bf16) (g2 : Vec Ideal S1x1024 .f32) (w : Vec Ideal S1x1024x384 .bf16)
    (r : Fin 384) (j : Fin 384) :
    k0_pay17 (F := Ideal) h (k0_pay14 a wd) g2 w (ix2 r j) = dot (rms (fun k => k0_pay15 (F := Ideal) h (k0_pay14 a wd) (ix2 r k)) (fun k => g2 (ix2 0 k))) (fun k l => w (ix3 0 k l)) j := by
  pointwise [k0_pay17, k0_pay16, k0_pay15, rms, scale, dot]

/-- Output 2 is the new hidden rows normalised times its columns of the projection. -/
theorem proj1_at (h : Vec Ideal S384x1024 .f32) (a : Vec Ideal S384x2816 .bf16) (wd : Vec Ideal S1x2816x1024 .bf16) (g2 : Vec Ideal S1x1024 .f32) (w : Vec Ideal S1x1024x1152 .bf16)
    (r : Fin 384) (j : Fin 1152) :
    k0_pay18 (F := Ideal) h (k0_pay14 a wd) g2 w (ix2 r j) = dot (rms (fun k => k0_pay15 (F := Ideal) h (k0_pay14 a wd) (ix2 r k)) (fun k => g2 (ix2 0 k))) (fun k l => w (ix3 0 k l)) j := by
  pointwise [k0_pay18, k0_pay16, k0_pay15, rms, scale, dot]

/-- Output 3 is the new hidden rows normalised times its columns of the projection. -/
theorem proj2_at (h : Vec Ideal S384x1024 .f32) (a : Vec Ideal S384x2816 .bf16) (wd : Vec Ideal S1x2816x1024 .bf16) (g2 : Vec Ideal S1x1024 .f32) (w : Vec Ideal S1x1024x640 .bf16)
    (r : Fin 384) (j : Fin 640) :
    k0_pay19 (F := Ideal) h (k0_pay14 a wd) g2 w (ix2 r j) = dot (rms (fun k => k0_pay15 (F := Ideal) h (k0_pay14 a wd) (ix2 r k)) (fun k => g2 (ix2 0 k))) (fun k l => w (ix3 0 k l)) j := by
  pointwise [k0_pay19, k0_pay16, k0_pay15, rms, scale, dot]

/-- Output 4 is the new hidden rows normalised times its columns of the projection. -/
theorem proj3_at (h : Vec Ideal S384x1024 .f32) (a : Vec Ideal S384x2816 .bf16) (wd : Vec Ideal S1x2816x1024 .bf16) (g2 : Vec Ideal S1x1024 .f32) (w : Vec Ideal S1x1024x512 .bf16)
    (r : Fin 384) (j : Fin 512) :
    k0_pay1 (F := Ideal) (k0_pay16 h (k0_pay14 a wd) g2) w (ix2 r j) = dot (rms (fun k => k0_pay15 (F := Ideal) h (k0_pay14 a wd) (ix2 r k)) (fun k => g2 (ix2 0 k))) (fun k l => w (ix3 0 k l)) j := by
  pointwise [k0_pay1, k0_pay16, k0_pay15, rms, scale, dot]

/-- Output 1 of a row whose activation is the gated one. -/
theorem proj0_row (h : Vec Ideal S384x1024 .f32) (a : Vec Ideal S384x2816 .bf16) (wd : Vec Ideal S1x2816x1024 .bf16) (g2 : Vec Ideal S1x1024 .f32) (w : Vec Ideal S1x1024x384 .bf16)
    (g : Fin 1024 → EReal) (wg wu : Fin 1024 → Fin 2816 → EReal) (r : Fin 384) (j : Fin 384)
    (ha : ∀ f, a (ix2 r f) = act (dot (rms (fun k => h (ix2 r k)) g) wg f) (dot (rms (fun k => h (ix2 r k)) g) wu f)) :
    k0_pay17 (F := Ideal) h (k0_pay14 a wd) g2 w (ix2 r j) = dot (rms (ffn (fun k => h (ix2 r k)) g wg wu (fun f l => wd (ix3 0 f l))) (fun k => g2 (ix2 0 k))) (fun k l => w (ix3 0 k l)) j := by
  rw [proj0_at]
  refine congrArg (fun y => dot (rms y _) _ j) (funext fun l => ?_)
  rw [down_at]
  simp only [ha]
  rfl

/-- Output 2 of a row whose activation is the gated one. -/
theorem proj1_row (h : Vec Ideal S384x1024 .f32) (a : Vec Ideal S384x2816 .bf16) (wd : Vec Ideal S1x2816x1024 .bf16) (g2 : Vec Ideal S1x1024 .f32) (w : Vec Ideal S1x1024x1152 .bf16)
    (g : Fin 1024 → EReal) (wg wu : Fin 1024 → Fin 2816 → EReal) (r : Fin 384) (j : Fin 1152)
    (ha : ∀ f, a (ix2 r f) = act (dot (rms (fun k => h (ix2 r k)) g) wg f) (dot (rms (fun k => h (ix2 r k)) g) wu f)) :
    k0_pay18 (F := Ideal) h (k0_pay14 a wd) g2 w (ix2 r j) = dot (rms (ffn (fun k => h (ix2 r k)) g wg wu (fun f l => wd (ix3 0 f l))) (fun k => g2 (ix2 0 k))) (fun k l => w (ix3 0 k l)) j := by
  rw [proj1_at]
  refine congrArg (fun y => dot (rms y _) _ j) (funext fun l => ?_)
  rw [down_at]
  simp only [ha]
  rfl

/-- Output 3 of a row whose activation is the gated one. -/
theorem proj2_row (h : Vec Ideal S384x1024 .f32) (a : Vec Ideal S384x2816 .bf16) (wd : Vec Ideal S1x2816x1024 .bf16) (g2 : Vec Ideal S1x1024 .f32) (w : Vec Ideal S1x1024x640 .bf16)
    (g : Fin 1024 → EReal) (wg wu : Fin 1024 → Fin 2816 → EReal) (r : Fin 384) (j : Fin 640)
    (ha : ∀ f, a (ix2 r f) = act (dot (rms (fun k => h (ix2 r k)) g) wg f) (dot (rms (fun k => h (ix2 r k)) g) wu f)) :
    k0_pay19 (F := Ideal) h (k0_pay14 a wd) g2 w (ix2 r j) = dot (rms (ffn (fun k => h (ix2 r k)) g wg wu (fun f l => wd (ix3 0 f l))) (fun k => g2 (ix2 0 k))) (fun k l => w (ix3 0 k l)) j := by
  rw [proj2_at]
  refine congrArg (fun y => dot (rms y _) _ j) (funext fun l => ?_)
  rw [down_at]
  simp only [ha]
  rfl

/-- Output 4 of a row whose activation is the gated one. -/
theorem proj3_row (h : Vec Ideal S384x1024 .f32) (a : Vec Ideal S384x2816 .bf16) (wd : Vec Ideal S1x2816x1024 .bf16) (g2 : Vec Ideal S1x1024 .f32) (w : Vec Ideal S1x1024x512 .bf16)
    (g : Fin 1024 → EReal) (wg wu : Fin 1024 → Fin 2816 → EReal) (r : Fin 384) (j : Fin 512)
    (ha : ∀ f, a (ix2 r f) = act (dot (rms (fun k => h (ix2 r k)) g) wg f) (dot (rms (fun k => h (ix2 r k)) g) wu f)) :
    k0_pay1 (F := Ideal) (k0_pay16 h (k0_pay14 a wd) g2) w (ix2 r j) = dot (rms (ffn (fun k => h (ix2 r k)) g wg wu (fun f l => wd (ix3 0 f l))) (fun k => g2 (ix2 0 k))) (fun k l => w (ix3 0 k l)) j := by
  rw [proj3_at]
  refine congrArg (fun y => dot (rms y _) _ j) (funext fun l => ?_)
  rw [down_at]
  simp only [ha]
  rfl

/-- A row of output 0. -/
theorem outs0_at (c : Dev nD) (t : Fin cfg0.N) (r : Fin 384) (j : Fin 1024) :
    (outsAt0 m c t).1 (ix2 r j) =
      ffn (fun j => k0_pay2 (F := Ideal) (grid0.coords t) (iblk m c 0 t) (iblk m c 1 t) (ix2 r j)) (fun k => iblk m c 2 t (ix2 0 k))
        (fun k f => iblk m c 3 t (ix3 0 k f)) (fun k f => iblk m c 4 t (ix3 0 k f)) (fun f j => iblk m c 5 t (ix3 0 f j)) j := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero (by decide), View.readCov_eq_canon']
  rw [View.ld_unit_zero (S := S1x3x128x1024) (by decide) _ (iblk m c 0 t), View.ld_unit_zero (S := S128x1024) (by decide) _ (iblk m c 1 t), View.ld_unit_zero (S := S1x1024) (by decide) _ (iblk m c 2 t), View.ld_unit_zero (S := S1x2816x1024) (by decide) _ (iblk m c 5 t)]
  generalize iblk m c 0 t = x
  generalize iblk m c 1 t = hd
  generalize iblk m c 2 t = g
  generalize iblk m c 3 t = wg
  generalize iblk m c 4 t = wu
  generalize iblk m c 5 t = wd
  have hs := fun f => scratch_at (grid0.coords t) x hd g wg wu r f
  simp only [norm_at] at hs
  rw [down_at]
  refine congrArg (fun y => (show EReal from (k0_pay2 (F := Ideal) (grid0.coords t) x hd) (ix2 r j)) + Ideal.ofBits .f32 0x3F000000#32 * dot y _ j) (funext fun f => ?_)
  rw [← hs f]
  pointwise

/-- A row of output 1. -/
theorem outs1_at (c : Dev nD) (t : Fin cfg0.N) (r : Fin 384) (j : Fin 384) :
    (outsAt0 m c t).2.1 (ix2 r j) =
      dot (rms (ffn (fun j => k0_pay2 (F := Ideal) (grid0.coords t) (iblk m c 0 t) (iblk m c 1 t) (ix2 r j)) (fun k => iblk m c 2 t (ix2 0 k))
        (fun k f => iblk m c 3 t (ix3 0 k f)) (fun k f => iblk m c 4 t (ix3 0 k f)) (fun f j => iblk m c 5 t (ix3 0 f j))) (fun k => iblk m c 6 t (ix2 0 k))) (fun k l => iblk m c 7 t (ix3 0 k l)) (⟨0 + j, by omega⟩ : Fin 2688) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero (by decide), View.readCov_eq_canon']
  rw [View.ld_unit_zero (S := S1x3x128x1024) (by decide) _ (iblk m c 0 t), View.ld_unit_zero (S := S128x1024) (by decide) _ (iblk m c 1 t), View.ld_unit_zero (S := S1x1024) (by decide) _ (iblk m c 2 t), View.ld_unit_zero (S := S1x2816x1024) (by decide) _ (iblk m c 5 t), View.ld_unit_zero (S := S1x1024) (by decide) _ (iblk m c 6 t)]
  generalize iblk m c 0 t = x
  generalize iblk m c 1 t = hd
  generalize iblk m c 2 t = g
  generalize iblk m c 3 t = wg
  generalize iblk m c 4 t = wu
  generalize iblk m c 5 t = wd
  generalize iblk m c 6 t = g2
  generalize iblk m c 7 t = w
  have hs := fun f => scratch_at (grid0.coords t) x hd g wg wu r f
  simp only [norm_at] at hs
  refine (proj0_row _ _ _ _ _ (fun k => g (ix2 0 k)) (fun k f => wg (ix3 0 k f)) (fun k f => wu (ix3 0 k f)) r j fun f => ?_).trans ?_
  · rw [← hs f]
    pointwise
  · pointwise [dot]

/-- A row of output 2. -/
theorem outs2_at (c : Dev nD) (t : Fin cfg0.N) (r : Fin 384) (j : Fin 1152) :
    (outsAt0 m c t).2.2.1 (ix2 r j) =
      dot (rms (ffn (fun j => k0_pay2 (F := Ideal) (grid0.coords t) (iblk m c 0 t) (iblk m c 1 t) (ix2 r j)) (fun k => iblk m c 2 t (ix2 0 k))
        (fun k f => iblk m c 3 t (ix3 0 k f)) (fun k f => iblk m c 4 t (ix3 0 k f)) (fun f j => iblk m c 5 t (ix3 0 f j))) (fun k => iblk m c 6 t (ix2 0 k))) (fun k l => iblk m c 7 t (ix3 0 k l)) (⟨384 + j, by omega⟩ : Fin 2688) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero (by decide), View.readCov_eq_canon']
  rw [View.ld_unit_zero (S := S1x3x128x1024) (by decide) _ (iblk m c 0 t), View.ld_unit_zero (S := S128x1024) (by decide) _ (iblk m c 1 t), View.ld_unit_zero (S := S1x1024) (by decide) _ (iblk m c 2 t), View.ld_unit_zero (S := S1x2816x1024) (by decide) _ (iblk m c 5 t), View.ld_unit_zero (S := S1x1024) (by decide) _ (iblk m c 6 t)]
  generalize iblk m c 0 t = x
  generalize iblk m c 1 t = hd
  generalize iblk m c 2 t = g
  generalize iblk m c 3 t = wg
  generalize iblk m c 4 t = wu
  generalize iblk m c 5 t = wd
  generalize iblk m c 6 t = g2
  generalize iblk m c 7 t = w
  have hs := fun f => scratch_at (grid0.coords t) x hd g wg wu r f
  simp only [norm_at] at hs
  refine (proj1_row _ _ _ _ _ (fun k => g (ix2 0 k)) (fun k f => wg (ix3 0 k f)) (fun k f => wu (ix3 0 k f)) r j fun f => ?_).trans ?_
  · rw [← hs f]
    pointwise
  · pointwise [dot]

/-- A row of output 3. -/
theorem outs3_at (c : Dev nD) (t : Fin cfg0.N) (r : Fin 384) (j : Fin 640) :
    (outsAt0 m c t).2.2.2.1 (ix2 r j) =
      dot (rms (ffn (fun j => k0_pay2 (F := Ideal) (grid0.coords t) (iblk m c 0 t) (iblk m c 1 t) (ix2 r j)) (fun k => iblk m c 2 t (ix2 0 k))
        (fun k f => iblk m c 3 t (ix3 0 k f)) (fun k f => iblk m c 4 t (ix3 0 k f)) (fun f j => iblk m c 5 t (ix3 0 f j))) (fun k => iblk m c 6 t (ix2 0 k))) (fun k l => iblk m c 7 t (ix3 0 k l)) (⟨1536 + j, by omega⟩ : Fin 2688) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero (by decide), View.readCov_eq_canon']
  rw [View.ld_unit_zero (S := S1x3x128x1024) (by decide) _ (iblk m c 0 t), View.ld_unit_zero (S := S128x1024) (by decide) _ (iblk m c 1 t), View.ld_unit_zero (S := S1x1024) (by decide) _ (iblk m c 2 t), View.ld_unit_zero (S := S1x2816x1024) (by decide) _ (iblk m c 5 t), View.ld_unit_zero (S := S1x1024) (by decide) _ (iblk m c 6 t)]
  generalize iblk m c 0 t = x
  generalize iblk m c 1 t = hd
  generalize iblk m c 2 t = g
  generalize iblk m c 3 t = wg
  generalize iblk m c 4 t = wu
  generalize iblk m c 5 t = wd
  generalize iblk m c 6 t = g2
  generalize iblk m c 7 t = w
  have hs := fun f => scratch_at (grid0.coords t) x hd g wg wu r f
  simp only [norm_at] at hs
  refine (proj2_row _ _ _ _ _ (fun k => g (ix2 0 k)) (fun k f => wg (ix3 0 k f)) (fun k f => wu (ix3 0 k f)) r j fun f => ?_).trans ?_
  · rw [← hs f]
    pointwise
  · pointwise [dot]

/-- A row of output 4. -/
theorem outs4_at (c : Dev nD) (t : Fin cfg0.N) (r : Fin 384) (j : Fin 512) :
    (outsAt0 m c t).2.2.2.2 (ix2 r j) =
      dot (rms (ffn (fun j => k0_pay2 (F := Ideal) (grid0.coords t) (iblk m c 0 t) (iblk m c 1 t) (ix2 r j)) (fun k => iblk m c 2 t (ix2 0 k))
        (fun k f => iblk m c 3 t (ix3 0 k f)) (fun k f => iblk m c 4 t (ix3 0 k f)) (fun f j => iblk m c 5 t (ix3 0 f j))) (fun k => iblk m c 6 t (ix2 0 k))) (fun k l => iblk m c 7 t (ix3 0 k l)) (⟨2176 + j, by omega⟩ : Fin 2688) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero (by decide), View.readCov_eq_canon']
  rw [View.ld_unit_zero (S := S1x3x128x1024) (by decide) _ (iblk m c 0 t), View.ld_unit_zero (S := S128x1024) (by decide) _ (iblk m c 1 t), View.ld_unit_zero (S := S1x1024) (by decide) _ (iblk m c 2 t), View.ld_unit_zero (S := S1x2816x1024) (by decide) _ (iblk m c 5 t), View.ld_unit_zero (S := S1x1024) (by decide) _ (iblk m c 6 t)]
  generalize iblk m c 0 t = x
  generalize iblk m c 1 t = hd
  generalize iblk m c 2 t = g
  generalize iblk m c 3 t = wg
  generalize iblk m c 4 t = wu
  generalize iblk m c 5 t = wd
  generalize iblk m c 6 t = g2
  generalize iblk m c 7 t = w
  have hs := fun f => scratch_at (grid0.coords t) x hd g wg wu r f
  simp only [norm_at] at hs
  refine (proj3_row _ _ _ _ _ (fun k => g (ix2 0 k)) (fun k f => wg (ix3 0 k f)) (fun k f => wu (ix3 0 k f)) r j fun f => ?_).trans ?_
  · rw [← hs f]
    pointwise
  · pointwise [dot]

theorem idx : ∀ t : Fin cfg0.N, win0_2.index t = ![0, 0]
    ∧ win0_3.index t = ![0, 0, 0]
    ∧ win0_4.index t = ![0, 0, 0]
    ∧ win0_5.index t = ![0, 0, 0]
    ∧ win0_6.index t = ![0, 0]
    ∧ win0_7.index t = ![0, 0, 0]
    ∧ win0_8.index t = ![11 * (grid0.coords t 0).val + (grid0.coords t 1).val, 0]
    ∧ win0_9.index t = ![11 * (grid0.coords t 0).val + (grid0.coords t 1).val, 0]
    ∧ win0_10.index t = ![11 * (grid0.coords t 0).val + (grid0.coords t 1).val, 0]
    ∧ win0_11.index t = ![11 * (grid0.coords t 0).val + (grid0.coords t 1).val, 0]
    ∧ win0_12.index t = ![11 * (grid0.coords t 0).val + (grid0.coords t 1).val, 0] := (by decide +kernel : ∀ t : Fin grid0.N, _)
theorem bounds : ∀ t : Fin cfg0.N, (grid0.coords t 0).val < 8 ∧ (grid0.coords t 1).val < 11 := (by decide +kernel : ∀ t : Fin grid0.N, _)

theorem blk2_at (c : Dev nD) (t : Fin cfg0.N) (k : Fin 1024) : iblk m c 2 t (ix2 0 k) = m ((c : Thread nD τ).loc main_arg2) (ix2 0 k) := by
  have e := (idx t).1
  blk_ext! [iblk, V, e]
theorem blk3_at (c : Dev nD) (t : Fin cfg0.N) (k : Fin 1024) (f : Fin 2816) : iblk m c 3 t (ix3 0 k f) = m ((c : Thread nD τ).loc main_arg3) (ix3 0 k f) := by
  have e := (idx t).2.1
  blk_ext! [iblk, V, e]
theorem blk4_at (c : Dev nD) (t : Fin cfg0.N) (k : Fin 1024) (f : Fin 2816) : iblk m c 4 t (ix3 0 k f) = m ((c : Thread nD τ).loc main_arg4) (ix3 0 k f) := by
  have e := (idx t).2.2.1
  blk_ext! [iblk, V, e]
theorem blk5_at (c : Dev nD) (t : Fin cfg0.N) (k : Fin 2816) (f : Fin 1024) : iblk m c 5 t (ix3 0 k f) = m ((c : Thread nD τ).loc main_arg5) (ix3 0 k f) := by
  have e := (idx t).2.2.2.1
  blk_ext! [iblk, V, e]
theorem blk6_at (c : Dev nD) (t : Fin cfg0.N) (k : Fin 1024) : iblk m c 6 t (ix2 0 k) = m ((c : Thread nD τ).loc main_arg6) (ix2 0 k) := by
  have e := (idx t).2.2.2.2.1
  blk_ext! [iblk, V, e]
theorem blk7_at (c : Dev nD) (t : Fin cfg0.N) (k : Fin 1024) (f : Fin 2688) : iblk m c 7 t (ix3 0 k f) = m ((c : Thread nD τ).loc main_arg7) (ix3 0 k f) := by
  have e := (idx t).2.2.2.2.2.1
  blk_ext! [iblk, V, e]

/-- A row of output 0 is the reference's row. -/
theorem row0_eq (c : Dev nD) (t : Fin cfg0.N) (hb : (grid0.coords t 0).val < 8 ∧ (grid0.coords t 1).val < 11) (r : Fin 384) (j : Fin 1024) :
    (outsAt0 m c t).1 (ix2 r j) = Cert.FirstRefIdeal.Read.val_main_v33 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (ix2 (n0 := 33792) (n1 := 1024) ⟨4224 * (grid0.coords t 0).val + 384 * (grid0.coords t 1).val + r, by omega⟩ j) := by
  have h0 := fun k => hid_eq m c t hb r k
  rw [outs0_at, Cert.FirstRefIdeal.Rows.ffn_at]
  simp only [blk2_at, blk3_at, blk4_at, blk5_at, h0]

theorem covers0 : (cfg0.win 8).Covers := by decide +kernel

/-- Output 0 is the reference of the arguments. -/
theorem arr0_eq (c : Dev nD) : (dats m 0 c).arrAt 8 cfg0.N = Cert.FirstRefIdeal.Read.val_main_v33 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ covers0 fun t hf y => ?_
  have hb := bounds t
  obtain ⟨r, j, rfl⟩ : ∃ (r : Fin 384) (j : Fin 1024), y = ix2 r j := ⟨y 0, y 1, eq_ix2 y⟩
  have hemb : ((cfg0.win 8).blk t).view.emb (ix2 r j) = ix2 (n0 := 33792) (n1 := 1024) ⟨4224 * (grid0.coords t 0).val + 384 * (grid0.coords t 1).val + r, by omega⟩ j := by
    blk_ext [(idx t).2.2.2.2.2.2.1]
  rw [hemb, ← row0_eq m c t hb r j, after0_8]
  generalize (outsAt0 m c t).1 = F
  rfl

/-- A row of output 1 is the reference's row. -/
theorem row1_eq (c : Dev nD) (t : Fin cfg0.N) (hb : (grid0.coords t 0).val < 8 ∧ (grid0.coords t 1).val < 11) (r : Fin 384) (j : Fin 384) :
    (outsAt0 m c t).2.1 (ix2 r j) = Cert.FirstRefIdeal.Read.val_main_v52 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (ix2 (n0 := 33792) (n1 := 384) ⟨4224 * (grid0.coords t 0).val + 384 * (grid0.coords t 1).val + r, by omega⟩ j) := by
  have h0 := fun k => hid_eq m c t hb r k
  rw [outs1_at, Cert.FirstRefIdeal.Rows.proj0_at]
  simp only [Cert.FirstRefIdeal.Rows.mixed_at, Cert.FirstRefIdeal.Rows.ffn_at, blk2_at, blk3_at, blk4_at, blk5_at, blk6_at, blk7_at, h0]

theorem covers1 : (cfg0.win 9).Covers := by decide +kernel

/-- Output 1 is the reference of the arguments. -/
theorem arr1_eq (c : Dev nD) : (dats m 0 c).arrAt 9 cfg0.N = Cert.FirstRefIdeal.Read.val_main_v52 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ covers1 fun t hf y => ?_
  have hb := bounds t
  obtain ⟨r, j, rfl⟩ : ∃ (r : Fin 384) (j : Fin 384), y = ix2 r j := ⟨y 0, y 1, eq_ix2 y⟩
  have hemb : ((cfg0.win 9).blk t).view.emb (ix2 r j) = ix2 (n0 := 33792) (n1 := 384) ⟨4224 * (grid0.coords t 0).val + 384 * (grid0.coords t 1).val + r, by omega⟩ j := by
    blk_ext [(idx t).2.2.2.2.2.2.2.1]
  rw [hemb, ← row1_eq m c t hb r j, after0_9]
  generalize (outsAt0 m c t).2.1 = F
  rfl

/-- A row of output 2 is the reference's row. -/
theorem row2_eq (c : Dev nD) (t : Fin cfg0.N) (hb : (grid0.coords t 0).val < 8 ∧ (grid0.coords t 1).val < 11) (r : Fin 384) (j : Fin 1152) :
    (outsAt0 m c t).2.2.1 (ix2 r j) = Cert.FirstRefIdeal.Read.val_main_v54 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (ix2 (n0 := 33792) (n1 := 1152) ⟨4224 * (grid0.coords t 0).val + 384 * (grid0.coords t 1).val + r, by omega⟩ j) := by
  have h0 := fun k => hid_eq m c t hb r k
  rw [outs2_at, Cert.FirstRefIdeal.Rows.proj1_at]
  simp only [Cert.FirstRefIdeal.Rows.mixed_at, Cert.FirstRefIdeal.Rows.ffn_at, blk2_at, blk3_at, blk4_at, blk5_at, blk6_at, blk7_at, h0]

theorem covers2 : (cfg0.win 10).Covers := by decide +kernel

/-- Output 2 is the reference of the arguments. -/
theorem arr2_eq (c : Dev nD) : (dats m 0 c).arrAt 10 cfg0.N = Cert.FirstRefIdeal.Read.val_main_v54 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ covers2 fun t hf y => ?_
  have hb := bounds t
  obtain ⟨r, j, rfl⟩ : ∃ (r : Fin 384) (j : Fin 1152), y = ix2 r j := ⟨y 0, y 1, eq_ix2 y⟩
  have hemb : ((cfg0.win 10).blk t).view.emb (ix2 r j) = ix2 (n0 := 33792) (n1 := 1152) ⟨4224 * (grid0.coords t 0).val + 384 * (grid0.coords t 1).val + r, by omega⟩ j := by
    blk_ext [(idx t).2.2.2.2.2.2.2.2.1]
  rw [hemb, ← row2_eq m c t hb r j, after0_10]
  generalize (outsAt0 m c t).2.2.1 = F
  rfl

/-- A row of output 3 is the reference's row. -/
theorem row3_eq (c : Dev nD) (t : Fin cfg0.N) (hb : (grid0.coords t 0).val < 8 ∧ (grid0.coords t 1).val < 11) (r : Fin 384) (j : Fin 640) :
    (outsAt0 m c t).2.2.2.1 (ix2 r j) = Cert.FirstRefIdeal.Read.val_main_v56 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (ix2 (n0 := 33792) (n1 := 640) ⟨4224 * (grid0.coords t 0).val + 384 * (grid0.coords t 1).val + r, by omega⟩ j) := by
  have h0 := fun k => hid_eq m c t hb r k
  rw [outs3_at, Cert.FirstRefIdeal.Rows.proj2_at]
  simp only [Cert.FirstRefIdeal.Rows.mixed_at, Cert.FirstRefIdeal.Rows.ffn_at, blk2_at, blk3_at, blk4_at, blk5_at, blk6_at, blk7_at, h0]

theorem covers3 : (cfg0.win 11).Covers := by decide +kernel

/-- Output 3 is the reference of the arguments. -/
theorem arr3_eq (c : Dev nD) : (dats m 0 c).arrAt 11 cfg0.N = Cert.FirstRefIdeal.Read.val_main_v56 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ covers3 fun t hf y => ?_
  have hb := bounds t
  obtain ⟨r, j, rfl⟩ : ∃ (r : Fin 384) (j : Fin 640), y = ix2 r j := ⟨y 0, y 1, eq_ix2 y⟩
  have hemb : ((cfg0.win 11).blk t).view.emb (ix2 r j) = ix2 (n0 := 33792) (n1 := 640) ⟨4224 * (grid0.coords t 0).val + 384 * (grid0.coords t 1).val + r, by omega⟩ j := by
    blk_ext [(idx t).2.2.2.2.2.2.2.2.2.1]
  rw [hemb, ← row3_eq m c t hb r j, after0_11]
  generalize (outsAt0 m c t).2.2.2.1 = F
  rfl

/-- A row of output 4 is the reference's row. -/
theorem row4_eq (c : Dev nD) (t : Fin cfg0.N) (hb : (grid0.coords t 0).val < 8 ∧ (grid0.coords t 1).val < 11) (r : Fin 384) (j : Fin 512) :
    (outsAt0 m c t).2.2.2.2 (ix2 r j) = Cert.FirstRefIdeal.Read.val_main_v58 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (ix2 (n0 := 33792) (n1 := 512) ⟨4224 * (grid0.coords t 0).val + 384 * (grid0.coords t 1).val + r, by omega⟩ j) := by
  have h0 := fun k => hid_eq m c t hb r k
  rw [outs4_at, Cert.FirstRefIdeal.Rows.proj3_at]
  simp only [Cert.FirstRefIdeal.Rows.mixed_at, Cert.FirstRefIdeal.Rows.ffn_at, blk2_at, blk3_at, blk4_at, blk5_at, blk6_at, blk7_at, h0]

theorem covers4 : (cfg0.win 12).Covers := by decide +kernel

/-- Output 4 is the reference of the arguments. -/
theorem arr4_eq (c : Dev nD) : (dats m 0 c).arrAt 12 cfg0.N = Cert.FirstRefIdeal.Read.val_main_v58 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ covers4 fun t hf y => ?_
  have hb := bounds t
  obtain ⟨r, j, rfl⟩ : ∃ (r : Fin 384) (j : Fin 512), y = ix2 r j := ⟨y 0, y 1, eq_ix2 y⟩
  have hemb : ((cfg0.win 12).blk t).view.emb (ix2 r j) = ix2 (n0 := 33792) (n1 := 512) ⟨4224 * (grid0.coords t 0).val + 384 * (grid0.coords t 1).val + r, by omega⟩ j := by
    blk_ext [(idx t).2.2.2.2.2.2.2.2.2.2]
  rw [hemb, ← row4_eq m c t hb r j, after0_12]
  generalize (outsAt0 m c t).2.2.2.2 = F
  rfl
end Cert.FirstFfnIdeal.Rows
-- ==== Proof.Ffn.FirstClaim.lean ====
module

public import proofs.«01_k».proof.Defs
public import proofs.«01_k».proof.Proof.Gen.FirstRefIdeal.Run
public import proofs.«01_k».proof.Proof.Ffn.First
public import Idealize.ShloMosaic.Lib.Claim

@[expose] public section

set_option maxHeartbeats 2000000

noncomputable section

namespace Cert.Ffn

open Idealize.ShloMosaic Idealize.SL.Sem

/-- The first call computes its reference. -/
theorem first : Cert.algebraic_FirstFfnIdeal_FirstRefIdeal (hFirstFfnIdeal := Cert.FirstFfnIdeal.Gen.facts) (hFirstRefIdeal := Cert.FirstRefIdeal.Gen.facts) := by
  pair_intro
  · run_from Cert.FirstFfnIdeal.Value.run_blocks m g
  · run_from Cert.FirstRefIdeal.Value.run m' g'
    · obtain ⟨h0, h1, h2, h3, h4, h5, h6, h7⟩ := hagree c
      refine (Cert.FirstRefIdeal.Read.val_main_v33_eq m' c).trans ?_
      rw [h0, h1, h2, h3, h4, h5]
      exact (Cert.FirstFfnIdeal.Rows.arr0_eq m c).symm
    · obtain ⟨h0, h1, h2, h3, h4, h5, h6, h7⟩ := hagree c
      refine (Cert.FirstRefIdeal.Read.val_main_v52_eq m' c).trans ?_
      rw [h0, h1, h2, h3, h4, h5, h6, h7]
      exact (Cert.FirstFfnIdeal.Rows.arr1_eq m c).symm
    · obtain ⟨h0, h1, h2, h3, h4, h5, h6, h7⟩ := hagree c
      refine (Cert.FirstRefIdeal.Read.val_main_v54_eq m' c).trans ?_
      rw [h0, h1, h2, h3, h4, h5, h6, h7]
      exact (Cert.FirstFfnIdeal.Rows.arr2_eq m c).symm
    · obtain ⟨h0, h1, h2, h3, h4, h5, h6, h7⟩ := hagree c
      refine (Cert.FirstRefIdeal.Read.val_main_v56_eq m' c).trans ?_
      rw [h0, h1, h2, h3, h4, h5, h6, h7]
      exact (Cert.FirstFfnIdeal.Rows.arr3_eq m c).symm
    · obtain ⟨h0, h1, h2, h3, h4, h5, h6, h7⟩ := hagree c
      refine (Cert.FirstRefIdeal.Read.val_main_v58_eq m' c).trans ?_
      rw [h0, h1, h2, h3, h4, h5, h6, h7]
      exact (Cert.FirstFfnIdeal.Rows.arr4_eq m c).symm

end Cert.Ffn
-- ==== Proof.Mixer.RefLayout.lean ====
module

public import proofs.«01_k».proof.Proof.Gen.AttentionIdeal.Read
public import Idealize.ShloMosaic.Lib.ValueIdxRank6
public import Idealize.ShloMosaic.Lib.KernelVsHost
public import Idealize.ShloMosaic.Lib.Pipeline.ValueKit

@[expose] public section

/-! The plain attention's layout: which entries of the projection its queries, keys and values are, and where its result
lies. -/

set_option maxRecDepth 16384

noncomputable section

namespace Cert.AttentionIdeal.Rows

open Cert.AttentionIdeal Cert.AttentionIdeal.Gen Cert.AttentionIdeal.Read Idealize.ShloMosaic Idealize.ShloMosaic.TcCoe

variable (P : (⟨S8x4224x640, .bf16⟩ : BufTy).Contents (Elt Ideal)) (sk : (⟨S6, .f32⟩ : BufTy).Contents (Elt Ideal))

/-- A query, past the padding. -/
theorem query_at (b : Fin 8) (n : Fin 33) (q : Fin 128) (j : Fin 2) (g : Fin 3) (e : Fin 64) (h : 112 ≤ 128 * n.val + q.val) :
    val_main_v9 (F := Ideal) P (ix6 b n q j g e) = P (ix3 b ⟨128 * n.val + q.val, by omega⟩ ⟨128 * g.val + (64 * j.val + e.val), by omega⟩) := by
  refine (shapeCast_apply (val_main_v8 (F := Ideal) P) shapeCasts_S8x4224x384_S8x33x128x2x3x64 (ix6 b n q j g e) (ix3 b ⟨128 * n.val + q.val, by omega⟩ ⟨192 * j.val + (64 * g.val + e.val), by omega⟩) (by rewrite [Shape.rowMajor_val_three, Shape.rowMajor_val_six]; show (((b.val) * 4224 + (128 * n.val + q.val)) * 384 + (192 * j.val + (64 * g.val + e.val))) = ((((((b.val) * 33 + (n.val)) * 128 + (q.val)) * 2 + (j.val)) * 3 + (g.val)) * 64 + (e.val)); omega)).trans ?_
  refine (pad_apply_of_inside ![0, 112, 0] ![0, 0, 0] ![0, 0, 0] (val_main_v5 (F := Ideal) P) (val_main_call0_v0 (F := Ideal)) pads_S8x4112x384_S8x4224x384_000_11200_000 h_S_ (ix3 b ⟨128 * n.val + q.val, by omega⟩ ⟨192 * j.val + (64 * g.val + e.val), by omega⟩) (ix3 b ⟨128 * n.val + q.val - 112, by omega⟩ ⟨192 * j.val + (64 * g.val + e.val), by omega⟩) (fun a => match a with | ⟨0, _⟩ => by show b.val = 0 + (b.val) * (0 + 1); omega | ⟨1, _⟩ => by show 128 * n.val + q.val = 112 + (128 * n.val + q.val - 112) * (0 + 1); omega | ⟨2, _⟩ => by show 192 * j.val + (64 * g.val + e.val) = 0 + (192 * j.val + (64 * g.val + e.val)) * (0 + 1); omega)).trans ?_
  refine (shapeCast_apply (val_main_v4 (F := Ideal) P) shapeCasts_S8x4112x2x3x64_S8x4112x384 (ix3 b ⟨128 * n.val + q.val - 112, by omega⟩ ⟨192 * j.val + (64 * g.val + e.val), by omega⟩) (ix5 b ⟨128 * n.val + q.val - 112, by omega⟩ j g e) (by rewrite [Shape.rowMajor_val_five, Shape.rowMajor_val_three]; show (((((b.val) * 4112 + (128 * n.val + q.val - 112)) * 2 + (j.val)) * 3 + (g.val)) * 64 + (e.val)) = (((b.val) * 4112 + (128 * n.val + q.val - 112)) * 384 + (192 * j.val + (64 * g.val + e.val))); omega)).trans ?_
  refine (transpose_apply [0, 1, 3, 2, 4] (val_main_v3 (F := Ideal) P) transposes_S8x4112x3x2x64_S8x4112x2x3x64_0_1_3_2_4 (ix5 b ⟨128 * n.val + q.val - 112, by omega⟩ j g e) (ix5 b ⟨128 * n.val + q.val - 112, by omega⟩ g j e) (fun a => match a with | ⟨0, _⟩ => rfl | ⟨1, _⟩ => rfl | ⟨2, _⟩ => rfl | ⟨3, _⟩ => rfl | ⟨4, _⟩ => rfl)).trans ?_
  refine (shapeCast_apply (val_main_v2 (F := Ideal) P) shapeCasts_S8x4112x384_S8x4112x3x2x64 (ix5 b ⟨128 * n.val + q.val - 112, by omega⟩ g j e) (ix3 b ⟨128 * n.val + q.val - 112, by omega⟩ ⟨128 * g.val + (64 * j.val + e.val), by omega⟩) (by rewrite [Shape.rowMajor_val_three, Shape.rowMajor_val_five]; show (((b.val) * 4112 + (128 * n.val + q.val - 112)) * 384 + (128 * g.val + (64 * j.val + e.val))) = (((((b.val) * 4112 + (128 * n.val + q.val - 112)) * 3 + (g.val)) * 2 + (j.val)) * 64 + (e.val)); omega)).trans ?_
  refine (extractStridedSlice_apply ![0, 0, 0] (val_main_v1 (F := Ideal) P) slices_S8x4112x640_S8x4112x384_0_0_0 (ix3 b ⟨128 * n.val + q.val - 112, by omega⟩ ⟨128 * g.val + (64 * j.val + e.val), by omega⟩) (ix3 b ⟨128 * n.val + q.val - 112, by omega⟩ ⟨128 * g.val + (64 * j.val + e.val), by omega⟩) (fun a => match a with | ⟨0, _⟩ => by show (b.val) = 0 + (b.val); omega | ⟨1, _⟩ => by show (128 * n.val + q.val - 112) = 0 + (128 * n.val + q.val - 112); omega | ⟨2, _⟩ => by show (128 * g.val + (64 * j.val + e.val)) = 0 + (128 * g.val + (64 * j.val + e.val)); omega)).trans ?_
  exact extractStridedSlice_apply ![0, 112, 0] (val_main_v0 (F := Ideal) P) slices_S8x4224x640_S8x4112x640_0_112_0 (ix3 b ⟨128 * n.val + q.val - 112, by omega⟩ ⟨128 * g.val + (64 * j.val + e.val), by omega⟩) (ix3 b ⟨128 * n.val + q.val, by omega⟩ ⟨128 * g.val + (64 * j.val + e.val), by omega⟩) (fun a => match a with | ⟨0, _⟩ => by show (b.val) = 0 + (b.val); omega | ⟨1, _⟩ => by show (128 * n.val + q.val) = 112 + (128 * n.val + q.val - 112); omega | ⟨2, _⟩ => by show (128 * g.val + (64 * j.val + e.val)) = 0 + (128 * g.val + (64 * j.val + e.val)); omega)

/-- A key of a block, past the padding. -/
theorem key_at (b : Fin 8) (n : Fin 33) (k : Fin 128) (j : Fin 2) (e : Fin 64) (h : 112 ≤ 128 * n.val + k.val) :
    val_main_v11 (F := Ideal) P (ix5 b n k j e) = P (ix3 b ⟨128 * n.val + k.val, by omega⟩ ⟨384 + (64 * j.val + e.val), by omega⟩) := by
  refine (shapeCast_apply (val_main_v10 (F := Ideal) P) shapeCasts_S8x4224x128_S8x33x128x2x64 (ix5 b n k j e) (ix3 b ⟨128 * n.val + k.val, by omega⟩ ⟨64 * j.val + e.val, by omega⟩) (by rewrite [Shape.rowMajor_val_three, Shape.rowMajor_val_five]; show (((b.val) * 4224 + (128 * n.val + k.val)) * 128 + (64 * j.val + e.val)) = (((((b.val) * 33 + (n.val)) * 128 + (k.val)) * 2 + (j.val)) * 64 + (e.val)); omega)).trans ?_
  refine (pad_apply_of_inside ![0, 112, 0] ![0, 0, 0] ![0, 0, 0] (val_main_v6 (F := Ideal) P) (val_main_call1_v0 (F := Ideal)) pads_S8x4112x128_S8x4224x128_000_11200_000 h_S_ (ix3 b ⟨128 * n.val + k.val, by omega⟩ ⟨64 * j.val + e.val, by omega⟩) (ix3 b ⟨128 * n.val + k.val - 112, by omega⟩ ⟨64 * j.val + e.val, by omega⟩) (fun a => match a with | ⟨0, _⟩ => by show b.val = 0 + (b.val) * (0 + 1); omega | ⟨1, _⟩ => by show 128 * n.val + k.val = 112 + (128 * n.val + k.val - 112) * (0 + 1); omega | ⟨2, _⟩ => by show 64 * j.val + e.val = 0 + (64 * j.val + e.val) * (0 + 1); omega)).trans ?_
  refine (extractStridedSlice_apply ![0, 0, 384] (val_main_v1 (F := Ideal) P) slices_S8x4112x640_S8x4112x128_0_0_384 (ix3 b ⟨128 * n.val + k.val - 112, by omega⟩ ⟨64 * j.val + e.val, by omega⟩) (ix3 b ⟨128 * n.val + k.val - 112, by omega⟩ ⟨384 + (64 * j.val + e.val), by omega⟩) (fun a => match a with | ⟨0, _⟩ => by show (b.val) = 0 + (b.val); omega | ⟨1, _⟩ => by show (128 * n.val + k.val - 112) = 0 + (128 * n.val + k.val - 112); omega | ⟨2, _⟩ => by show (384 + (64 * j.val + e.val)) = 384 + (64 * j.val + e.val); omega)).trans ?_
  exact extractStridedSlice_apply ![0, 112, 0] (val_main_v0 (F := Ideal) P) slices_S8x4224x640_S8x4112x640_0_112_0 (ix3 b ⟨128 * n.val + k.val - 112, by omega⟩ ⟨384 + (64 * j.val + e.val), by omega⟩) (ix3 b ⟨128 * n.val + k.val, by omega⟩ ⟨384 + (64 * j.val + e.val), by omega⟩) (fun a => match a with | ⟨0, _⟩ => by show (b.val) = 0 + (b.val); omega | ⟨1, _⟩ => by show (128 * n.val + k.val) = 112 + (128 * n.val + k.val - 112); omega | ⟨2, _⟩ => by show (384 + (64 * j.val + e.val)) = 0 + (384 + (64 * j.val + e.val)); omega)

/-- A key of the block before. -/
theorem key_before (b : Fin 8) (n : Fin 33) (k : Fin 256) (j : Fin 2) (e : Fin 64) (h : k.val < 128) (hn : 2 ≤ n.val) :
    val_main_v18 (F := Ideal) P (ix5 b n k j e) = P (ix3 b ⟨128 * (n.val - 1) + k.val, by omega⟩ ⟨384 + (64 * j.val + e.val), by omega⟩) := by
  refine (concatenate_pair_apply_left 2 (val_main_v17 (F := Ideal) P) (val_main_v11 (F := Ideal) P) concatenates_S8x33x128x2x64_S8x33x128x2x64_S8x33x256x2x64_d2 (ix5 b n k j e) rfl (ix5 b n ⟨k.val, h⟩ j e) (fun a => match a with | ⟨0, _⟩ => rfl | ⟨1, _⟩ => rfl | ⟨2, _⟩ => rfl | ⟨3, _⟩ => rfl | ⟨4, _⟩ => rfl)).trans ?_
  refine (concatenate_pair_apply_right 1 (val_main_v15 (F := Ideal)) (val_main_v16 (F := Ideal) P) concatenates_S8x1x128x2x64_S8x32x128x2x64_S8x33x128x2x64_d1 (ix5 b n ⟨k.val, h⟩ j e) rfl rfl (ix5 b ⟨n.val - 1, by omega⟩ ⟨k.val, h⟩ j e) (fun a => match a with | ⟨0, _⟩ => fun _ => rfl | ⟨1, _⟩ => fun h => absurd rfl h | ⟨2, _⟩ => fun _ => rfl | ⟨3, _⟩ => fun _ => rfl | ⟨4, _⟩ => fun _ => rfl) (by show (n.val - 1) + 1 = n.val; omega)).trans ?_
  refine (extractStridedSlice_apply ![0, 0, 0, 0, 0] (val_main_v11 (F := Ideal) P) slices_S8x33x128x2x64_S8x32x128x2x64_0_0_0_0_0 (ix5 b ⟨n.val - 1, by omega⟩ ⟨k.val, h⟩ j e) (ix5 b ⟨n.val - 1, by omega⟩ ⟨k.val, h⟩ j e) (fun a => match a with | ⟨0, _⟩ => by show (b.val) = 0 + (b.val); omega | ⟨1, _⟩ => by show (n.val - 1) = 0 + (n.val - 1); omega | ⟨2, _⟩ => by show (k.val) = 0 + (k.val); omega | ⟨3, _⟩ => by show (j.val) = 0 + (j.val); omega | ⟨4, _⟩ => by show (e.val) = 0 + (e.val); omega)).trans ?_
  exact key_at P b ⟨n.val - 1, by omega⟩ ⟨k.val, h⟩ j e (by show 112 ≤ 128 * (n.val - 1) + k.val; omega)

/-- A key of the block itself. -/
theorem key_own (b : Fin 8) (n : Fin 33) (k : Fin 256) (j : Fin 2) (e : Fin 64) (h : ¬ k.val < 128) (hn : 1 ≤ n.val) :
    val_main_v18 (F := Ideal) P (ix5 b n k j e) = P (ix3 b ⟨128 * n.val + (k.val - 128), by omega⟩ ⟨384 + (64 * j.val + e.val), by omega⟩) := by
  refine (concatenate_pair_apply_right 2 (val_main_v17 (F := Ideal) P) (val_main_v11 (F := Ideal) P) concatenates_S8x33x128x2x64_S8x33x128x2x64_S8x33x256x2x64_d2 (ix5 b n k j e) rfl rfl (ix5 b n ⟨k.val - 128, by omega⟩ j e) (fun a => match a with | ⟨0, _⟩ => fun _ => rfl | ⟨1, _⟩ => fun _ => rfl | ⟨2, _⟩ => fun h => absurd rfl h | ⟨3, _⟩ => fun _ => rfl | ⟨4, _⟩ => fun _ => rfl) (by show (k.val - 128) + 128 = k.val; omega)).trans ?_
  exact key_at P b n ⟨k.val - 128, by omega⟩ j e (by show 112 ≤ 128 * n.val + (k.val - 128); omega)

/-- A key of the meta tokens. -/
theorem key_meta (b : Fin 8) (k : Fin 16) (j : Fin 2) (e : Fin 64) :
    val_main_v25 (F := Ideal) P (ix4 b k j e) = P (ix3 b ⟨112 + k.val, by omega⟩ ⟨384 + (64 * j.val + e.val), by omega⟩) := by
  refine (shapeCast_apply (val_main_v24 (F := Ideal) P) shapeCasts_S8x16x128_S8x16x2x64 (ix4 b k j e) (ix3 b k ⟨64 * j.val + e.val, by omega⟩) (by rewrite [Shape.rowMajor_val_three, Shape.rowMajor_val_four]; show (((b.val) * 16 + (k.val)) * 128 + (64 * j.val + e.val)) = ((((b.val) * 16 + (k.val)) * 2 + (j.val)) * 64 + (e.val)); omega)).trans ?_
  refine (extractStridedSlice_apply ![0, 0, 0] (val_main_v6 (F := Ideal) P) slices_S8x4112x128_S8x16x128_0_0_0 (ix3 b k ⟨64 * j.val + e.val, by omega⟩) (ix3 b ⟨k.val, by omega⟩ ⟨64 * j.val + e.val, by omega⟩) (fun a => match a with | ⟨0, _⟩ => by show (b.val) = 0 + (b.val); omega | ⟨1, _⟩ => by show (k.val) = 0 + (k.val); omega | ⟨2, _⟩ => by show (64 * j.val + e.val) = 0 + (64 * j.val + e.val); omega)).trans ?_
  refine (extractStridedSlice_apply ![0, 0, 384] (val_main_v1 (F := Ideal) P) slices_S8x4112x640_S8x4112x128_0_0_384 (ix3 b ⟨k.val, by omega⟩ ⟨64 * j.val + e.val, by omega⟩) (ix3 b ⟨k.val, by omega⟩ ⟨384 + (64 * j.val + e.val), by omega⟩) (fun a => match a with | ⟨0, _⟩ => by show (b.val) = 0 + (b.val); omega | ⟨1, _⟩ => by show (k.val) = 0 + (k.val); omega | ⟨2, _⟩ => by show (384 + (64 * j.val + e.val)) = 384 + (64 * j.val + e.val); omega)).trans ?_
  exact extractStridedSlice_apply ![0, 112, 0] (val_main_v0 (F := Ideal) P) slices_S8x4224x640_S8x4112x640_0_112_0 (ix3 b ⟨k.val, by omega⟩ ⟨384 + (64 * j.val + e.val), by omega⟩) (ix3 b ⟨112 + k.val, by omega⟩ ⟨384 + (64 * j.val + e.val), by omega⟩) (fun a => match a with | ⟨0, _⟩ => by show (b.val) = 0 + (b.val); omega | ⟨1, _⟩ => by show (112 + k.val) = 112 + (k.val); omega | ⟨2, _⟩ => by show (384 + (64 * j.val + e.val)) = 0 + (384 + (64 * j.val + e.val)); omega)

/-- A value of a block, past the padding. -/
theorem val_at (b : Fin 8) (n : Fin 33) (k : Fin 128) (j : Fin 2) (e : Fin 64) (h : 112 ≤ 128 * n.val + k.val) :
    val_main_v13 (F := Ideal) P (ix5 b n k j e) = P (ix3 b ⟨128 * n.val + k.val, by omega⟩ ⟨512 + (64 * j.val + e.val), by omega⟩) := by
  refine (shapeCast_apply (val_main_v12 (F := Ideal) P) shapeCasts_S8x4224x128_S8x33x128x2x64 (ix5 b n k j e) (ix3 b ⟨128 * n.val + k.val, by omega⟩ ⟨64 * j.val + e.val, by omega⟩) (by rewrite [Shape.rowMajor_val_three, Shape.rowMajor_val_five]; show (((b.val) * 4224 + (128 * n.val + k.val)) * 128 + (64 * j.val + e.val)) = (((((b.val) * 33 + (n.val)) * 128 + (k.val)) * 2 + (j.val)) * 64 + (e.val)); omega)).trans ?_
  refine (pad_apply_of_inside ![0, 112, 0] ![0, 0, 0] ![0, 0, 0] (val_main_v7 (F := Ideal) P) (val_main_call2_v0 (F := Ideal)) pads_S8x4112x128_S8x4224x128_000_11200_000 h_S_ (ix3 b ⟨128 * n.val + k.val, by omega⟩ ⟨64 * j.val + e.val, by omega⟩) (ix3 b ⟨128 * n.val + k.val - 112, by omega⟩ ⟨64 * j.val + e.val, by omega⟩) (fun a => match a with | ⟨0, _⟩ => by show b.val = 0 + (b.val) * (0 + 1); omega | ⟨1, _⟩ => by show 128 * n.val + k.val = 112 + (128 * n.val + k.val - 112) * (0 + 1); omega | ⟨2, _⟩ => by show 64 * j.val + e.val = 0 + (64 * j.val + e.val) * (0 + 1); omega)).trans ?_
  refine (extractStridedSlice_apply ![0, 0, 512] (val_main_v1 (F := Ideal) P) slices_S8x4112x640_S8x4112x128_0_0_512 (ix3 b ⟨128 * n.val + k.val - 112, by omega⟩ ⟨64 * j.val + e.val, by omega⟩) (ix3 b ⟨128 * n.val + k.val - 112, by omega⟩ ⟨512 + (64 * j.val + e.val), by omega⟩) (fun a => match a with | ⟨0, _⟩ => by show (b.val) = 0 + (b.val); omega | ⟨1, _⟩ => by show (128 * n.val + k.val - 112) = 0 + (128 * n.val + k.val - 112); omega | ⟨2, _⟩ => by show (512 + (64 * j.val + e.val)) = 512 + (64 * j.val + e.val); omega)).trans ?_
  exact extractStridedSlice_apply ![0, 112, 0] (val_main_v0 (F := Ideal) P) slices_S8x4224x640_S8x4112x640_0_112_0 (ix3 b ⟨128 * n.val + k.val - 112, by omega⟩ ⟨512 + (64 * j.val + e.val), by omega⟩) (ix3 b ⟨128 * n.val + k.val, by omega⟩ ⟨512 + (64 * j.val + e.val), by omega⟩) (fun a => match a with | ⟨0, _⟩ => by show (b.val) = 0 + (b.val); omega | ⟨1, _⟩ => by show (128 * n.val + k.val) = 112 + (128 * n.val + k.val - 112); omega | ⟨2, _⟩ => by show (512 + (64 * j.val + e.val)) = 0 + (512 + (64 * j.val + e.val)); omega)

/-- A value of the block before. -/
theorem val_before (b : Fin 8) (n : Fin 33) (k : Fin 256) (j : Fin 2) (e : Fin 64) (h : k.val < 128) (hn : 2 ≤ n.val) :
    val_main_v23 (F := Ideal) P (ix5 b n k j e) = P (ix3 b ⟨128 * (n.val - 1) + k.val, by omega⟩ ⟨512 + (64 * j.val + e.val), by omega⟩) := by
  refine (concatenate_pair_apply_left 2 (val_main_v22 (F := Ideal) P) (val_main_v13 (F := Ideal) P) concatenates_S8x33x128x2x64_S8x33x128x2x64_S8x33x256x2x64_d2 (ix5 b n k j e) rfl (ix5 b n ⟨k.val, h⟩ j e) (fun a => match a with | ⟨0, _⟩ => rfl | ⟨1, _⟩ => rfl | ⟨2, _⟩ => rfl | ⟨3, _⟩ => rfl | ⟨4, _⟩ => rfl)).trans ?_
  refine (concatenate_pair_apply_right 1 (val_main_v20 (F := Ideal)) (val_main_v21 (F := Ideal) P) concatenates_S8x1x128x2x64_S8x32x128x2x64_S8x33x128x2x64_d1 (ix5 b n ⟨k.val, h⟩ j e) rfl rfl (ix5 b ⟨n.val - 1, by omega⟩ ⟨k.val, h⟩ j e) (fun a => match a with | ⟨0, _⟩ => fun _ => rfl | ⟨1, _⟩ => fun h => absurd rfl h | ⟨2, _⟩ => fun _ => rfl | ⟨3, _⟩ => fun _ => rfl | ⟨4, _⟩ => fun _ => rfl) (by show (n.val - 1) + 1 = n.val; omega)).trans ?_
  refine (extractStridedSlice_apply ![0, 0, 0, 0, 0] (val_main_v13 (F := Ideal) P) slices_S8x33x128x2x64_S8x32x128x2x64_0_0_0_0_0 (ix5 b ⟨n.val - 1, by omega⟩ ⟨k.val, h⟩ j e) (ix5 b ⟨n.val - 1, by omega⟩ ⟨k.val, h⟩ j e) (fun a => match a with | ⟨0, _⟩ => by show (b.val) = 0 + (b.val); omega | ⟨1, _⟩ => by show (n.val - 1) = 0 + (n.val - 1); omega | ⟨2, _⟩ => by show (k.val) = 0 + (k.val); omega | ⟨3, _⟩ => by show (j.val) = 0 + (j.val); omega | ⟨4, _⟩ => by show (e.val) = 0 + (e.val); omega)).trans ?_
  exact val_at P b ⟨n.val - 1, by omega⟩ ⟨k.val, h⟩ j e (by show 112 ≤ 128 * (n.val - 1) + k.val; omega)

/-- A value of the block itself. -/
theorem val_own (b : Fin 8) (n : Fin 33) (k : Fin 256) (j : Fin 2) (e : Fin 64) (h : ¬ k.val < 128) (hn : 1 ≤ n.val) :
    val_main_v23 (F := Ideal) P (ix5 b n k j e) = P (ix3 b ⟨128 * n.val + (k.val - 128), by omega⟩ ⟨512 + (64 * j.val + e.val), by omega⟩) := by
  refine (concatenate_pair_apply_right 2 (val_main_v22 (F := Ideal) P) (val_main_v13 (F := Ideal) P) concatenates_S8x33x128x2x64_S8x33x128x2x64_S8x33x256x2x64_d2 (ix5 b n k j e) rfl rfl (ix5 b n ⟨k.val - 128, by omega⟩ j e) (fun a => match a with | ⟨0, _⟩ => fun _ => rfl | ⟨1, _⟩ => fun _ => rfl | ⟨2, _⟩ => fun h => absurd rfl h | ⟨3, _⟩ => fun _ => rfl | ⟨4, _⟩ => fun _ => rfl) (by show (k.val - 128) + 128 = k.val; omega)).trans ?_
  exact val_at P b n ⟨k.val - 128, by omega⟩ j e (by show 112 ≤ 128 * n.val + (k.val - 128); omega)

/-- A value of the meta tokens. -/
theorem val_meta (b : Fin 8) (k : Fin 16) (j : Fin 2) (e : Fin 64) :
    val_main_v27 (F := Ideal) P (ix4 b k j e) = P (ix3 b ⟨112 + k.val, by omega⟩ ⟨512 + (64 * j.val + e.val), by omega⟩) := by
  refine (shapeCast_apply (val_main_v26 (F := Ideal) P) shapeCasts_S8x16x128_S8x16x2x64 (ix4 b k j e) (ix3 b k ⟨64 * j.val + e.val, by omega⟩) (by rewrite [Shape.rowMajor_val_three, Shape.rowMajor_val_four]; show (((b.val) * 16 + (k.val)) * 128 + (64 * j.val + e.val)) = ((((b.val) * 16 + (k.val)) * 2 + (j.val)) * 64 + (e.val)); omega)).trans ?_
  refine (extractStridedSlice_apply ![0, 0, 0] (val_main_v7 (F := Ideal) P) slices_S8x4112x128_S8x16x128_0_0_0 (ix3 b k ⟨64 * j.val + e.val, by omega⟩) (ix3 b ⟨k.val, by omega⟩ ⟨64 * j.val + e.val, by omega⟩) (fun a => match a with | ⟨0, _⟩ => by show (b.val) = 0 + (b.val); omega | ⟨1, _⟩ => by show (k.val) = 0 + (k.val); omega | ⟨2, _⟩ => by show (64 * j.val + e.val) = 0 + (64 * j.val + e.val); omega)).trans ?_
  refine (extractStridedSlice_apply ![0, 0, 512] (val_main_v1 (F := Ideal) P) slices_S8x4112x640_S8x4112x128_0_0_512 (ix3 b ⟨k.val, by omega⟩ ⟨64 * j.val + e.val, by omega⟩) (ix3 b ⟨k.val, by omega⟩ ⟨512 + (64 * j.val + e.val), by omega⟩) (fun a => match a with | ⟨0, _⟩ => by show (b.val) = 0 + (b.val); omega | ⟨1, _⟩ => by show (k.val) = 0 + (k.val); omega | ⟨2, _⟩ => by show (512 + (64 * j.val + e.val)) = 512 + (64 * j.val + e.val); omega)).trans ?_
  exact extractStridedSlice_apply ![0, 112, 0] (val_main_v0 (F := Ideal) P) slices_S8x4224x640_S8x4112x640_0_112_0 (ix3 b ⟨k.val, by omega⟩ ⟨512 + (64 * j.val + e.val), by omega⟩) (ix3 b ⟨112 + k.val, by omega⟩ ⟨512 + (64 * j.val + e.val), by omega⟩) (fun a => match a with | ⟨0, _⟩ => by show (b.val) = 0 + (b.val); omega | ⟨1, _⟩ => by show (112 + k.val) = 112 + (k.val); omega | ⟨2, _⟩ => by show (512 + (64 * j.val + e.val)) = 0 + (512 + (64 * j.val + e.val)); omega)

/-- An attention column of the result, past the padding. -/
theorem out_at (b : Fin 8) (n : Fin 33) (q : Fin 128) (g : Fin 3) (j : Fin 2) (d : Fin 64) (h : 112 ≤ 128 * n.val + q.val) :
    val_main_v99 (F := Ideal) P sk (ix3 b ⟨128 * n.val + q.val, by omega⟩ ⟨384 + (128 * g.val + (64 * j.val + d.val)), by omega⟩) = val_main_v92 (F := Ideal) P sk (ix6 b n q j g d) := by
  refine (pad_apply_of_inside ![0, 112, 384] ![0, 0, 256] ![0, 0, 0] (val_main_v97 (F := Ideal) P sk) (val_main_call4_v0 (F := Ideal)) pads_S8x4112x384_S8x4224x1024_000_11200_3842560 h_S_ (ix3 b ⟨128 * n.val + q.val, by omega⟩ ⟨384 + (128 * g.val + (64 * j.val + d.val)), by omega⟩) (ix3 b ⟨128 * n.val + q.val - 112, by omega⟩ ⟨128 * g.val + (64 * j.val + d.val), by omega⟩) (fun a => match a with | ⟨0, _⟩ => by show b.val = 0 + (b.val) * (0 + 1); omega | ⟨1, _⟩ => by show 128 * n.val + q.val = 112 + (128 * n.val + q.val - 112) * (0 + 1); omega | ⟨2, _⟩ => by show 384 + (128 * g.val + (64 * j.val + d.val)) = 384 + (128 * g.val + (64 * j.val + d.val)) * (0 + 1); omega)).trans ?_
  refine (shapeCast_apply (val_main_v96 (F := Ideal) P sk) shapeCasts_S8x4112x3x2x64_S8x4112x384 (ix3 b ⟨128 * n.val + q.val - 112, by omega⟩ ⟨128 * g.val + (64 * j.val + d.val), by omega⟩) (ix5 b ⟨128 * n.val + q.val - 112, by omega⟩ g j d) (by rewrite [Shape.rowMajor_val_five, Shape.rowMajor_val_three]; show (((((b.val) * 4112 + (128 * n.val + q.val - 112)) * 3 + (g.val)) * 2 + (j.val)) * 64 + (d.val)) = (((b.val) * 4112 + (128 * n.val + q.val - 112)) * 384 + (128 * g.val + (64 * j.val + d.val))); omega)).trans ?_
  refine (transpose_apply [0, 1, 3, 2, 4] (val_main_v95 (F := Ideal) P sk) transposes_S8x4112x2x3x64_S8x4112x3x2x64_0_1_3_2_4 (ix5 b ⟨128 * n.val + q.val - 112, by omega⟩ g j d) (ix5 b ⟨128 * n.val + q.val - 112, by omega⟩ j g d) (fun a => match a with | ⟨0, _⟩ => rfl | ⟨1, _⟩ => rfl | ⟨2, _⟩ => rfl | ⟨3, _⟩ => rfl | ⟨4, _⟩ => rfl)).trans ?_
  refine (shapeCast_apply (val_main_v94 (F := Ideal) P sk) shapeCasts_S8x4112x384_S8x4112x2x3x64 (ix5 b ⟨128 * n.val + q.val - 112, by omega⟩ j g d) (ix3 b ⟨128 * n.val + q.val - 112, by omega⟩ ⟨192 * j.val + (64 * g.val + d.val), by omega⟩) (by rewrite [Shape.rowMajor_val_three, Shape.rowMajor_val_five]; show (((b.val) * 4112 + (128 * n.val + q.val - 112)) * 384 + (192 * j.val + (64 * g.val + d.val))) = (((((b.val) * 4112 + (128 * n.val + q.val - 112)) * 2 + (j.val)) * 3 + (g.val)) * 64 + (d.val)); omega)).trans ?_
  refine (extractStridedSlice_apply ![0, 112, 0] (val_main_v93 (F := Ideal) P sk) slices_S8x4224x384_S8x4112x384_0_112_0 (ix3 b ⟨128 * n.val + q.val - 112, by omega⟩ ⟨192 * j.val + (64 * g.val + d.val), by omega⟩) (ix3 b ⟨128 * n.val + q.val, by omega⟩ ⟨192 * j.val + (64 * g.val + d.val), by omega⟩) (fun a => match a with | ⟨0, _⟩ => by show (b.val) = 0 + (b.val); omega | ⟨1, _⟩ => by show (128 * n.val + q.val) = 112 + (128 * n.val + q.val - 112); omega | ⟨2, _⟩ => by show (192 * j.val + (64 * g.val + d.val)) = 0 + (192 * j.val + (64 * g.val + d.val)); omega)).trans ?_
  exact shapeCast_apply (val_main_v92 (F := Ideal) P sk) shapeCasts_S8x33x128x2x3x64_S8x4224x384 (ix3 b ⟨128 * n.val + q.val, by omega⟩ ⟨192 * j.val + (64 * g.val + d.val), by omega⟩) (ix6 b n q j g d) (by rewrite [Shape.rowMajor_val_six, Shape.rowMajor_val_three]; show ((((((b.val) * 33 + (n.val)) * 128 + (q.val)) * 2 + (j.val)) * 3 + (g.val)) * 64 + (d.val)) = (((b.val) * 4224 + (128 * n.val + q.val)) * 384 + (192 * j.val + (64 * g.val + d.val))); omega)

/-- An attention column of the result in the padding. -/
theorem out_pad (b : Fin 8) (n : Fin 33) (q : Fin 128) (g : Fin 3) (j : Fin 2) (d : Fin 64) (h : ¬ 112 ≤ 128 * n.val + q.val) :
    val_main_v99 (F := Ideal) P sk (ix3 b ⟨128 * n.val + q.val, by omega⟩ ⟨384 + (128 * g.val + (64 * j.val + d.val)), by omega⟩) = 0 := by
  refine (pad_apply_of_not_inside ![0, 112, 384] ![0, 0, 256] ![0, 0, 0] (val_main_v97 (F := Ideal) P sk) (val_main_call4_v0 (F := Ideal)) pads_S8x4112x384_S8x4224x1024_000_11200_3842560 h_S_ (ix3 b ⟨128 * n.val + q.val, by omega⟩ ⟨384 + (128 * g.val + (64 * j.val + d.val)), by omega⟩) 1 (fun hin => by have h1 : 112 ≤ 128 * n.val + q.val := hin.1; omega)).trans ?_
  show ((((0#32 : BitVec 32).toInt : ℤ) : ℝ) : EReal) = 0
  norm_num

end Cert.AttentionIdeal.Rows
-- ==== Proof.Mixer.Attend.lean ====
module

public import Idealize.ShloMosaic.Lib.Pointwise

@[expose] public section

/-! One query of sink attention over the extended reals: the weighted sum of the values over the sum of the weights and
the sink's, and the same with each weight divided first. Weights are real, a masked key's weight is zero. -/

noncomputable section

namespace Cert.Mixer

open Idealize.ShloMosaic

/-- The largest score, the sink's included. -/
def top {n : ℕ} (s : Fin n → EReal) (sink : EReal) : EReal := max (Finset.univ.sup s) sink

/-- The weight of a key. -/
def wt {n : ℕ} (s : Fin n → EReal) (sink : EReal) (k : Fin n) : EReal := Ideal.exp (s k - top s sink)

/-- The sum of the weights and the sink's. -/
def den {n : ℕ} (s : Fin n → EReal) (sink : EReal) : EReal := ∑ k, wt s sink k + Ideal.exp (sink - top s sink)

/-- The attention of one query and one value column: the weighted sum, then one division. -/
def attend {n : ℕ} (s v : Fin n → EReal) (sink : EReal) : EReal := Ideal.div (∑ k, v k * wt s sink k) (den s sink)

/-- The same with the weights divided first. -/
def attendP {n : ℕ} (s v : Fin n → EReal) (sink : EReal) : EReal := ∑ k, Ideal.div (wt s sink k) (den s sink) * v k

/-- A score: a real number, or masked. -/
def Score (x : EReal) : Prop := x = ⊥ ∨ ∃ r : ℝ, x = r

theorem score_max {x y : EReal} (hx : Score x) (hy : Score y) : Score (max x y) := by
  rcases le_total x y with h | h
  · rw [max_eq_right h]; exact hy
  · rw [max_eq_left h]; exact hx

theorem score_sup {n : ℕ} (s : Fin n → EReal) (hs : ∀ k, Score (s k)) : Score (Finset.univ.sup s) := by
  classical
  induction (Finset.univ : Finset (Fin n)) using Finset.induction_on with
  | empty => exact .inl Finset.sup_empty
  | insert a t _ ih => rw [Finset.sup_insert]; exact score_max (hs a) ih

theorem top_real {n : ℕ} (s : Fin n → EReal) (hs : ∀ k, Score (s k)) (r : ℝ) : ∃ x : ℝ, top s (r : EReal) = x := by
  rcases score_max (score_sup s hs) (.inr ⟨r, rfl⟩ : Score (r : EReal)) with h | h
  · exact absurd (le_of_eq h) (not_le.mpr (lt_of_lt_of_le (EReal.bot_lt_coe r) (le_max_right _ _)))
  · exact h

theorem wt_real {n : ℕ} (s : Fin n → EReal) (hs : ∀ k, Score (s k)) (r : ℝ) (k : Fin n) :
    ∃ x : ℝ, 0 ≤ x ∧ wt s (r : EReal) k = x := by
  obtain ⟨t, ht⟩ := top_real s hs r
  rcases hs k with h | ⟨y, h⟩
  · refine ⟨0, le_rfl, ?_⟩
    unfold wt
    rw [h, ht, sub_eq_add_neg, EReal.bot_add, Ideal.exp_bot]
    rfl
  · refine ⟨Real.exp (y - t), (Real.exp_pos _).le, ?_⟩
    unfold wt
    rw [h, ht, ← EReal.coe_sub, Ideal.exp_coe]

theorem wt_bot {n : ℕ} (s : Fin n → EReal) (hs : ∀ k, Score (s k)) (r : ℝ) (k : Fin n) (h : s k = ⊥) : wt s (r : EReal) k = 0 := by
  obtain ⟨t, ht⟩ := top_real s hs r
  unfold wt
  rw [h, ht, sub_eq_add_neg, EReal.bot_add, Ideal.exp_bot]

theorem coe_sum' {ι : Type} (t : Finset ι) (f : ι → ℝ) : ((∑ k ∈ t, f k : ℝ) : EReal) = ∑ k ∈ t, (f k : EReal) := by
  classical
  induction t using Finset.induction_on with
  | empty => rfl
  | insert a t h ih => rw [Finset.sum_insert h, Finset.sum_insert h, EReal.coe_add, ih]

theorem den_real {n : ℕ} (s : Fin n → EReal) (hs : ∀ k, Score (s k)) (r : ℝ) : ∃ x : ℝ, 0 < x ∧ den s (r : EReal) = x := by
  choose e he0 he using wt_real s hs r
  obtain ⟨t, ht⟩ := top_real s hs r
  refine ⟨∑ k, e k + Real.exp (r - t), add_pos_of_nonneg_of_pos (Finset.sum_nonneg fun k _ => he0 k) (Real.exp_pos _), ?_⟩
  unfold den
  rw [EReal.coe_add, coe_sum', ht, ← EReal.coe_sub, Ideal.exp_coe]
  simp only [he]

/-- A sum in the extended reals times a nonnegative real. -/
theorem sum_mul_real {n : ℕ} (f : Fin n → EReal) (r : ℝ) (hr : 0 ≤ r) : (∑ k, f k) * (r : EReal) = ∑ k, f k * (r : EReal) := by
  classical
  induction (Finset.univ : Finset (Fin n)) using Finset.induction_on with
  | empty => simp
  | insert a t h ih =>
    rw [Finset.sum_insert h, Finset.sum_insert h, EReal.right_distrib_of_nonneg_of_ne_top (EReal.coe_nonneg.mpr hr) (EReal.coe_ne_top r), ih]

/-- The two forms agree where the scores are real or masked and the sink real, and the values agree at the keys that are
not masked; the values may be infinite. -/
theorem attend_eq {n : ℕ} (s v w : Fin n → EReal) (hs : ∀ k, Score (s k)) (r : ℝ)
    (hw : ∀ k, s k ≠ ⊥ → w k = v k) : attend s v (r : EReal) = attendP s w (r : EReal) := by
  obtain ⟨d, hd0, hd⟩ := den_real s hs r
  unfold attend attendP
  rw [hd, Ideal.div_coe hd0.ne', sum_mul_real _ _ (one_div_pos.mpr hd0).le]
  refine Finset.sum_congr rfl fun k _ => ?_
  rw [Ideal.div_coe hd0.ne']
  by_cases hk : s k = ⊥
  · rw [wt_bot s hs r k hk, mul_zero, zero_mul, zero_mul]
  · rw [hw k hk, mul_comm (v k), mul_assoc, mul_assoc, mul_comm (v k)]

end Cert.Mixer
-- ==== Proof.Mixer.Block.lean ====
module

public import proofs.«01_k».proof.Proof.Gen.KernelIdeal.Skeleton
public import proofs.«01_k».proof.Proof.Mixer.Attend
public import Idealize.ShloMosaic.Lib.Pointwise
public import Idealize.ShloMosaic.Lib.Pipeline.ValueKit

@[expose] public section

/-! The attention of one block of 128 queries, read off the call's body: scores, weights, the weighted sum. -/

set_option maxRecDepth 16384

noncomputable section

namespace Cert.Mixer

open Cert.KernelIdeal Cert.KernelIdeal.Gen Idealize.ShloMosaic Idealize.ShloMosaic.TcCoe Idealize.ShloMosaic.Tactic

/-- Column `128 h + q` of the 768 score columns: query `q` of head `h`. -/
def col (h : Fin 6) (q : Fin 128) : Fin 768 := ⟨128 * h.val + q.val, by omega⟩

/-- The word of negative infinity. -/
theorem neg_inf : Ideal.ofBits .f32 0xFF800000#32 = (⊥ : EReal) := by
  simp [Ideal.ofBits, Ideal.ieee]

theorem scores_at (K : Vec Ideal S272x128 .bf16) (Q : Vec Ideal S768x128 .bf16) (b : Vec Ideal S1x272x128 .f32) (k : Fin 272) (h : Fin 6) (q : Fin 128) :
    k0_pay127 (F := Ideal) K Q b (ix2 k (col h q)) = ∑ l, K (ix2 k l) * Q (ix2 (col h q) l) + b (ix3 0 k q) := by
  pointwise [k0_pay127]
  refine congrArg (fun y => _ + y) ?_
  have hh := h.isLt
  have hq := q.isLt
  have hv : (col h q).val = 128 * h.val + q.val := rfl
  have e : ∀ x : Fin 128, x.val = q.val → b (ix3 0 k x) = b (ix3 0 k q) := fun x hx => by rw [Fin.ext hx]
  split
  · exact e _ (by dsimp only; omega)
  split
  · exact e _ (by dsimp only; omega)
  split
  · exact e _ (by dsimp only; omega)
  split
  · exact e _ (by dsimp only; omega)
  split
  · exact e _ (by dsimp only; omega)
  · exact e _ (by dsimp only; omega)

theorem sinks_at (s0 s1 s2 s3 s4 s5 : EReal) (h : Fin 6) (q : Fin 128) :
    k0_pay37 (F := Ideal) s0 s1 s2 s3 s4 s5 (ix2 0 (col h q)) = ![s0, s1, s2, s3, s4, s5] h := by
  pointwise [k0_pay37]
  have hq := q.isLt
  have hv : (col h q).val = 128 * h.val + q.val := rfl
  rw [hv]
  fin_cases h <;> dsimp only
  · exact dif_pos (show 128 * 0 + q.val < 128 by omega)
  · exact (dif_neg (show ¬ 128 * 1 + q.val < 128 by omega)).trans (dif_pos (show 128 * 1 + q.val - 128 < 128 by omega))
  · exact (dif_neg (show ¬ 128 * 2 + q.val < 128 by omega)).trans ((dif_neg (show ¬ 128 * 2 + q.val - 128 < 128 by omega)).trans (dif_pos (show 128 * 2 + q.val - 128 - 128 < 128 by omega)))
  · exact (dif_neg (show ¬ 128 * 3 + q.val < 128 by omega)).trans ((dif_neg (show ¬ 128 * 3 + q.val - 128 < 128 by omega)).trans ((dif_neg (show ¬ 128 * 3 + q.val - 128 - 128 < 128 by omega)).trans (dif_pos (show 128 * 3 + q.val - 128 - 128 - 128 < 128 by omega))))
  · exact (dif_neg (show ¬ 128 * 4 + q.val < 128 by omega)).trans ((dif_neg (show ¬ 128 * 4 + q.val - 128 < 128 by omega)).trans ((dif_neg (show ¬ 128 * 4 + q.val - 128 - 128 < 128 by omega)).trans ((dif_neg (show ¬ 128 * 4 + q.val - 128 - 128 - 128 < 128 by omega)).trans (dif_pos (show 128 * 4 + q.val - 128 - 128 - 128 - 128 < 128 by omega)))))
  · exact (dif_neg (show ¬ 128 * 5 + q.val < 128 by omega)).trans ((dif_neg (show ¬ 128 * 5 + q.val - 128 < 128 by omega)).trans ((dif_neg (show ¬ 128 * 5 + q.val - 128 - 128 < 128 by omega)).trans ((dif_neg (show ¬ 128 * 5 + q.val - 128 - 128 - 128 < 128 by omega)).trans (dif_neg (show ¬ 128 * 5 + q.val - 128 - 128 - 128 - 128 < 128 by omega)))))

theorem top_at (V : Vec Ideal S272x768 .f32) (j : Fin 768) :
    k0_pay186 (F := Ideal) V (ix2 0 j) = Finset.univ.sup fun k => V (ix2 k j) := by
  pointwise [k0_pay186]
  rw [show Ideal.ofBits .f32 0xFF800000#32 = (⊥ : EReal) from neg_inf]
  rfl

theorem top2_at (a b : Vec Ideal S1x768 .f32) (j : Fin 768) :
    k0_pay187 (F := Ideal) a b (ix2 0 j) = max (b (ix2 0 j)) (a (ix2 0 j)) := by
  pointwise [k0_pay187]

theorem wts_at (V : Vec Ideal S272x768 .f32) (t : Vec Ideal S1x768 .f32) (k : Fin 272) (j : Fin 768) :
    k0_pay229 (F := Ideal) V t (ix2 k j) = Ideal.exp (V (ix2 k j) - t (ix2 0 j)) := by
  pointwise [k0_pay229]

theorem num_at (v : Vec Ideal S272x128 .bf16) (e : Vec Ideal S272x768 .bf16) (d : Fin 128) (j : Fin 768) :
    k0_pay281 (F := Ideal) v e (ix2 d j) = ∑ k, v (ix2 k d) * e (ix2 k j) := by
  pointwise [k0_pay281]

theorem den_at (s t : Vec Ideal S1x768 .f32) (e : Vec Ideal S272x768 .bf16) (o : EReal) (j : Fin 768) :
    k0_pay282 (F := Ideal) s t e o (ix2 0 j) = ∑ k, o * e (ix2 k j) + Ideal.exp (s (ix2 0 j) - t (ix2 0 j)) := by
  pointwise [k0_pay282]

theorem quot_at (a : Vec Ideal S128x768 .f32) (b : Vec Ideal S1x768 .f32) (d : Fin 128) (j : Fin 768) :
    k0_pay334 (F := Ideal) a b (ix2 d j) = Ideal.div (a (ix2 d j)) (b (ix2 0 j)) := by
  pointwise [k0_pay334]

theorem heads_at (a : Vec Ideal S128x768 .f32) (q : Fin 128) (l : Fin 384) :
    k0_pay363 (F := Ideal) a (ix2 q l) = a (ix2 ⟨l.val % 128, by omega⟩ (col ⟨3 * (l.val % 128 / 64) + l.val / 128, by omega⟩ q)) := by
  pointwise [k0_pay363]
  have hl := l.isLt
  have hq := q.isLt
  have e : ∀ (x x' : Fin 128) (y y' : Fin 768), x.val = x'.val → y.val = y'.val → a (ix2 x y) = a (ix2 x' y') := by
    intro x x' y y' h1 h2
    rw [Fin.ext h1, Fin.ext h2]
  unfold col
  split
  · split <;> exact e _ _ _ _ (by dsimp only; omega) (by dsimp only; omega)
  · split
    · split <;> exact e _ _ _ _ (by dsimp only; omega) (by dsimp only; omega)
    · split <;> exact e _ _ _ _ (by dsimp only; omega) (by dsimp only; omega)

/-- The bfloat16 word of one. -/
theorem one_bf16 : Ideal.ofBits .bf16 0x3F80#16 = (1 : EReal) := by simp

/-- The 272 keys of a block: the block before, the block itself, the sixteen meta rows. -/
theorem keys_at (p c : Vec Ideal S1x128x256 .bf16) (mt : Vec Ideal S1x16x256 .bf16) (k : Fin 272) (l : Fin 128) :
    k0_pay30 (F := Ideal) (k0_pay6 p) c mt (ix2 k l)
      = if h1 : k.val < 128 then p (ix3 0 ⟨k.val, h1⟩ ⟨l.val, by omega⟩)
        else if h2 : k.val - 128 < 128 then c (ix3 0 ⟨k.val - 128, h2⟩ ⟨l.val, by omega⟩)
        else mt (ix3 0 ⟨k.val - 128 - 128, by omega⟩ ⟨l.val, by omega⟩) := by
  pointwise [k0_pay30, k0_pay29, k0_pay28, k0_pay6]

/-- Their values. -/
theorem vals_at (p c : Vec Ideal S1x128x256 .bf16) (mt : Vec Ideal S1x16x256 .bf16) (k : Fin 272) (l : Fin 128) :
    k0_pay31 (F := Ideal) (k0_pay6 p) c mt (ix2 k l)
      = if h1 : k.val < 128 then p (ix3 0 ⟨k.val, h1⟩ ⟨128 + l.val, by omega⟩)
        else if h2 : k.val - 128 < 128 then c (ix3 0 ⟨k.val - 128, h2⟩ ⟨128 + l.val, by omega⟩)
        else mt (ix3 0 ⟨k.val - 128 - 128, by omega⟩ ⟨128 + l.val, by omega⟩) := by
  pointwise [k0_pay31, k0_pay29, k0_pay28, k0_pay6]

/-- The masks of the two halves of a head pair, as words. -/
theorem lo_word : ∀ l : Fin 128, BitVec.setWidth 32 (IntOp.cmpi .slt (BitVec.ofNat 32 l.val) 64#32) = if 0 = l.val / 64 then 1#32 else 0#32 := by
  decide +kernel

theorem hi_word : ∀ l : Fin 128, BitVec.setWidth 32 (IntOp.cmpi .sge (BitVec.ofNat 32 l.val) 64#32) = if 1 = l.val / 64 then 1#32 else 0#32 := by
  decide +kernel

theorem conv_word (p : Prop) [Decidable p] : (FloatOps.sitofp (F := Ideal) .f32 (if p then 1#32 else 0#32) : EReal) = if p then 1 else 0 := by
  split
  · show (((1#32 : BitVec 32).toInt : ℝ) : EReal) = 1
    simp
  · show (((0#32 : BitVec 32).toInt : ℝ) : EReal) = 0
    simp

/-- The queries of a head: a head pair's columns, the other head's half set to zero. -/
theorem queries_at (q0 q1 q2 q3 q4 q5 : Vec Ideal S1x128x128 .bf16) (h : Fin 6) (q : Fin 128) (l : Fin 128) :
    k0_pay36 (F := Ideal) k0_pay32 k0_pay33 (k0_pay34 q0) (k0_pay35 q1) q2 q3 q4 q5 (ix2 (col h q) l)
      = (![q0, q1, q2, q3, q4, q5] h) (ix3 0 q l) * (if h.val / 3 = l.val / 64 then 1 else 0) := by
  pointwise [k0_pay36, k0_pay34, k0_pay35, k0_pay32, k0_pay33]
  simp only [lo_word, hi_word, conv_word]
  have hq := q.isLt
  have hv : (col h q).val = 128 * h.val + q.val := rfl
  have e : ∀ (w : Vec Ideal S1x128x128 .bf16) (x : Fin 128) (p p' : Prop) [Decidable p] [Decidable p'], x.val = q.val → (p ↔ p') →
      w (ix3 0 x l) * (if p then (1 : EReal) else 0) = w (ix3 0 q l) * (if p' then (1 : EReal) else 0) := by
    intro w x p p' _ _ hx hp
    rw [Fin.ext hx]
    simp only [hp]
  fin_cases h
  · exact (dif_pos (show 128 * 0 + q.val < 128 by omega)).trans (e _ _ _ _ (by dsimp only [col]; omega) (by simp))
  · exact (dif_neg (show ¬ 128 * 1 + q.val < 128 by omega)).trans ((dif_pos (show 128 * 1 + q.val - 128 < 128 by omega)).trans (e _ _ _ _ (by dsimp only [col]; omega) (by simp)))
  · exact (dif_neg (show ¬ 128 * 2 + q.val < 128 by omega)).trans ((dif_neg (show ¬ 128 * 2 + q.val - 128 < 128 by omega)).trans ((dif_pos (show 128 * 2 + q.val - 128 - 128 < 128 by omega)).trans (e _ _ _ _ (by dsimp only [col]; omega) (by simp))))
  · exact (dif_neg (show ¬ 128 * 3 + q.val < 128 by omega)).trans ((dif_neg (show ¬ 128 * 3 + q.val - 128 < 128 by omega)).trans ((dif_neg (show ¬ 128 * 3 + q.val - 128 - 128 < 128 by omega)).trans ((dif_pos (show 128 * 3 + q.val - 128 - 128 - 128 < 128 by omega)).trans (e _ _ _ _ (by dsimp only [col]; omega) (by simp)))))
  · exact (dif_neg (show ¬ 128 * 4 + q.val < 128 by omega)).trans ((dif_neg (show ¬ 128 * 4 + q.val - 128 < 128 by omega)).trans ((dif_neg (show ¬ 128 * 4 + q.val - 128 - 128 < 128 by omega)).trans ((dif_neg (show ¬ 128 * 4 + q.val - 128 - 128 - 128 < 128 by omega)).trans ((dif_pos (show 128 * 4 + q.val - 128 - 128 - 128 - 128 < 128 by omega)).trans (e _ _ _ _ (by dsimp only [col]; omega) (by simp))))))
  · exact (dif_neg (show ¬ 128 * 5 + q.val < 128 by omega)).trans ((dif_neg (show ¬ 128 * 5 + q.val - 128 < 128 by omega)).trans ((dif_neg (show ¬ 128 * 5 + q.val - 128 - 128 < 128 by omega)).trans ((dif_neg (show ¬ 128 * 5 + q.val - 128 - 128 - 128 < 128 by omega)).trans ((dif_neg (show ¬ 128 * 5 + q.val - 128 - 128 - 128 - 128 < 128 by omega)).trans (e _ _ _ _ (by dsimp only [col]; omega) (by simp))))))

/-- The attention columns of a block of 128 rows. -/
def block (p c : Vec Ideal S1x128x256 .bf16) (mt : Vec Ideal S1x16x256 .bf16) (q0 q1 q2 q3 q4 q5 : Vec Ideal S1x128x128 .bf16)
    (b : Vec Ideal S1x272x128 .f32) (s0 s1 s2 s3 s4 s5 : EReal) : Vec Ideal S128x384 .f32 :=
  let sc := k0_pay127 (F := Ideal) (k0_pay30 (k0_pay6 p) c mt) (k0_pay36 k0_pay32 k0_pay33 (k0_pay34 q0) (k0_pay35 q1) q2 q3 q4 q5) b
  let sk := k0_pay37 (F := Ideal) s0 s1 s2 s3 s4 s5
  let tp := k0_pay187 (F := Ideal) sk (k0_pay186 sc)
  let w := k0_pay229 (F := Ideal) sc tp
  k0_pay363 (F := Ideal) (k0_pay334 (k0_pay281 (k0_pay31 (k0_pay6 p) c mt) w) (k0_pay282 sk tp w (Scalar.ofBits .bf16 0x3F80#16)))

/-- Row `k` of the 272 keys, at a column of the 256. -/
def keyRow (p c : Vec Ideal S1x128x256 .bf16) (mt : Vec Ideal S1x16x256 .bf16) (k : Fin 272) (l : Fin 256) : EReal :=
  if h1 : k.val < 128 then p (ix3 0 ⟨k.val, h1⟩ l)
  else if h2 : k.val - 128 < 128 then c (ix3 0 ⟨k.val - 128, h2⟩ l)
  else mt (ix3 0 ⟨k.val - 128 - 128, by omega⟩ l)

/-- A sum over 128 columns of a pair where the other half is zero is the sum over the half. -/
theorem half_sum (f g : Fin 128 → EReal) (j : ℕ) (hj : j < 2) :
    ∑ l, f l * (g l * (if j = l.val / 64 then (1 : EReal) else 0)) = ∑ d : Fin 64, f ⟨64 * j + d.val, by omega⟩ * g ⟨64 * j + d.val, by omega⟩ := by
  have h0 : ∀ l : Fin 128, f l * (g l * (if j = l.val / 64 then (1 : EReal) else 0)) = if j = l.val / 64 then f l * g l else 0 := by
    intro l
    split
    · rw [mul_one]
    · rw [mul_zero, mul_zero]
  simp only [h0]
  rw [Fin.sum_univ_add (a := 64) (b := 64)]
  have hj' : j = 0 ∨ j = 1 := by omega
  rcases hj' with rfl | rfl
  · have h2 : ∀ d : Fin 64, (if 0 = (Fin.natAdd 64 d : Fin (64 + 64)).val / 64 then f (Fin.natAdd 64 d) * g (Fin.natAdd 64 d) else 0) = 0 := by
      intro d
      refine if_neg ?_
      simp only [Fin.natAdd]
      omega
    have h1 : ∀ d : Fin 64, (if 0 = (Fin.castAdd 64 d : Fin (64 + 64)).val / 64 then f (Fin.castAdd 64 d) * g (Fin.castAdd 64 d) else 0) = f (Fin.castAdd 64 d) * g (Fin.castAdd 64 d) := by
      intro d
      refine if_pos ?_
      simp only [Fin.val_castAdd]
      omega
    simp only [h1, h2, Finset.sum_const_zero, add_zero]
    refine Finset.sum_congr rfl fun d _ => ?_
    have : (Fin.castAdd 64 d : Fin 128) = ⟨64 * 0 + d.val, by omega⟩ := Fin.ext (by simp)
    rw [← this]
  · have h2 : ∀ d : Fin 64, (if 1 = (Fin.natAdd 64 d : Fin (64 + 64)).val / 64 then f (Fin.natAdd 64 d) * g (Fin.natAdd 64 d) else 0) = f (Fin.natAdd 64 d) * g (Fin.natAdd 64 d) := by
      intro d
      refine if_pos ?_
      simp only [Fin.natAdd]
      omega
    have h1 : ∀ d : Fin 64, (if 1 = (Fin.castAdd 64 d : Fin (64 + 64)).val / 64 then f (Fin.castAdd 64 d) * g (Fin.castAdd 64 d) else 0) = 0 := by
      intro d
      refine if_neg ?_
      simp only [Fin.val_castAdd]
      omega
    simp only [h1, h2, Finset.sum_const_zero, zero_add]
    refine Finset.sum_congr rfl fun d _ => ?_
    have : (Fin.natAdd 64 d : Fin 128) = ⟨64 * 1 + d.val, by omega⟩ := Fin.ext (by simp [Nat.add_comm])
    rw [← this]

/-- An attention column of a block: the attention of the row's query of a head, over the 272 keys. -/
theorem block_at (p c : Vec Ideal S1x128x256 .bf16) (mt : Vec Ideal S1x16x256 .bf16) (q0 q1 q2 : Vec Ideal S1x128x128 .bf16)
    (b : Vec Ideal S1x272x128 .f32) (s0 s1 s2 s3 s4 s5 : EReal) (q : Fin 128) (g : Fin 3) (j : Fin 2) (d : Fin 64) :
    block p c mt q0 q1 q2 q0 q1 q2 b s0 s1 s2 s3 s4 s5 (ix2 q ⟨128 * g.val + (64 * j.val + d.val), by omega⟩)
      = attend (fun k => ∑ e : Fin 64, keyRow p c mt k ⟨64 * j.val + e.val, by omega⟩ * (![q0, q1, q2] g) (ix3 0 q ⟨64 * j.val + e.val, by omega⟩)
            + b (ix3 0 k q))
          (fun k => keyRow p c mt k ⟨128 + (64 * j.val + d.val), by omega⟩) (![s0, s1, s2, s3, s4, s5] ⟨3 * j.val + g.val, by omega⟩) := by
  unfold block
  rw [heads_at, quot_at, num_at, den_at]
  have hh : (⟨3 * ((128 * g.val + (64 * j.val + d.val)) % 128 / 64) + (128 * g.val + (64 * j.val + d.val)) / 128, by omega⟩ : Fin 6) = ⟨3 * j.val + g.val, by omega⟩ :=
    Fin.ext (by dsimp only; omega)
  have hd : (⟨(128 * g.val + (64 * j.val + d.val)) % 128, by omega⟩ : Fin 128) = ⟨64 * j.val + d.val, by omega⟩ := Fin.ext (by dsimp only; omega)
  simp only [hh, hd]
  have hs : ∀ k : Fin 272, k0_pay127 (F := Ideal) (k0_pay30 (k0_pay6 p) c mt) (k0_pay36 k0_pay32 k0_pay33 (k0_pay34 q0) (k0_pay35 q1) q2 q0 q1 q2) b
        (ix2 k (col ⟨3 * j.val + g.val, by omega⟩ q))
      = ∑ e : Fin 64, keyRow p c mt k ⟨64 * j.val + e.val, by omega⟩ * (![q0, q1, q2] g) (ix3 0 q ⟨64 * j.val + e.val, by omega⟩) + b (ix3 0 k q) := by
    intro k
    have hq : ![q0, q1, q2, q0, q1, q2] ⟨3 * j.val + g.val, by omega⟩ = ![q0, q1, q2] g := by
      fin_cases j <;> fin_cases g <;> rfl
    have hj : (3 * j.val + g.val) / 3 = j.val := by omega
    rw [scores_at]
    refine congrArg (fun y => y + b (ix3 0 k q)) ?_
    simp only [queries_at, keys_at, hq, hj]
    exact half_sum (fun l => keyRow p c mt k ⟨l.val, by omega⟩) (fun l => (![q0, q1, q2] g) (ix3 0 q l)) j.val j.isLt
  have hv : ∀ k : Fin 272, k0_pay31 (F := Ideal) (k0_pay6 p) c mt (ix2 k ⟨64 * j.val + d.val, by omega⟩) = keyRow p c mt k ⟨128 + (64 * j.val + d.val), by omega⟩ := by
    intro k
    rw [vals_at]
    rfl
  simp only [wts_at, top2_at, sinks_at, top_at, hs, hv]
  have ho : Scalar.ofBits (F := Ideal) .bf16 0x3F80#16 = (1 : EReal) := one_bf16
  simp only [ho, one_mul]
  rfl

/-- The store of a sequence's block: rows before the meta tokens are zero. -/
theorem store_word : ∀ (i : Fin 11) (q : Fin 128), IntOp.ori (Scalar.cmpi .sgt (BitVec.ofNat 32 i.val) 0#32) (IntOp.cmpi .sge (BitVec.ofNat 32 q.val) 112#32)
    = if 0 < i.val ∨ 112 ≤ q.val then 1#1 else 0#1 := by
  decide +kernel

theorem store0_at (i : Fin 11) (a : Vec Ideal S128x384 .f32) (b : Vec Ideal S128x384 .f32) (c : Vec Ideal S128x256 .f32) (q : Fin 128) (l : Fin 384) :
    k0_pay376 (F := Ideal) (BitVec.ofNat 32 i.val) a b c (ix3 0 q ⟨384 + l.val, by omega⟩) = if 0 < i.val ∨ 112 ≤ q.val then b (ix2 q l) else 0 := by
  pointwise [k0_pay376]
  rw [store_word]
  split <;> rfl

theorem store1_at (a : Vec Ideal S128x384 .f32) (b : Vec Ideal S128x384 .f32) (c : Vec Ideal S128x256 .f32) (q : Fin 128) (l : Fin 384) :
    k0_pay377 (F := Ideal) a b c (ix3 0 q ⟨384 + l.val, by omega⟩) = b (ix2 q l) := by
  pointwise [k0_pay377]

theorem store2_at (a : Vec Ideal S128x384 .f32) (b : Vec Ideal S128x384 .f32) (c : Vec Ideal S128x256 .f32) (q : Fin 128) (l : Fin 384) :
    k0_pay378 (F := Ideal) a b c (ix3 0 q ⟨384 + l.val, by omega⟩) = b (ix2 q l) := by
  pointwise [k0_pay378]

/-- The second block's operations are the first's. -/
theorem block1_eq (p c : Vec Ideal S1x128x256 .bf16) (mt : Vec Ideal S1x16x256 .bf16) (q0 q1 q2 q3 q4 q5 : Vec Ideal S1x128x128 .bf16)
    (b : Vec Ideal S1x272x128 .f32) (s0 s1 s2 s3 s4 s5 : EReal) (sc : Vec Ideal S272x768 .f32) (tp : Vec Ideal S1x768 .f32) (w : Vec Ideal S272x768 .bf16)
    (hsc : sc = k0_pay153 (F := Ideal) (k0_pay66 (k0_pay28 p) c mt) (k0_pay73 k0_pay68 k0_pay69 (k0_pay70 q0) (k0_pay71 q1) k0_pay72 q2 q3 q4 q5) b)
    (htp : tp = k0_pay196 (F := Ideal) (k0_pay74 s0 s1 s2 s3 s4 s5) (k0_pay195 sc)) (hw : w = k0_pay247 (F := Ideal) sc tp) :
    k0_pay368 (F := Ideal) (k0_pay348 (k0_pay295 (k0_pay67 (k0_pay28 p) c mt) w) (k0_pay296 (k0_pay74 s0 s1 s2 s3 s4 s5) tp w))
      = block p c mt q0 q1 q2 q3 q4 q5 b s0 s1 s2 s3 s4 s5 := by
  subst hsc
  subst htp
  subst hw
  rfl

/-- The third block's operations are the first's. -/
theorem block2_eq (p c : Vec Ideal S1x128x256 .bf16) (mt : Vec Ideal S1x16x256 .bf16) (q0 q1 q2 q3 q4 q5 : Vec Ideal S1x128x128 .bf16)
    (b : Vec Ideal S1x272x128 .f32) (s0 s1 s2 s3 s4 s5 : EReal) (sc : Vec Ideal S272x768 .f32) (tp : Vec Ideal S1x768 .f32) (w : Vec Ideal S272x768 .bf16)
    (hsc : sc = k0_pay177 (F := Ideal) (k0_pay175 (k0_pay101 (k0_pay64 p) c mt) (k0_pay106 k0_pay103 k0_pay104 (k0_pay105 q0) q1 q2 q3 q4 q5)) (k0_pay176 b))
    (htp : tp = k0_pay205 (F := Ideal) (k0_pay107 s0 s1 s2 s3 s4 s5) (k0_pay204 sc)) (hw : w = k0_pay268 (F := Ideal) sc tp) :
    k0_pay374 (F := Ideal) (k0_pay358 (k0_pay314 (k0_pay102 (k0_pay64 p) c mt) w) (k0_pay315 (k0_pay107 s0 s1 s2 s3 s4 s5) tp w))
      = block p c mt q0 q1 q2 q3 q4 q5 b s0 s1 s2 s3 s4 s5 := by
  subst hsc
  subst htp
  subst hw
  rfl

end Cert.Mixer
-- ==== Proof.Mixer.Run.lean ====
module

public import proofs.«01_k».proof.Proof.Gen.KernelIdeal.Frame
public import proofs.«01_k».proof.Proof.Mixer.Block

@[expose] public section

/-! What one grid point of the mixer leaves in the attention columns of its output block of 384 rows. -/

set_option maxRecDepth 16384

noncomputable section

namespace Cert.Mixer

open Cert.KernelIdeal Cert.KernelIdeal.Gen Idealize.ShloMosaic Idealize.ShloMosaic.TcCoe Idealize.ShloMosaic.Tactic

/-- Three stores of whole row stripes: at row `r` the buffer holds what the stripe of `r` was given. -/
theorem rows_at (p0 p1 p2 : S1x128x1024.Idx → EReal)
    (i0 : ∀ a, ![0, 0, 0] a + ![1, 128, 1024] a ≤ S1x384x1024.size a)
    (i1 : ∀ a, ![0, 128, 0] a + ![1, 128, 1024] a ≤ S1x384x1024.size a)
    (i2 : ∀ a, ![0, 256, 0] a + ![1, 128, 1024] a ≤ S1x384x1024.size a)
    (r : Fin 384) (l : Fin 1024) (v : EReal)
    (h0 : ∀ q : Fin 128, (r : ℕ) = q → p0 (ix3 0 q l) = v) (h1 : ∀ q : Fin 128, (r : ℕ) = 128 + q → p1 (ix3 0 q l) = v)
    (h2 : ∀ q : Fin 128, (r : ℕ) = 256 + q → p2 (ix3 0 q l) = v) :
    View.canon (Val := Elt Ideal) (e := .bf16) [⟨Rect.unit (s := S1x384x1024) ![0, 256, 0] ![1, 128, 1024] i2, p2⟩,
      ⟨Rect.unit (s := S1x384x1024) ![0, 128, 0] ![1, 128, 1024] i1, p1⟩, ⟨Rect.unit (s := S1x384x1024) ![0, 0, 0] ![1, 128, 1024] i0, p0⟩] (ix3 0 r l) = v := by
  have hr := r.isLt
  have hl := l.isLt
  refine View.canon_eq_of_allAt _ _ _ ?_ ?_
  · by_cases c1 : (r : ℕ) < 128
    · exact ⟨_, .tail _ (.tail _ (.head _)), (Rect.mem_set_unit (inb := i0)).mpr fun a => match a with
        | ⟨0, _⟩ => ⟨Nat.zero_le _, show (0 : ℕ) < 0 + 1 by omega⟩
        | ⟨1, _⟩ => ⟨Nat.zero_le _, show (r : ℕ) < 0 + 128 by omega⟩
        | ⟨2, _⟩ => ⟨Nat.zero_le _, show (l : ℕ) < 0 + 1024 by omega⟩⟩
    · by_cases c2 : (r : ℕ) < 256
      · exact ⟨_, .tail _ (.head _), (Rect.mem_set_unit (inb := i1)).mpr fun a => match a with
          | ⟨0, _⟩ => ⟨Nat.zero_le _, show (0 : ℕ) < 0 + 1 by omega⟩
          | ⟨1, _⟩ => ⟨show 128 ≤ (r : ℕ) by omega, show (r : ℕ) < 128 + 128 by omega⟩
          | ⟨2, _⟩ => ⟨Nat.zero_le _, show (l : ℕ) < 0 + 1024 by omega⟩⟩
      · exact ⟨_, .head _, (Rect.mem_set_unit (inb := i2)).mpr fun a => match a with
          | ⟨0, _⟩ => ⟨Nat.zero_le _, show (0 : ℕ) < 0 + 1 by omega⟩
          | ⟨1, _⟩ => ⟨show 256 ≤ (r : ℕ) by omega, show (r : ℕ) < 256 + 128 by omega⟩
          | ⟨2, _⟩ => ⟨Nat.zero_le _, show (l : ℕ) < 0 + 1024 by omega⟩⟩
  · have hx3 : ∀ x : S1x128x1024.Idx, ∃ (a : Fin 128) (b : Fin 1024), x = ix3 0 a b := fun x =>
      ⟨x 1, x 2, funext fun a => match a with
        | ⟨0, _⟩ => Fin.ext (show (x 0).val = 0 by have : (x 0).val < 1 := (x 0).isLt; omega)
        | ⟨1, _⟩ => rfl
        | ⟨2, _⟩ => rfl⟩
    refine View.allAt_cons_unit _ _ _ _ _ ?_ (View.allAt_cons_unit _ _ _ _ _ ?_ (View.allAt_cons_unit _ _ _ _ _ ?_ (View.allAt_nil _ _)))
    · intro x hx
      obtain ⟨a, b, rfl⟩ := hx3 x
      have hb : (l : ℕ) = 0 + b := hx 2
      obtain rfl : l = b := Fin.ext (by omega)
      exact h2 a (hx 1)
    · intro x hx
      obtain ⟨a, b, rfl⟩ := hx3 x
      have hb : (l : ℕ) = 0 + b := hx 2
      obtain rfl : l = b := Fin.ext (by omega)
      exact h1 a (hx 1)
    · intro x hx
      obtain ⟨a, b, rfl⟩ := hx3 x
      have hb : (l : ℕ) = 0 + b := hx 2
      obtain rfl : l = b := Fin.ext (by omega)
      exact h0 a (by have := hx 1; exact this.trans (Nat.zero_add _))

/-- A load of a rectangle at an index. -/
theorem ld_at {e : EltTy} {n1 n2 o1 o2 s1 s2 : ℕ} (x : (⟨3, ![1, n1, n2]⟩ : Shape).Idx → Elt Ideal e)
    (inb : ∀ a, ![0, o1, o2] a + ![1, s1, s2] a ≤ (⟨3, ![1, n1, n2]⟩ : Shape).size a) (a : Fin s1) (b : Fin s2) (A : Fin n1) (B : Fin n2)
    (hA : A.val = o1 + a.val) (hB : B.val = o2 + b.val) :
    View.ld x (Rect.unit (s := ⟨3, ![1, n1, n2]⟩) ![0, o1, o2] ![1, s1, s2] inb) (ix3 0 a b) = x (ix3 0 A B) := by
  refine congrArg x (funext fun k => Fin.ext ?_)
  match k with
  | ⟨0, _⟩ => rfl
  | ⟨1, _⟩ => exact (show o1 + 1 * a.val = A.val by omega)
  | ⟨2, _⟩ => exact (show o2 + 1 * b.val = B.val by omega)

/-- The bias table's block: 0, 1 or 2. -/
theorem off_word : ∀ (n : Fin 11) (r : Fin 3), (Scalar.indexCast (Scalar.minsi (Scalar.addi (Scalar.muli (BitVec.ofNat 32 n.val) 3#32) (BitVec.ofNat 32 r.val)) 2#32) : Index).toNat = min (3 * n.val + r.val) 2 := by
  decide +kernel

theorem bias_at (x : Vec Ideal S3x272x128 .f32) (i : grid0.Coords) (r : Fin 3) (inb) (k : Fin 272) (q : Fin 128) :
    View.ld (Val := Elt Ideal) (e' := .f32) x (Rect.unit (s := S3x272x128) (k0_off1 i (BitVec.ofNat 32 r.val)) ![1, 272, 128] inb) (ix3 0 k q)
      = x (ix3 ⟨min (3 * (i 1).val + r.val) 2, by omega⟩ k q) := by
  refine congrArg x (funext fun a => Fin.ext ?_)
  match a with
  | ⟨0, _⟩ => exact (show _ + 1 * 0 = min (3 * (i 1).val + r.val) 2 from off_word (i 1) r)
  | ⟨1, _⟩ => exact (show 0 + 1 * k.val = k.val by omega)
  | ⟨2, _⟩ => exact (show 0 + 1 * q.val = q.val by omega)

/-- Key `k` of the 272 of a block, at a column of the input: the block before, the block itself, the meta rows. -/
def tkey (x2 : Vec Ideal S1x384x640 .bf16) (x3 x4 : Vec Ideal S1x128x640 .bf16) (blk : Fin 3) (k : Fin 272) (l : Fin 640) : EReal :=
  if h1 : k.val < 128 then (if h0 : blk.val = 0 then x3 (ix3 0 ⟨k.val, h1⟩ l) else x2 (ix3 0 ⟨128 * (blk.val - 1) + k.val, by omega⟩ l))
  else if h2 : k.val - 128 < 128 then x2 (ix3 0 ⟨128 * blk.val + (k.val - 128), by omega⟩ l)
  else x4 (ix3 0 ⟨112 + (k.val - 128 - 128), by omega⟩ l)

/-- The attention of query `q` of a block, head `3 j + g`, value column `d`. -/
def tile (n : ℕ) (x2 : Vec Ideal S1x384x640 .bf16) (x3 x4 : Vec Ideal S1x128x640 .bf16) (x9 : Vec Ideal S6 .f32) (x17 : Vec Ideal S3x272x128 .f32)
    (blk : Fin 3) (q : Fin 128) (g : Fin 3) (j : Fin 2) (d : Fin 64) : EReal :=
  attend (fun k => ∑ e : Fin 64, tkey x2 x3 x4 blk k ⟨384 + (64 * j.val + e.val), by omega⟩
        * x2 (ix3 0 ⟨128 * blk.val + q.val, by omega⟩ ⟨128 * g.val + (64 * j.val + e.val), by omega⟩)
      + x17 (ix3 ⟨min (3 * n + blk.val) 2, by omega⟩ k q))
    (fun k => tkey x2 x3 x4 blk k ⟨384 + (128 + (64 * j.val + d.val)), by omega⟩) (x9 (ix1 ⟨3 * j.val + g.val, by omega⟩))

/-- A block's attention from its loads. -/
theorem block_tile (i : grid0.Coords) (x2 : Vec Ideal S1x384x640 .bf16) (x3 x4 : Vec Ideal S1x128x640 .bf16) (x9 : Vec Ideal S6 .f32) (x17 : Vec Ideal S3x272x128 .f32)
    (blk : Fin 3) (p c : Vec Ideal S1x128x256 .bf16) (mt : Vec Ideal S1x16x256 .bf16) (q0 q1 q2 : Vec Ideal S1x128x128 .bf16) (b : Vec Ideal S1x272x128 .f32)
    (s0 s1 s2 s3 s4 s5 : EReal) (q : Fin 128) (g : Fin 3) (j : Fin 2) (d : Fin 64)
    (hp : ∀ (k : Fin 128) (l : Fin 256), p (ix3 0 k l) = if h0 : blk.val = 0 then x3 (ix3 0 k ⟨384 + l.val, by omega⟩) else x2 (ix3 0 ⟨128 * (blk.val - 1) + k.val, by omega⟩ ⟨384 + l.val, by omega⟩))
    (hc : ∀ (k : Fin 128) (l : Fin 256), c (ix3 0 k l) = x2 (ix3 0 ⟨128 * blk.val + k.val, by omega⟩ ⟨384 + l.val, by omega⟩))
    (hm : ∀ (k : Fin 16) (l : Fin 256), mt (ix3 0 k l) = x4 (ix3 0 ⟨112 + k.val, by omega⟩ ⟨384 + l.val, by omega⟩))
    (hq0 : ∀ l : Fin 128, q0 (ix3 0 q l) = x2 (ix3 0 ⟨128 * blk.val + q.val, by omega⟩ ⟨l.val, by omega⟩))
    (hq1 : ∀ l : Fin 128, q1 (ix3 0 q l) = x2 (ix3 0 ⟨128 * blk.val + q.val, by omega⟩ ⟨128 + l.val, by omega⟩))
    (hq2 : ∀ l : Fin 128, q2 (ix3 0 q l) = x2 (ix3 0 ⟨128 * blk.val + q.val, by omega⟩ ⟨256 + l.val, by omega⟩))
    (hb : ∀ k : Fin 272, b (ix3 0 k q) = x17 (ix3 ⟨min (3 * (i 1).val + blk.val) 2, by omega⟩ k q))
    (hs0 : s0 = x9 (ix1 0)) (hs1 : s1 = x9 (ix1 1)) (hs2 : s2 = x9 (ix1 2)) (hs3 : s3 = x9 (ix1 3)) (hs4 : s4 = x9 (ix1 4)) (hs5 : s5 = x9 (ix1 5)) :
    block p c mt q0 q1 q2 q0 q1 q2 b s0 s1 s2 s3 s4 s5 (ix2 q ⟨128 * g.val + (64 * j.val + d.val), by omega⟩)
      = tile (i 1).val x2 x3 x4 x9 x17 blk q g j d := by
  rw [block_at]
  have hk : ∀ (k : Fin 272) (l : Fin 256), keyRow p c mt k l = tkey x2 x3 x4 blk k ⟨384 + l.val, by omega⟩ := by
    intro k l
    unfold keyRow tkey
    simp only [hp, hc, hm]
  have hq : ∀ l : Fin 128, (![q0, q1, q2] g) (ix3 0 q l) = x2 (ix3 0 ⟨128 * blk.val + q.val, by omega⟩ ⟨128 * g.val + l.val, by omega⟩) := by
    intro l
    fin_cases g
    · exact (hq0 l).trans (congrArg (fun y => x2 (ix3 0 _ y)) (Fin.ext (show l.val = 128 * 0 + l.val by omega)))
    · exact (hq1 l).trans (congrArg (fun y => x2 (ix3 0 _ y)) (Fin.ext (show 128 + l.val = 128 * 1 + l.val by omega)))
    · exact (hq2 l).trans (congrArg (fun y => x2 (ix3 0 _ y)) (Fin.ext (show 256 + l.val = 128 * 2 + l.val by omega)))
  have hs : (![s0, s1, s2, s3, s4, s5] ⟨3 * j.val + g.val, by omega⟩ : EReal) = x9 (ix1 ⟨3 * j.val + g.val, by omega⟩) := by
    subst hs0
    subst hs1
    subst hs2
    subst hs3
    subst hs4
    subst hs5
    fin_cases j <;> fin_cases g <;> rfl
  unfold tile
  simp only [hk, hq, hb, hs]

/-- A sink read. -/
theorem sink_at (x : Vec Ideal S6 .f32) (k : ℕ) (hk : k < 6) (inb) (h) :
    View.ld (Val := Elt Ideal) (e' := .f32) x (Rect.unit (s := S6) ![k] ![1] inb) (Shape.Idx.first h) = x (ix1 ⟨k, hk⟩) := by
  refine congrArg x (funext fun a => Fin.ext ?_)
  match a with
  | ⟨0, _⟩ => exact (show k + 1 * 0 = k by omega)

theorem readA0 (c : Dev nD) (i : grid0.Coords) (arg4 : Memref sig .tc .vmem S1x384x640 .bf16) (harg4 : arg4.IsWhole) (arg5 : Memref sig .tc .vmem S1x128x640 .bf16) (harg5 : arg5.IsWhole) (arg6 : Memref sig .tc .vmem S1x128x640 .bf16) (harg6 : arg6.IsWhole) (arg11 : Memref sig .tc .smem S6 .f32) (harg11 : arg11.IsWhole) (arg19 : Memref sig .tc .vmem S3x272x128 .f32) (harg19 : arg19.IsWhole) (x2 : Vec Ideal S1x384x640 .bf16) (x3 : Vec Ideal S1x128x640 .bf16) (x4 : Vec Ideal S1x128x640 .bf16) (x9 : Vec Ideal S6 .f32) (x17 : Vec Ideal S3x272x128 .f32) (q : Fin 128) (g : Fin 3) (j : Fin 2) (d : Fin 64) :
    kernelRun0_A.sl.r_332 (F := Ideal) c i arg4 harg4 arg5 harg5 arg6 harg6 arg11 harg11 arg19 harg19 x2 x3 x4 x9 x17 (ix2 q ⟨128 * g.val + (64 * j.val + d.val), by omega⟩) = tile (i 1).val x2 x3 x4 x9 x17 0 q g j d := by
  sl_unfold_run_names
  simp only [View.readAt_eq_ld, harg4.read_unread, harg5.read_unread, harg6.read_unread, harg11.read_unread, harg19.read_unread]
  exact block_tile i x2 x3 x4 x9 x17 0 _ _ _ _ _ _ _ _ _ _ _ _ _ q g j d
    (fun k l => ld_at x3 _ k l _ _ (by (try dsimp only); omega) rfl) (fun k l => ld_at x2 _ k l _ _ (by (try dsimp only); omega) rfl) (fun k l => ld_at x4 _ k l _ _ rfl rfl)
    (fun l => ld_at x2 _ q l _ _ (by (try dsimp only); omega) (by (try dsimp only); omega)) (fun l => ld_at x2 _ q l _ _ (by (try dsimp only); omega) rfl) (fun l => ld_at x2 _ q l _ _ (by (try dsimp only); omega) rfl)
    (fun k => bias_at x17 i 0 _ k q) (sink_at x9 0 _ _ _) (sink_at x9 1 _ _ _) (sink_at x9 2 _ _ _) (sink_at x9 3 _ _ _) (sink_at x9 4 _ _ _) (sink_at x9 5 _ _ _)

theorem readA1 (c : Dev nD) (i : grid0.Coords) (arg4 : Memref sig .tc .vmem S1x384x640 .bf16) (harg4 : arg4.IsWhole) (arg6 : Memref sig .tc .vmem S1x128x640 .bf16) (harg6 : arg6.IsWhole) (arg11 : Memref sig .tc .smem S6 .f32) (harg11 : arg11.IsWhole) (arg19 : Memref sig .tc .vmem S3x272x128 .f32) (harg19 : arg19.IsWhole) (x2 : Vec Ideal S1x384x640 .bf16) (x3 : Vec Ideal S1x128x640 .bf16) (x4 : Vec Ideal S1x128x640 .bf16) (x9 : Vec Ideal S6 .f32) (x17 : Vec Ideal S3x272x128 .f32) (q : Fin 128) (g : Fin 3) (j : Fin 2) (d : Fin 64) :
    kernelRun0_A.sl.r_337 (F := Ideal) c i arg4 harg4 arg6 harg6 arg11 harg11 arg19 harg19 x2 x4 x9 x17 (ix2 q ⟨128 * g.val + (64 * j.val + d.val), by omega⟩) = tile (i 1).val x2 x3 x4 x9 x17 1 q g j d := by
  sl_unfold_run_names
  simp only [View.readAt_eq_ld, harg4.read_unread, harg6.read_unread, harg11.read_unread, harg19.read_unread]
  refine (congrFun (block1_eq _ _ _ _ _ _ _ _ _ _ _ _ _ _ _ _ _ _ _ rfl rfl rfl) _).trans ?_
  exact block_tile i x2 x3 x4 x9 x17 1 _ _ _ _ _ _ _ _ _ _ _ _ _ q g j d
    (fun k l => (ld_at x2 _ k l ⟨128 * 0 + k.val, by omega⟩ _ (by dsimp only) rfl)) (fun k l => ld_at x2 _ k l _ _ (by (try dsimp only); omega) rfl) (fun k l => ld_at x4 _ k l _ _ rfl rfl)
    (fun l => ld_at x2 _ q l _ _ (by (try dsimp only); omega) (by (try dsimp only); omega)) (fun l => ld_at x2 _ q l _ _ (by (try dsimp only); omega) rfl) (fun l => ld_at x2 _ q l _ _ (by (try dsimp only); omega) rfl)
    (fun k => bias_at x17 i 1 _ k q) (sink_at x9 0 _ _ _) (sink_at x9 1 _ _ _) (sink_at x9 2 _ _ _) (sink_at x9 3 _ _ _) (sink_at x9 4 _ _ _) (sink_at x9 5 _ _ _)

theorem readA2 (c : Dev nD) (i : grid0.Coords) (arg4 : Memref sig .tc .vmem S1x384x640 .bf16) (harg4 : arg4.IsWhole) (arg6 : Memref sig .tc .vmem S1x128x640 .bf16) (harg6 : arg6.IsWhole) (arg11 : Memref sig .tc .smem S6 .f32) (harg11 : arg11.IsWhole) (arg19 : Memref sig .tc .vmem S3x272x128 .f32) (harg19 : arg19.IsWhole) (x2 : Vec Ideal S1x384x640 .bf16) (x3 : Vec Ideal S1x128x640 .bf16) (x4 : Vec Ideal S1x128x640 .bf16) (x9 : Vec Ideal S6 .f32) (x17 : Vec Ideal S3x272x128 .f32) (q : Fin 128) (g : Fin 3) (j : Fin 2) (d : Fin 64) :
    kernelRun0_A.sl.r_343 (F := Ideal) c i arg4 harg4 arg6 harg6 arg11 harg11 arg19 harg19 x2 x4 x9 x17 (ix2 q ⟨128 * g.val + (64 * j.val + d.val), by omega⟩) = tile (i 1).val x2 x3 x4 x9 x17 2 q g j d := by
  sl_unfold_run_names
  simp only [View.readAt_eq_ld, harg4.read_unread, harg6.read_unread, harg11.read_unread, harg19.read_unread]
  refine (congrFun (block2_eq _ _ _ _ _ _ _ _ _ _ _ _ _ _ _ _ _ _ _ rfl rfl rfl) _).trans ?_
  exact block_tile i x2 x3 x4 x9 x17 2 _ _ _ _ _ _ _ _ _ _ _ _ _ q g j d
    (fun k l => (ld_at x2 _ k l ⟨128 * 1 + k.val, by omega⟩ _ (by dsimp only) rfl)) (fun k l => ld_at x2 _ k l _ _ (by (try dsimp only); omega) rfl) (fun k l => ld_at x4 _ k l _ _ rfl rfl)
    (fun l => ld_at x2 _ q l _ _ (by (try dsimp only); omega) (by (try dsimp only); omega)) (fun l => ld_at x2 _ q l _ _ (by (try dsimp only); omega) rfl) (fun l => ld_at x2 _ q l _ _ (by (try dsimp only); omega) rfl)
    (fun k => bias_at x17 i 2 _ k q) (sink_at x9 0 _ _ _) (sink_at x9 1 _ _ _) (sink_at x9 2 _ _ _) (sink_at x9 3 _ _ _) (sink_at x9 4 _ _ _) (sink_at x9 5 _ _ _)

theorem readB0 (c : Dev nD) (i : grid0.Coords) (arg4 : Memref sig .tc .vmem S1x384x640 .bf16) (harg4 : arg4.IsWhole) (arg5 : Memref sig .tc .vmem S1x128x640 .bf16) (harg5 : arg5.IsWhole) (arg6 : Memref sig .tc .vmem S1x128x640 .bf16) (harg6 : arg6.IsWhole) (arg11 : Memref sig .tc .smem S6 .f32) (harg11 : arg11.IsWhole) (arg19 : Memref sig .tc .vmem S3x272x128 .f32) (harg19 : arg19.IsWhole) (x2 : Vec Ideal S1x384x640 .bf16) (x3 : Vec Ideal S1x128x640 .bf16) (x4 : Vec Ideal S1x128x640 .bf16) (x9 : Vec Ideal S6 .f32) (x17 : Vec Ideal S3x272x128 .f32) (q : Fin 128) (g : Fin 3) (j : Fin 2) (d : Fin 64) :
    kernelRun0_B.sl.r_332 (F := Ideal) c i arg4 harg4 arg5 harg5 arg6 harg6 arg11 harg11 arg19 harg19 x2 x3 x4 x9 x17 (ix2 q ⟨128 * g.val + (64 * j.val + d.val), by omega⟩) = tile (i 1).val x2 x3 x4 x9 x17 0 q g j d := by
  sl_unfold_run_names
  simp only [View.readAt_eq_ld, harg4.read_unread, harg5.read_unread, harg6.read_unread, harg11.read_unread, harg19.read_unread]
  exact block_tile i x2 x3 x4 x9 x17 0 _ _ _ _ _ _ _ _ _ _ _ _ _ q g j d
    (fun k l => ld_at x3 _ k l _ _ (by (try dsimp only); omega) rfl) (fun k l => ld_at x2 _ k l _ _ (by (try dsimp only); omega) rfl) (fun k l => ld_at x4 _ k l _ _ rfl rfl)
    (fun l => ld_at x2 _ q l _ _ (by (try dsimp only); omega) (by (try dsimp only); omega)) (fun l => ld_at x2 _ q l _ _ (by (try dsimp only); omega) rfl) (fun l => ld_at x2 _ q l _ _ (by (try dsimp only); omega) rfl)
    (fun k => bias_at x17 i 0 _ k q) (sink_at x9 0 _ _ _) (sink_at x9 1 _ _ _) (sink_at x9 2 _ _ _) (sink_at x9 3 _ _ _) (sink_at x9 4 _ _ _) (sink_at x9 5 _ _ _)

theorem readB1 (c : Dev nD) (i : grid0.Coords) (arg4 : Memref sig .tc .vmem S1x384x640 .bf16) (harg4 : arg4.IsWhole) (arg6 : Memref sig .tc .vmem S1x128x640 .bf16) (harg6 : arg6.IsWhole) (arg11 : Memref sig .tc .smem S6 .f32) (harg11 : arg11.IsWhole) (arg19 : Memref sig .tc .vmem S3x272x128 .f32) (harg19 : arg19.IsWhole) (x2 : Vec Ideal S1x384x640 .bf16) (x3 : Vec Ideal S1x128x640 .bf16) (x4 : Vec Ideal S1x128x640 .bf16) (x9 : Vec Ideal S6 .f32) (x17 : Vec Ideal S3x272x128 .f32) (q : Fin 128) (g : Fin 3) (j : Fin 2) (d : Fin 64) :
    kernelRun0_B.sl.r_337 (F := Ideal) c i arg4 harg4 arg6 harg6 arg11 harg11 arg19 harg19 x2 x4 x9 x17 (ix2 q ⟨128 * g.val + (64 * j.val + d.val), by omega⟩) = tile (i 1).val x2 x3 x4 x9 x17 1 q g j d := by
  sl_unfold_run_names
  simp only [View.readAt_eq_ld, harg4.read_unread, harg6.read_unread, harg11.read_unread, harg19.read_unread]
  refine (congrFun (block1_eq _ _ _ _ _ _ _ _ _ _ _ _ _ _ _ _ _ _ _ rfl rfl rfl) _).trans ?_
  exact block_tile i x2 x3 x4 x9 x17 1 _ _ _ _ _ _ _ _ _ _ _ _ _ q g j d
    (fun k l => (ld_at x2 _ k l ⟨128 * 0 + k.val, by omega⟩ _ (by dsimp only) rfl)) (fun k l => ld_at x2 _ k l _ _ (by (try dsimp only); omega) rfl) (fun k l => ld_at x4 _ k l _ _ rfl rfl)
    (fun l => ld_at x2 _ q l _ _ (by (try dsimp only); omega) (by (try dsimp only); omega)) (fun l => ld_at x2 _ q l _ _ (by (try dsimp only); omega) rfl) (fun l => ld_at x2 _ q l _ _ (by (try dsimp only); omega) rfl)
    (fun k => bias_at x17 i 1 _ k q) (sink_at x9 0 _ _ _) (sink_at x9 1 _ _ _) (sink_at x9 2 _ _ _) (sink_at x9 3 _ _ _) (sink_at x9 4 _ _ _) (sink_at x9 5 _ _ _)

theorem readB2 (c : Dev nD) (i : grid0.Coords) (arg4 : Memref sig .tc .vmem S1x384x640 .bf16) (harg4 : arg4.IsWhole) (arg6 : Memref sig .tc .vmem S1x128x640 .bf16) (harg6 : arg6.IsWhole) (arg11 : Memref sig .tc .smem S6 .f32) (harg11 : arg11.IsWhole) (arg19 : Memref sig .tc .vmem S3x272x128 .f32) (harg19 : arg19.IsWhole) (x2 : Vec Ideal S1x384x640 .bf16) (x3 : Vec Ideal S1x128x640 .bf16) (x4 : Vec Ideal S1x128x640 .bf16) (x9 : Vec Ideal S6 .f32) (x17 : Vec Ideal S3x272x128 .f32) (q : Fin 128) (g : Fin 3) (j : Fin 2) (d : Fin 64) :
    kernelRun0_B.sl.r_343 (F := Ideal) c i arg4 harg4 arg6 harg6 arg11 harg11 arg19 harg19 x2 x4 x9 x17 (ix2 q ⟨128 * g.val + (64 * j.val + d.val), by omega⟩) = tile (i 1).val x2 x3 x4 x9 x17 2 q g j d := by
  sl_unfold_run_names
  simp only [View.readAt_eq_ld, harg4.read_unread, harg6.read_unread, harg11.read_unread, harg19.read_unread]
  refine (congrFun (block2_eq _ _ _ _ _ _ _ _ _ _ _ _ _ _ _ _ _ _ _ rfl rfl rfl) _).trans ?_
  exact block_tile i x2 x3 x4 x9 x17 2 _ _ _ _ _ _ _ _ _ _ _ _ _ q g j d
    (fun k l => (ld_at x2 _ k l ⟨128 * 1 + k.val, by omega⟩ _ (by dsimp only) rfl)) (fun k l => ld_at x2 _ k l _ _ (by (try dsimp only); omega) rfl) (fun k l => ld_at x4 _ k l _ _ rfl rfl)
    (fun l => ld_at x2 _ q l _ _ (by (try dsimp only); omega) (by (try dsimp only); omega)) (fun l => ld_at x2 _ q l _ _ (by (try dsimp only); omega) rfl) (fun l => ld_at x2 _ q l _ _ (by (try dsimp only); omega) rfl)
    (fun k => bias_at x17 i 2 _ k q) (sink_at x9 0 _ _ _) (sink_at x9 1 _ _ _) (sink_at x9 2 _ _ _) (sink_at x9 3 _ _ _) (sink_at x9 4 _ _ _) (sink_at x9 5 _ _ _)

end Cert.Mixer
-- ==== Proof.Mixer.Out.lean ====
module

public import proofs.«01_k».proof.Proof.Mixer.Run

@[expose] public section

/-! What a grid point of the mixer leaves in the attention columns of its output block. -/

set_option maxRecDepth 16384

noncomputable section

namespace Cert.Mixer

open Cert.KernelIdeal Cert.KernelIdeal.Gen Idealize.ShloMosaic Idealize.ShloMosaic.TcCoe Idealize.ShloMosaic.Tactic

/-- What an attention column of an output block holds; rows of padding hold zero. -/
def tileOut (n : ℕ) (x2 : Vec Ideal S1x384x640 .bf16) (x3 x4 : Vec Ideal S1x128x640 .bf16) (x9 : Vec Ideal S6 .f32) (x17 : Vec Ideal S3x272x128 .f32)
    (blk : Fin 3) (q : Fin 128) (g : Fin 3) (j : Fin 2) (d : Fin 64) : EReal :=
  if 0 < n ∨ 0 < blk.val ∨ 112 ≤ q.val then tile n x2 x3 x4 x9 x17 blk q g j d else 0

/-- Three stores whose attention columns are the tiles. -/
theorem tiles_at (n : Fin 11) (x2 : Vec Ideal S1x384x640 .bf16) (x3 x4 : Vec Ideal S1x128x640 .bf16) (x9 : Vec Ideal S6 .f32) (x17 : Vec Ideal S3x272x128 .f32)
    (i0 : ∀ a, ![0, 0, 0] a + ![1, 128, 1024] a ≤ S1x384x1024.size a)
    (i1 : ∀ a, ![0, 128, 0] a + ![1, 128, 1024] a ≤ S1x384x1024.size a)
    (i2 : ∀ a, ![0, 256, 0] a + ![1, 128, 1024] a ≤ S1x384x1024.size a)
    (a0 a1 a2 b0 b1 b2 : Vec Ideal S128x384 .f32) (c0 c1 c2 : Vec Ideal S128x256 .f32)
    (h0 : ∀ (q : Fin 128) (g : Fin 3) (j : Fin 2) (d : Fin 64), b0 (ix2 q ⟨128 * g.val + (64 * j.val + d.val), by omega⟩) = tile n.val x2 x3 x4 x9 x17 0 q g j d)
    (h1 : ∀ (q : Fin 128) (g : Fin 3) (j : Fin 2) (d : Fin 64), b1 (ix2 q ⟨128 * g.val + (64 * j.val + d.val), by omega⟩) = tile n.val x2 x3 x4 x9 x17 1 q g j d)
    (h2 : ∀ (q : Fin 128) (g : Fin 3) (j : Fin 2) (d : Fin 64), b2 (ix2 q ⟨128 * g.val + (64 * j.val + d.val), by omega⟩) = tile n.val x2 x3 x4 x9 x17 2 q g j d)
    (blk : Fin 3) (q : Fin 128) (g : Fin 3) (j : Fin 2) (d : Fin 64) :
    View.canon (Val := Elt Ideal) (e := .bf16) [⟨Rect.unit (s := S1x384x1024) ![0, 256, 0] ![1, 128, 1024] i2, k0_pay378 (F := Ideal) a2 b2 c2⟩,
      ⟨Rect.unit (s := S1x384x1024) ![0, 128, 0] ![1, 128, 1024] i1, k0_pay377 (F := Ideal) a1 b1 c1⟩,
      ⟨Rect.unit (s := S1x384x1024) ![0, 0, 0] ![1, 128, 1024] i0, k0_pay376 (F := Ideal) (BitVec.ofNat 32 n.val) a0 b0 c0⟩]
        (ix3 0 ⟨128 * blk.val + q.val, by omega⟩ ⟨384 + (128 * g.val + (64 * j.val + d.val)), by omega⟩)
      = tileOut n.val x2 x3 x4 x9 x17 blk q g j d := by
  refine rows_at _ _ _ i0 i1 i2 _ _ _ ?_ ?_ ?_
  · intro q' hq
    obtain rfl : blk = 0 := Fin.ext (show blk.val = 0 by dsimp only at hq; omega)
    obtain rfl : q = q' := Fin.ext (by dsimp only at hq; change 128 * 0 + q.val = q'.val at hq; omega)
    refine (store0_at n a0 b0 c0 q ⟨128 * g.val + (64 * j.val + d.val), by omega⟩).trans ?_
    rw [h0]
    unfold tileOut
    refine if_congr ?_ rfl rfl
    change _ ↔ 0 < n.val ∨ 0 < 0 ∨ 112 ≤ q.val
    simp only [Nat.lt_irrefl, false_or]
  · intro q' hq
    obtain rfl : blk = 1 := Fin.ext (show blk.val = 1 by dsimp only at hq; omega)
    obtain rfl : q = q' := Fin.ext (by dsimp only at hq; change 128 * 1 + q.val = _ at hq; omega)
    refine (store1_at a1 b1 c1 q ⟨128 * g.val + (64 * j.val + d.val), by omega⟩).trans ?_
    rw [h1]
    exact (if_pos (Or.inr (Or.inl Nat.one_pos))).symm
  · intro q' hq
    obtain rfl : blk = 2 := Fin.ext (show blk.val = 2 by dsimp only at hq; omega)
    obtain rfl : q = q' := Fin.ext (by dsimp only at hq; change 128 * 2 + q.val = _ at hq; omega)
    refine (store2_at a2 b2 c2 q ⟨128 * g.val + (64 * j.val + d.val), by omega⟩).trans ?_
    rw [h2]
    exact (if_pos (Or.inr (Or.inl Nat.two_pos))).symm

theorem outA (c : Dev nD) (i : grid0.Coords) (arg2 : Memref sig .tc .vmem S1x384x384 .f32) (harg2 : arg2.IsWhole) (arg3 : Memref sig .tc .vmem S1x384x1152 .bf16) (harg3 : arg3.IsWhole) (arg4 : Memref sig .tc .vmem S1x384x640 .bf16) (harg4 : arg4.IsWhole) (arg5 : Memref sig .tc .vmem S1x128x640 .bf16) (harg5 : arg5.IsWhole) (arg6 : Memref sig .tc .vmem S1x128x640 .bf16) (harg6 : arg6.IsWhole) (arg7 : Memref sig .tc .vmem S1x384x512 .bf16) (harg7 : arg7.IsWhole) (arg8 : Memref sig .tc .vmem S1x128x512 .bf16) (harg8 : arg8.IsWhole) (arg9 : Memref sig .tc .vmem S3x384 .f32) (harg9 : arg9.IsWhole) (arg10 : Memref sig .tc .vmem S1x384 .f32) (harg10 : arg10.IsWhole) (arg11 : Memref sig .tc .smem S6 .f32) (harg11 : arg11.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x256 .bf16) (harg16 : arg16.IsWhole) (arg17 : Memref sig .tc .vmem S128x256 .bf16) (harg17 : arg17.IsWhole) (arg18 : Memref sig .tc .vmem S384x384 .bf16) (harg18 : arg18.IsWhole) (arg19 : Memref sig .tc .vmem S3x272x128 .f32) (harg19 : arg19.IsWhole) (arg20 : Memref sig .tc .vmem S128x4960 .bf16) (harg20 : arg20.IsWhole) (arg21 : Memref sig .tc .vmem S1x384x1024 .bf16) (harg21 : arg21.IsWhole) (arg22 : Memref sig .tc .vmem S3x128x128 .f32) (harg22 : arg22.IsWhole) (arg23 : Memref sig .tc .vmem S3x512x384 .f32) (harg23 : arg23.IsWhole) (hc0 : cond0_0 i)
    (x0 : Vec Ideal S1x384x384 .f32) (x1 : Vec Ideal S1x384x1152 .bf16) (x2 : Vec Ideal S1x384x640 .bf16) (x3 : Vec Ideal S1x128x640 .bf16) (x4 : Vec Ideal S1x128x640 .bf16) (x5 : Vec Ideal S1x384x512 .bf16) (x6 : Vec Ideal S1x128x512 .bf16) (x7 : Vec Ideal S3x384 .f32) (x8 : Vec Ideal S1x384 .f32) (x9 : Vec Ideal S6 .f32) (x10 : Vec Ideal S31x160x256 .bf16) (x11 : Vec Ideal S1x256 .f32) (x12 : Vec Ideal S1x256 .f32) (x13 : Vec Ideal S1x256 .f32) (x14 : Vec Ideal S512x256 .bf16) (x15 : Vec Ideal S128x256 .bf16) (x16 : Vec Ideal S384x384 .bf16) (x17 : Vec Ideal S3x272x128 .f32) (x18 : Vec Ideal S128x4960 .bf16) (blk : Fin 3) (q : Fin 128) (g : Fin 3) (j : Fin 2) (d : Fin 64) :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 (ix3 0 ⟨128 * blk.val + q.val, by omega⟩ ⟨384 + (128 * g.val + (64 * j.val + d.val)), by omega⟩)
      = tileOut (i 1).val x2 x3 x4 x9 x17 blk q g j d := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18)]
  unfold kernelRun0_A
  dsimp only
  exact tiles_at (i 1) x2 x3 x4 x9 x17 _ _ _ _ _ _ _ _ _ _ _ _
    (fun q g j d => readA0 c i arg4 harg4 arg5 harg5 arg6 harg6 arg11 harg11 arg19 harg19 x2 x3 x4 x9 x17 q g j d)
    (fun q g j d => readA1 c i arg4 harg4 arg6 harg6 arg11 harg11 arg19 harg19 x2 x3 x4 x9 x17 q g j d)
    (fun q g j d => readA2 c i arg4 harg4 arg6 harg6 arg11 harg11 arg19 harg19 x2 x3 x4 x9 x17 q g j d) blk q g j d

theorem outB (c : Dev nD) (i : grid0.Coords) (arg2 : Memref sig .tc .vmem S1x384x384 .f32) (harg2 : arg2.IsWhole) (arg3 : Memref sig .tc .vmem S1x384x1152 .bf16) (harg3 : arg3.IsWhole) (arg4 : Memref sig .tc .vmem S1x384x640 .bf16) (harg4 : arg4.IsWhole) (arg5 : Memref sig .tc .vmem S1x128x640 .bf16) (harg5 : arg5.IsWhole) (arg6 : Memref sig .tc .vmem S1x128x640 .bf16) (harg6 : arg6.IsWhole) (arg7 : Memref sig .tc .vmem S1x384x512 .bf16) (harg7 : arg7.IsWhole) (arg8 : Memref sig .tc .vmem S1x128x512 .bf16) (harg8 : arg8.IsWhole) (arg9 : Memref sig .tc .vmem S3x384 .f32) (harg9 : arg9.IsWhole) (arg10 : Memref sig .tc .vmem S1x384 .f32) (harg10 : arg10.IsWhole) (arg11 : Memref sig .tc .smem S6 .f32) (harg11 : arg11.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x256 .bf16) (harg16 : arg16.IsWhole) (arg17 : Memref sig .tc .vmem S128x256 .bf16) (harg17 : arg17.IsWhole) (arg18 : Memref sig .tc .vmem S384x384 .bf16) (harg18 : arg18.IsWhole) (arg19 : Memref sig .tc .vmem S3x272x128 .f32) (harg19 : arg19.IsWhole) (arg20 : Memref sig .tc .vmem S128x4960 .bf16) (harg20 : arg20.IsWhole) (arg21 : Memref sig .tc .vmem S1x384x1024 .bf16) (harg21 : arg21.IsWhole) (arg22 : Memref sig .tc .vmem S3x128x128 .f32) (harg22 : arg22.IsWhole) (arg23 : Memref sig .tc .vmem S3x512x384 .f32) (harg23 : arg23.IsWhole) (hc0 : ¬cond0_0 i)
    (x0 : Vec Ideal S1x384x384 .f32) (x1 : Vec Ideal S1x384x1152 .bf16) (x2 : Vec Ideal S1x384x640 .bf16) (x3 : Vec Ideal S1x128x640 .bf16) (x4 : Vec Ideal S1x128x640 .bf16) (x5 : Vec Ideal S1x384x512 .bf16) (x6 : Vec Ideal S1x128x512 .bf16) (x7 : Vec Ideal S3x384 .f32) (x8 : Vec Ideal S1x384 .f32) (x9 : Vec Ideal S6 .f32) (x10 : Vec Ideal S31x160x256 .bf16) (x11 : Vec Ideal S1x256 .f32) (x12 : Vec Ideal S1x256 .f32) (x13 : Vec Ideal S1x256 .f32) (x14 : Vec Ideal S512x256 .bf16) (x15 : Vec Ideal S128x256 .bf16) (x16 : Vec Ideal S384x384 .bf16) (x17 : Vec Ideal S3x272x128 .f32) (x18 : Vec Ideal S128x4960 .bf16) (xs0 : Vec Ideal S3x128x128 .f32) (blk : Fin 3) (q : Fin 128) (g : Fin 3) (j : Fin 2) (d : Fin 64) :
    out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 xs0 (ix3 0 ⟨128 * blk.val + q.val, by omega⟩ ⟨384 + (128 * g.val + (64 * j.val + d.val)), by omega⟩)
      = tileOut (i 1).val x2 x3 x4 x9 x17 blk q g j d := by
  unfold out0_B_19
  rw [View.read_writes_eq_canon _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 xs0)]
  unfold kernelRun0_B
  dsimp only
  exact tiles_at (i 1) x2 x3 x4 x9 x17 _ _ _ _ _ _ _ _ _ _ _ _
    (fun q g j d => readB0 c i arg4 harg4 arg5 harg5 arg6 harg6 arg11 harg11 arg19 harg19 x2 x3 x4 x9 x17 q g j d)
    (fun q g j d => readB1 c i arg4 harg4 arg6 harg6 arg11 harg11 arg19 harg19 x2 x3 x4 x9 x17 q g j d)
    (fun q g j d => readB2 c i arg4 harg4 arg6 harg6 arg11 harg11 arg19 harg19 x2 x3 x4 x9 x17 q g j d) blk q g j d

variable (m : (ℓ : Loc nD τ sig) → Buf (Elt Ideal) ℓ)

/-- A point's attention columns, from the blocks it reads. -/
theorem outs_at (c : Dev nD) (t : Fin cfg0.N) (blk : Fin 3) (q : Fin 128) (g : Fin 3) (j : Fin 2) (d : Fin 64) :
    (outsAt0 m c t.val t.isLt).1 (ix3 0 ⟨128 * blk.val + q.val, by omega⟩ ⟨384 + (128 * g.val + (64 * j.val + d.val)), by omega⟩)
      = tileOut (grid0.coords t 1).val (iblk m c 2 t) (iblk m c 3 t) (iblk m c 4 t) (iblk m c 9 t) (iblk m c 17 t) blk q g j d := by
  by_cases h0 : t.val % 11 = 0
  · have h := congrArg Prod.fst (outsAt0_A m c t h0)
    dsimp only at h
    rw [h]
    exact outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) blk q g j d
  · have h := congrArg Prod.fst (outsAt0_B m c t h0)
    dsimp only at h
    rw [h]
    exact outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ blk q g j d

end Cert.Mixer
-- ==== Proof.Mixer.Bias.lean ====
module

public import proofs.«01_k».proof.Proof.Mixer.Out
public import Idealize.ShloMosaic.Lib.Pipeline.ValueKit
public import Idealize.ShloMosaic.Lib.StableHlo.RunRead

@[expose] public section

/-! The mask table of the mixer's attention, and the blocks a grid point reads. -/

set_option maxRecDepth 16384

noncomputable section

namespace Cert.Mixer

open Cert.KernelIdeal Cert.KernelIdeal.Gen Idealize.ShloMosaic Idealize.ShloMosaic.TcCoe Idealize.ShloMosaic.Tactic Idealize.ShloMosaic.StableHlo

/-- The bits of minus infinity. -/
theorem bits_bot : Ideal.ofBits FTy.f32 0xFF800000#32 = (⊥ : EReal) := neg_inf

/-- A sum of small signed words. -/
theorem toInt_addi (x y : BitVec 32) (hx : -1000000 ≤ x.toInt ∧ x.toInt ≤ 1000000) (hy : -1000000 ≤ y.toInt ∧ y.toInt ≤ 1000000) :
    (IntOp.addi x y).toInt = x.toInt + y.toInt := by
  refine (BitVec.toInt_add x y).trans ?_
  rw [Int.bmod_def]
  omega

/-- A difference of small signed words. -/
theorem toInt_subi (x y : BitVec 32) (hx : -1000000 ≤ x.toInt ∧ x.toInt ≤ 1000000) (hy : -1000000 ≤ y.toInt ∧ y.toInt ≤ 1000000) :
    (IntOp.subi x y).toInt = x.toInt - y.toInt := by
  refine (BitVec.toInt_sub (x := x) (y := y)).trans ?_
  rw [Int.bmod_def]
  omega

/-- A small natural as a word. -/
theorem toInt_nat (a : ℕ) (h : a ≤ 1000000) : (BitVec.ofNat 32 a).toInt = (a : ℤ) :=
  WordCmp.toInt_ofNat_of_lt (by omega)

/-- A choice on a truth bit. -/
theorem select_ofBool {e : EltTy} (b : Bool) (x y : Elt Ideal e) : Scalar.select (BitVec.ofBool b) x y = if b = true then x else y := by
  cases b <;> rfl

/-- Query row `q` of block `n` may attend to key `k` of the 272. -/
def allowed (n k q : ℕ) : Prop :=
  (k < 128 ∧ q < k ∧ 2 ≤ n) ∨ (128 ≤ k ∧ k < 256 ∧ k ≤ q + 128 ∧ 1 ≤ n) ∨ (256 ≤ k ∧ (1 ≤ n ∨ k + 112 ≤ q + 256))

instance (n k q : ℕ) : Decidable (allowed n k q) := inferInstanceAs (Decidable (_ ∨ _ ∨ _))

/-- The table's operations, from any contents. -/
theorem table_at (s : Valuation τ sig (Elt Ideal)) (n : Fin 3) (k : Fin 272) (q : Fin 128) :
    after (hostOps0_26 ++ hostOps0_27 : List (HloOp τ sig (Elt Ideal))) s (Proc.devRef .tc main_v160) (ix3 n k q) = if allowed n.val k.val q.val then (0 : EReal) else ⊥ := by
  after_reads_simp
  simp only [TRef.toBuf, TRef.ofBuf, cast_eq]
  pointwise
  have hn := n.isLt
  have hk := k.isLt
  have hq := q.isLt
  have en := toInt_nat n.val (by omega)
  have ek := toInt_nat k.val (by omega)
  have eq := toInt_nat q.val (by omega)
  have e1 : (1#32 : BitVec 32).toInt = 1 := by decide
  have e2 : (2#32 : BitVec 32).toInt = 2 := by decide
  have e112 : (112#32 : BitVec 32).toInt = 112 := by decide
  have e128 : (128#32 : BitVec 32).toInt = 128 := by decide
  have e256 : (256#32 : BitVec 32).toInt = 256 := by decide
  have f1 : (IntOp.subi (BitVec.ofNat 32 k.val) 128#32).toInt = (k.val : ℤ) - 128 := by
    rw [toInt_subi _ _ (by omega) (by omega), ek, e128]
  have f2 : (IntOp.subi (BitVec.ofNat 32 k.val) 256#32).toInt = (k.val : ℤ) - 256 := by
    rw [toInt_subi _ _ (by omega) (by omega), ek, e256]
  have f3 : (IntOp.addi (IntOp.subi (BitVec.ofNat 32 k.val) 256#32) 112#32).toInt = (k.val : ℤ) - 256 + 112 := by
    rw [toInt_addi _ _ (by omega) (by omega), f2, e112]
  rw [bits_bot]
  simp only [WordCmp.cmpi_slt_eq, WordCmp.cmpi_sle_eq, WordCmp.cmpi_sgt_eq, WordCmp.cmpi_sge_eq, WordCmp.andi_ofBool, WordCmp.ori_ofBool,
    select_ofBool, en, ek, eq, e1, e2, e128, e256, f1, f3]
  refine if_congr ?_ rfl rfl
  simp only [WordCmp.ofBool_eq_one_iff', Bool.or_eq_true, Bool.and_eq_true, decide_eq_true_eq, allowed]
  omega

variable (m : (ℓ : Loc nD τ sig) → Buf (Elt Ideal) ℓ)

/-- The table as the call finds it. -/
theorem V_table (c : Dev nD) (n : Fin 3) (k : Fin 272) (q : Fin 128) :
    (V m c main_v160 : Vec Ideal S3x272x128 .f32) (ix3 n k q) = if allowed n.val k.val q.val then (0 : EReal) else ⊥ := by
  unfold V
  rw [show (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal)))
      = (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25])
        ++ ((hostOps0_26 ++ hostOps0_27) ++ (hostOps0_28 ++ hostOps0_29 ++ hostOps0_30)) from by
      simp only [List.flatten_cons, List.flatten_nil, List.append_assoc, List.append_nil]]
  rw [after_append, after_append]
  refine (congrFun (after_unwritten (r := main_v160) [main_v161, main_v162, main_v163, main_c_57, main_v164, main_v165, main_v166, main_v167, main_cst_58, main_cst_59, main_call14_v0, main_call14_v1, main_v168, main_v169, main_v170, main_v171, main_v172, main_v173] rfl (by decide) _) _).trans ?_
  exact table_at _ n k q

/-- The blocks' numbers. -/
theorem idx : ∀ t : Fin cfg0.N, win0_2.index t = ![(grid0.coords t 0).val, (grid0.coords t 1).val, 0]
    ∧ win0_3.index t = ![(grid0.coords t 0).val, 3 * (grid0.coords t 1).val - 1, 0]
    ∧ win0_4.index t = ![(grid0.coords t 0).val, 0, 0] ∧ win0_9.index t = ![0] ∧ win0_17.index t = ![0, 0, 0]
    ∧ win0_19.index t = ![(grid0.coords t 0).val, (grid0.coords t 1).val, 0] := (by decide +kernel : ∀ t : Fin grid0.N, _)
theorem bounds : ∀ t : Fin cfg0.N, (grid0.coords t 0).val < 8 ∧ (grid0.coords t 1).val < 11 := (by decide +kernel : ∀ t : Fin grid0.N, _)

theorem blk2_at (c : Dev nD) (t : Fin cfg0.N) (r : Fin 384) (l : Fin 640) (b : Fin 8) (s : Fin 4224) (hb : (b : ℕ) = (grid0.coords t 0).val)
    (hs : (s : ℕ) = 384 * (grid0.coords t 1).val + r) :
    (iblk m c 2 t : Vec Ideal S1x384x640 .bf16) (ix3 0 r l) = m ((c : Thread nD τ).loc main_arg2) (ix3 b s l) := by
  have e := (idx t).1
  blk_ext! [iblk, V_main_arg2, e]

theorem blk3_at (c : Dev nD) (t : Fin cfg0.N) (r : Fin 128) (l : Fin 640) (b : Fin 8) (s : Fin 4224) (hb : (b : ℕ) = (grid0.coords t 0).val)
    (hs : (s : ℕ) = 128 * (3 * (grid0.coords t 1).val - 1) + r) :
    (iblk m c 3 t : Vec Ideal S1x128x640 .bf16) (ix3 0 r l) = m ((c : Thread nD τ).loc main_arg2) (ix3 b s l) := by
  have e := (idx t).2.1
  blk_ext! [iblk, V_main_arg2, e]

theorem blk4_at (c : Dev nD) (t : Fin cfg0.N) (r : Fin 128) (l : Fin 640) (b : Fin 8) (s : Fin 4224) (hb : (b : ℕ) = (grid0.coords t 0).val)
    (hs : (s : ℕ) = r) :
    (iblk m c 4 t : Vec Ideal S1x128x640 .bf16) (ix3 0 r l) = m ((c : Thread nD τ).loc main_arg2) (ix3 b s l) := by
  have e := (idx t).2.2.1
  blk_ext! [iblk, V_main_arg2, e]

theorem blk9_at (c : Dev nD) (t : Fin cfg0.N) (k : Fin 6) :
    (iblk m c 9 t : Vec Ideal S6 .f32) (ix1 k) = m ((c : Thread nD τ).loc main_arg6) (ix1 k) := by
  have e := (idx t).2.2.2.1
  blk_ext! [iblk, V_main_arg6, e]

theorem blk17_at (c : Dev nD) (t : Fin cfg0.N) (n : Fin 3) (k : Fin 272) (q : Fin 128) :
    (iblk m c 17 t : Vec Ideal S3x272x128 .f32) (ix3 n k q) = if allowed n.val k.val q.val then (0 : EReal) else ⊥ := by
  rw [← V_table m c n k q]
  have e := (idx t).2.2.2.2.1
  generalize hV : (V m c main_v160 : Vec Ideal S3x272x128 .f32) = W
  change V m c (Pipeline.arrRef spec0 17) (((cfg0.win 17).blk t).view.emb (ix3 n k q)) = _
  refine (congrFun hV _).trans (congrArg W (funext fun a => Fin.ext ?_))
  refine (Pipeline.Window.rect_emb_val_off win0_17 t (ix3 n k q) a).trans ?_
  rw [e]
  match a with
  | ⟨0, _⟩ => exact Nat.zero_add _
  | ⟨1, _⟩ => exact Nat.zero_add _
  | ⟨2, _⟩ => exact Nat.zero_add _

end Cert.Mixer
-- ==== Proof.Mixer.RefMask.lean ====
module

public import proofs.«01_k».proof.Proof.Gen.AttentionIdeal.Read
public import proofs.«01_k».proof.Proof.Mixer.Bias

@[expose] public section

/-! The plain attention's mask. -/

set_option maxRecDepth 16384

noncomputable section

namespace Cert.AttentionIdeal.Rows

open Cert.AttentionIdeal Cert.AttentionIdeal.Gen Cert.AttentionIdeal.Read Idealize.ShloMosaic Idealize.ShloMosaic.TcCoe Idealize.ShloMosaic.Tactic Cert.Mixer

/-- A product with 128 of a small signed word. -/
theorem toInt_muli (x : BitVec 32) (hx : -1000 ≤ x.toInt ∧ x.toInt ≤ 1000) : (IntOp.muli x 128#32).toInt = x.toInt * 128 := by
  have e128 : (128#32 : BitVec 32).toInt = 128 := by decide
  refine (BitVec.toInt_mul x 128#32).trans ?_
  rw [e128, Int.bmod_def]
  omega

/-- A query's position. -/
theorem qpos_at (n : Fin 33) (q : Fin 128) : val_main_v34 (F := Ideal) (ix2 n q) = BitVec.ofNat 32 (128 * n.val + q.val) := by
  refine (shapeCast_apply (val_main_v33 (F := Ideal)) shapeCasts_S4224_S33x128 (ix2 n q) (ix1 ⟨128 * n.val + q.val, by omega⟩) (by
    rewrite [Shape.rowMajor_val_one, Shape.rowMajor_val_two]; show 128 * n.val + q.val = n.val * 128 + q.val; omega)).trans ?_
  rfl

theorem near_at (n : Fin 33) (q : Fin 128) (k : Fin 256) : val_main_v60 (F := Ideal) (ix3 n q k) = BitVec.ofBool (decide (allowed n.val k.val q.val)) := by
  pointwise [val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41, val_main_v40,
    val_main_v39, val_main_v38, val_main_v37, val_main_v36, val_main_v35, val_main_c_3, val_main_c_4, val_main_c_5, val_main_c_6, qpos_at]
  have hn := n.isLt
  have hk := k.isLt
  have hq := q.isLt
  have en := toInt_nat n.val (by omega)
  have ek := toInt_nat k.val (by omega)
  have eq := toInt_nat (128 * n.val + q.val) (by omega)
  have e1 : (1#32 : BitVec 32).toInt = 1 := by decide
  have e128 : (128#32 : BitVec 32).toInt = 128 := by decide
  have f1 : (IntOp.subi (BitVec.ofNat 32 n.val) 1#32).toInt = (n.val : ℤ) - 1 := by
    rw [toInt_subi _ _ (by omega) (by omega), en, e1]
  have f2 : (IntOp.muli (IntOp.subi (BitVec.ofNat 32 n.val) 1#32) 128#32).toInt = ((n.val : ℤ) - 1) * 128 := by
    rw [toInt_muli _ (by omega), f1]
  have f3 : (IntOp.addi (IntOp.muli (IntOp.subi (BitVec.ofNat 32 n.val) 1#32) 128#32) (BitVec.ofNat 32 k.val)).toInt = ((n.val : ℤ) - 1) * 128 + k.val := by
    rw [toInt_addi _ _ (by omega) (by omega), f2, ek]
  have f4 : (IntOp.subi (BitVec.ofNat 32 (128 * n.val + q.val)) (IntOp.addi (IntOp.muli (IntOp.subi (BitVec.ofNat 32 n.val) 1#32) 128#32) (BitVec.ofNat 32 k.val))).toInt
      = ((128 * n.val + q.val : ℕ) : ℤ) - (((n.val : ℤ) - 1) * 128 + k.val) := by
    rw [toInt_subi _ _ (by omega) (by omega), eq, f3]
  simp only [WordCmp.cmpi_slt_eq, WordCmp.cmpi_sle_eq, WordCmp.cmpi_sge_eq, WordCmp.andi_ofBool, eq, e128, f3, f4]
  refine congrArg BitVec.ofBool ?_
  rw [Bool.eq_iff_iff]
  simp only [Bool.and_eq_true, decide_eq_true_eq]
  unfold allowed
  omega

theorem meta_at (n : Fin 33) (q : Fin 128) (k : Fin 16) : val_main_v67 (F := Ideal) (ix3 n q k) = BitVec.ofBool (decide (allowed n.val (256 + k.val) q.val)) := by
  pointwise [val_main_v67, val_main_v66, val_main_v65, val_main_v64, val_main_v63, val_main_v62, val_main_v61, val_main_c_7, val_main_v46, qpos_at]
  have hn := n.isLt
  have hk := k.isLt
  have hq := q.isLt
  have ek := toInt_nat k.val (by omega)
  have eq := toInt_nat (128 * n.val + q.val) (by omega)
  have e112 : (112#32 : BitVec 32).toInt = 112 := by decide
  have f1 : (IntOp.addi 112#32 (BitVec.ofNat 32 k.val)).toInt = 112 + (k.val : ℤ) := by
    rw [toInt_addi _ _ (by omega) (by omega), ek, e112]
  simp only [WordCmp.cmpi_sle_eq, eq, f1]
  refine congrArg BitVec.ofBool ?_
  rw [Bool.eq_iff_iff]
  simp only [decide_eq_true_eq]
  unfold allowed
  omega

/-- The mask of the 272 keys. -/
theorem mask_at (n : Fin 33) (q : Fin 128) (k : Fin 272) : val_main_v68 (F := Ideal) (ix3 n q k) = BitVec.ofBool (decide (allowed n.val k.val q.val)) := by
  by_cases h : k.val < 256
  · refine (concatenate_pair_apply_left 2 (val_main_v60 (F := Ideal)) (val_main_v67 (F := Ideal)) concatenates_S33x128x256_S33x128x16_S33x128x272_d2
      (ix3 n q k) rfl (ix3 n q ⟨k.val, h⟩) (fun a => match a with | ⟨0, _⟩ => rfl | ⟨1, _⟩ => rfl | ⟨2, _⟩ => rfl)).trans ?_
    exact near_at n q ⟨k.val, h⟩
  · refine (concatenate_pair_apply_right 2 (val_main_v60 (F := Ideal)) (val_main_v67 (F := Ideal)) concatenates_S33x128x256_S33x128x16_S33x128x272_d2
      (ix3 n q k) rfl rfl (ix3 n q ⟨k.val - 256, by omega⟩) (fun a => match a with | ⟨0, _⟩ => fun _ => rfl | ⟨1, _⟩ => fun _ => rfl | ⟨2, _⟩ => fun h => absurd rfl h)
      (by show k.val - 256 + 256 = k.val; omega)).trans ?_
    rw [meta_at]
    dsimp only
    rw [show 256 + (k.val - 256) = k.val by omega]

end Cert.AttentionIdeal.Rows
-- ==== Proof.Mixer.Whole.lean ====
module

public import proofs.«01_k».proof.Proof.Mixer.Bias
public import proofs.«01_k».proof.Proof.Gen.KernelIdeal.Value

@[expose] public section

/-! What the mixer leaves in the attention columns of its result, as a function of its arguments. -/

set_option maxRecDepth 16384

noncomputable section

namespace Cert.Mixer

open Cert.KernelIdeal Cert.KernelIdeal.Gen Idealize.ShloMosaic Idealize.ShloMosaic.TcCoe Idealize.ShloMosaic.Tactic

/-- The row of the projection that holds key `k` of block `n`. -/
def rowOf (n k : ℕ) : ℕ := if k < 128 then 128 * (n - 1) + k else if k < 256 then 128 * n + (k - 128) else 112 + (k - 256)

theorem rowOf_lt (n : Fin 33) (k : Fin 272) : rowOf n.val k.val < 4224 := by
  have hn := n.isLt
  have hk := k.isLt
  unfold rowOf
  split
  · omega
  · split <;> omega

/-- The scores of a query row against its 272 keys. -/
def score (P : S8x4224x640.Idx → EReal) (b : Fin 8) (n : Fin 33) (q : Fin 128) (g : Fin 3) (j : Fin 2) (k : Fin 272) : EReal :=
  if allowed n.val k.val q.val then ∑ e : Fin 64, P (ix3 b ⟨rowOf n.val k.val, rowOf_lt n k⟩ ⟨384 + (64 * j.val + e.val), by omega⟩)
      * P (ix3 b ⟨128 * n.val + q.val, by omega⟩ ⟨128 * g.val + (64 * j.val + e.val), by omega⟩)
  else ⊥

/-- Column `d` of the values at its 272 keys. -/
def value (P : S8x4224x640.Idx → EReal) (b : Fin 8) (n : Fin 33) (j : Fin 2) (d : Fin 64) (k : Fin 272) : EReal :=
  P (ix3 b ⟨rowOf n.val k.val, rowOf_lt n k⟩ ⟨512 + (64 * j.val + d.val), by omega⟩)

/-- The mask does not tell blocks past the second apart. -/
theorem allowed_min (n k q : ℕ) : allowed (min n 2) k q ↔ allowed n k q := by
  unfold allowed
  omega

variable (m : (ℓ : Loc nD τ sig) → Buf (Elt Ideal) ℓ)

theorem tkey_at (c : Dev nD) (t : Fin cfg0.N) (b : Fin 8) (n : Fin 33) (blk : Fin 3) (hb : (b : ℕ) = (grid0.coords t 0).val)
    (hn : (n : ℕ) = 3 * (grid0.coords t 1).val + blk.val) (k : Fin 272) (l : Fin 640) :
    tkey (iblk m c 2 t) (iblk m c 3 t) (iblk m c 4 t) blk k l
      = m ((c : Thread nD τ).loc main_arg2) (ix3 b ⟨rowOf n.val k.val, rowOf_lt n k⟩ l) := by
  have hk := k.isLt
  have hbl := blk.isLt
  unfold tkey
  split
  · rename_i h1
    split
    · rename_i h0
      refine blk3_at m c t _ l b _ hb ?_
      simp only [rowOf, if_pos h1]
      omega
    · rename_i h0
      refine blk2_at m c t _ l b _ hb ?_
      simp only [rowOf, if_pos h1]
      omega
  · rename_i h1
    split
    · rename_i h2
      refine blk2_at m c t _ l b _ hb ?_
      simp only [rowOf, if_neg h1, if_pos (show k.val < 256 by omega)]
      omega
    · rename_i h2
      refine blk4_at m c t _ l b _ hb ?_
      simp only [rowOf, if_neg h1, if_neg (show ¬ k.val < 256 by omega)]
      omega

/-- A tile of a grid point from the arguments. -/
theorem tile_whole (c : Dev nD) (t : Fin cfg0.N) (b : Fin 8) (n : Fin 33) (blk : Fin 3) (hb : (b : ℕ) = (grid0.coords t 0).val)
    (hn : (n : ℕ) = 3 * (grid0.coords t 1).val + blk.val) (q : Fin 128) (g : Fin 3) (j : Fin 2) (d : Fin 64) :
    tileOut (grid0.coords t 1).val (iblk m c 2 t) (iblk m c 3 t) (iblk m c 4 t) (iblk m c 9 t) (iblk m c 17 t) blk q g j d
      = if 112 ≤ 128 * n.val + q.val then attend (score (m ((c : Thread nD τ).loc main_arg2)) b n q g j)
          (value (m ((c : Thread nD τ).loc main_arg2)) b n j d) (m ((c : Thread nD τ).loc main_arg6) (ix1 ⟨3 * j.val + g.val, by omega⟩)) else 0 := by
  unfold tileOut
  refine if_congr (by omega) ?_ rfl
  unfold tile
  have e1 : (fun k : Fin 272 => tkey (iblk m c 2 t) (iblk m c 3 t) (iblk m c 4 t) blk k ⟨384 + (128 + (64 * j.val + d.val)), by omega⟩)
      = value (m ((c : Thread nD τ).loc main_arg2)) b n j d := by
    funext k
    rw [tkey_at m c t b n blk hb hn]
    unfold value
    congr 2
    exact Fin.ext (by dsimp only; omega)
  rw [e1, blk9_at]
  congr 1
  funext k
  rw [blk17_at]
  have e2 : ∀ e : Fin 64, (iblk m c 2 t : Vec Ideal S1x384x640 .bf16) (ix3 0 ⟨128 * blk.val + q.val, by omega⟩ ⟨128 * g.val + (64 * j.val + e.val), by omega⟩)
      = m ((c : Thread nD τ).loc main_arg2) (ix3 b ⟨128 * n.val + q.val, by omega⟩ ⟨128 * g.val + (64 * j.val + e.val), by omega⟩) :=
    fun e => blk2_at m c t _ _ b _ hb (by dsimp only; omega)
  simp only [tkey_at m c t b n blk hb hn, e2]
  unfold score
  have ha : allowed (min (3 * (grid0.coords t 1).val + blk.val) 2) k.val q.val ↔ allowed n.val k.val q.val := by rw [← hn]; exact allowed_min _ _ _
  by_cases h : allowed n.val k.val q.val
  · rw [if_pos h, if_pos (ha.2 h)]
    exact add_zero _
  · rw [if_neg h, if_neg (fun h' => h (ha.1 h'))]
    exact EReal.add_bot _

/-- A grid point's number from its coordinates. -/
theorem coords_at : ∀ t : Fin cfg0.N, t.val = 11 * (grid0.coords t 0).val + (grid0.coords t 1).val := (by decide +kernel : ∀ t : Fin grid0.N, _)

/-- Every index of the result lies in a block that is written back. -/
theorem covers : (cfg0.win 19).Covers := by decide +kernel

/-- What a grid point leaves in its output block. -/
def left (c : Dev nD) (t : Fin cfg0.N) : Vec Ideal S1x384x1024 .bf16 := (outsAt0 m c t.val t.isLt).1

theorem N_eq : cfg0.N = 88 := by decide

/-- The result, block by block. -/
theorem arr_eq (c : Dev nD) : (dats m 0 c).arrAt 19 cfg0.N = fun i : S8x4224x1024.Idx =>
    left m c ⟨11 * (i 0).val + (i 1).val / 384, by
      have h0 : (i 0).val < 8 := (i 0).isLt
      have h1 : (i 1).val < 4224 := (i 1).isLt
      rw [N_eq]; omega⟩ (ix3 0 ⟨(i 1).val % 384, Nat.mod_lt _ (by omega)⟩ (i 2)) := by
  refine (dats m 0 c).arrAt_eq_of_covers 19 _ covers fun t hf y => ?_
  have hb := bounds t
  obtain ⟨z, r, l, rfl⟩ : ∃ (z : Fin 1) (r : Fin 384) (l : Fin 1024), y = ix3 z r l := ⟨y 0, y 1, y 2, eq_ix3 y⟩
  obtain rfl : z = 0 := Subsingleton.elim _ _
  have hemb : ((cfg0.win 19).blk t).view.emb (ix3 0 r l) = ix3 (n0 := 8) (n1 := 4224) (n2 := 1024) ⟨(grid0.coords t 0).val, hb.1⟩ ⟨384 * (grid0.coords t 1).val + r.val, by omega⟩ l := by
    blk_ext [(idx t).2.2.2.2.2]
  rw [hemb]
  have ht : (⟨11 * (grid0.coords t 0).val + (384 * (grid0.coords t 1).val + r.val) / 384, by rw [N_eq]; omega⟩ : Fin cfg0.N) = t :=
    Fin.ext (by have := coords_at t; dsimp only; omega)
  have hr : (⟨(384 * (grid0.coords t 1).val + r.val) % 384, Nat.mod_lt _ (by omega)⟩ : Fin 384) = r := Fin.ext (by dsimp only; omega)
  refine Eq.trans ?_ (congrArg₂ (fun (a : Fin cfg0.N) (b : Fin 384) => left m c a (ix3 0 b l)) ht hr).symm
  rw [after0_19]
  unfold left
  generalize (outsAt0 m c t.val t.isLt).1 = F
  rfl

/-- An attention column of the result. -/
theorem result_at (c : Dev nD) (b : Fin 8) (n : Fin 33) (q : Fin 128) (g : Fin 3) (j : Fin 2) (d : Fin 64) :
    (dats m 0 c).arrAt 19 cfg0.N (ix3 (n0 := 8) (n1 := 4224) (n2 := 1024) b ⟨128 * n.val + q.val, by omega⟩ ⟨384 + (128 * g.val + (64 * j.val + d.val)), by omega⟩)
      = if 112 ≤ 128 * n.val + q.val then attend (score (m ((c : Thread nD τ).loc main_arg2)) b n q g j)
          (value (m ((c : Thread nD τ).loc main_arg2)) b n j d) (m ((c : Thread nD τ).loc main_arg6) (ix1 ⟨3 * j.val + g.val, by omega⟩)) else 0 := by
  rw [arr_eq]
  have hN : 11 * b.val + n.val / 3 < cfg0.N := by rw [N_eq]; omega
  have hc := coords_at ⟨11 * b.val + n.val / 3, hN⟩
  have hb := bounds ⟨11 * b.val + n.val / 3, hN⟩
  dsimp only at hc
  rw [← tile_whole m c ⟨11 * b.val + n.val / 3, hN⟩ b n ⟨n.val % 3, Nat.mod_lt _ (by omega)⟩ (by omega) (by dsimp only; omega) q g j d, ← outs_at]
  refine (congrArg₂ (fun (a : Fin cfg0.N) (r : Fin 384) => left m c a (ix3 0 r ⟨384 + (128 * g.val + (64 * j.val + d.val)), by omega⟩))
    (x' := ⟨11 * b.val + n.val / 3, hN⟩) (y' := ⟨128 * (n.val % 3) + q.val, by omega⟩) ?_ ?_).trans rfl
  · refine Fin.ext ?_
    show 11 * b.val + (128 * n.val + q.val) / 384 = 11 * b.val + n.val / 3
    omega
  · refine Fin.ext ?_
    show (128 * n.val + q.val) % 384 = 128 * (n.val % 3) + q.val
    omega

end Cert.Mixer
-- ==== Proof.Mixer.RefAttend.lean ====
module

public import proofs.«01_k».proof.Proof.Mixer.RefLayout
public import proofs.«01_k».proof.Proof.Mixer.RefMask
public import proofs.«01_k».proof.Proof.Mixer.Whole

@[expose] public section

/-! The plain attention: its scores, its softmax with a sink, and its result. -/

set_option maxRecDepth 16384

noncomputable section

namespace Cert.AttentionIdeal.Rows

open Cert.AttentionIdeal Cert.AttentionIdeal.Gen Cert.AttentionIdeal.Read Idealize.ShloMosaic Idealize.ShloMosaic.TcCoe Cert.Mixer

variable (P : (⟨S8x4224x640, .bf16⟩ : BufTy).Contents (Elt Ideal)) (sk : (⟨S6, .f32⟩ : BufTy).Contents (Elt Ideal))
  (b : Fin 8) (n : Fin 33) (q : Fin 128) (g : Fin 3) (j : Fin 2) (d : Fin 64)

theorem rowOf_before {n k : ℕ} (h : k < 128) : rowOf n k = 128 * (n - 1) + k := if_pos h
theorem rowOf_own {n k : ℕ} (h : ¬ k < 128) (h' : k < 256) : rowOf n k = 128 * n + (k - 128) := (if_neg h).trans (if_pos h')
theorem rowOf_meta {n k : ℕ} (h : ¬ k < 256) : rowOf n k = 112 + (k - 256) := (if_neg (by omega)).trans (if_neg h)

/-- A key of the 256 that the mask lets through. -/
theorem key256 (k : Fin 256) (e : Fin 64) (ha : allowed n.val k.val q.val) :
    val_main_v18 (F := Ideal) P (ix5 b n k j e) = P (ix3 b ⟨rowOf n.val k.val, rowOf_lt n ⟨k.val, by omega⟩⟩ ⟨384 + (64 * j.val + e.val), by omega⟩) := by
  unfold allowed at ha
  by_cases h : k.val < 128
  · rw [key_before P b n k j e h (by omega)]
    exact congrArg P (congrArg (fun r => ix3 b r _) (Fin.ext (rowOf_before h).symm))
  · rw [key_own P b n k j e h (by omega)]
    exact congrArg P (congrArg (fun r => ix3 b r _) (Fin.ext (rowOf_own h k.isLt).symm))

/-- A value of the 256 that the mask lets through. -/
theorem val256 (k : Fin 256) (ha : allowed n.val k.val q.val) :
    val_main_v23 (F := Ideal) P (ix5 b n k j d) = P (ix3 b ⟨rowOf n.val k.val, rowOf_lt n ⟨k.val, by omega⟩⟩ ⟨512 + (64 * j.val + d.val), by omega⟩) := by
  unfold allowed at ha
  by_cases h : k.val < 128
  · rw [val_before P b n k j d h (by omega)]
    exact congrArg P (congrArg (fun r => ix3 b r _) (Fin.ext (rowOf_before h).symm))
  · rw [val_own P b n k j d h (by omega)]
    exact congrArg P (congrArg (fun r => ix3 b r _) (Fin.ext (rowOf_own h k.isLt).symm))

/-- The unmasked scores against the 256 keys. -/
theorem dot256 (k : Fin 256) : val_main_v29 (F := Ideal) P (ix6 b n j g q k)
    = ∑ e : Fin 64, val_main_v18 (F := Ideal) P (ix5 b n k j e) * val_main_v9 (F := Ideal) P (ix6 b n q j g e) := by
  rw [val_main_v29_apply, val_main_v28_apply]
  refine Finset.sum_congr rfl fun e _ => congrArg₂ (· * ·) (congrArg _ (funext fun a => ?_)) (congrArg _ (funext fun a => ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl | ⟨4, _⟩ => rfl | ⟨5, _⟩ => rfl

/-- The unmasked scores against the meta tokens. -/
theorem dot16 (k : Fin 16) : val_main_v31 (F := Ideal) P (ix6 b n j g q k)
    = ∑ e : Fin 64, val_main_v25 (F := Ideal) P (ix4 b k j e) * val_main_v9 (F := Ideal) P (ix6 b n q j g e) := by
  rw [val_main_v31_apply, val_main_v30_apply]
  refine Finset.sum_congr rfl fun e _ => congrArg₂ (· * ·) (congrArg _ (funext fun a => ?_)) (congrArg _ (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl | ⟨4, _⟩ => rfl | ⟨5, _⟩ => rfl

/-- The scores, masked. -/
theorem score_at (h : 112 ≤ 128 * n.val + q.val) (k : Fin 272) : val_main_v70 (F := Ideal) P (ix6 b n j g q k) = score P b n q g j k := by
  rw [val_main_v70_apply, val_main_call3_v1_apply, val_main_v69_apply]
  rw [show idx_main_v69 (idx_main_call3_v1 (ix6 b n j g q k)) = ix3 n q k from funext fun a => match a with | ⟨0, _⟩ => rfl | ⟨1, _⟩ => rfl | ⟨2, _⟩ => rfl]
  rw [mask_at, select_ofBool]
  unfold score
  refine (if_congr decide_eq_true_iff rfl rfl).trans ?_
  by_cases ha : allowed n.val k.val q.val
  · rw [if_pos ha, if_pos ha]
    by_cases h' : k.val < 256
    · refine (concatenate_pair_apply_left 5 (val_main_v29 (F := Ideal) P) (val_main_v31 (F := Ideal) P) concatenates_S8x33x2x3x128x256_S8x33x2x3x128x16_S8x33x2x3x128x272_d5
        (ix6 b n j g q k) rfl (ix6 b n j g q ⟨k.val, h'⟩) (fun a => match a with | ⟨0, _⟩ => rfl | ⟨1, _⟩ => rfl | ⟨2, _⟩ => rfl | ⟨3, _⟩ => rfl | ⟨4, _⟩ => rfl | ⟨5, _⟩ => rfl)).trans ?_
      rw [dot256]
      refine Finset.sum_congr rfl fun e _ => ?_
      rw [key256 P b n q j ⟨k.val, h'⟩ e ha, query_at P b n q j g e h]
    · refine (concatenate_pair_apply_right 5 (val_main_v29 (F := Ideal) P) (val_main_v31 (F := Ideal) P) concatenates_S8x33x2x3x128x256_S8x33x2x3x128x16_S8x33x2x3x128x272_d5
        (ix6 b n j g q k) rfl rfl (ix6 b n j g q ⟨k.val - 256, by omega⟩)
        (fun a => match a with | ⟨0, _⟩ => fun _ => rfl | ⟨1, _⟩ => fun _ => rfl | ⟨2, _⟩ => fun _ => rfl | ⟨3, _⟩ => fun _ => rfl | ⟨4, _⟩ => fun _ => rfl | ⟨5, _⟩ => fun h => absurd rfl h)
        (by show k.val - 256 + 256 = k.val; omega)).trans ?_
      rw [dot16]
      refine Finset.sum_congr rfl fun e _ => ?_
      rw [key_meta, query_at P b n q j g e h]
      exact congrArg (fun r => P (ix3 b r _) * _) (Fin.ext (rowOf_meta h').symm)
  · rw [if_neg ha, if_neg ha]
    exact bits_bot

/-- The values at the 272 keys. -/
def vals (k : Fin 272) : EReal :=
  if h : k.val < 256 then val_main_v23 (F := Ideal) P (ix5 b n ⟨k.val, h⟩ j d) else val_main_v27 (F := Ideal) P (ix4 b ⟨k.val - 256, by omega⟩ j d)

theorem vals_at (k : Fin 272) (ha : allowed n.val k.val q.val) : vals P b n j d k = value P b n j d k := by
  unfold vals value
  split
  · rename_i h
    exact val256 P b n q j d ⟨k.val, h⟩ ha
  · rename_i h
    rw [val_meta]
    exact congrArg (fun r => P (ix3 b r _)) (Fin.ext (rowOf_meta h).symm)

/-- The scores as the softmax takes them. -/
def scores (k : Fin 272) : EReal := val_main_v70 (F := Ideal) P (ix6 b n j g q k)

/-- A head's sink. -/
def sinkOf : EReal := sk (ix1 ⟨3 * j.val + g.val, by omega⟩)

theorem joined_score (k : Fin 272) : val_main_v73 (F := Ideal) P sk (ix6 b n j g q k.castSucc) = scores P b n q g j k :=
  concatenate_pair_apply_left 5 (val_main_v70 (F := Ideal) P) (val_main_v72 (F := Ideal) sk) concatenates_S8x33x2x3x128x272_S8x33x2x3x128x1_S8x33x2x3x128x273_d5
    (ix6 b n j g q k.castSucc) rfl (ix6 b n j g q k) (fun a => match a with | ⟨0, _⟩ => rfl | ⟨1, _⟩ => rfl | ⟨2, _⟩ => rfl | ⟨3, _⟩ => rfl | ⟨4, _⟩ => rfl | ⟨5, _⟩ => rfl)

theorem joined_sink : val_main_v73 (F := Ideal) P sk (ix6 b n j g q (Fin.last 272)) = sinkOf sk g j := by
  refine (concatenate_pair_apply_right 5 (val_main_v70 (F := Ideal) P) (val_main_v72 (F := Ideal) sk) concatenates_S8x33x2x3x128x272_S8x33x2x3x128x1_S8x33x2x3x128x273_d5
    (ix6 b n j g q (Fin.last 272)) rfl rfl (ix6 b n j g q 0)
    (fun a => match a with | ⟨0, _⟩ => fun _ => rfl | ⟨1, _⟩ => fun _ => rfl | ⟨2, _⟩ => fun _ => rfl | ⟨3, _⟩ => fun _ => rfl | ⟨4, _⟩ => fun _ => rfl | ⟨5, _⟩ => fun h => absurd rfl h)
    rfl).trans ?_
  rw [val_main_v72_apply]
  rw [show idx_main_v72 (ix6 b n j g q 0) = ix6 0 0 j g 0 0 from funext fun a => match a with | ⟨0, _⟩ => rfl | ⟨1, _⟩ => rfl | ⟨2, _⟩ => rfl | ⟨3, _⟩ => rfl | ⟨4, _⟩ => rfl | ⟨5, _⟩ => rfl]
  exact shapeCast_apply sk shapeCasts_S6_S1x1x2x3x1x1 (ix6 0 0 j g 0 0) (ix1 ⟨3 * j.val + g.val, by omega⟩) (by
    rewrite [Shape.rowMajor_val_one, Shape.rowMajor_val_six]; show 3 * j.val + g.val = ((((0 * 1 + 0) * 2 + j.val) * 3 + g.val) * 1 + 0) * 1 + 0; omega)

/-- The greatest of the scores and the sink. -/
theorem top_at : val_main_v76 (F := Ideal) P sk (ix5 b n j g q) = top (scores P b n q g j) (sinkOf sk g j) := by
  have h74 : val_main_v74 (F := Ideal) P sk (ix5 b n j g q) = Finset.univ.sup fun k : Fin 273 => val_main_v73 (F := Ideal) P sk (ix6 b n j g q k) := by
    unfold val_main_v74
    generalize val_main_v73 (F := Ideal) P sk = y
    refine (Host.reduce_eq_fold_single (s := S8x33x2x3x128x273) (t := S8x33x2x3x128) (max : EReal → EReal → EReal) y (val_main_cst_9 (F := Ideal) : S_.Idx → EReal)
      reducesTo_S8x33x2x3x128x273_S8x33x2x3x128_d5 (by decide) h_S_ (ix5 b n j g q)).trans ?_
    rw [show val_main_cst_9 (F := Ideal) (Shape.Idx.first h_S_) = (⊥ : EReal) from bits_bot]
    refine congrArg (fun f => Finset.univ.sup f) (funext fun k => ?_)
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  rw [val_main_v76_apply, h74, val_main_v75_apply]
  rw [show val_main_cst_10 (F := Ideal) (idx_main_v75 (ix5 b n j g q)) = (⊥ : EReal) from bits_bot]
  refine (max_eq_right bot_le).trans ?_
  rw [Fin.univ_castSuccEmb, Finset.sup_cons, Finset.sup_map, joined_sink]
  unfold top
  refine (max_comm _ _).trans (congrArg (fun f => max (Finset.univ.sup f) _) (funext fun k => ?_))
  exact joined_score P sk b n q g j k

theorem exp_at (k : Fin 273) : val_main_v80 (F := Ideal) P sk (ix6 b n j g q k)
    = Ideal.exp (val_main_v73 (F := Ideal) P sk (ix6 b n j g q k) - top (scores P b n q g j) (sinkOf sk g j)) := by
  rw [val_main_v80_apply, val_main_v79_apply, val_main_v78_apply, val_main_v77_apply]
  rw [show idx_main_v77 (idx_main_v78 (ix6 b n j g q k)) = ix5 b n j g q from funext fun a => match a with | ⟨0, _⟩ => rfl | ⟨1, _⟩ => rfl | ⟨2, _⟩ => rfl | ⟨3, _⟩ => rfl | ⟨4, _⟩ => rfl]
  rw [top_at]
  rfl

theorem den_at : val_main_v81 (F := Ideal) P sk (ix5 b n j g q) = den (scores P b n q g j) (sinkOf sk g j) := by
  rw [val_main_v81_apply]
  rw [show val_main_cst_11 (F := Ideal) (Shape.Idx.first h_S_) = (0 : EReal) from Ideal.ofBits_zero_f32, zero_add, Fin.sum_univ_castSucc]
  have e : ∀ k : Fin 273, idx_main_v81 (ix5 b n j g q) k = ix6 b n j g q k := fun k =>
    funext fun a => match a with | ⟨0, _⟩ => rfl | ⟨1, _⟩ => rfl | ⟨2, _⟩ => rfl | ⟨3, _⟩ => rfl | ⟨4, _⟩ => rfl | ⟨5, _⟩ => rfl
  simp only [e, exp_at, joined_score, joined_sink]
  rfl

/-- A key's weight. -/
theorem weight_at (k : Fin 272) : val_main_v85 (F := Ideal) P sk (ix6 b n j g q k)
    = Ideal.div (wt (scores P b n q g j) (sinkOf sk g j) k) (den (scores P b n q g j) (sinkOf sk g j)) := by
  rw [val_main_v85_apply, val_main_v84_apply, val_main_v83_apply, val_main_v82_apply]
  rw [show idx_main_v85 (ix6 b n j g q k) = ix6 b n j g q k.castSucc from funext fun a => match a with | ⟨0, _⟩ => rfl | ⟨1, _⟩ => rfl | ⟨2, _⟩ => rfl | ⟨3, _⟩ => rfl | ⟨4, _⟩ => rfl | ⟨5, _⟩ => rfl]
  rw [show idx_main_v82 (idx_main_v83 (ix6 b n j g q k.castSucc)) = ix5 b n j g q from funext fun a => match a with | ⟨0, _⟩ => rfl | ⟨1, _⟩ => rfl | ⟨2, _⟩ => rfl | ⟨3, _⟩ => rfl | ⟨4, _⟩ => rfl]
  rw [exp_at, joined_score, den_at]
  rfl

/-- The attention of a query. -/
theorem attend_at : val_main_v92 (F := Ideal) P sk (ix6 b n q j g d) = attendP (scores P b n q g j) (vals P b n j d) (sinkOf sk g j) := by
  rw [val_main_v92_apply, val_main_v88_apply, val_main_v91_apply, val_main_v87_apply, val_main_v90_apply]
  unfold attendP
  refine Eq.trans ?_ (Fin.sum_univ_add (a := 256) (b := 16) (fun k : Fin 272 => Ideal.div (wt (scores P b n q g j) (sinkOf sk g j) k) (den (scores P b n q g j) (sinkOf sk g j)) * vals P b n j d k)).symm
  refine congrArg₂ (· + ·) (Finset.sum_congr rfl fun k _ => ?_) (Finset.sum_congr rfl fun k _ => ?_)
  · rw [val_main_v86_apply, ← weight_at]
    refine (mul_comm _ _).trans (congrArg₂ (· * ·) (congrArg _ (funext fun a => ?_)) ?_)
    · match a with | ⟨0, _⟩ => rfl | ⟨1, _⟩ => rfl | ⟨2, _⟩ => rfl | ⟨3, _⟩ => rfl | ⟨4, _⟩ => rfl | ⟨5, _⟩ => rfl
    · unfold vals
      rw [dif_pos (show (Fin.castAdd 16 k : Fin 272).val < 256 from k.isLt)]
      exact congrArg _ (funext fun a => match a with | ⟨0, _⟩ => rfl | ⟨1, _⟩ => rfl | ⟨2, _⟩ => rfl | ⟨3, _⟩ => rfl | ⟨4, _⟩ => rfl)
  · rw [val_main_v89_apply, ← weight_at]
    refine (mul_comm _ _).trans (congrArg₂ (· * ·) (congrArg _ (funext fun a => ?_)) ?_)
    · match a with | ⟨0, _⟩ => rfl | ⟨1, _⟩ => rfl | ⟨2, _⟩ => rfl | ⟨3, _⟩ => rfl | ⟨4, _⟩ => rfl | ⟨5, _⟩ => rfl
    · unfold vals
      rw [dif_neg (show ¬ (Fin.natAdd 256 k : Fin 272).val < 256 from by show ¬ 256 + k.val < 256; omega)]
      exact congrArg _ (funext fun a => match a with | ⟨0, _⟩ => rfl | ⟨1, _⟩ => Fin.ext (by show k.val = 256 + k.val - 256; omega) | ⟨2, _⟩ => rfl | ⟨3, _⟩ => rfl)

/-- The scores are the projection's. -/
theorem scores_eq (h : 112 ≤ 128 * n.val + q.val) : scores P b n q g j = score P b n q g j := funext fun k => score_at P b n q g j h k

end Cert.AttentionIdeal.Rows
-- ==== Proof.Mixer.Claim.lean ====
module

public import proofs.«01_k».proof.Defs
public import proofs.«01_k».proof.Proof.Gen.AttentionIdeal.Run
public import proofs.«01_k».proof.Proof.Gen.Pre_finite_attention
public import proofs.«01_k».proof.Proof.Gen.On_attention_columns
public import proofs.«01_k».proof.Proof.Mixer.RefAttend
public import Idealize.ShloMosaic.Lib.Claim

@[expose] public section

/-! The attention's columns of the mixer are the plain attention. -/

set_option maxRecDepth 16384

noncomputable section

namespace Cert.Mixer

open Idealize.ShloMosaic Idealize.SL.Sem Idealize.ShloMosaic.TcCoe Cert.AttentionIdeal.Rows

/-- A number whose magnitude is below infinity is real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = r := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  induction x using EReal.rec with
  | bot => simp at h'
  | coe r => exact ⟨r, rfl⟩
  | top => simp at h'

/-- A sum of products of reals is real. -/
theorem real_sum {n : ℕ} (f h : Fin n → EReal) (hf : ∀ k, ∃ r : ℝ, f k = r) (hh : ∀ k, ∃ r : ℝ, h k = r) : ∃ r : ℝ, ∑ k, f k * h k = r := by
  choose a ha using hf
  choose b hb using hh
  refine ⟨∑ k, a k * b k, ?_⟩
  rw [show (∑ k, f k * h k) = ∑ k, ((a k * b k : ℝ) : EReal) from Finset.sum_congr rfl fun k _ => by rw [ha, hb, EReal.coe_mul]]
  induction (Finset.univ : Finset (Fin n)) using Finset.induction_on with
  | empty => simp
  | insert x t hx ih => rw [Finset.sum_insert hx, Finset.sum_insert hx, ih, EReal.coe_add]

/-- With finite queries and keys and a finite sink, dividing last is dividing first, and masked values do not matter. -/
theorem attend_plain (P : Cert.AttentionIdeal.S8x4224x640.Idx → EReal) (hP : ∀ (u : Fin 8) (v : Fin 4224) (w : Fin 640), w.val < 512 → ∃ r : ℝ, P (ix3 u v w) = r)
    (x : EReal) (hx : ∃ r : ℝ, x = r) (b : Fin 8) (n : Fin 33) (q : Fin 128) (g : Fin 3) (j : Fin 2) (d : Fin 64) :
    attend (score P b n q g j) (value P b n j d) x = attendP (score P b n q g j) (Cert.AttentionIdeal.Rows.vals P b n j d) x := by
  obtain ⟨r, rfl⟩ := hx
  refine attend_eq _ _ _ (fun k => ?_) r (fun k hk => ?_)
  · unfold score
    split
    · exact Or.inr (real_sum _ _ (fun e => hP _ _ _ (by show 384 + (64 * j.val + e.val) < 512; omega)) (fun e => hP _ _ _ (by show 128 * g.val + (64 * j.val + e.val) < 512; omega)))
    · exact Or.inl rfl
  · refine Cert.AttentionIdeal.Rows.vals_at P b n q j d k ?_
    by_contra ha
    exact hk (if_neg ha)

/-- The attention's columns. -/
theorem columns (a0 : Cert.On_attention_columns.S8x4224x384.Idx → EReal) (a1 : Cert.On_attention_columns.S8x4224x1152.Idx → EReal) (a2 : Cert.On_attention_columns.S8x4224x640.Idx → EReal)
    (a3 : Cert.On_attention_columns.S8x4224x512.Idx → EReal) (a4 : Cert.On_attention_columns.S384.Idx → EReal) (a5 : Cert.On_attention_columns.S64.Idx → EReal)
    (a6 : Cert.On_attention_columns.S6.Idx → EReal) (a7 : Cert.On_attention_columns.S31x256.Idx → EReal) (a8 a9 a10 : Cert.On_attention_columns.S256.Idx → EReal)
    (u : Fin 8) (v : Fin 4224) (w : Fin 1024) [Cert.On_attention_columns.Facts]
    (h : Cert.On_attention_columns.fn (F := Ideal) a0 a1 a2 a3 a4 a5 a6 a7 a8 a9 a10 (ix3 (n0 := 8) (n1 := 4224) (n2 := 1024) u v w) = 1#1) : 384 ≤ w.val ∧ w.val < 768 := by
  have h' : IntOp.andi (IntOp.cmpi .sge (BitVec.ofNat 32 w.val) 384#32) (IntOp.cmpi .slt (BitVec.ofNat 32 w.val) 768#32) = 1#1 := h
  rw [WordCmp.cmpi_sge_eq, WordCmp.cmpi_slt_eq, WordCmp.andi_ofBool, toInt_nat w.val (by omega), toInt_nat 384 (by omega), toInt_nat 768 (by omega)] at h'
  have h2 : (decide (((384 : ℕ) : ℤ) ≤ (w.val : ℤ)) && decide ((w.val : ℤ) < ((768 : ℕ) : ℤ))) = true := by
    revert h'
    generalize (decide (((384 : ℕ) : ℤ) ≤ (w.val : ℤ)) && decide ((w.val : ℤ) < ((768 : ℕ) : ℤ))) = t
    cases t <;> simp
  rw [Bool.and_eq_true, decide_eq_true_eq, decide_eq_true_eq] at h2
  omega

/-- A position of those columns, by block, row, head and column. -/
theorem position (u : Fin 8) (v : Fin 4224) (w : Fin 1024) (h : 384 ≤ w.val ∧ w.val < 768) : ∃ (n : Fin 33) (q : Fin 128) (g : Fin 3) (j : Fin 2) (d : Fin 64),
    ix3 u v w = ix3 (n0 := 8) (n1 := 4224) (n2 := 1024) u ⟨128 * n.val + q.val, by omega⟩ ⟨384 + (128 * g.val + (64 * j.val + d.val)), by omega⟩ := by
  refine ⟨⟨v.val / 128, by omega⟩, ⟨v.val % 128, by omega⟩, ⟨(w.val - 384) / 128, by omega⟩, ⟨(w.val - 384) % 128 / 64, by omega⟩, ⟨(w.val - 384) % 64, by omega⟩, ?_⟩
  refine congrArg₂ (fun a b => ix3 u a b) (Fin.ext ?_) (Fin.ext ?_)
  · show v.val = 128 * (v.val / 128) + v.val % 128
    omega
  · show w.val = 384 + (128 * ((w.val - 384) / 128) + (64 * ((w.val - 384) % 128 / 64) + (w.val - 384) % 64))
    omega

open Cert.KernelIdeal Cert.KernelIdeal.Gen in
/-- There the two results are one. -/
theorem agree (m : (ℓ : Loc nD τ sig) → Buf (Elt Ideal) ℓ) (c : Dev nD)
    (hP : ∀ (u : Fin 8) (v : Fin 4224) (w : Fin 640), w.val < 512 → ∃ r : ℝ, @Eq EReal (m ((c : Thread nD τ).loc main_arg2) (ix3 (n0 := 8) (n1 := 4224) (n2 := 640) u v w)) (r : EReal)) (hs : ∀ i : S6.Idx, ∃ r : ℝ, @Eq EReal (m ((c : Thread nD τ).loc main_arg6) i) (r : EReal))
    (u : Fin 8) (v : Fin 4224) (w : Fin 1024) (h : 384 ≤ w.val ∧ w.val < 768) :
    Cert.AttentionIdeal.Read.val_main_v99 (F := Ideal) (m ((c : Thread nD τ).loc main_arg2)) (m ((c : Thread nD τ).loc main_arg6)) (ix3 u v w)
      = (dats m 0 c).arrAt 19 cfg0.N (ix3 (n0 := 8) (n1 := 4224) (n2 := 1024) u v w) := by
  obtain ⟨n, q, g, j, d, e⟩ := position u v w h
  rw [e, result_at]
  split
  · rename_i hq
    refine (out_at _ _ u n q g j d hq).trans ((attend_at _ _ u n q g j d).trans ?_)
    rw [scores_eq _ u n q g j hq]
    exact (attend_plain _ hP _ (hs _) u n q g j d).symm
  · rename_i hq
    exact out_pad _ _ u n q g j d hq

/-- The mixer's attention is the plain attention, on its columns, at finite queries, keys and sinks. -/
theorem attention : Cert.algebraic_KernelIdeal_AttentionIdeal_on_attention_columns_pre_finite_attention (hKernelIdeal := Cert.KernelIdeal.Gen.facts)
    (hAttentionIdeal := Cert.AttentionIdeal.Gen.facts) (hPre_finite_attention := Cert.Pre_finite_attention.Gen.facts) (hOn_attention_columns := Cert.On_attention_columns.Gen.facts) := by
  intro m g m' g' hpre hagree
  refine ⟨fun c => (Cert.KernelIdeal.Gen.dats m 0 c).arrAt 19 Cert.KernelIdeal.cfg0.N, ?_, ?_⟩
  · exact (θ_run _ _ _).mono (fun r h c => ⟨fun i _ => congrFun (h c).1 i, (h c).2⟩) (Cert.KernelIdeal.Value.run_blocks m g)
  · refine (θ_run _ _ _).mono (fun r h c => ⟨fun i hi => ?_, (h c).2⟩) (Cert.AttentionIdeal.Value.run m' g')
    obtain ⟨h0, h1, h2, h3, h4, h5, h6, h7, h8, h9, h10⟩ := hagree c
    obtain ⟨p2, p6⟩ := hpre c
    refine (congrFun ((h c).1.trans (Cert.AttentionIdeal.Read.val_main_v99_eq m' c)) i).trans ?_
    rw [h2, h6]
    have e : i = ix3 (n0 := 8) (n1 := 4224) (n2 := 1024) (i 0) (i 1) (i 2) := funext fun a => match a with | ⟨0, _⟩ => rfl | ⟨1, _⟩ => rfl | ⟨2, _⟩ => rfl
    rw [e] at hi ⊢
    refine agree m c (fun u v w hw => real_of_lt _ (Eq.trans ?_ (congrFun p2 (ix3 (n0 := 8) (n1 := 4224) (n2 := 512) u v ⟨w.val, hw⟩)))) (fun k => real_of_lt _ (congrFun p6 k)) (i 0) (i 1) (i 2) (columns _ _ _ _ _ _ _ _ _ _ _ (i 0) (i 1) (i 2) hi)
    exact congrArg (fun x : EReal => FloatOps.cmpf (F := Ideal) (φ := .f32) .olt (FloatOps.hostAbsf (F := Ideal) (φ := .f32) x) (FloatOps.ofBits (F := Ideal) .f32 0x7F800000#32))
      (extractStridedSlice_apply ![0, 0, 0] (m ((c : Thread Cert.KernelIdeal.nD Cert.KernelIdeal.τ).loc Cert.KernelIdeal.main_arg2)) Cert.Pre_finite_attention.Gen.slices_S8x4224x640_S8x4224x512_0_0_0
        (ix3 (n0 := 8) (n1 := 4224) (n2 := 512) u v ⟨w.val, hw⟩) (ix3 (n0 := 8) (n1 := 4224) (n2 := 640) u v w)
        (fun a => match a with | ⟨0, _⟩ => (Nat.zero_add _).symm | ⟨1, _⟩ => (Nat.zero_add _).symm | ⟨2, _⟩ => (Nat.zero_add _).symm)).symm

end Cert.Mixer
-- ==== Proof.Mixer.ConvTab.lean ====
module

public import proofs.«01_k».proof.Proof.Mixer.Bias
public import Idealize.ShloMosaic.Lib.Pipeline.ValueKit
public import Idealize.ShloMosaic.Lib.StableHlo.RunRead

@[expose] public section

/-! The tables of the mixer's convolution, and the blocks a grid point reads. -/

set_option maxRecDepth 16384

noncomputable section

namespace Cert.Mixer

open Cert.KernelIdeal Cert.KernelIdeal.Gen Idealize.ShloMosaic Idealize.ShloMosaic.TcCoe Idealize.ShloMosaic.Tactic Idealize.ShloMosaic.StableHlo

/-- The shift table's operations, from any contents. -/
theorem shift_at (s : Valuation τ sig (Elt Ideal)) (q : Fin 128) (j : Fin 31) (r : Fin 160) :
    after (hostOps0_28 ++ hostOps0_29 ++ hostOps0_30 : List (HloOp τ sig (Elt Ideal))) s (Proc.devRef .tc main_v170) (ix2 q ⟨160 * j.val + r.val, by omega⟩) = if r.val = q.val + 2 + j.val then (1 : EReal) else 0 := by
  after_reads_simp
  simp only [TRef.toBuf, TRef.ofBuf, cast_eq]
  pointwise
  have e1 : (160 * j.val + r.val) % 160 = r.val := by omega
  have e2 : (160 * j.val + r.val) / 160 = j.val := by omega
  have e3 : IntOp.addi (IntOp.addi (BitVec.ofNat 32 q.val) 2#32) (BitVec.ofNat 32 j.val) = BitVec.ofNat 32 (q.val + 2 + j.val) := by
    show BitVec.ofNat 32 q.val + BitVec.ofNat 32 2 + BitVec.ofNat 32 j.val = _
    rw [BitVec.ofNat_add, BitVec.ofNat_add]
  rw [e1, e2, e3]
  by_cases h : r.val = q.val + 2 + j.val
  · rw [h, if_pos rfl]
    simp [IntOp.cmpi, Scalar.select]
  · rw [if_neg h]
    have hn : BitVec.ofNat 32 r.val ≠ BitVec.ofNat 32 (q.val + 2 + j.val) := fun e => h (by
      have := congrArg BitVec.toNat e
      rw [BitVec.toNat_ofNat, BitVec.toNat_ofNat, Nat.mod_eq_of_lt (by omega), Nat.mod_eq_of_lt (by omega)] at this
      exact this)
    simp only [IntOp.cmpi, Scalar.select, beq_eq_false_iff_ne.mpr hn]
    rfl

/-- The weights' operations, from any contents. -/
theorem weights_at (s : Valuation τ sig (Elt Ideal)) (k : Fin 31) (r : Fin 160) (l : Fin 256) :
    after (hostOps0_30 : List (HloOp τ sig (Elt Ideal))) s (Proc.devRef .tc main_v173) (ix3 k r l) = s (Proc.devRef .tc main_arg7) (ix2 k l) := by
  after_reads_simp
  pointwise

variable (m : (ℓ : Loc nD τ sig) → Buf (Elt Ideal) ℓ)

theorem V_shift (c : Dev nD) (q : Fin 128) (j : Fin 31) (r : Fin 160) :
    (V m c main_v170 : Vec Ideal S128x4960 .bf16) (ix2 q ⟨160 * j.val + r.val, by omega⟩) = if r.val = q.val + 2 + j.val then (1 : EReal) else 0 := by
  unfold V
  rw [show (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal)))
      = (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]) ++ (hostOps0_28 ++ hostOps0_29 ++ hostOps0_30) from by
      simp only [List.flatten_cons, List.flatten_nil, List.append_assoc, List.append_nil]]
  rw [after_append]
  exact shift_at _ q j r

theorem V_weights (c : Dev nD) (k : Fin 31) (r : Fin 160) (l : Fin 256) :
    (V m c main_v173 : Vec Ideal S31x160x256 .bf16) (ix3 k r l) = m ((c : Thread nD τ).loc main_arg7) (ix2 k l) := by
  rw [← V_main_arg7 m c]
  unfold V
  rw [show (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal)))
      = (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29]) ++ hostOps0_30 from by
      simp only [List.flatten_cons, List.flatten_nil, List.append_assoc, List.append_nil]]
  rw [after_append]
  refine (weights_at _ k r l).trans ?_
  exact (congrFun (after_unwritten (r := main_arg7) [main_v169, main_v170, main_v171, main_v172, main_v173] rfl (by decide) _) (ix2 k l)).symm

theorem V_row13 (c : Dev nD) (l : Fin 256) :
    (V m c main_v13 : Vec Ideal S1x256 .f32) (ix2 0 l) = m ((c : Thread nD τ).loc main_arg8) (ix1 l) := by
  unfold V
  rw [← List.take_append_drop 17 (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal))), after_append]
  refine (congrFun (after_of_forall_not_mem (b := Proc.devRef .tc main_v13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.drop_succ_cons, List.drop_zero,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))) (ix2 0 l)).trans ?_
  simp only [hostOps0, List.flatten_cons, List.cons_append, List.take_succ_cons, List.take_zero]
  after_reads_simp
  pointwise

theorem V_row14 (c : Dev nD) (l : Fin 256) :
    (V m c main_v14 : Vec Ideal S1x256 .f32) (ix2 0 l) = m ((c : Thread nD τ).loc main_arg9) (ix1 l) := by
  unfold V
  rw [← List.take_append_drop 17 (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal))), after_append]
  refine (congrFun (after_of_forall_not_mem (b := Proc.devRef .tc main_v14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.drop_succ_cons, List.drop_zero,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))) (ix2 0 l)).trans ?_
  simp only [hostOps0, List.flatten_cons, List.cons_append, List.take_succ_cons, List.take_zero]
  after_reads_simp
  pointwise

theorem V_row15 (c : Dev nD) (l : Fin 256) :
    (V m c main_v15 : Vec Ideal S1x256 .f32) (ix2 0 l) = m ((c : Thread nD τ).loc main_arg10) (ix1 l) := by
  unfold V
  rw [← List.take_append_drop 17 (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal))), after_append]
  refine (congrFun (after_of_forall_not_mem (b := Proc.devRef .tc main_v15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.drop_succ_cons, List.drop_zero,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))) (ix2 0 l)).trans ?_
  simp only [hostOps0, List.flatten_cons, List.cons_append, List.take_succ_cons, List.take_zero]
  after_reads_simp
  pointwise

/-- The blocks' numbers. -/
theorem idxC : ∀ t : Fin cfg0.N, win0_5.index t = ![(grid0.coords t 0).val, (grid0.coords t 1).val, 0]
    ∧ win0_6.index t = ![(grid0.coords t 0).val, 3 * (grid0.coords t 1).val - 1, 0]
    ∧ win0_10.index t = ![0, 0, 0] ∧ win0_11.index t = ![0, 0] ∧ win0_12.index t = ![0, 0] ∧ win0_13.index t = ![0, 0] ∧ win0_18.index t = ![0, 0] := (by decide +kernel : ∀ t : Fin grid0.N, _)

theorem blk5_at (c : Dev nD) (t : Fin cfg0.N) (r : Fin 384) (l : Fin 512) (b : Fin 8) (s : Fin 4224) (hb : (b : ℕ) = (grid0.coords t 0).val)
    (hs : (s : ℕ) = 384 * (grid0.coords t 1).val + r) :
    (iblk m c 5 t : Vec Ideal S1x384x512 .bf16) (ix3 0 r l) = m ((c : Thread nD τ).loc main_arg3) (ix3 b s l) := by
  have e := (idxC t).1
  blk_ext! [iblk, V_main_arg3, e]

theorem blk6_at (c : Dev nD) (t : Fin cfg0.N) (r : Fin 128) (l : Fin 512) (b : Fin 8) (s : Fin 4224) (hb : (b : ℕ) = (grid0.coords t 0).val)
    (hs : (s : ℕ) = 128 * (3 * (grid0.coords t 1).val - 1) + r) :
    (iblk m c 6 t : Vec Ideal S1x128x512 .bf16) (ix3 0 r l) = m ((c : Thread nD τ).loc main_arg3) (ix3 b s l) := by
  have e := (idxC t).2.1
  blk_ext! [iblk, V_main_arg3, e]

theorem blk10_at (c : Dev nD) (t : Fin cfg0.N) (k : Fin 31) (r : Fin 160) (l : Fin 256) :
    (iblk m c 10 t : Vec Ideal S31x160x256 .bf16) (ix3 k r l) = m ((c : Thread nD τ).loc main_arg7) (ix2 k l) := by
  rw [← V_weights m c k r l]
  have e := (idxC t).2.2.1
  generalize hV : (V m c main_v173 : Vec Ideal S31x160x256 .bf16) = W
  change V m c (Pipeline.arrRef spec0 10) (((cfg0.win 10).blk t).view.emb (ix3 k r l)) = _
  refine (congrFun hV _).trans (congrArg W (funext fun a => Fin.ext ?_))
  refine (Pipeline.Window.rect_emb_val_off win0_10 t (ix3 k r l) a).trans ?_
  rw [e]
  match a with
  | ⟨0, _⟩ => exact Nat.zero_add _
  | ⟨1, _⟩ => exact Nat.zero_add _
  | ⟨2, _⟩ => exact Nat.zero_add _

theorem blk18_at (c : Dev nD) (t : Fin cfg0.N) (q : Fin 128) (j : Fin 31) (r : Fin 160) :
    (iblk m c 18 t : Vec Ideal S128x4960 .bf16) (ix2 q ⟨160 * j.val + r.val, by omega⟩) = if r.val = q.val + 2 + j.val then (1 : EReal) else 0 := by
  rw [← V_shift m c q j r]
  have e := (idxC t).2.2.2.2.2.2
  generalize hV : (V m c main_v170 : Vec Ideal S128x4960 .bf16) = W
  change V m c (Pipeline.arrRef spec0 18) (((cfg0.win 18).blk t).view.emb (ix2 q ⟨160 * j.val + r.val, by omega⟩)) = _
  refine (congrFun hV _).trans (congrArg W (funext fun a => Fin.ext ?_))
  refine (Pipeline.Window.rect_emb_val_off win0_18 t (ix2 q ⟨160 * j.val + r.val, by omega⟩) a).trans ?_
  rw [e]
  match a with
  | ⟨0, _⟩ => exact Nat.zero_add _
  | ⟨1, _⟩ => exact Nat.zero_add _

theorem blk11_at (c : Dev nD) (t : Fin cfg0.N) (l : Fin 256) :
    (iblk m c 11 t : Vec Ideal S1x256 .f32) (ix2 0 l) = m ((c : Thread nD τ).loc main_arg8) (ix1 l) := by
  rw [← V_row13 m c l]
  have e := (idxC t).2.2.2.1
  generalize hV : (V m c main_v13 : Vec Ideal S1x256 .f32) = W
  change V m c (Pipeline.arrRef spec0 11) (((cfg0.win 11).blk t).view.emb (ix2 0 l)) = _
  refine (congrFun hV _).trans (congrArg W (funext fun a => Fin.ext ?_))
  refine (Pipeline.Window.rect_emb_val_off win0_11 t (ix2 0 l) a).trans ?_
  rw [e]
  match a with
  | ⟨0, _⟩ => exact Nat.zero_add _
  | ⟨1, _⟩ => exact Nat.zero_add _

theorem blk12_at (c : Dev nD) (t : Fin cfg0.N) (l : Fin 256) :
    (iblk m c 12 t : Vec Ideal S1x256 .f32) (ix2 0 l) = m ((c : Thread nD τ).loc main_arg9) (ix1 l) := by
  rw [← V_row14 m c l]
  have e := (idxC t).2.2.2.2.1
  generalize hV : (V m c main_v14 : Vec Ideal S1x256 .f32) = W
  change V m c (Pipeline.arrRef spec0 12) (((cfg0.win 12).blk t).view.emb (ix2 0 l)) = _
  refine (congrFun hV _).trans (congrArg W (funext fun a => Fin.ext ?_))
  refine (Pipeline.Window.rect_emb_val_off win0_12 t (ix2 0 l) a).trans ?_
  rw [e]
  match a with
  | ⟨0, _⟩ => exact Nat.zero_add _
  | ⟨1, _⟩ => exact Nat.zero_add _

theorem blk13_at (c : Dev nD) (t : Fin cfg0.N) (l : Fin 256) :
    (iblk m c 13 t : Vec Ideal S1x256 .f32) (ix2 0 l) = m ((c : Thread nD τ).loc main_arg10) (ix1 l) := by
  rw [← V_row15 m c l]
  have e := (idxC t).2.2.2.2.2.1
  generalize hV : (V m c main_v15 : Vec Ideal S1x256 .f32) = W
  change V m c (Pipeline.arrRef spec0 13) (((cfg0.win 13).blk t).view.emb (ix2 0 l)) = _
  refine (congrFun hV _).trans (congrArg W (funext fun a => Fin.ext ?_))
  refine (Pipeline.Window.rect_emb_val_off win0_13 t (ix2 0 l) a).trans ?_
  rw [e]
  match a with
  | ⟨0, _⟩ => exact Nat.zero_add _
  | ⟨1, _⟩ => exact Nat.zero_add _

end Cert.Mixer
-- ==== Proof.Mixer.Conv.lean ====
module

public import proofs.«01_k».proof.Proof.Mixer.Block

@[expose] public section

/-! One block's convolution of the mixer. -/

set_option maxRecDepth 16384

noncomputable section

namespace Cert.Mixer

open Cert.KernelIdeal Cert.KernelIdeal.Gen Idealize.ShloMosaic Idealize.ShloMosaic.TcCoe Idealize.ShloMosaic.Tactic

/-- A sum over stacked tiles of 160 rows. -/
theorem sum_tiles (n : ℕ) (f : Fin (n * 160) → EReal) : ∑ x, f x = ∑ j : Fin n, ∑ r : Fin 160, f ⟨160 * j.val + r.val, by omega⟩ := by
  rw [← finProdFinEquiv.sum_comp, Fintype.sum_prod_type]
  refine Finset.sum_congr rfl fun j _ => Finset.sum_congr rfl fun r _ => congrArg f (Fin.ext ?_)
  show r.val + 160 * j.val = 160 * j.val + r.val
  omega

/-- A row of the shift table picks one row of each tile. -/
theorem sum_pick (n : ℕ) (t : Fin (n * 160) → EReal) (p : Fin (n * 160) → EReal) (P : Fin n → Fin 160 → EReal) (s : Fin n → Fin 160)
    (ht : ∀ (j : Fin n) (r : Fin 160), t ⟨160 * j.val + r.val, by omega⟩ = if r = s j then 1 else 0)
    (hp : ∀ (j : Fin n) (r : Fin 160), p ⟨160 * j.val + r.val, by omega⟩ = P j r) :
    ∑ x, t x * p x = ∑ j : Fin n, P j (s j) := by
  rw [sum_tiles n (fun x => t x * p x)]
  refine Finset.sum_congr rfl fun j _ => ?_
  simp only [ht, hp]
  rw [Finset.sum_eq_single (s j) (fun r _ hr => by rw [if_neg hr, zero_mul]) (fun h => absurd (Finset.mem_univ _) h), if_pos rfl, one_mul]

theorem first_at (h : FVec Ideal S160x256 .bf16) (w0 w1 w2 w3 w4 w5 w6 w7 : Vec Ideal S1x160x256 .bf16) (t : Vec Ideal S128x1280 .bf16) (q : Fin 128) (l : Fin 256)
    (s : Fin 8 → Fin 160) (ht : ∀ (j : Fin 8) (r : Fin 160), t (ix2 q ⟨160 * j.val + r.val, by omega⟩) = if r = s j then 1 else 0) :
    k0_pay137 (F := Ideal) (k0_pay230 h w0) (k0_pay230 h w1) (k0_pay230 h w2) (k0_pay230 h w3) (k0_pay230 h w4) (k0_pay230 h w5) (k0_pay230 h w6) (k0_pay230 h w7) t (ix2 q l) = ∑ j : Fin 8, h (ix2 (s j) l) * (![w0, w1, w2, w3, w4, w5, w6, w7] j) (ix3 0 (s j) l) := by
  pointwise [k0_pay137, k0_pay230]
  refine sum_pick 8 (fun x => t (ix2 q x)) _ (fun j r => h (ix2 r l) * (![w0, w1, w2, w3, w4, w5, w6, w7] j) (ix3 0 r l)) s ht (fun j r => ?_)
  have hr := r.isLt
  fin_cases j
  · rw [dif_pos (by simp only []; omega)]
    exact congrArg (fun x => h (ix2 x l) * w0 (ix3 0 x l)) (Fin.ext (show 160 * 0 + r.val = r.val by omega))
  · rw [dif_neg (by simp only []; omega), dif_pos (by simp only []; omega)]
    exact congrArg (fun x => h (ix2 x l) * w1 (ix3 0 x l)) (Fin.ext (show 160 * 1 + r.val - 160 = r.val by omega))
  · rw [dif_neg (by simp only []; omega), dif_neg (by simp only []; omega), dif_pos (by simp only []; omega)]
    exact congrArg (fun x => h (ix2 x l) * w2 (ix3 0 x l)) (Fin.ext (show 160 * 2 + r.val - 160 - 160 = r.val by omega))
  · rw [dif_neg (by simp only []; omega), dif_neg (by simp only []; omega), dif_neg (by simp only []; omega), dif_pos (by simp only []; omega)]
    exact congrArg (fun x => h (ix2 x l) * w3 (ix3 0 x l)) (Fin.ext (show 160 * 3 + r.val - 160 - 160 - 160 = r.val by omega))
  · rw [dif_neg (by simp only []; omega), dif_neg (by simp only []; omega), dif_neg (by simp only []; omega), dif_neg (by simp only []; omega), dif_pos (by simp only []; omega)]
    exact congrArg (fun x => h (ix2 x l) * w4 (ix3 0 x l)) (Fin.ext (show 160 * 4 + r.val - 160 - 160 - 160 - 160 = r.val by omega))
  · rw [dif_neg (by simp only []; omega), dif_neg (by simp only []; omega), dif_neg (by simp only []; omega), dif_neg (by simp only []; omega), dif_neg (by simp only []; omega), dif_pos (by simp only []; omega)]
    exact congrArg (fun x => h (ix2 x l) * w5 (ix3 0 x l)) (Fin.ext (show 160 * 5 + r.val - 160 - 160 - 160 - 160 - 160 = r.val by omega))
  · rw [dif_neg (by simp only []; omega), dif_neg (by simp only []; omega), dif_neg (by simp only []; omega), dif_neg (by simp only []; omega), dif_neg (by simp only []; omega), dif_neg (by simp only []; omega), dif_pos (by simp only []; omega)]
    exact congrArg (fun x => h (ix2 x l) * w6 (ix3 0 x l)) (Fin.ext (show 160 * 6 + r.val - 160 - 160 - 160 - 160 - 160 - 160 = r.val by omega))
  · rw [dif_neg (by simp only []; omega), dif_neg (by simp only []; omega), dif_neg (by simp only []; omega), dif_neg (by simp only []; omega), dif_neg (by simp only []; omega), dif_neg (by simp only []; omega), dif_neg (by simp only []; omega)]
    exact congrArg (fun x => h (ix2 x l) * w7 (ix3 0 x l)) (Fin.ext (show 160 * 7 + r.val - 160 - 160 - 160 - 160 - 160 - 160 - 160 = r.val by omega))

theorem mid_at (h : FVec Ideal S160x256 .bf16) (a : FVec Ideal S128x256 .f32) (w0 w1 w2 w3 w4 w5 w6 w7 : Vec Ideal S1x160x256 .bf16) (t : Vec Ideal S128x1280 .bf16) (q : Fin 128) (l : Fin 256)
    (s : Fin 8 → Fin 160) (ht : ∀ (j : Fin 8) (r : Fin 160), t (ix2 q ⟨160 * j.val + r.val, by omega⟩) = if r = s j then 1 else 0) :
    k0_pay188 (F := Ideal) h a w0 w1 w2 w3 w4 w5 w6 w7 t (ix2 q l) = a (ix2 q l) + ∑ j : Fin 8, h (ix2 (s j) l) * (![w0, w1, w2, w3, w4, w5, w6, w7] j) (ix3 0 (s j) l) := by
  pointwise [k0_pay188]
  refine congrArg (fun x => a (ix2 q l) + x) ?_
  refine sum_pick 8 (fun x => t (ix2 q x)) _ (fun j r => h (ix2 r l) * (![w0, w1, w2, w3, w4, w5, w6, w7] j) (ix3 0 r l)) s ht (fun j r => ?_)
  have hr := r.isLt
  fin_cases j
  · rw [dif_pos (by simp only []; omega)]
    exact congrArg (fun x => h (ix2 x l) * w0 (ix3 0 x l)) (Fin.ext (show 160 * 0 + r.val = r.val by omega))
  · rw [dif_neg (by simp only []; omega), dif_pos (by simp only []; omega)]
    exact congrArg (fun x => h (ix2 x l) * w1 (ix3 0 x l)) (Fin.ext (show 160 * 1 + r.val - 160 = r.val by omega))
  · rw [dif_neg (by simp only []; omega), dif_neg (by simp only []; omega), dif_pos (by simp only []; omega)]
    exact congrArg (fun x => h (ix2 x l) * w2 (ix3 0 x l)) (Fin.ext (show 160 * 2 + r.val - 160 - 160 = r.val by omega))
  · rw [dif_neg (by simp only []; omega), dif_neg (by simp only []; omega), dif_neg (by simp only []; omega), dif_pos (by simp only []; omega)]
    exact congrArg (fun x => h (ix2 x l) * w3 (ix3 0 x l)) (Fin.ext (show 160 * 3 + r.val - 160 - 160 - 160 = r.val by omega))
  · rw [dif_neg (by simp only []; omega), dif_neg (by simp only []; omega), dif_neg (by simp only []; omega), dif_neg (by simp only []; omega), dif_pos (by simp only []; omega)]
    exact congrArg (fun x => h (ix2 x l) * w4 (ix3 0 x l)) (Fin.ext (show 160 * 4 + r.val - 160 - 160 - 160 - 160 = r.val by omega))
  · rw [dif_neg (by simp only []; omega), dif_neg (by simp only []; omega), dif_neg (by simp only []; omega), dif_neg (by simp only []; omega), dif_neg (by simp only []; omega), dif_pos (by simp only []; omega)]
    exact congrArg (fun x => h (ix2 x l) * w5 (ix3 0 x l)) (Fin.ext (show 160 * 5 + r.val - 160 - 160 - 160 - 160 - 160 = r.val by omega))
  · rw [dif_neg (by simp only []; omega), dif_neg (by simp only []; omega), dif_neg (by simp only []; omega), dif_neg (by simp only []; omega), dif_neg (by simp only []; omega), dif_neg (by simp only []; omega), dif_pos (by simp only []; omega)]
    exact congrArg (fun x => h (ix2 x l) * w6 (ix3 0 x l)) (Fin.ext (show 160 * 6 + r.val - 160 - 160 - 160 - 160 - 160 - 160 = r.val by omega))
  · rw [dif_neg (by simp only []; omega), dif_neg (by simp only []; omega), dif_neg (by simp only []; omega), dif_neg (by simp only []; omega), dif_neg (by simp only []; omega), dif_neg (by simp only []; omega), dif_neg (by simp only []; omega)]
    exact congrArg (fun x => h (ix2 x l) * w7 (ix3 0 x l)) (Fin.ext (show 160 * 7 + r.val - 160 - 160 - 160 - 160 - 160 - 160 - 160 = r.val by omega))

theorem last_at (h : FVec Ideal S160x256 .bf16) (a : FVec Ideal S128x256 .f32) (w0 w1 w2 w3 w4 w5 w6 : Vec Ideal S1x160x256 .bf16) (t : Vec Ideal S128x1120 .bf16) (q : Fin 128) (l : Fin 256)
    (s : Fin 7 → Fin 160) (ht : ∀ (j : Fin 7) (r : Fin 160), t (ix2 q ⟨160 * j.val + r.val, by omega⟩) = if r = s j then 1 else 0) :
    k0_pay283 (F := Ideal) h a w0 w1 w2 w3 w4 w5 w6 t (ix2 q l) = a (ix2 q l) + ∑ j : Fin 7, h (ix2 (s j) l) * (![w0, w1, w2, w3, w4, w5, w6] j) (ix3 0 (s j) l) := by
  pointwise [k0_pay283]
  refine congrArg (fun x => a (ix2 q l) + x) ?_
  refine sum_pick 7 (fun x => t (ix2 q x)) _ (fun j r => h (ix2 r l) * (![w0, w1, w2, w3, w4, w5, w6] j) (ix3 0 r l)) s ht (fun j r => ?_)
  have hr := r.isLt
  fin_cases j
  · rw [dif_pos (by simp only []; omega)]
    exact congrArg (fun x => h (ix2 x l) * w0 (ix3 0 x l)) (Fin.ext (show 160 * 0 + r.val = r.val by omega))
  · rw [dif_neg (by simp only []; omega), dif_pos (by simp only []; omega)]
    exact congrArg (fun x => h (ix2 x l) * w1 (ix3 0 x l)) (Fin.ext (show 160 * 1 + r.val - 160 = r.val by omega))
  · rw [dif_neg (by simp only []; omega), dif_neg (by simp only []; omega), dif_pos (by simp only []; omega)]
    exact congrArg (fun x => h (ix2 x l) * w2 (ix3 0 x l)) (Fin.ext (show 160 * 2 + r.val - 160 - 160 = r.val by omega))
  · rw [dif_neg (by simp only []; omega), dif_neg (by simp only []; omega), dif_neg (by simp only []; omega), dif_pos (by simp only []; omega)]
    exact congrArg (fun x => h (ix2 x l) * w3 (ix3 0 x l)) (Fin.ext (show 160 * 3 + r.val - 160 - 160 - 160 = r.val by omega))
  · rw [dif_neg (by simp only []; omega), dif_neg (by simp only []; omega), dif_neg (by simp only []; omega), dif_neg (by simp only []; omega), dif_pos (by simp only []; omega)]
    exact congrArg (fun x => h (ix2 x l) * w4 (ix3 0 x l)) (Fin.ext (show 160 * 4 + r.val - 160 - 160 - 160 - 160 = r.val by omega))
  · rw [dif_neg (by simp only []; omega), dif_neg (by simp only []; omega), dif_neg (by simp only []; omega), dif_neg (by simp only []; omega), dif_neg (by simp only []; omega), dif_pos (by simp only []; omega)]
    exact congrArg (fun x => h (ix2 x l) * w5 (ix3 0 x l)) (Fin.ext (show 160 * 5 + r.val - 160 - 160 - 160 - 160 - 160 = r.val by omega))
  · rw [dif_neg (by simp only []; omega), dif_neg (by simp only []; omega), dif_neg (by simp only []; omega), dif_neg (by simp only []; omega), dif_neg (by simp only []; omega), dif_neg (by simp only []; omega)]
    exact congrArg (fun x => h (ix2 x l) * w6 (ix3 0 x l)) (Fin.ext (show 160 * 6 + r.val - 160 - 160 - 160 - 160 - 160 - 160 = r.val by omega))

/-- The 31 taps of a block, over its 160 rows of history. -/
def taps (h : FVec Ideal S160x256 .bf16) (w0 w1 w2 w3 w4 w5 w6 w7 w8 w9 w10 w11 w12 w13 w14 w15 w16 w17 w18 w19 w20 w21 w22 w23 w24 w25 w26 w27 w28 w29 w30 : Vec Ideal S1x160x256 .bf16) (t0 t1 t2 : Vec Ideal S128x1280 .bf16) (t3 : Vec Ideal S128x1120 .bf16) : FVec Ideal S128x256 .f32 :=
  k0_pay283 h (k0_pay188 h (k0_pay188 h (k0_pay137 (k0_pay230 h w0) (k0_pay230 h w1) (k0_pay230 h w2) (k0_pay230 h w3) (k0_pay230 h w4) (k0_pay230 h w5) (k0_pay230 h w6) (k0_pay230 h w7) t0) w8 w9 w10 w11 w12 w13 w14 w15 t1) w16 w17 w18 w19 w20 w21 w22 w23 t2) w24 w25 w26 w27 w28 w29 w30 t3

/-- The centered rows, with the bias. -/
def centered (c : FVec Ideal S128x256 .f32) (b : Vec Ideal S1x256 .f32) : FVec Ideal S128x256 .f32 := k0_pay336 (k0_pay335 c b)

/-- The normalized rows, times their own sigmoid. -/
def gated (z : FVec Ideal S128x256 .f32) (g b : Vec Ideal S1x256 .f32) : FVec Ideal S128x256 .f32 :=
  k0_pay366 (k0_pay364 z g b) (k0_pay365 z g b) (Scalar.ofBits .f32 0x3F800000#32)

/-- A block's convolution. -/
def conv (h : FVec Ideal S160x256 .bf16) (w0 w1 w2 w3 w4 w5 w6 w7 w8 w9 w10 w11 w12 w13 w14 w15 w16 w17 w18 w19 w20 w21 w22 w23 w24 w25 w26 w27 w28 w29 w30 : Vec Ideal S1x160x256 .bf16) (t0 t1 t2 : Vec Ideal S128x1280 .bf16) (t3 : Vec Ideal S128x1120 .bf16) (b g e : Vec Ideal S1x256 .f32) : FVec Ideal S128x256 .f32 :=
  gated (centered (taps h w0 w1 w2 w3 w4 w5 w6 w7 w8 w9 w10 w11 w12 w13 w14 w15 w16 w17 w18 w19 w20 w21 w22 w23 w24 w25 w26 w27 w28 w29 w30 t0 t1 t2 t3) b) g e

/-- The history of the first block: 32 rows before it, and its own. -/
def hist0 (i : grid0.Coords) (p : Vec Ideal S1x32x512 .bf16) (c : Vec Ideal S1x128x512 .bf16) : FVec Ideal S160x256 .bf16 :=
  k0_pay128 (k0_pay43 (k0_pay7 i p) (k0_pay39 c) (k0_pay40 c) k0_pay41)

/-- The history of a later block. -/
def hist1 (p : Vec Ideal S1x128x512 .bf16) (c : Vec Ideal S1x128x512 .bf16) : FVec Ideal S160x256 .bf16 :=
  k0_pay128 (k0_pay43 (k0_pay44 (k0_pay39 p) (k0_pay40 p) k0_pay41) (k0_pay39 c) (k0_pay40 c) k0_pay41)

/-- `x` times the sigmoid of `y`. -/
def glu (x y : EReal) : EReal := x * Ideal.div 1 (1 + Ideal.exp (0 - y))

theorem hist0_at (i : grid0.Coords) (p : Vec Ideal S1x32x512 .bf16) (c : Vec Ideal S1x128x512 .bf16) (r : Fin 160) (l : Fin 256) :
    hist0 i p c (ix2 r l) = if h : r.val < 32 then (if 0 < (i 1).val then glu (p (ix3 0 ⟨r.val, h⟩ ⟨l.val, by omega⟩)) (p (ix3 0 ⟨r.val, h⟩ ⟨256 + l.val, by omega⟩)) else 0)
      else glu (c (ix3 0 ⟨r.val - 32, by omega⟩ ⟨l.val, by omega⟩)) (c (ix3 0 ⟨r.val - 32, by omega⟩ ⟨256 + l.val, by omega⟩)) := by
  unfold hist0 glu
  pointwise [k0_pay128, k0_pay43, k0_pay42, k0_pay39, k0_pay38, k0_pay40, k0_pay41, k0_pay7]
  refine dite_congr rfl (fun h => ?_) (fun _ => rfl)
  have hw : ∀ n : Fin 11, Scalar.cmpi CmpIPredicate.sgt (BitVec.ofNat 32 n.val) 0#32 = if 0 < n.val then 1#1 else 0#1 := by decide
  rw [hw (i 1)]
  split <;> rfl

theorem hist1_at (p : Vec Ideal S1x128x512 .bf16) (c : Vec Ideal S1x128x512 .bf16) (r : Fin 160) (l : Fin 256) :
    hist1 p c (ix2 r l) = if h : r.val < 32 then glu (p (ix3 0 ⟨96 + r.val, by omega⟩ ⟨l.val, by omega⟩)) (p (ix3 0 ⟨96 + r.val, by omega⟩ ⟨256 + l.val, by omega⟩))
      else glu (c (ix3 0 ⟨r.val - 32, by omega⟩ ⟨l.val, by omega⟩)) (c (ix3 0 ⟨r.val - 32, by omega⟩ ⟨256 + l.val, by omega⟩)) := by
  unfold hist1 glu
  pointwise [k0_pay128, k0_pay43, k0_pay42, k0_pay39, k0_pay38, k0_pay40, k0_pay41, k0_pay44]

/-- The row of history that tap `j` of row `q` reads. -/
def at' (q : Fin 128) (j : ℕ) (hj : j < 31) : Fin 160 := ⟨q.val + 2 + j, by omega⟩

theorem taps_at (h : FVec Ideal S160x256 .bf16) (w0 w1 w2 w3 w4 w5 w6 w7 w8 w9 w10 w11 w12 w13 w14 w15 w16 w17 w18 w19 w20 w21 w22 w23 w24 w25 w26 w27 w28 w29 w30 : Vec Ideal S1x160x256 .bf16) (t0 t1 t2 : Vec Ideal S128x1280 .bf16) (t3 : Vec Ideal S128x1120 .bf16) (q : Fin 128) (l : Fin 256)
    (w : Fin 31 → EReal)
    (e0 : ∀ r, w0 (ix3 0 r l) = w 0) (e1 : ∀ r, w1 (ix3 0 r l) = w 1) (e2 : ∀ r, w2 (ix3 0 r l) = w 2) (e3 : ∀ r, w3 (ix3 0 r l) = w 3) (e4 : ∀ r, w4 (ix3 0 r l) = w 4) (e5 : ∀ r, w5 (ix3 0 r l) = w 5) (e6 : ∀ r, w6 (ix3 0 r l) = w 6) (e7 : ∀ r, w7 (ix3 0 r l) = w 7) (e8 : ∀ r, w8 (ix3 0 r l) = w 8) (e9 : ∀ r, w9 (ix3 0 r l) = w 9) (e10 : ∀ r, w10 (ix3 0 r l) = w 10) (e11 : ∀ r, w11 (ix3 0 r l) = w 11) (e12 : ∀ r, w12 (ix3 0 r l) = w 12) (e13 : ∀ r, w13 (ix3 0 r l) = w 13) (e14 : ∀ r, w14 (ix3 0 r l) = w 14) (e15 : ∀ r, w15 (ix3 0 r l) = w 15) (e16 : ∀ r, w16 (ix3 0 r l) = w 16) (e17 : ∀ r, w17 (ix3 0 r l) = w 17) (e18 : ∀ r, w18 (ix3 0 r l) = w 18) (e19 : ∀ r, w19 (ix3 0 r l) = w 19) (e20 : ∀ r, w20 (ix3 0 r l) = w 20) (e21 : ∀ r, w21 (ix3 0 r l) = w 21) (e22 : ∀ r, w22 (ix3 0 r l) = w 22) (e23 : ∀ r, w23 (ix3 0 r l) = w 23) (e24 : ∀ r, w24 (ix3 0 r l) = w 24) (e25 : ∀ r, w25 (ix3 0 r l) = w 25) (e26 : ∀ r, w26 (ix3 0 r l) = w 26) (e27 : ∀ r, w27 (ix3 0 r l) = w 27) (e28 : ∀ r, w28 (ix3 0 r l) = w 28) (e29 : ∀ r, w29 (ix3 0 r l) = w 29) (e30 : ∀ r, w30 (ix3 0 r l) = w 30)
    (h0 : ∀ (j : Fin 8) (r : Fin 160), t0 (ix2 q ⟨160 * j.val + r.val, by omega⟩) = if r = at' q j.val (by omega) then 1 else 0)
    (h1 : ∀ (j : Fin 8) (r : Fin 160), t1 (ix2 q ⟨160 * j.val + r.val, by omega⟩) = if r = at' q (8 + j.val) (by omega) then 1 else 0)
    (h2 : ∀ (j : Fin 8) (r : Fin 160), t2 (ix2 q ⟨160 * j.val + r.val, by omega⟩) = if r = at' q (16 + j.val) (by omega) then 1 else 0)
    (h3 : ∀ (j : Fin 7) (r : Fin 160), t3 (ix2 q ⟨160 * j.val + r.val, by omega⟩) = if r = at' q (24 + j.val) (by omega) then 1 else 0) :
    taps h w0 w1 w2 w3 w4 w5 w6 w7 w8 w9 w10 w11 w12 w13 w14 w15 w16 w17 w18 w19 w20 w21 w22 w23 w24 w25 w26 w27 w28 w29 w30 t0 t1 t2 t3 (ix2 q l) = ∑ j : Fin 31, h (ix2 (at' q j.val j.isLt) l) * w j := by
  unfold taps
  rw [last_at _ _ _ _ _ _ _ _ _ _ q l _ h3, mid_at _ _ _ _ _ _ _ _ _ _ _ q l _ h2, mid_at _ _ _ _ _ _ _ _ _ _ _ q l _ h1, first_at _ _ _ _ _ _ _ _ _ _ q l _ h0]
  refine Eq.trans ?_ (Fin.sum_univ_add (a := 24) (b := 7) (fun j : Fin 31 => h (ix2 (at' q j.val j.isLt) l) * w j)).symm
  refine congrArg₂ (· + ·) (Eq.trans ?_ (Fin.sum_univ_add (a := 16) (b := 8) _).symm) (Finset.sum_congr rfl fun j _ => ?_)
  · refine congrArg₂ (· + ·) (Eq.trans ?_ (Fin.sum_univ_add (a := 8) (b := 8) _).symm) (Finset.sum_congr rfl fun j _ => ?_)
    · refine congrArg₂ (· + ·) (Finset.sum_congr rfl fun j _ => ?_) (Finset.sum_congr rfl fun j _ => ?_)
      · fin_cases j
        · exact congrArg (fun x : EReal => h (ix2 (at' q 0 (by omega)) l) * x) (e0 _)
        · exact congrArg (fun x : EReal => h (ix2 (at' q 1 (by omega)) l) * x) (e1 _)
        · exact congrArg (fun x : EReal => h (ix2 (at' q 2 (by omega)) l) * x) (e2 _)
        · exact congrArg (fun x : EReal => h (ix2 (at' q 3 (by omega)) l) * x) (e3 _)
        · exact congrArg (fun x : EReal => h (ix2 (at' q 4 (by omega)) l) * x) (e4 _)
        · exact congrArg (fun x : EReal => h (ix2 (at' q 5 (by omega)) l) * x) (e5 _)
        · exact congrArg (fun x : EReal => h (ix2 (at' q 6 (by omega)) l) * x) (e6 _)
        · exact congrArg (fun x : EReal => h (ix2 (at' q 7 (by omega)) l) * x) (e7 _)
      · fin_cases j
        · exact congrArg (fun x : EReal => h (ix2 (at' q 8 (by omega)) l) * x) (e8 _)
        · exact congrArg (fun x : EReal => h (ix2 (at' q 9 (by omega)) l) * x) (e9 _)
        · exact congrArg (fun x : EReal => h (ix2 (at' q 10 (by omega)) l) * x) (e10 _)
        · exact congrArg (fun x : EReal => h (ix2 (at' q 11 (by omega)) l) * x) (e11 _)
        · exact congrArg (fun x : EReal => h (ix2 (at' q 12 (by omega)) l) * x) (e12 _)
        · exact congrArg (fun x : EReal => h (ix2 (at' q 13 (by omega)) l) * x) (e13 _)
        · exact congrArg (fun x : EReal => h (ix2 (at' q 14 (by omega)) l) * x) (e14 _)
        · exact congrArg (fun x : EReal => h (ix2 (at' q 15 (by omega)) l) * x) (e15 _)
    · fin_cases j
      · exact congrArg (fun x : EReal => h (ix2 (at' q 16 (by omega)) l) * x) (e16 _)
      · exact congrArg (fun x : EReal => h (ix2 (at' q 17 (by omega)) l) * x) (e17 _)
      · exact congrArg (fun x : EReal => h (ix2 (at' q 18 (by omega)) l) * x) (e18 _)
      · exact congrArg (fun x : EReal => h (ix2 (at' q 19 (by omega)) l) * x) (e19 _)
      · exact congrArg (fun x : EReal => h (ix2 (at' q 20 (by omega)) l) * x) (e20 _)
      · exact congrArg (fun x : EReal => h (ix2 (at' q 21 (by omega)) l) * x) (e21 _)
      · exact congrArg (fun x : EReal => h (ix2 (at' q 22 (by omega)) l) * x) (e22 _)
      · exact congrArg (fun x : EReal => h (ix2 (at' q 23 (by omega)) l) * x) (e23 _)
  · fin_cases j
    · exact congrArg (fun x : EReal => h (ix2 (at' q 24 (by omega)) l) * x) (e24 _)
    · exact congrArg (fun x : EReal => h (ix2 (at' q 25 (by omega)) l) * x) (e25 _)
    · exact congrArg (fun x : EReal => h (ix2 (at' q 26 (by omega)) l) * x) (e26 _)
    · exact congrArg (fun x : EReal => h (ix2 (at' q 27 (by omega)) l) * x) (e27 _)
    · exact congrArg (fun x : EReal => h (ix2 (at' q 28 (by omega)) l) * x) (e28 _)
    · exact congrArg (fun x : EReal => h (ix2 (at' q 29 (by omega)) l) * x) (e29 _)
    · exact congrArg (fun x : EReal => h (ix2 (at' q 30 (by omega)) l) * x) (e30 _)

/-- A row's mean of a function of the 256 columns. -/
def mean256 (f : Fin 256 → EReal) : EReal := Ideal.div (∑ x, f x) (Ideal.ofBits FTy.f32 0x43800000#32)

/-- The normalized row at a column. -/
def normed (f : Fin 256 → EReal) (g b : EReal) (l : Fin 256) : EReal :=
  (f l - mean256 f) * Ideal.rsqrt (mean256 (fun x => (f x - mean256 f) * (f x - mean256 f)) + Ideal.ofBits FTy.f32 0x358637BD#32) * g + b

theorem conv_at (h : FVec Ideal S160x256 .bf16) (w0 w1 w2 w3 w4 w5 w6 w7 w8 w9 w10 w11 w12 w13 w14 w15 w16 w17 w18 w19 w20 w21 w22 w23 w24 w25 w26 w27 w28 w29 w30 : Vec Ideal S1x160x256 .bf16) (t0 t1 t2 : Vec Ideal S128x1280 .bf16) (t3 : Vec Ideal S128x1120 .bf16) (b g e : Vec Ideal S1x256 .f32) (q : Fin 128) (l : Fin 256)
    (f : Fin 256 → EReal) (hf : ∀ x, taps h w0 w1 w2 w3 w4 w5 w6 w7 w8 w9 w10 w11 w12 w13 w14 w15 w16 w17 w18 w19 w20 w21 w22 w23 w24 w25 w26 w27 w28 w29 w30 t0 t1 t2 t3 (ix2 q x) + b (ix2 0 x) = f x) :
    conv h w0 w1 w2 w3 w4 w5 w6 w7 w8 w9 w10 w11 w12 w13 w14 w15 w16 w17 w18 w19 w20 w21 w22 w23 w24 w25 w26 w27 w28 w29 w30 t0 t1 t2 t3 b g e (ix2 q l) = glu (normed f (g (ix2 0 l)) (e (ix2 0 l)) l) (normed f (g (ix2 0 l)) (e (ix2 0 l)) l) := by
  unfold conv gated centered
  generalize taps h w0 w1 w2 w3 w4 w5 w6 w7 w8 w9 w10 w11 w12 w13 w14 w15 w16 w17 w18 w19 w20 w21 w22 w23 w24 w25 w26 w27 w28 w29 w30 t0 t1 t2 t3 = T at hf
  pointwise [k0_pay366, k0_pay365, k0_pay364, k0_pay336, k0_pay335]
  simp only [hf]
  rfl

end Cert.Mixer
-- ==== Proof.Mixer.ConvRun.lean ====
module

public import proofs.«01_k».proof.Proof.Gen.KernelIdeal.Frame
public import proofs.«01_k».proof.Proof.Mixer.Out
public import proofs.«01_k».proof.Proof.Mixer.Conv

@[expose] public section

/-! What one grid point of the mixer leaves in the convolution's columns of its output block of 384 rows. -/

set_option maxRecDepth 16384

noncomputable section

namespace Cert.Mixer

open Cert.KernelIdeal Cert.KernelIdeal.Gen Idealize.ShloMosaic Idealize.ShloMosaic.TcCoe Idealize.ShloMosaic.Tactic

/-- Tap `k`'s weights, repeated over the rows. -/
def wld (x : Vec Ideal S31x160x256 .bf16) (k : ℕ) (inb : ∀ a, ![k, 0, 0] a + ![1, 160, 256] a ≤ S31x160x256.size a) : Vec Ideal S1x160x256 .bf16 :=
  View.ld (Val := Elt Ideal) (e' := .bf16) x (Rect.unit (s := S31x160x256) ![k, 0, 0] ![1, 160, 256] inb)

/-- Columns of the shift table. -/
def tld (x : Vec Ideal S128x4960 .bf16) (k n : ℕ) (inb : ∀ a, ![0, k] a + ![128, n] a ≤ S128x4960.size a) : Vec Ideal ⟨2, ![128, n]⟩ .bf16 :=
  View.ld (Val := Elt Ideal) (e' := .bf16) x (Rect.unit (s := S128x4960) ![0, k] ![128, n] inb)

/-- A row of 256 numbers. -/
def rld (x : Vec Ideal S1x256 .f32) (inb : ∀ a, ![0, 0] a + ![1, 256] a ≤ S1x256.size a) : Vec Ideal S1x256 .f32 :=
  View.ld (Val := Elt Ideal) (e' := .f32) x (Rect.unit (s := S1x256) ![0, 0] ![1, 256] inb)

/-- Rows of a block of the group's input. -/
def pld {n : ℕ} (x : Vec Ideal ⟨3, ![1, n, 512]⟩ .bf16) (o s : ℕ) (inb : ∀ a, ![0, o, 0] a + ![1, s, 512] a ≤ (⟨3, ![1, n, 512]⟩ : Shape).size a) : Vec Ideal ⟨3, ![1, s, 512]⟩ .bf16 :=
  View.ld (Val := Elt Ideal) (e' := .bf16) x (Rect.unit (s := ⟨3, ![1, n, 512]⟩) ![0, o, 0] ![1, s, 512] inb)

/-- The convolution of block 0 of a grid point, from the blocks it reads. -/
def convBlock0 (i : grid0.Coords) (x5 : Vec Ideal S1x384x512 .bf16) (x6 : Vec Ideal S1x128x512 .bf16) (x10 : Vec Ideal S31x160x256 .bf16) (x11 : Vec Ideal S1x256 .f32) (x12 : Vec Ideal S1x256 .f32) (x13 : Vec Ideal S1x256 .f32) (x18 : Vec Ideal S128x4960 .bf16) : Vec Ideal S128x256 .f32 :=
  conv (hist0 i (pld x6 96 32 (by decide)) (pld x5 0 128 (by decide)))
      (wld x10 0 (by decide)) (wld x10 1 (by decide)) (wld x10 2 (by decide)) (wld x10 3 (by decide)) (wld x10 4 (by decide)) (wld x10 5 (by decide)) (wld x10 6 (by decide)) (wld x10 7 (by decide)) (wld x10 8 (by decide)) (wld x10 9 (by decide)) (wld x10 10 (by decide)) (wld x10 11 (by decide)) (wld x10 12 (by decide)) (wld x10 13 (by decide)) (wld x10 14 (by decide)) (wld x10 15 (by decide)) (wld x10 16 (by decide)) (wld x10 17 (by decide)) (wld x10 18 (by decide)) (wld x10 19 (by decide)) (wld x10 20 (by decide)) (wld x10 21 (by decide)) (wld x10 22 (by decide)) (wld x10 23 (by decide)) (wld x10 24 (by decide)) (wld x10 25 (by decide)) (wld x10 26 (by decide)) (wld x10 27 (by decide)) (wld x10 28 (by decide)) (wld x10 29 (by decide)) (wld x10 30 (by decide))
      (tld x18 0 1280 (by decide)) (tld x18 1280 1280 (by decide)) (tld x18 2560 1280 (by decide)) (tld x18 3840 1120 (by decide)) (rld x11 (by decide)) (rld x12 (by decide)) (rld x13 (by decide))

/-- The convolution of block 1 of a grid point, from the blocks it reads. -/
def convBlock1 (x5 : Vec Ideal S1x384x512 .bf16) (x10 : Vec Ideal S31x160x256 .bf16) (x11 : Vec Ideal S1x256 .f32) (x12 : Vec Ideal S1x256 .f32) (x13 : Vec Ideal S1x256 .f32) (x18 : Vec Ideal S128x4960 .bf16) : Vec Ideal S128x256 .f32 :=
  conv (hist1 (pld x5 0 128 (by decide)) (pld x5 128 128 (by decide)))
      (wld x10 0 (by decide)) (wld x10 1 (by decide)) (wld x10 2 (by decide)) (wld x10 3 (by decide)) (wld x10 4 (by decide)) (wld x10 5 (by decide)) (wld x10 6 (by decide)) (wld x10 7 (by decide)) (wld x10 8 (by decide)) (wld x10 9 (by decide)) (wld x10 10 (by decide)) (wld x10 11 (by decide)) (wld x10 12 (by decide)) (wld x10 13 (by decide)) (wld x10 14 (by decide)) (wld x10 15 (by decide)) (wld x10 16 (by decide)) (wld x10 17 (by decide)) (wld x10 18 (by decide)) (wld x10 19 (by decide)) (wld x10 20 (by decide)) (wld x10 21 (by decide)) (wld x10 22 (by decide)) (wld x10 23 (by decide)) (wld x10 24 (by decide)) (wld x10 25 (by decide)) (wld x10 26 (by decide)) (wld x10 27 (by decide)) (wld x10 28 (by decide)) (wld x10 29 (by decide)) (wld x10 30 (by decide))
      (tld x18 0 1280 (by decide)) (tld x18 1280 1280 (by decide)) (tld x18 2560 1280 (by decide)) (tld x18 3840 1120 (by decide)) (rld x11 (by decide)) (rld x12 (by decide)) (rld x13 (by decide))

/-- The convolution of block 2 of a grid point, from the blocks it reads. -/
def convBlock2 (x5 : Vec Ideal S1x384x512 .bf16) (x10 : Vec Ideal S31x160x256 .bf16) (x11 : Vec Ideal S1x256 .f32) (x12 : Vec Ideal S1x256 .f32) (x13 : Vec Ideal S1x256 .f32) (x18 : Vec Ideal S128x4960 .bf16) : Vec Ideal S128x256 .f32 :=
  conv (hist1 (pld x5 128 128 (by decide)) (pld x5 256 128 (by decide)))
      (wld x10 0 (by decide)) (wld x10 1 (by decide)) (wld x10 2 (by decide)) (wld x10 3 (by decide)) (wld x10 4 (by decide)) (wld x10 5 (by decide)) (wld x10 6 (by decide)) (wld x10 7 (by decide)) (wld x10 8 (by decide)) (wld x10 9 (by decide)) (wld x10 10 (by decide)) (wld x10 11 (by decide)) (wld x10 12 (by decide)) (wld x10 13 (by decide)) (wld x10 14 (by decide)) (wld x10 15 (by decide)) (wld x10 16 (by decide)) (wld x10 17 (by decide)) (wld x10 18 (by decide)) (wld x10 19 (by decide)) (wld x10 20 (by decide)) (wld x10 21 (by decide)) (wld x10 22 (by decide)) (wld x10 23 (by decide)) (wld x10 24 (by decide)) (wld x10 25 (by decide)) (wld x10 26 (by decide)) (wld x10 27 (by decide)) (wld x10 28 (by decide)) (wld x10 29 (by decide)) (wld x10 30 (by decide))
      (tld x18 0 1280 (by decide)) (tld x18 1280 1280 (by decide)) (tld x18 2560 1280 (by decide)) (tld x18 3840 1120 (by decide)) (rld x11 (by decide)) (rld x12 (by decide)) (rld x13 (by decide))

theorem convA0 (c : Dev nD) (i : grid0.Coords) (arg7 : Memref sig .tc .vmem S1x384x512 .bf16) (harg7 : arg7.IsWhole) (arg8 : Memref sig .tc .vmem S1x128x512 .bf16) (harg8 : arg8.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg20 : Memref sig .tc .vmem S128x4960 .bf16) (harg20 : arg20.IsWhole) (x5 : Vec Ideal S1x384x512 .bf16) (x6 : Vec Ideal S1x128x512 .bf16) (x10 : Vec Ideal S31x160x256 .bf16) (x11 : Vec Ideal S1x256 .f32) (x12 : Vec Ideal S1x256 .f32) (x13 : Vec Ideal S1x256 .f32) (x18 : Vec Ideal S128x4960 .bf16) :
    kernelRun0_A.sl.r_335 (F := Ideal) c i arg7 harg7 arg8 harg8 arg12 harg12 arg13 harg13 arg14 harg14 arg15 harg15 arg20 harg20 x5 x6 x10 x11 x12 x13 x18 = convBlock0 i x5 x6 x10 x11 x12 x13 x18 := by
  sl_unfold_run_names
  simp only [View.readAt_eq_ld, harg7.read_unread, harg8.read_unread, harg12.read_unread, harg13.read_unread, harg14.read_unread, harg15.read_unread, harg20.read_unread]
  rfl

theorem convA1 (c : Dev nD) (i : grid0.Coords) (arg7 : Memref sig .tc .vmem S1x384x512 .bf16) (harg7 : arg7.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg20 : Memref sig .tc .vmem S128x4960 .bf16) (harg20 : arg20.IsWhole) (x5 : Vec Ideal S1x384x512 .bf16) (x10 : Vec Ideal S31x160x256 .bf16) (x11 : Vec Ideal S1x256 .f32) (x12 : Vec Ideal S1x256 .f32) (x13 : Vec Ideal S1x256 .f32) (x18 : Vec Ideal S128x4960 .bf16) :
    kernelRun0_A.sl.r_339 (F := Ideal) c arg7 harg7 arg12 harg12 arg13 harg13 arg14 harg14 arg15 harg15 arg20 harg20 x5 x10 x11 x12 x13 x18 = convBlock1 x5 x10 x11 x12 x13 x18 := by
  sl_unfold_run_names
  simp only [View.readAt_eq_ld, harg7.read_unread, harg12.read_unread, harg13.read_unread, harg14.read_unread, harg15.read_unread, harg20.read_unread]
  rfl

theorem convA2 (c : Dev nD) (i : grid0.Coords) (arg7 : Memref sig .tc .vmem S1x384x512 .bf16) (harg7 : arg7.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg20 : Memref sig .tc .vmem S128x4960 .bf16) (harg20 : arg20.IsWhole) (x5 : Vec Ideal S1x384x512 .bf16) (x10 : Vec Ideal S31x160x256 .bf16) (x11 : Vec Ideal S1x256 .f32) (x12 : Vec Ideal S1x256 .f32) (x13 : Vec Ideal S1x256 .f32) (x18 : Vec Ideal S128x4960 .bf16) :
    kernelRun0_A.sl.r_344 (F := Ideal) c arg7 harg7 arg12 harg12 arg13 harg13 arg14 harg14 arg15 harg15 arg20 harg20 x5 x10 x11 x12 x13 x18 = convBlock2 x5 x10 x11 x12 x13 x18 := by
  sl_unfold_run_names
  simp only [View.readAt_eq_ld, harg7.read_unread, harg12.read_unread, harg13.read_unread, harg14.read_unread, harg15.read_unread, harg20.read_unread]
  rfl

theorem convB0 (c : Dev nD) (i : grid0.Coords) (arg7 : Memref sig .tc .vmem S1x384x512 .bf16) (harg7 : arg7.IsWhole) (arg8 : Memref sig .tc .vmem S1x128x512 .bf16) (harg8 : arg8.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg20 : Memref sig .tc .vmem S128x4960 .bf16) (harg20 : arg20.IsWhole) (x5 : Vec Ideal S1x384x512 .bf16) (x6 : Vec Ideal S1x128x512 .bf16) (x10 : Vec Ideal S31x160x256 .bf16) (x11 : Vec Ideal S1x256 .f32) (x12 : Vec Ideal S1x256 .f32) (x13 : Vec Ideal S1x256 .f32) (x18 : Vec Ideal S128x4960 .bf16) :
    kernelRun0_B.sl.r_335 (F := Ideal) c i arg7 harg7 arg8 harg8 arg12 harg12 arg13 harg13 arg14 harg14 arg15 harg15 arg20 harg20 x5 x6 x10 x11 x12 x13 x18 = convBlock0 i x5 x6 x10 x11 x12 x13 x18 := by
  sl_unfold_run_names
  simp only [View.readAt_eq_ld, harg7.read_unread, harg8.read_unread, harg12.read_unread, harg13.read_unread, harg14.read_unread, harg15.read_unread, harg20.read_unread]
  rfl

theorem convB1 (c : Dev nD) (i : grid0.Coords) (arg7 : Memref sig .tc .vmem S1x384x512 .bf16) (harg7 : arg7.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg20 : Memref sig .tc .vmem S128x4960 .bf16) (harg20 : arg20.IsWhole) (x5 : Vec Ideal S1x384x512 .bf16) (x10 : Vec Ideal S31x160x256 .bf16) (x11 : Vec Ideal S1x256 .f32) (x12 : Vec Ideal S1x256 .f32) (x13 : Vec Ideal S1x256 .f32) (x18 : Vec Ideal S128x4960 .bf16) :
    kernelRun0_B.sl.r_339 (F := Ideal) c arg7 harg7 arg12 harg12 arg13 harg13 arg14 harg14 arg15 harg15 arg20 harg20 x5 x10 x11 x12 x13 x18 = convBlock1 x5 x10 x11 x12 x13 x18 := by
  sl_unfold_run_names
  simp only [View.readAt_eq_ld, harg7.read_unread, harg12.read_unread, harg13.read_unread, harg14.read_unread, harg15.read_unread, harg20.read_unread]
  rfl

theorem convB2 (c : Dev nD) (i : grid0.Coords) (arg7 : Memref sig .tc .vmem S1x384x512 .bf16) (harg7 : arg7.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg20 : Memref sig .tc .vmem S128x4960 .bf16) (harg20 : arg20.IsWhole) (x5 : Vec Ideal S1x384x512 .bf16) (x10 : Vec Ideal S31x160x256 .bf16) (x11 : Vec Ideal S1x256 .f32) (x12 : Vec Ideal S1x256 .f32) (x13 : Vec Ideal S1x256 .f32) (x18 : Vec Ideal S128x4960 .bf16) :
    kernelRun0_B.sl.r_344 (F := Ideal) c arg7 harg7 arg12 harg12 arg13 harg13 arg14 harg14 arg15 harg15 arg20 harg20 x5 x10 x11 x12 x13 x18 = convBlock2 x5 x10 x11 x12 x13 x18 := by
  sl_unfold_run_names
  simp only [View.readAt_eq_ld, harg7.read_unread, harg12.read_unread, harg13.read_unread, harg14.read_unread, harg15.read_unread, harg20.read_unread]
  rfl

end Cert.Mixer
-- ==== Proof.Mixer.ConvOut.lean ====
module

public import proofs.«01_k».proof.Proof.Mixer.ConvRun

@[expose] public section

/-! What a grid point of the mixer leaves in the convolution's columns of its output block. -/

set_option maxRecDepth 16384

noncomputable section

namespace Cert.Mixer

open Cert.KernelIdeal Cert.KernelIdeal.Gen Idealize.ShloMosaic Idealize.ShloMosaic.TcCoe Idealize.ShloMosaic.Tactic

theorem store0_conv (i : Fin 11) (a : Vec Ideal S128x384 .f32) (b : Vec Ideal S128x384 .f32) (c : Vec Ideal S128x256 .f32) (q : Fin 128) (l : Fin 256) :
    k0_pay376 (F := Ideal) (BitVec.ofNat 32 i.val) a b c (ix3 0 q ⟨768 + l.val, by omega⟩) = if 0 < i.val ∨ 112 ≤ q.val then c (ix2 q l) else 0 := by
  pointwise [k0_pay376]
  rw [store_word, dif_neg (by omega), dif_neg (by omega)]
  have e : (⟨768 + l.val - 384 - 384, by omega⟩ : Fin 256) = l := Fin.ext (show 768 + l.val - 384 - 384 = l.val by omega)
  rw [e]
  split <;> rfl

theorem store1_conv (a : Vec Ideal S128x384 .f32) (b : Vec Ideal S128x384 .f32) (c : Vec Ideal S128x256 .f32) (q : Fin 128) (l : Fin 256) :
    k0_pay377 (F := Ideal) a b c (ix3 0 q ⟨768 + l.val, by omega⟩) = c (ix2 q l) := by
  pointwise [k0_pay377]
  rw [dif_neg (by omega), dif_neg (by omega)]
  exact congrArg (fun x => c (ix2 q x)) (Fin.ext (show 768 + l.val - 384 - 384 = l.val by omega))

theorem store2_conv (a : Vec Ideal S128x384 .f32) (b : Vec Ideal S128x384 .f32) (c : Vec Ideal S128x256 .f32) (q : Fin 128) (l : Fin 256) :
    k0_pay378 (F := Ideal) a b c (ix3 0 q ⟨768 + l.val, by omega⟩) = c (ix2 q l) := by
  pointwise [k0_pay378]
  rw [dif_neg (by omega), dif_neg (by omega)]
  exact congrArg (fun x => c (ix2 q x)) (Fin.ext (show 768 + l.val - 384 - 384 = l.val by omega))

/-- What a convolution column of an output block holds; rows of padding hold zero. -/
def convOut (i : grid0.Coords) (x5 : Vec Ideal S1x384x512 .bf16) (x6 : Vec Ideal S1x128x512 .bf16) (x10 : Vec Ideal S31x160x256 .bf16) (x11 x12 x13 : Vec Ideal S1x256 .f32) (x18 : Vec Ideal S128x4960 .bf16)
    (blk : Fin 3) (q : Fin 128) (l : Fin 256) : EReal :=
  if 0 < (i 1).val ∨ 0 < blk.val ∨ 112 ≤ q.val then
    (![convBlock0 i x5 x6 x10 x11 x12 x13 x18, convBlock1 x5 x10 x11 x12 x13 x18, convBlock2 x5 x10 x11 x12 x13 x18] blk) (ix2 q l) else 0

/-- Three stores whose convolution columns are the blocks. -/
theorem stores_conv (n : Fin 11)
    (i0 : ∀ a, ![0, 0, 0] a + ![1, 128, 1024] a ≤ S1x384x1024.size a)
    (i1 : ∀ a, ![0, 128, 0] a + ![1, 128, 1024] a ≤ S1x384x1024.size a)
    (i2 : ∀ a, ![0, 256, 0] a + ![1, 128, 1024] a ≤ S1x384x1024.size a)
    (a0 a1 a2 b0 b1 b2 : Vec Ideal S128x384 .f32) (c0 c1 c2 d0 d1 d2 : Vec Ideal S128x256 .f32) (h0 : c0 = d0) (h1 : c1 = d1) (h2 : c2 = d2)
    (blk : Fin 3) (q : Fin 128) (l : Fin 256) :
    View.canon (Val := Elt Ideal) (e := .bf16) [⟨Rect.unit (s := S1x384x1024) ![0, 256, 0] ![1, 128, 1024] i2, k0_pay378 (F := Ideal) a2 b2 c2⟩,
      ⟨Rect.unit (s := S1x384x1024) ![0, 128, 0] ![1, 128, 1024] i1, k0_pay377 (F := Ideal) a1 b1 c1⟩,
      ⟨Rect.unit (s := S1x384x1024) ![0, 0, 0] ![1, 128, 1024] i0, k0_pay376 (F := Ideal) (BitVec.ofNat 32 n.val) a0 b0 c0⟩]
        (ix3 0 ⟨128 * blk.val + q.val, by omega⟩ ⟨768 + l.val, by omega⟩)
      = if 0 < n.val ∨ 0 < blk.val ∨ 112 ≤ q.val then (![d0, d1, d2] blk) (ix2 q l) else 0 := by
  subst h0
  subst h1
  subst h2
  refine rows_at _ _ _ i0 i1 i2 _ _ _ ?_ ?_ ?_
  · intro q' hq
    obtain rfl : blk = 0 := Fin.ext (show blk.val = 0 by dsimp only at hq; omega)
    obtain rfl : q = q' := Fin.ext (by dsimp only at hq; change 128 * 0 + q.val = q'.val at hq; omega)
    refine (store0_conv n a0 b0 c0 q l).trans ?_
    refine if_congr ?_ rfl rfl
    change _ ↔ 0 < n.val ∨ 0 < 0 ∨ 112 ≤ q.val
    simp only [Nat.lt_irrefl, false_or]
  · intro q' hq
    obtain rfl : blk = 1 := Fin.ext (show blk.val = 1 by dsimp only at hq; omega)
    obtain rfl : q = q' := Fin.ext (by dsimp only at hq; change 128 * 1 + q.val = _ at hq; omega)
    exact (store1_conv a1 b1 c1 q l).trans (if_pos (Or.inr (Or.inl Nat.one_pos))).symm
  · intro q' hq
    obtain rfl : blk = 2 := Fin.ext (show blk.val = 2 by dsimp only at hq; omega)
    obtain rfl : q = q' := Fin.ext (by dsimp only at hq; change 128 * 2 + q.val = _ at hq; omega)
    exact (store2_conv a2 b2 c2 q l).trans (if_pos (Or.inr (Or.inl Nat.two_pos))).symm

theorem convA (c : Dev nD) (i : grid0.Coords) (arg2 : Memref sig .tc .vmem S1x384x384 .f32) (harg2 : arg2.IsWhole) (arg3 : Memref sig .tc .vmem S1x384x1152 .bf16) (harg3 : arg3.IsWhole) (arg4 : Memref sig .tc .vmem S1x384x640 .bf16) (harg4 : arg4.IsWhole) (arg5 : Memref sig .tc .vmem S1x128x640 .bf16) (harg5 : arg5.IsWhole) (arg6 : Memref sig .tc .vmem S1x128x640 .bf16) (harg6 : arg6.IsWhole) (arg7 : Memref sig .tc .vmem S1x384x512 .bf16) (harg7 : arg7.IsWhole) (arg8 : Memref sig .tc .vmem S1x128x512 .bf16) (harg8 : arg8.IsWhole) (arg9 : Memref sig .tc .vmem S3x384 .f32) (harg9 : arg9.IsWhole) (arg10 : Memref sig .tc .vmem S1x384 .f32) (harg10 : arg10.IsWhole) (arg11 : Memref sig .tc .smem S6 .f32) (harg11 : arg11.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x256 .bf16) (harg16 : arg16.IsWhole) (arg17 : Memref sig .tc .vmem S128x256 .bf16) (harg17 : arg17.IsWhole) (arg18 : Memref sig .tc .vmem S384x384 .bf16) (harg18 : arg18.IsWhole) (arg19 : Memref sig .tc .vmem S3x272x128 .f32) (harg19 : arg19.IsWhole) (arg20 : Memref sig .tc .vmem S128x4960 .bf16) (harg20 : arg20.IsWhole) (arg21 : Memref sig .tc .vmem S1x384x1024 .bf16) (harg21 : arg21.IsWhole) (arg22 : Memref sig .tc .vmem S3x128x128 .f32) (harg22 : arg22.IsWhole) (arg23 : Memref sig .tc .vmem S3x512x384 .f32) (harg23 : arg23.IsWhole) (hc0 : cond0_0 i)
    (x0 : Vec Ideal S1x384x384 .f32) (x1 : Vec Ideal S1x384x1152 .bf16) (x2 : Vec Ideal S1x384x640 .bf16) (x3 : Vec Ideal S1x128x640 .bf16) (x4 : Vec Ideal S1x128x640 .bf16) (x5 : Vec Ideal S1x384x512 .bf16) (x6 : Vec Ideal S1x128x512 .bf16) (x7 : Vec Ideal S3x384 .f32) (x8 : Vec Ideal S1x384 .f32) (x9 : Vec Ideal S6 .f32) (x10 : Vec Ideal S31x160x256 .bf16) (x11 : Vec Ideal S1x256 .f32) (x12 : Vec Ideal S1x256 .f32) (x13 : Vec Ideal S1x256 .f32) (x14 : Vec Ideal S512x256 .bf16) (x15 : Vec Ideal S128x256 .bf16) (x16 : Vec Ideal S384x384 .bf16) (x17 : Vec Ideal S3x272x128 .f32) (x18 : Vec Ideal S128x4960 .bf16) (blk : Fin 3) (q : Fin 128) (l : Fin 256) :
    out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 (ix3 0 ⟨128 * blk.val + q.val, by omega⟩ ⟨768 + l.val, by omega⟩)
      = convOut i x5 x6 x10 x11 x12 x13 x18 blk q l := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18)]
  unfold kernelRun0_A
  dsimp only
  exact stores_conv (i 1) _ _ _ _ _ _ _ _ _ _ _ _ _ _ _
    (convA0 c i arg7 harg7 arg8 harg8 arg12 harg12 arg13 harg13 arg14 harg14 arg15 harg15 arg20 harg20 x5 x6 x10 x11 x12 x13 x18)
    (convA1 c i arg7 harg7 arg12 harg12 arg13 harg13 arg14 harg14 arg15 harg15 arg20 harg20 x5 x10 x11 x12 x13 x18)
    (convA2 c i arg7 harg7 arg12 harg12 arg13 harg13 arg14 harg14 arg15 harg15 arg20 harg20 x5 x10 x11 x12 x13 x18)
    blk q l

theorem convB (c : Dev nD) (i : grid0.Coords) (arg2 : Memref sig .tc .vmem S1x384x384 .f32) (harg2 : arg2.IsWhole) (arg3 : Memref sig .tc .vmem S1x384x1152 .bf16) (harg3 : arg3.IsWhole) (arg4 : Memref sig .tc .vmem S1x384x640 .bf16) (harg4 : arg4.IsWhole) (arg5 : Memref sig .tc .vmem S1x128x640 .bf16) (harg5 : arg5.IsWhole) (arg6 : Memref sig .tc .vmem S1x128x640 .bf16) (harg6 : arg6.IsWhole) (arg7 : Memref sig .tc .vmem S1x384x512 .bf16) (harg7 : arg7.IsWhole) (arg8 : Memref sig .tc .vmem S1x128x512 .bf16) (harg8 : arg8.IsWhole) (arg9 : Memref sig .tc .vmem S3x384 .f32) (harg9 : arg9.IsWhole) (arg10 : Memref sig .tc .vmem S1x384 .f32) (harg10 : arg10.IsWhole) (arg11 : Memref sig .tc .smem S6 .f32) (harg11 : arg11.IsWhole) (arg12 : Memref sig .tc .vmem S31x160x256 .bf16) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S512x256 .bf16) (harg16 : arg16.IsWhole) (arg17 : Memref sig .tc .vmem S128x256 .bf16) (harg17 : arg17.IsWhole) (arg18 : Memref sig .tc .vmem S384x384 .bf16) (harg18 : arg18.IsWhole) (arg19 : Memref sig .tc .vmem S3x272x128 .f32) (harg19 : arg19.IsWhole) (arg20 : Memref sig .tc .vmem S128x4960 .bf16) (harg20 : arg20.IsWhole) (arg21 : Memref sig .tc .vmem S1x384x1024 .bf16) (harg21 : arg21.IsWhole) (arg22 : Memref sig .tc .vmem S3x128x128 .f32) (harg22 : arg22.IsWhole) (arg23 : Memref sig .tc .vmem S3x512x384 .f32) (harg23 : arg23.IsWhole) (hc0 : ¬cond0_0 i)
    (x0 : Vec Ideal S1x384x384 .f32) (x1 : Vec Ideal S1x384x1152 .bf16) (x2 : Vec Ideal S1x384x640 .bf16) (x3 : Vec Ideal S1x128x640 .bf16) (x4 : Vec Ideal S1x128x640 .bf16) (x5 : Vec Ideal S1x384x512 .bf16) (x6 : Vec Ideal S1x128x512 .bf16) (x7 : Vec Ideal S3x384 .f32) (x8 : Vec Ideal S1x384 .f32) (x9 : Vec Ideal S6 .f32) (x10 : Vec Ideal S31x160x256 .bf16) (x11 : Vec Ideal S1x256 .f32) (x12 : Vec Ideal S1x256 .f32) (x13 : Vec Ideal S1x256 .f32) (x14 : Vec Ideal S512x256 .bf16) (x15 : Vec Ideal S128x256 .bf16) (x16 : Vec Ideal S384x384 .bf16) (x17 : Vec Ideal S3x272x128 .f32) (x18 : Vec Ideal S128x4960 .bf16) (xs0 : Vec Ideal S3x128x128 .f32) (blk : Fin 3) (q : Fin 128) (l : Fin 256) :
    out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 xs0 (ix3 0 ⟨128 * blk.val + q.val, by omega⟩ ⟨768 + l.val, by omega⟩)
      = convOut i x5 x6 x10 x11 x12 x13 x18 blk q l := by
  unfold out0_B_19
  rw [View.read_writes_eq_canon _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 x15 x16 x17 x18 xs0)]
  unfold kernelRun0_B
  dsimp only
  exact stores_conv (i 1) _ _ _ _ _ _ _ _ _ _ _ _ _ _ _
    (convB0 c i arg7 harg7 arg8 harg8 arg12 harg12 arg13 harg13 arg14 harg14 arg15 harg15 arg20 harg20 x5 x6 x10 x11 x12 x13 x18)
    (convB1 c i arg7 harg7 arg12 harg12 arg13 harg13 arg14 harg14 arg15 harg15 arg20 harg20 x5 x10 x11 x12 x13 x18)
    (convB2 c i arg7 harg7 arg12 harg12 arg13 harg13 arg14 harg14 arg15 harg15 arg20 harg20 x5 x10 x11 x12 x13 x18)
    blk q l

variable (m : (ℓ : Loc nD τ sig) → Buf (Elt Ideal) ℓ)

/-- A point's convolution columns, from the blocks it reads. -/
theorem outs_conv (c : Dev nD) (t : Fin cfg0.N) (blk : Fin 3) (q : Fin 128) (l : Fin 256) :
    (outsAt0 m c t.val t.isLt).1 (ix3 0 ⟨128 * blk.val + q.val, by omega⟩ ⟨768 + l.val, by omega⟩)
      = convOut (grid0.coords t) (iblk m c 5 t) (iblk m c 6 t) (iblk m c 10 t) (iblk m c 11 t) (iblk m c 12 t) (iblk m c 13 t) (iblk m c 18 t) blk q l := by
  by_cases h0 : t.val % 11 = 0
  · have h := congrArg Prod.fst (outsAt0_A m c t h0)
    dsimp only at h
    rw [h]
    exact convA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) blk q l
  · have h := congrArg Prod.fst (outsAt0_B m c t h0)
    dsimp only at h
    rw [h]
    exact convB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ blk q l

end Cert.Mixer
-- ==== Proof.Mixer.ConvRef.lean ====
module

public import proofs.«01_k».proof.Proof.Gen.ConvolutionIdeal.Read
public import proofs.«01_k».proof.Proof.Mixer.Conv

@[expose] public section

/-! The plain convolution, read at an index. -/

set_option maxRecDepth 16384

noncomputable section

namespace Cert.ConvolutionIdeal.Rows

open Cert.ConvolutionIdeal Cert.ConvolutionIdeal.Gen Cert.ConvolutionIdeal.Read Idealize.ShloMosaic Idealize.ShloMosaic.TcCoe Cert.Mixer

variable (x3 : (⟨S8x4224x512, .bf16⟩ : BufTy).Contents (Elt Ideal)) (x7 : (⟨S31x256, .f32⟩ : BufTy).Contents (Elt Ideal)) (x8 x9 x10 : (⟨S256, .f32⟩ : BufTy).Contents (Elt Ideal))
  (b : Fin 8) (s : Fin 4224) (l : Fin 256)

/-- The gated input of the convolution. -/
def input (P : S8x4224x512.Idx → EReal) (b : Fin 8) (s : Fin 4224) (l : Fin 256) : EReal :=
  glu (P (ix3 b s ⟨l.val, by omega⟩)) (P (ix3 b s ⟨256 + l.val, by omega⟩))

/-- The gated input 30 rows back and `k` forth; nothing before the first row. -/
def past (P : S8x4224x512.Idx → EReal) (b : Fin 8) (s : Fin 4224) (l : Fin 256) (k : ℕ) : EReal :=
  if h : 30 ≤ k + s.val ∧ k + s.val - 30 < 4224 then input P b ⟨k + s.val - 30, h.2⟩ l else 0

/-- The integer zero as a number. -/
theorem zero_word : FloatOps.sitofp (F := Ideal) FTy.f32 (0#32 : BitVec 32) = (0 : EReal) := by
  show (((0#32 : BitVec 32).toInt : ℝ) : EReal) = 0
  simp

theorem input_at : val_main_v9 (F := Ideal) x3 (ix3 b s l) = input x3 b s l := by
  unfold input glu
  pointwise [val_main_v9, val_main_v8, val_main_v7, val_main_v6, val_main_v5, val_main_v4, val_main_v3, val_main_v2, val_main_v1, val_main_v0, val_main_cst, val_main_cst_0]
  rw [zero_sub]

theorem padded_at (k : ℕ) (hk : k < 31) : val_main_v10 (F := Ideal) x3 (ix3 b ⟨k + s.val, by omega⟩ l) = past x3 b s l k := by
  unfold past
  pointwise [val_main_v10, val_main_call0_v0, val_main_c]
  exact dite_congr rfl (fun _ => input_at x3 b _ l) (fun _ => zero_word)

/-- One term of the sum. -/
def term (P : S8x4224x512.Idx → EReal) (W : S31x256.Idx → EReal) (b : Fin 8) (s : Fin 4224) (l : Fin 256) (k : ℕ) : EReal :=
  past P b s l k * (if h : k < 31 then W (ix2 ⟨k, h⟩ l) else 0)

theorem tap0 : val_main_v15 (F := Ideal) x3 x7 (ix3 b s l) = term x3 x7 b s l 0 := by
  refine Eq.trans ?_ (congrArg (fun x : EReal => x * x7 (ix2 0 l)) (padded_at x3 b s l 0 (by omega)))
  pointwise [val_main_v15, val_main_v12, val_main_v14, val_main_v13, val_main_v11]

theorem sum0 : val_main_v17 (F := Ideal) x3 x7 (ix3 b s l) = ∑ k ∈ Finset.range 1, term x3 x7 b s l k := by
  rw [Finset.sum_range_one, ← tap0]
  pointwise [val_main_v17, val_main_v16, val_main_cst_1]

theorem tap1 : val_main_v21 (F := Ideal) x3 x7 (ix3 b s l) = term x3 x7 b s l 1 := by
  refine Eq.trans ?_ (congrArg (fun x : EReal => x * x7 (ix2 1 l)) (padded_at x3 b s l 1 (by omega)))
  pointwise [val_main_v21, val_main_v18, val_main_v20, val_main_v19, val_main_v11]

theorem sum1 : val_main_v22 (F := Ideal) x3 x7 (ix3 b s l) = ∑ k ∈ Finset.range 2, term x3 x7 b s l k :=
  (congrArg₂ (fun x y : EReal => x + y) (sum0 x3 x7 b s l) (tap1 x3 x7 b s l)).trans (Finset.sum_range_succ _ _).symm

theorem tap2 : val_main_v26 (F := Ideal) x3 x7 (ix3 b s l) = term x3 x7 b s l 2 := by
  refine Eq.trans ?_ (congrArg (fun x : EReal => x * x7 (ix2 2 l)) (padded_at x3 b s l 2 (by omega)))
  pointwise [val_main_v26, val_main_v23, val_main_v25, val_main_v24, val_main_v11]

theorem sum2 : val_main_v27 (F := Ideal) x3 x7 (ix3 b s l) = ∑ k ∈ Finset.range 3, term x3 x7 b s l k :=
  (congrArg₂ (fun x y : EReal => x + y) (sum1 x3 x7 b s l) (tap2 x3 x7 b s l)).trans (Finset.sum_range_succ _ _).symm

theorem tap3 : val_main_v31 (F := Ideal) x3 x7 (ix3 b s l) = term x3 x7 b s l 3 := by
  refine Eq.trans ?_ (congrArg (fun x : EReal => x * x7 (ix2 3 l)) (padded_at x3 b s l 3 (by omega)))
  pointwise [val_main_v31, val_main_v28, val_main_v30, val_main_v29, val_main_v11]

theorem sum3 : val_main_v32 (F := Ideal) x3 x7 (ix3 b s l) = ∑ k ∈ Finset.range 4, term x3 x7 b s l k :=
  (congrArg₂ (fun x y : EReal => x + y) (sum2 x3 x7 b s l) (tap3 x3 x7 b s l)).trans (Finset.sum_range_succ _ _).symm

theorem tap4 : val_main_v36 (F := Ideal) x3 x7 (ix3 b s l) = term x3 x7 b s l 4 := by
  refine Eq.trans ?_ (congrArg (fun x : EReal => x * x7 (ix2 4 l)) (padded_at x3 b s l 4 (by omega)))
  pointwise [val_main_v36, val_main_v33, val_main_v35, val_main_v34, val_main_v11]

theorem sum4 : val_main_v37 (F := Ideal) x3 x7 (ix3 b s l) = ∑ k ∈ Finset.range 5, term x3 x7 b s l k :=
  (congrArg₂ (fun x y : EReal => x + y) (sum3 x3 x7 b s l) (tap4 x3 x7 b s l)).trans (Finset.sum_range_succ _ _).symm

theorem tap5 : val_main_v41 (F := Ideal) x3 x7 (ix3 b s l) = term x3 x7 b s l 5 := by
  refine Eq.trans ?_ (congrArg (fun x : EReal => x * x7 (ix2 5 l)) (padded_at x3 b s l 5 (by omega)))
  pointwise [val_main_v41, val_main_v38, val_main_v40, val_main_v39, val_main_v11]

theorem sum5 : val_main_v42 (F := Ideal) x3 x7 (ix3 b s l) = ∑ k ∈ Finset.range 6, term x3 x7 b s l k :=
  (congrArg₂ (fun x y : EReal => x + y) (sum4 x3 x7 b s l) (tap5 x3 x7 b s l)).trans (Finset.sum_range_succ _ _).symm

theorem tap6 : val_main_v46 (F := Ideal) x3 x7 (ix3 b s l) = term x3 x7 b s l 6 := by
  refine Eq.trans ?_ (congrArg (fun x : EReal => x * x7 (ix2 6 l)) (padded_at x3 b s l 6 (by omega)))
  pointwise [val_main_v46, val_main_v43, val_main_v45, val_main_v44, val_main_v11]

theorem sum6 : val_main_v47 (F := Ideal) x3 x7 (ix3 b s l) = ∑ k ∈ Finset.range 7, term x3 x7 b s l k :=
  (congrArg₂ (fun x y : EReal => x + y) (sum5 x3 x7 b s l) (tap6 x3 x7 b s l)).trans (Finset.sum_range_succ _ _).symm

theorem tap7 : val_main_v51 (F := Ideal) x3 x7 (ix3 b s l) = term x3 x7 b s l 7 := by
  refine Eq.trans ?_ (congrArg (fun x : EReal => x * x7 (ix2 7 l)) (padded_at x3 b s l 7 (by omega)))
  pointwise [val_main_v51, val_main_v48, val_main_v50, val_main_v49, val_main_v11]

theorem sum7 : val_main_v52 (F := Ideal) x3 x7 (ix3 b s l) = ∑ k ∈ Finset.range 8, term x3 x7 b s l k :=
  (congrArg₂ (fun x y : EReal => x + y) (sum6 x3 x7 b s l) (tap7 x3 x7 b s l)).trans (Finset.sum_range_succ _ _).symm

theorem tap8 : val_main_v56 (F := Ideal) x3 x7 (ix3 b s l) = term x3 x7 b s l 8 := by
  refine Eq.trans ?_ (congrArg (fun x : EReal => x * x7 (ix2 8 l)) (padded_at x3 b s l 8 (by omega)))
  pointwise [val_main_v56, val_main_v53, val_main_v55, val_main_v54, val_main_v11]

theorem sum8 : val_main_v57 (F := Ideal) x3 x7 (ix3 b s l) = ∑ k ∈ Finset.range 9, term x3 x7 b s l k :=
  (congrArg₂ (fun x y : EReal => x + y) (sum7 x3 x7 b s l) (tap8 x3 x7 b s l)).trans (Finset.sum_range_succ _ _).symm

theorem tap9 : val_main_v61 (F := Ideal) x3 x7 (ix3 b s l) = term x3 x7 b s l 9 := by
  refine Eq.trans ?_ (congrArg (fun x : EReal => x * x7 (ix2 9 l)) (padded_at x3 b s l 9 (by omega)))
  pointwise [val_main_v61, val_main_v58, val_main_v60, val_main_v59, val_main_v11]

theorem sum9 : val_main_v62 (F := Ideal) x3 x7 (ix3 b s l) = ∑ k ∈ Finset.range 10, term x3 x7 b s l k :=
  (congrArg₂ (fun x y : EReal => x + y) (sum8 x3 x7 b s l) (tap9 x3 x7 b s l)).trans (Finset.sum_range_succ _ _).symm

theorem tap10 : val_main_v66 (F := Ideal) x3 x7 (ix3 b s l) = term x3 x7 b s l 10 := by
  refine Eq.trans ?_ (congrArg (fun x : EReal => x * x7 (ix2 10 l)) (padded_at x3 b s l 10 (by omega)))
  pointwise [val_main_v66, val_main_v63, val_main_v65, val_main_v64, val_main_v11]

theorem sum10 : val_main_v67 (F := Ideal) x3 x7 (ix3 b s l) = ∑ k ∈ Finset.range 11, term x3 x7 b s l k :=
  (congrArg₂ (fun x y : EReal => x + y) (sum9 x3 x7 b s l) (tap10 x3 x7 b s l)).trans (Finset.sum_range_succ _ _).symm

theorem tap11 : val_main_v71 (F := Ideal) x3 x7 (ix3 b s l) = term x3 x7 b s l 11 := by
  refine Eq.trans ?_ (congrArg (fun x : EReal => x * x7 (ix2 11 l)) (padded_at x3 b s l 11 (by omega)))
  pointwise [val_main_v71, val_main_v68, val_main_v70, val_main_v69, val_main_v11]

theorem sum11 : val_main_v72 (F := Ideal) x3 x7 (ix3 b s l) = ∑ k ∈ Finset.range 12, term x3 x7 b s l k :=
  (congrArg₂ (fun x y : EReal => x + y) (sum10 x3 x7 b s l) (tap11 x3 x7 b s l)).trans (Finset.sum_range_succ _ _).symm

theorem tap12 : val_main_v76 (F := Ideal) x3 x7 (ix3 b s l) = term x3 x7 b s l 12 := by
  refine Eq.trans ?_ (congrArg (fun x : EReal => x * x7 (ix2 12 l)) (padded_at x3 b s l 12 (by omega)))
  pointwise [val_main_v76, val_main_v73, val_main_v75, val_main_v74, val_main_v11]

theorem sum12 : val_main_v77 (F := Ideal) x3 x7 (ix3 b s l) = ∑ k ∈ Finset.range 13, term x3 x7 b s l k :=
  (congrArg₂ (fun x y : EReal => x + y) (sum11 x3 x7 b s l) (tap12 x3 x7 b s l)).trans (Finset.sum_range_succ _ _).symm

theorem tap13 : val_main_v81 (F := Ideal) x3 x7 (ix3 b s l) = term x3 x7 b s l 13 := by
  refine Eq.trans ?_ (congrArg (fun x : EReal => x * x7 (ix2 13 l)) (padded_at x3 b s l 13 (by omega)))
  pointwise [val_main_v81, val_main_v78, val_main_v80, val_main_v79, val_main_v11]

theorem sum13 : val_main_v82 (F := Ideal) x3 x7 (ix3 b s l) = ∑ k ∈ Finset.range 14, term x3 x7 b s l k :=
  (congrArg₂ (fun x y : EReal => x + y) (sum12 x3 x7 b s l) (tap13 x3 x7 b s l)).trans (Finset.sum_range_succ _ _).symm

theorem tap14 : val_main_v86 (F := Ideal) x3 x7 (ix3 b s l) = term x3 x7 b s l 14 := by
  refine Eq.trans ?_ (congrArg (fun x : EReal => x * x7 (ix2 14 l)) (padded_at x3 b s l 14 (by omega)))
  pointwise [val_main_v86, val_main_v83, val_main_v85, val_main_v84, val_main_v11]

theorem sum14 : val_main_v87 (F := Ideal) x3 x7 (ix3 b s l) = ∑ k ∈ Finset.range 15, term x3 x7 b s l k :=
  (congrArg₂ (fun x y : EReal => x + y) (sum13 x3 x7 b s l) (tap14 x3 x7 b s l)).trans (Finset.sum_range_succ _ _).symm

theorem tap15 : val_main_v91 (F := Ideal) x3 x7 (ix3 b s l) = term x3 x7 b s l 15 := by
  refine Eq.trans ?_ (congrArg (fun x : EReal => x * x7 (ix2 15 l)) (padded_at x3 b s l 15 (by omega)))
  pointwise [val_main_v91, val_main_v88, val_main_v90, val_main_v89, val_main_v11]

theorem sum15 : val_main_v92 (F := Ideal) x3 x7 (ix3 b s l) = ∑ k ∈ Finset.range 16, term x3 x7 b s l k :=
  (congrArg₂ (fun x y : EReal => x + y) (sum14 x3 x7 b s l) (tap15 x3 x7 b s l)).trans (Finset.sum_range_succ _ _).symm

theorem tap16 : val_main_v96 (F := Ideal) x3 x7 (ix3 b s l) = term x3 x7 b s l 16 := by
  refine Eq.trans ?_ (congrArg (fun x : EReal => x * x7 (ix2 16 l)) (padded_at x3 b s l 16 (by omega)))
  pointwise [val_main_v96, val_main_v93, val_main_v95, val_main_v94, val_main_v11]

theorem sum16 : val_main_v97 (F := Ideal) x3 x7 (ix3 b s l) = ∑ k ∈ Finset.range 17, term x3 x7 b s l k :=
  (congrArg₂ (fun x y : EReal => x + y) (sum15 x3 x7 b s l) (tap16 x3 x7 b s l)).trans (Finset.sum_range_succ _ _).symm

theorem tap17 : val_main_v101 (F := Ideal) x3 x7 (ix3 b s l) = term x3 x7 b s l 17 := by
  refine Eq.trans ?_ (congrArg (fun x : EReal => x * x7 (ix2 17 l)) (padded_at x3 b s l 17 (by omega)))
  pointwise [val_main_v101, val_main_v98, val_main_v100, val_main_v99, val_main_v11]

theorem sum17 : val_main_v102 (F := Ideal) x3 x7 (ix3 b s l) = ∑ k ∈ Finset.range 18, term x3 x7 b s l k :=
  (congrArg₂ (fun x y : EReal => x + y) (sum16 x3 x7 b s l) (tap17 x3 x7 b s l)).trans (Finset.sum_range_succ _ _).symm

theorem tap18 : val_main_v106 (F := Ideal) x3 x7 (ix3 b s l) = term x3 x7 b s l 18 := by
  refine Eq.trans ?_ (congrArg (fun x : EReal => x * x7 (ix2 18 l)) (padded_at x3 b s l 18 (by omega)))
  pointwise [val_main_v106, val_main_v103, val_main_v105, val_main_v104, val_main_v11]

theorem sum18 : val_main_v107 (F := Ideal) x3 x7 (ix3 b s l) = ∑ k ∈ Finset.range 19, term x3 x7 b s l k :=
  (congrArg₂ (fun x y : EReal => x + y) (sum17 x3 x7 b s l) (tap18 x3 x7 b s l)).trans (Finset.sum_range_succ _ _).symm

theorem tap19 : val_main_v111 (F := Ideal) x3 x7 (ix3 b s l) = term x3 x7 b s l 19 := by
  refine Eq.trans ?_ (congrArg (fun x : EReal => x * x7 (ix2 19 l)) (padded_at x3 b s l 19 (by omega)))
  pointwise [val_main_v111, val_main_v108, val_main_v110, val_main_v109, val_main_v11]

theorem sum19 : val_main_v112 (F := Ideal) x3 x7 (ix3 b s l) = ∑ k ∈ Finset.range 20, term x3 x7 b s l k :=
  (congrArg₂ (fun x y : EReal => x + y) (sum18 x3 x7 b s l) (tap19 x3 x7 b s l)).trans (Finset.sum_range_succ _ _).symm

theorem tap20 : val_main_v116 (F := Ideal) x3 x7 (ix3 b s l) = term x3 x7 b s l 20 := by
  refine Eq.trans ?_ (congrArg (fun x : EReal => x * x7 (ix2 20 l)) (padded_at x3 b s l 20 (by omega)))
  pointwise [val_main_v116, val_main_v113, val_main_v115, val_main_v114, val_main_v11]

theorem sum20 : val_main_v117 (F := Ideal) x3 x7 (ix3 b s l) = ∑ k ∈ Finset.range 21, term x3 x7 b s l k :=
  (congrArg₂ (fun x y : EReal => x + y) (sum19 x3 x7 b s l) (tap20 x3 x7 b s l)).trans (Finset.sum_range_succ _ _).symm

theorem tap21 : val_main_v121 (F := Ideal) x3 x7 (ix3 b s l) = term x3 x7 b s l 21 := by
  refine Eq.trans ?_ (congrArg (fun x : EReal => x * x7 (ix2 21 l)) (padded_at x3 b s l 21 (by omega)))
  pointwise [val_main_v121, val_main_v118, val_main_v120, val_main_v119, val_main_v11]

theorem sum21 : val_main_v122 (F := Ideal) x3 x7 (ix3 b s l) = ∑ k ∈ Finset.range 22, term x3 x7 b s l k :=
  (congrArg₂ (fun x y : EReal => x + y) (sum20 x3 x7 b s l) (tap21 x3 x7 b s l)).trans (Finset.sum_range_succ _ _).symm

theorem tap22 : val_main_v126 (F := Ideal) x3 x7 (ix3 b s l) = term x3 x7 b s l 22 := by
  refine Eq.trans ?_ (congrArg (fun x : EReal => x * x7 (ix2 22 l)) (padded_at x3 b s l 22 (by omega)))
  pointwise [val_main_v126, val_main_v123, val_main_v125, val_main_v124, val_main_v11]

theorem sum22 : val_main_v127 (F := Ideal) x3 x7 (ix3 b s l) = ∑ k ∈ Finset.range 23, term x3 x7 b s l k :=
  (congrArg₂ (fun x y : EReal => x + y) (sum21 x3 x7 b s l) (tap22 x3 x7 b s l)).trans (Finset.sum_range_succ _ _).symm

theorem tap23 : val_main_v131 (F := Ideal) x3 x7 (ix3 b s l) = term x3 x7 b s l 23 := by
  refine Eq.trans ?_ (congrArg (fun x : EReal => x * x7 (ix2 23 l)) (padded_at x3 b s l 23 (by omega)))
  pointwise [val_main_v131, val_main_v128, val_main_v130, val_main_v129, val_main_v11]

theorem sum23 : val_main_v132 (F := Ideal) x3 x7 (ix3 b s l) = ∑ k ∈ Finset.range 24, term x3 x7 b s l k :=
  (congrArg₂ (fun x y : EReal => x + y) (sum22 x3 x7 b s l) (tap23 x3 x7 b s l)).trans (Finset.sum_range_succ _ _).symm

theorem tap24 : val_main_v136 (F := Ideal) x3 x7 (ix3 b s l) = term x3 x7 b s l 24 := by
  refine Eq.trans ?_ (congrArg (fun x : EReal => x * x7 (ix2 24 l)) (padded_at x3 b s l 24 (by omega)))
  pointwise [val_main_v136, val_main_v133, val_main_v135, val_main_v134, val_main_v11]

theorem sum24 : val_main_v137 (F := Ideal) x3 x7 (ix3 b s l) = ∑ k ∈ Finset.range 25, term x3 x7 b s l k :=
  (congrArg₂ (fun x y : EReal => x + y) (sum23 x3 x7 b s l) (tap24 x3 x7 b s l)).trans (Finset.sum_range_succ _ _).symm

theorem tap25 : val_main_v141 (F := Ideal) x3 x7 (ix3 b s l) = term x3 x7 b s l 25 := by
  refine Eq.trans ?_ (congrArg (fun x : EReal => x * x7 (ix2 25 l)) (padded_at x3 b s l 25 (by omega)))
  pointwise [val_main_v141, val_main_v138, val_main_v140, val_main_v139, val_main_v11]

theorem sum25 : val_main_v142 (F := Ideal) x3 x7 (ix3 b s l) = ∑ k ∈ Finset.range 26, term x3 x7 b s l k :=
  (congrArg₂ (fun x y : EReal => x + y) (sum24 x3 x7 b s l) (tap25 x3 x7 b s l)).trans (Finset.sum_range_succ _ _).symm

theorem tap26 : val_main_v146 (F := Ideal) x3 x7 (ix3 b s l) = term x3 x7 b s l 26 := by
  refine Eq.trans ?_ (congrArg (fun x : EReal => x * x7 (ix2 26 l)) (padded_at x3 b s l 26 (by omega)))
  pointwise [val_main_v146, val_main_v143, val_main_v145, val_main_v144, val_main_v11]

theorem sum26 : val_main_v147 (F := Ideal) x3 x7 (ix3 b s l) = ∑ k ∈ Finset.range 27, term x3 x7 b s l k :=
  (congrArg₂ (fun x y : EReal => x + y) (sum25 x3 x7 b s l) (tap26 x3 x7 b s l)).trans (Finset.sum_range_succ _ _).symm

theorem tap27 : val_main_v151 (F := Ideal) x3 x7 (ix3 b s l) = term x3 x7 b s l 27 := by
  refine Eq.trans ?_ (congrArg (fun x : EReal => x * x7 (ix2 27 l)) (padded_at x3 b s l 27 (by omega)))
  pointwise [val_main_v151, val_main_v148, val_main_v150, val_main_v149, val_main_v11]

theorem sum27 : val_main_v152 (F := Ideal) x3 x7 (ix3 b s l) = ∑ k ∈ Finset.range 28, term x3 x7 b s l k :=
  (congrArg₂ (fun x y : EReal => x + y) (sum26 x3 x7 b s l) (tap27 x3 x7 b s l)).trans (Finset.sum_range_succ _ _).symm

theorem tap28 : val_main_v156 (F := Ideal) x3 x7 (ix3 b s l) = term x3 x7 b s l 28 := by
  refine Eq.trans ?_ (congrArg (fun x : EReal => x * x7 (ix2 28 l)) (padded_at x3 b s l 28 (by omega)))
  pointwise [val_main_v156, val_main_v153, val_main_v155, val_main_v154, val_main_v11]

theorem sum28 : val_main_v157 (F := Ideal) x3 x7 (ix3 b s l) = ∑ k ∈ Finset.range 29, term x3 x7 b s l k :=
  (congrArg₂ (fun x y : EReal => x + y) (sum27 x3 x7 b s l) (tap28 x3 x7 b s l)).trans (Finset.sum_range_succ _ _).symm

theorem tap29 : val_main_v161 (F := Ideal) x3 x7 (ix3 b s l) = term x3 x7 b s l 29 := by
  refine Eq.trans ?_ (congrArg (fun x : EReal => x * x7 (ix2 29 l)) (padded_at x3 b s l 29 (by omega)))
  pointwise [val_main_v161, val_main_v158, val_main_v160, val_main_v159, val_main_v11]

theorem sum29 : val_main_v162 (F := Ideal) x3 x7 (ix3 b s l) = ∑ k ∈ Finset.range 30, term x3 x7 b s l k :=
  (congrArg₂ (fun x y : EReal => x + y) (sum28 x3 x7 b s l) (tap29 x3 x7 b s l)).trans (Finset.sum_range_succ _ _).symm

theorem tap30 : val_main_v166 (F := Ideal) x3 x7 (ix3 b s l) = term x3 x7 b s l 30 := by
  refine Eq.trans ?_ (congrArg (fun x : EReal => x * x7 (ix2 30 l)) (padded_at x3 b s l 30 (by omega)))
  pointwise [val_main_v166, val_main_v163, val_main_v165, val_main_v164, val_main_v11]

theorem sum30 : val_main_v167 (F := Ideal) x3 x7 (ix3 b s l) = ∑ k ∈ Finset.range 31, term x3 x7 b s l k :=
  (congrArg₂ (fun x y : EReal => x + y) (sum29 x3 x7 b s l) (tap30 x3 x7 b s l)).trans (Finset.sum_range_succ _ _).symm

/-- The convolution with its bias. -/
def rows (P : S8x4224x512.Idx → EReal) (W : S31x256.Idx → EReal) (B : S256.Idx → EReal) (b : Fin 8) (s : Fin 4224) (l : Fin 256) : EReal :=
  (∑ k : Fin 31, past P b s l k.val * W (ix2 k l)) + B (ix1 l)

theorem rows_at : val_main_v170 (F := Ideal) x3 x7 x8 (ix3 b s l) = rows x3 x7 x8 b s l := by
  unfold rows
  have e : (∑ k : Fin 31, past x3 b s l k.val * x7 (ix2 k l)) = ∑ k ∈ Finset.range 31, term x3 x7 b s l k := by
    rw [Finset.sum_range]
    refine Finset.sum_congr rfl fun k _ => ?_
    unfold term
    rw [dif_pos k.isLt]
  rw [e, ← sum30]
  pointwise [val_main_v170, val_main_v169, val_main_v168]

theorem result_at : val_main_v195 (F := Ideal) x3 x7 x8 x9 x10 (ix3 b s l)
    = glu (normed (rows x3 x7 x8 b s) (x9 (ix1 l)) (x10 (ix1 l)) l) (normed (rows x3 x7 x8 b s) (x9 (ix1 l)) (x10 (ix1 l)) l) := by
  have hr : rows x3 x7 x8 b s = fun x => val_main_v170 (F := Ideal) x3 x7 x8 (ix3 b s x) := funext fun x => (rows_at x3 x7 x8 b s x).symm
  rw [hr]
  unfold glu normed mean256
  pointwise [val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_cst_2, val_main_cst_3, val_main_cst_4, val_main_cst_5, val_main_cst_6, val_main_call1_v0, val_main_call1_v1, val_main_call1_cst, val_main_call1_v2, val_main_call1_v3, val_main_call1_cst_0, val_main_call1_v4, val_main_call1_v5]
  rw [zero_sub]

theorem out_at (h : 112 ≤ s.val) : val_main_v198 (F := Ideal) x3 x7 x8 x9 x10 (ix3 (n0 := 8) (n1 := 4224) (n2 := 1024) b s ⟨768 + l.val, by omega⟩)
    = val_main_v195 (F := Ideal) x3 x7 x8 x9 x10 (ix3 b s l) := by
  pointwise [val_main_v198, val_main_v197, val_main_v196, val_main_call2_v0, val_main_c_7]
  rw [dif_pos ⟨h, by omega⟩]
  exact congrArg (fun x => val_main_v195 (F := Ideal) x3 x7 x8 x9 x10 (ix3 b x l)) (Fin.ext (show 112 + (s.val - 112) = s.val by omega))

theorem out_pad (h : ¬ 112 ≤ s.val) : val_main_v198 (F := Ideal) x3 x7 x8 x9 x10 (ix3 (n0 := 8) (n1 := 4224) (n2 := 1024) b s ⟨768 + l.val, by omega⟩) = 0 := by
  pointwise [val_main_v198, val_main_v197, val_main_call2_v0, val_main_c_7]
  rw [dif_neg (fun h' => h h'.1)]
  exact zero_word

end Cert.ConvolutionIdeal.Rows
-- ==== Proof.Mixer.ConvWhole.lean ====
module

public import proofs.«01_k».proof.Proof.Mixer.ConvTab
public import proofs.«01_k».proof.Proof.Mixer.ConvOut
public import proofs.«01_k».proof.Proof.Mixer.ConvRef
public import proofs.«01_k».proof.Proof.Mixer.Whole

@[expose] public section

/-! What the mixer leaves in the convolution's columns of its result, as a function of its arguments. -/

set_option maxRecDepth 16384

noncomputable section

namespace Cert.Mixer

open Cert.KernelIdeal Cert.KernelIdeal.Gen Idealize.ShloMosaic Idealize.ShloMosaic.TcCoe Idealize.ShloMosaic.Tactic

open Cert.ConvolutionIdeal.Rows (input past rows)

theorem wld_at (x : Vec Ideal S31x160x256 .bf16) (k : ℕ) (hk : k < 31) (inb) (r : Fin 160) (l : Fin 256) : wld x k inb (ix3 0 r l) = x (ix3 ⟨k, hk⟩ r l) := by
  refine congrArg x (funext fun a => Fin.ext ?_)
  match a with
  | ⟨0, _⟩ => exact (show k + 1 * 0 = k by omega)
  | ⟨1, _⟩ => exact (show 0 + 1 * r.val = r.val by omega)
  | ⟨2, _⟩ => exact (show 0 + 1 * l.val = l.val by omega)

theorem tld_at (x : Vec Ideal S128x4960 .bf16) (k n : ℕ) (inb) (q : Fin 128) (c : Fin n) (d : Fin 4960) (hd : d.val = k + c.val) : tld x k n inb (ix2 q c) = x (ix2 q d) := by
  refine congrArg x (funext fun a => Fin.ext ?_)
  match a with
  | ⟨0, _⟩ => exact (show 0 + 1 * q.val = q.val by omega)
  | ⟨1, _⟩ => exact (show k + 1 * c.val = d.val by omega)

theorem rld_at (x : Vec Ideal S1x256 .f32) (inb) (l : Fin 256) : rld x inb (ix2 0 l) = x (ix2 0 l) := by
  refine congrArg x (funext fun a => Fin.ext ?_)
  match a with
  | ⟨0, _⟩ => exact (show 0 + 1 * 0 = 0 by omega)
  | ⟨1, _⟩ => exact (show 0 + 1 * l.val = l.val by omega)

theorem pld_at {n : ℕ} (x : Vec Ideal ⟨3, ![1, n, 512]⟩ .bf16) (o s : ℕ) (inb) (r : Fin s) (l : Fin 512) (R : Fin n) (hR : R.val = o + r.val) : pld x o s inb (ix3 0 r l) = x (ix3 0 R l) :=
  ld_at x inb r l R l hR (by omega)

/-- A block's convolution, from its history and the tables. -/
theorem conv_whole (h : FVec Ideal S160x256 .bf16) (x10 : Vec Ideal S31x160x256 .bf16) (x11 x12 x13 : Vec Ideal S1x256 .f32) (x18 : Vec Ideal S128x4960 .bf16)
    (P : S8x4224x512.Idx → EReal) (W : S31x256.Idx → EReal) (B G E : S256.Idx → EReal) (b : Fin 8) (s : Fin 4224) (q : Fin 128) (l : Fin 256)
    (hh : ∀ (j : Fin 31) (l : Fin 256), h (ix2 (at' q j.val j.isLt) l) = past P b s l j.val)
    (h10 : ∀ (k : Fin 31) (r : Fin 160) (l : Fin 256), x10 (ix3 k r l) = W (ix2 k l))
    (h11 : ∀ l : Fin 256, x11 (ix2 0 l) = B (ix1 l)) (h12 : ∀ l : Fin 256, x12 (ix2 0 l) = G (ix1 l)) (h13 : ∀ l : Fin 256, x13 (ix2 0 l) = E (ix1 l))
    (h18 : ∀ (j : Fin 31) (r : Fin 160), x18 (ix2 q ⟨160 * j.val + r.val, by omega⟩) = if r.val = q.val + 2 + j.val then (1 : EReal) else 0) :
    conv h (wld x10 0 (by decide)) (wld x10 1 (by decide)) (wld x10 2 (by decide)) (wld x10 3 (by decide)) (wld x10 4 (by decide)) (wld x10 5 (by decide)) (wld x10 6 (by decide)) (wld x10 7 (by decide)) (wld x10 8 (by decide)) (wld x10 9 (by decide)) (wld x10 10 (by decide)) (wld x10 11 (by decide)) (wld x10 12 (by decide)) (wld x10 13 (by decide)) (wld x10 14 (by decide)) (wld x10 15 (by decide)) (wld x10 16 (by decide)) (wld x10 17 (by decide)) (wld x10 18 (by decide)) (wld x10 19 (by decide)) (wld x10 20 (by decide)) (wld x10 21 (by decide)) (wld x10 22 (by decide)) (wld x10 23 (by decide)) (wld x10 24 (by decide)) (wld x10 25 (by decide)) (wld x10 26 (by decide)) (wld x10 27 (by decide)) (wld x10 28 (by decide)) (wld x10 29 (by decide)) (wld x10 30 (by decide)) (tld x18 0 1280 (by decide)) (tld x18 1280 1280 (by decide)) (tld x18 2560 1280 (by decide)) (tld x18 3840 1120 (by decide)) (rld x11 (by decide)) (rld x12 (by decide)) (rld x13 (by decide)) (ix2 q l)
      = glu (normed (rows P W B b s) (G (ix1 l)) (E (ix1 l)) l) (normed (rows P W B b s) (G (ix1 l)) (E (ix1 l)) l) := by
  have hw : ∀ (x : Fin 256) (k : Fin 31) (inb) (r : Fin 160), wld x10 k.val inb (ix3 0 r x) = W (ix2 k x) := fun x k inb r => (wld_at x10 k.val k.isLt inb r x).trans (h10 k r x)
  have ht : ∀ (a n : ℕ) (inb) (j : ℕ) (c : Fin n) (r : Fin 160) (hj : a + j < 31), c.val = 160 * j + r.val → tld x18 (160 * a) n inb (ix2 q c) = if r = at' q (a + j) hj then (1 : EReal) else 0 := by
    intro a n inb j c r hj hc
    refine (tld_at x18 (160 * a) n inb q c ⟨160 * (a + j) + r.val, by omega⟩ (by dsimp only; omega)).trans ((h18 ⟨a + j, hj⟩ r).trans (if_congr ?_ rfl rfl))
    exact ⟨fun e => Fin.ext e, fun e => congrArg Fin.val e⟩
  rw [conv_at h (wld x10 0 (by decide)) (wld x10 1 (by decide)) (wld x10 2 (by decide)) (wld x10 3 (by decide)) (wld x10 4 (by decide)) (wld x10 5 (by decide)) (wld x10 6 (by decide)) (wld x10 7 (by decide)) (wld x10 8 (by decide)) (wld x10 9 (by decide)) (wld x10 10 (by decide)) (wld x10 11 (by decide)) (wld x10 12 (by decide)) (wld x10 13 (by decide)) (wld x10 14 (by decide)) (wld x10 15 (by decide)) (wld x10 16 (by decide)) (wld x10 17 (by decide)) (wld x10 18 (by decide)) (wld x10 19 (by decide)) (wld x10 20 (by decide)) (wld x10 21 (by decide)) (wld x10 22 (by decide)) (wld x10 23 (by decide)) (wld x10 24 (by decide)) (wld x10 25 (by decide)) (wld x10 26 (by decide)) (wld x10 27 (by decide)) (wld x10 28 (by decide)) (wld x10 29 (by decide)) (wld x10 30 (by decide)) (tld x18 0 1280 (by decide)) (tld x18 1280 1280 (by decide)) (tld x18 2560 1280 (by decide)) (tld x18 3840 1120 (by decide)) _ _ _ q l (rows P W B b s) (fun x => ?_), rld_at, rld_at, h12, h13]
  rw [rld_at, h11, taps_at h (wld x10 0 (by decide)) (wld x10 1 (by decide)) (wld x10 2 (by decide)) (wld x10 3 (by decide)) (wld x10 4 (by decide)) (wld x10 5 (by decide)) (wld x10 6 (by decide)) (wld x10 7 (by decide)) (wld x10 8 (by decide)) (wld x10 9 (by decide)) (wld x10 10 (by decide)) (wld x10 11 (by decide)) (wld x10 12 (by decide)) (wld x10 13 (by decide)) (wld x10 14 (by decide)) (wld x10 15 (by decide)) (wld x10 16 (by decide)) (wld x10 17 (by decide)) (wld x10 18 (by decide)) (wld x10 19 (by decide)) (wld x10 20 (by decide)) (wld x10 21 (by decide)) (wld x10 22 (by decide)) (wld x10 23 (by decide)) (wld x10 24 (by decide)) (wld x10 25 (by decide)) (wld x10 26 (by decide)) (wld x10 27 (by decide)) (wld x10 28 (by decide)) (wld x10 29 (by decide)) (wld x10 30 (by decide)) (tld x18 0 1280 (by decide)) (tld x18 1280 1280 (by decide)) (tld x18 2560 1280 (by decide)) (tld x18 3840 1120 (by decide)) q x (fun k => W (ix2 k x))
    (hw x 0 _) (hw x 1 _) (hw x 2 _) (hw x 3 _) (hw x 4 _) (hw x 5 _) (hw x 6 _) (hw x 7 _) (hw x 8 _) (hw x 9 _) (hw x 10 _) (hw x 11 _) (hw x 12 _) (hw x 13 _) (hw x 14 _) (hw x 15 _) (hw x 16 _) (hw x 17 _) (hw x 18 _) (hw x 19 _) (hw x 20 _) (hw x 21 _) (hw x 22 _) (hw x 23 _) (hw x 24 _) (hw x 25 _) (hw x 26 _) (hw x 27 _) (hw x 28 _) (hw x 29 _) (hw x 30 _)
    (fun j r => (ht 0 1280 _ j.val _ r (by omega) rfl).trans (if_congr (by rw [show at' q (0 + j.val) (by omega) = at' q j.val (by omega) from Fin.ext (by simp only [at']; omega)]) rfl rfl)) (fun j r => ht 8 1280 _ j.val _ r (by omega) rfl) (fun j r => ht 16 1280 _ j.val _ r (by omega) rfl) (fun j r => ht 24 1120 _ j.val _ r (by omega) rfl)]
  unfold rows
  simp only [hh]

variable (m : (ℓ : Loc nD τ sig) → Buf (Elt Ideal) ℓ)

/-- A gated row of the group's input, once its two halves are read. -/
theorem input_eq {P : S8x4224x512.Idx → EReal} {b : Fin 8} {s : Fin 4224} {l : Fin 256} {x y : EReal} (hx : x = P (ix3 b s ⟨l.val, by omega⟩)) (hy : y = P (ix3 b s ⟨256 + l.val, by omega⟩)) :
    glu x y = input P b s l := by
  rw [hx, hy]
  rfl

/-- The first block's history. -/
theorem hist0_whole (c : Dev nD) (t : Fin cfg0.N) (b : Fin 8) (s : Fin 4224) (q : Fin 128) (hb : (b : ℕ) = (grid0.coords t 0).val)
    (hs : (s : ℕ) = 384 * (grid0.coords t 1).val + q.val) (j : Fin 31) (l : Fin 256) :
    hist0 (grid0.coords t) (pld (iblk m c 6 t : Vec Ideal S1x128x512 .bf16) 96 32 (by decide)) (pld (iblk m c 5 t : Vec Ideal S1x384x512 .bf16) 0 128 (by decide)) (ix2 (at' q j.val j.isLt) l)
      = past (m ((c : Thread nD τ).loc main_arg3)) b s l j.val := by
  have hbd := (bounds t).2
  have hv : (at' q j.val j.isLt).val = q.val + 2 + j.val := rfl
  rw [hist0_at]
  unfold past
  split
  · rename_i h32
    split
    · rename_i hp
      rw [dif_pos ⟨by omega, by omega⟩]
      refine input_eq ?_ ?_
      · exact (pld_at _ 96 32 _ _ _ ⟨96 + (at' q j.val j.isLt).val, by omega⟩ rfl).trans (blk6_at m c t _ _ b _ hb (by dsimp only; omega))
      · exact (pld_at _ 96 32 _ _ _ ⟨96 + (at' q j.val j.isLt).val, by omega⟩ rfl).trans (blk6_at m c t _ _ b _ hb (by dsimp only; omega))
    · rename_i hp
      rw [dif_neg (by omega)]
  · rename_i h32
    rw [dif_pos ⟨by omega, by omega⟩]
    refine input_eq ?_ ?_
    · exact (pld_at _ 0 128 _ _ _ ⟨(at' q j.val j.isLt).val - 32, by omega⟩ (by dsimp only; omega)).trans (blk5_at m c t _ _ b _ hb (by dsimp only; omega))
    · exact (pld_at _ 0 128 _ _ _ ⟨(at' q j.val j.isLt).val - 32, by omega⟩ (by dsimp only; omega)).trans (blk5_at m c t _ _ b _ hb (by dsimp only; omega))

/-- A later block's history. -/
theorem hist1_whole (c : Dev nD) (t : Fin cfg0.N) (b : Fin 8) (s : Fin 4224) (q : Fin 128) (o o' : ℕ) (ho : o' = o + 128) (ho2 : o' ≤ 256) (inb) (inb') (hb : (b : ℕ) = (grid0.coords t 0).val)
    (hs : (s : ℕ) = 384 * (grid0.coords t 1).val + o' + q.val) (j : Fin 31) (l : Fin 256) :
    hist1 (pld (iblk m c 5 t : Vec Ideal S1x384x512 .bf16) o 128 inb) (pld (iblk m c 5 t : Vec Ideal S1x384x512 .bf16) o' 128 inb') (ix2 (at' q j.val j.isLt) l)
      = past (m ((c : Thread nD τ).loc main_arg3)) b s l j.val := by
  have hbd := (bounds t).2
  have hv : (at' q j.val j.isLt).val = q.val + 2 + j.val := rfl
  rw [hist1_at]
  unfold past
  rw [dif_pos (c := 30 ≤ j.val + s.val ∧ j.val + s.val - 30 < 4224) ⟨by omega, by omega⟩]
  split
  · rename_i h32
    refine input_eq ?_ ?_
    · exact (pld_at _ o 128 _ _ _ ⟨o + (96 + (at' q j.val j.isLt).val), by omega⟩ rfl).trans (blk5_at m c t _ _ b _ hb (by dsimp only; omega))
    · exact (pld_at _ o 128 _ _ _ ⟨o + (96 + (at' q j.val j.isLt).val), by omega⟩ rfl).trans (blk5_at m c t _ _ b _ hb (by dsimp only; omega))
  · rename_i h32
    refine input_eq ?_ ?_
    · exact (pld_at _ o' 128 _ _ _ ⟨o' + ((at' q j.val j.isLt).val - 32), by omega⟩ rfl).trans (blk5_at m c t _ _ b _ hb (by dsimp only; omega))
    · exact (pld_at _ o' 128 _ _ _ ⟨o' + ((at' q j.val j.isLt).val - 32), by omega⟩ rfl).trans (blk5_at m c t _ _ b _ hb (by dsimp only; omega))

/-- The plain value of a convolution column. -/
def plain (c : Dev nD) (b : Fin 8) (s : Fin 4224) (l : Fin 256) : EReal :=
  glu (normed (rows (m ((c : Thread nD τ).loc main_arg3)) (m ((c : Thread nD τ).loc main_arg7)) (m ((c : Thread nD τ).loc main_arg8)) b s) (m ((c : Thread nD τ).loc main_arg9) (ix1 l)) (m ((c : Thread nD τ).loc main_arg10) (ix1 l)) l)
    (normed (rows (m ((c : Thread nD τ).loc main_arg3)) (m ((c : Thread nD τ).loc main_arg7)) (m ((c : Thread nD τ).loc main_arg8)) b s) (m ((c : Thread nD τ).loc main_arg9) (ix1 l)) (m ((c : Thread nD τ).loc main_arg10) (ix1 l)) l)

/-- A convolution column of a grid point from the arguments. -/
theorem convOut_whole (c : Dev nD) (t : Fin cfg0.N) (b : Fin 8) (n : Fin 33) (blk : Fin 3) (hb : (b : ℕ) = (grid0.coords t 0).val)
    (hn : (n : ℕ) = 3 * (grid0.coords t 1).val + blk.val) (q : Fin 128) (l : Fin 256) :
    convOut (grid0.coords t) (iblk m c 5 t) (iblk m c 6 t) (iblk m c 10 t) (iblk m c 11 t) (iblk m c 12 t) (iblk m c 13 t) (iblk m c 18 t) blk q l
      = if 112 ≤ 128 * n.val + q.val then plain m c b ⟨128 * n.val + q.val, by omega⟩ l else 0 := by
  unfold convOut
  refine if_congr (by omega) ?_ rfl
  unfold plain
  have hsb : 128 * n.val + q.val < 4224 := by omega
  have hw := fun h hh => conv_whole h (iblk m c 10 t) (iblk m c 11 t) (iblk m c 12 t) (iblk m c 13 t) (iblk m c 18 t) (m ((c : Thread nD τ).loc main_arg3)) (m ((c : Thread nD τ).loc main_arg7)) (m ((c : Thread nD τ).loc main_arg8))
    (m ((c : Thread nD τ).loc main_arg9)) (m ((c : Thread nD τ).loc main_arg10)) b ⟨128 * n.val + q.val, hsb⟩ q l hh (blk10_at m c t) (blk11_at m c t) (blk12_at m c t) (blk13_at m c t) (blk18_at m c t q)
  obtain rfl | rfl | rfl : blk = 0 ∨ blk = 1 ∨ blk = 2 := by omega
  · exact hw _ (hist0_whole m c t b _ q hb (by dsimp only; rw [hn]; change 128 * (3 * _ + 0) + _ = _; omega))
  · exact hw _ (hist1_whole m c t b _ q 0 128 (by omega) (by omega) _ _ hb (by dsimp only; rw [hn]; change 128 * (3 * _ + 1) + _ = _; omega))
  · exact hw _ (hist1_whole m c t b _ q 128 256 (by omega) (by omega) _ _ hb (by dsimp only; rw [hn]; change 128 * (3 * _ + 2) + _ = _; omega))

/-- A convolution column of the result. -/
theorem result_conv (c : Dev nD) (b : Fin 8) (n : Fin 33) (q : Fin 128) (l : Fin 256) :
    (dats m 0 c).arrAt 19 cfg0.N (ix3 (n0 := 8) (n1 := 4224) (n2 := 1024) b ⟨128 * n.val + q.val, by omega⟩ ⟨768 + l.val, by omega⟩)
      = if 112 ≤ 128 * n.val + q.val then plain m c b ⟨128 * n.val + q.val, by omega⟩ l else 0 := by
  rw [arr_eq]
  have hN : 11 * b.val + n.val / 3 < cfg0.N := by rw [N_eq]; omega
  have hc := coords_at ⟨11 * b.val + n.val / 3, hN⟩
  have hb := bounds ⟨11 * b.val + n.val / 3, hN⟩
  dsimp only at hc
  rw [← convOut_whole m c ⟨11 * b.val + n.val / 3, hN⟩ b n ⟨n.val % 3, Nat.mod_lt _ (by omega)⟩ (by omega) (by dsimp only; omega) q l, ← outs_conv]
  refine (congrArg₂ (fun (a : Fin cfg0.N) (r : Fin 384) => left m c a (ix3 0 r ⟨768 + l.val, by omega⟩))
    (x' := ⟨11 * b.val + n.val / 3, hN⟩) (y' := ⟨128 * (n.val % 3) + q.val, by omega⟩) ?_ ?_).trans rfl
  · refine Fin.ext ?_
    show 11 * b.val + (128 * n.val + q.val) / 384 = 11 * b.val + n.val / 3
    omega
  · refine Fin.ext ?_
    show (128 * n.val + q.val) % 384 = 128 * (n.val % 3) + q.val
    omega

end Cert.Mixer
-- ==== Proof.Mixer.ConvClaim.lean ====
module

public import proofs.«01_k».proof.Defs
public import proofs.«01_k».proof.Proof.Gen.ConvolutionIdeal.Run
public import proofs.«01_k».proof.Proof.Gen.On_convolution_columns
public import proofs.«01_k».proof.Proof.Mixer.ConvWhole
public import Idealize.ShloMosaic.Lib.Claim

@[expose] public section

/-! The convolution's columns of the mixer are the plain convolution. -/

set_option maxRecDepth 16384

noncomputable section

namespace Cert.Mixer

open Idealize.ShloMosaic Idealize.SL.Sem Idealize.ShloMosaic.TcCoe

/-- The convolution's columns. -/
theorem convolution_from (a0 : Cert.On_convolution_columns.S8x4224x384.Idx → EReal) (a1 : Cert.On_convolution_columns.S8x4224x1152.Idx → EReal) (a2 : Cert.On_convolution_columns.S8x4224x640.Idx → EReal)
    (a3 : Cert.On_convolution_columns.S8x4224x512.Idx → EReal) (a4 : Cert.On_convolution_columns.S384.Idx → EReal) (a5 : Cert.On_convolution_columns.S64.Idx → EReal)
    (a6 : Cert.On_convolution_columns.S6.Idx → EReal) (a7 : Cert.On_convolution_columns.S31x256.Idx → EReal) (a8 a9 a10 : Cert.On_convolution_columns.S256.Idx → EReal)
    (u : Fin 8) (v : Fin 4224) (w : Fin 1024) [Cert.On_convolution_columns.Facts]
    (h : Cert.On_convolution_columns.fn (F := Ideal) a0 a1 a2 a3 a4 a5 a6 a7 a8 a9 a10 (ix3 (n0 := 8) (n1 := 4224) (n2 := 1024) u v w) = 1#1) : 768 ≤ w.val := by
  have h' : IntOp.cmpi .sge (BitVec.ofNat 32 w.val) 768#32 = 1#1 := h
  rw [WordCmp.cmpi_sge_eq, toInt_nat w.val (by omega), toInt_nat 768 (by omega)] at h'
  have h2 : decide (((768 : ℕ) : ℤ) ≤ (w.val : ℤ)) = true := by
    revert h'
    generalize decide (((768 : ℕ) : ℤ) ≤ (w.val : ℤ)) = t
    cases t <;> simp
  rw [decide_eq_true_eq] at h2
  omega

open Cert.KernelIdeal Cert.KernelIdeal.Gen in
/-- There the two results are one. -/
theorem convolution_agree (m : (ℓ : Loc nD τ sig) → Buf (Elt Ideal) ℓ) (c : Dev nD) (u : Fin 8) (v : Fin 4224) (w : Fin 1024) (h : 768 ≤ w.val) :
    Cert.ConvolutionIdeal.Read.val_main_v198 (F := Ideal) (m ((c : Thread nD τ).loc main_arg3)) (m ((c : Thread nD τ).loc main_arg7)) (m ((c : Thread nD τ).loc main_arg8)) (m ((c : Thread nD τ).loc main_arg9)) (m ((c : Thread nD τ).loc main_arg10)) (ix3 u v w)
      = (dats m 0 c).arrAt 19 cfg0.N (ix3 (n0 := 8) (n1 := 4224) (n2 := 1024) u v w) := by
  obtain ⟨n, q, l, e⟩ : ∃ (n : Fin 33) (q : Fin 128) (l : Fin 256), ix3 u v w = ix3 (n0 := 8) (n1 := 4224) (n2 := 1024) u ⟨128 * n.val + q.val, by omega⟩ ⟨768 + l.val, by omega⟩ := by
    refine ⟨⟨v.val / 128, by omega⟩, ⟨v.val % 128, by omega⟩, ⟨w.val - 768, by omega⟩, ?_⟩
    refine congrArg₂ (fun a b => ix3 u a b) (Fin.ext ?_) (Fin.ext ?_)
    · show v.val = 128 * (v.val / 128) + v.val % 128
      omega
    · show w.val = 768 + (w.val - 768)
      omega
  have hs : 128 * n.val + q.val < 4224 := by omega
  rw [e, result_conv]
  split
  · rename_i hq
    exact (Cert.ConvolutionIdeal.Rows.out_at _ _ _ _ _ u ⟨128 * n.val + q.val, hs⟩ l hq).trans (Cert.ConvolutionIdeal.Rows.result_at _ _ _ _ _ u ⟨128 * n.val + q.val, hs⟩ l)
  · rename_i hq
    exact Cert.ConvolutionIdeal.Rows.out_pad _ _ _ _ _ u ⟨128 * n.val + q.val, hs⟩ l hq

/-- The mixer's convolution is the plain convolution, on its columns. -/
theorem convolution : Cert.algebraic_KernelIdeal_ConvolutionIdeal_on_convolution_columns (hKernelIdeal := Cert.KernelIdeal.Gen.facts)
    (hConvolutionIdeal := Cert.ConvolutionIdeal.Gen.facts) (hOn_convolution_columns := Cert.On_convolution_columns.Gen.facts) := by
  intro m g m' g' _ hagree
  refine ⟨fun c => (Cert.KernelIdeal.Gen.dats m 0 c).arrAt 19 Cert.KernelIdeal.cfg0.N, ?_, ?_⟩
  · exact (θ_run _ _ _).mono (fun r h c => ⟨fun i _ => congrFun (h c).1 i, (h c).2⟩) (Cert.KernelIdeal.Value.run_blocks m g)
  · refine (θ_run _ _ _).mono (fun r h c => ⟨fun i hi => ?_, (h c).2⟩) (Cert.ConvolutionIdeal.Value.run m' g')
    obtain ⟨h0, h1, h2, h3, h4, h5, h6, h7, h8, h9, h10⟩ := hagree c
    refine (congrFun ((h c).1.trans (Cert.ConvolutionIdeal.Read.val_main_v198_eq (Idealize.ShloMosaic.StableHlo.launchContents m' c))) i).trans ?_
    change Cert.ConvolutionIdeal.Read.val_main_v198 (F := Ideal) (m' ((c.tc : Thread Cert.ConvolutionIdeal.nD Cert.ConvolutionIdeal.τ).loc Cert.ConvolutionIdeal.main_arg3)) (m' ((c.tc : Thread Cert.ConvolutionIdeal.nD Cert.ConvolutionIdeal.τ).loc Cert.ConvolutionIdeal.main_arg7)) (m' ((c.tc : Thread Cert.ConvolutionIdeal.nD Cert.ConvolutionIdeal.τ).loc Cert.ConvolutionIdeal.main_arg8)) (m' ((c.tc : Thread Cert.ConvolutionIdeal.nD Cert.ConvolutionIdeal.τ).loc Cert.ConvolutionIdeal.main_arg9)) (m' ((c.tc : Thread Cert.ConvolutionIdeal.nD Cert.ConvolutionIdeal.τ).loc Cert.ConvolutionIdeal.main_arg10)) i = _
    rw [h3, h7, h8, h9, h10]
    have e : i = ix3 (n0 := 8) (n1 := 4224) (n2 := 1024) (i 0) (i 1) (i 2) := funext fun a => match a with | ⟨0, _⟩ => rfl | ⟨1, _⟩ => rfl | ⟨2, _⟩ => rfl
    rw [e] at hi ⊢
    exact convolution_agree m c (i 0) (i 1) (i 2) (convolution_from _ _ _ _ _ _ _ _ _ _ _ (i 0) (i 1) (i 2) hi)

end Cert.Mixer
-- ==== Proof.lean ====
/- The proof of the certificate: the frames, the idealizations and the values of the calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.AttentionIdeal
public import proofs.«01_k».proof.Proof.Gen.AttentionIdeal.Run
public import proofs.«01_k».proof.Proof.Gen.AttentionIdeal.Read
public import proofs.«01_k».proof.Proof.Gen.Pre_finite_attention
public import proofs.«01_k».proof.Proof.Gen.On_attention_columns
public import proofs.«01_k».proof.Proof.Gen.ConvolutionIdeal
public import proofs.«01_k».proof.Proof.Gen.ConvolutionIdeal.Run
public import proofs.«01_k».proof.Proof.Gen.ConvolutionIdeal.Read
public import proofs.«01_k».proof.Proof.Gen.On_convolution_columns
public import proofs.«01_k».proof.Proof.Gen.FinalFfn
public import proofs.«01_k».proof.Proof.Gen.FinalFfn.Skeleton
public import proofs.«01_k».proof.Proof.Gen.FinalFfn.Launch
public import proofs.«01_k».proof.Proof.Gen.FinalFfn.Points
public import proofs.«01_k».proof.Proof.Gen.FinalFfn.Frame
public import proofs.«01_k».proof.Proof.Gen.FinalFfnIdeal
public import proofs.«01_k».proof.Proof.Gen.FinalFfnIdeal.Skeleton
public import proofs.«01_k».proof.Proof.Gen.FinalFfnIdeal.Launch
public import proofs.«01_k».proof.Proof.Gen.FinalFfnIdeal.Points
public import proofs.«01_k».proof.Proof.Gen.FinalFfnIdeal.Frame
public import proofs.«01_k».proof.Proof.Gen.FinalFfnIdeal.Value
public import proofs.«01_k».proof.Proof.Gen.PreFfn
public import proofs.«01_k».proof.Proof.Gen.PreFfn.Skeleton
public import proofs.«01_k».proof.Proof.Gen.PreFfn.Launch
public import proofs.«01_k».proof.Proof.Gen.PreFfn.Points
public import proofs.«01_k».proof.Proof.Gen.PreFfn.Frame
public import proofs.«01_k».proof.Proof.Gen.PreFfnIdeal
public import proofs.«01_k».proof.Proof.Gen.PreFfnIdeal.Skeleton
public import proofs.«01_k».proof.Proof.Gen.PreFfnIdeal.Launch
public import proofs.«01_k».proof.Proof.Gen.PreFfnIdeal.Points
public import proofs.«01_k».proof.Proof.Gen.PreFfnIdeal.Frame
public import proofs.«01_k».proof.Proof.Gen.PreFfnIdeal.Value
public import proofs.«01_k».proof.Proof.Gen.PostFfn
public import proofs.«01_k».proof.Proof.Gen.PostFfn.Skeleton
public import proofs.«01_k».proof.Proof.Gen.PostFfn.Launch
public import proofs.«01_k».proof.Proof.Gen.PostFfn.Points
public import proofs.«01_k».proof.Proof.Gen.PostFfn.Frame
public import proofs.«01_k».proof.Proof.Gen.PostFfnIdeal
public import proofs.«01_k».proof.Proof.Gen.PostFfnIdeal.Skeleton
public import proofs.«01_k».proof.Proof.Gen.PostFfnIdeal.Launch
public import proofs.«01_k».proof.Proof.Gen.PostFfnIdeal.Points
public import proofs.«01_k».proof.Proof.Gen.PostFfnIdeal.Frame
public import proofs.«01_k».proof.Proof.Gen.PostFfnIdeal.Value
public import proofs.«01_k».proof.Proof.Gen.FirstFfn
public import proofs.«01_k».proof.Proof.Gen.FirstFfn.Skeleton
public import proofs.«01_k».proof.Proof.Gen.FirstFfn.Launch
public import proofs.«01_k».proof.Proof.Gen.FirstFfn.Points
public import proofs.«01_k».proof.Proof.Gen.FirstFfn.Frame
public import proofs.«01_k».proof.Proof.Gen.FirstFfnIdeal
public import proofs.«01_k».proof.Proof.Gen.FirstFfnIdeal.Skeleton
public import proofs.«01_k».proof.Proof.Gen.FirstFfnIdeal.Launch
public import proofs.«01_k».proof.Proof.Gen.FirstFfnIdeal.Points
public import proofs.«01_k».proof.Proof.Gen.FirstFfnIdeal.Frame
public import proofs.«01_k».proof.Proof.Gen.FirstFfnIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.PreRefIdeal
public import proofs.«01_k».proof.Proof.Gen.PreRefIdeal.Run
public import proofs.«01_k».proof.Proof.Gen.PreRefIdeal.Read
public import proofs.«01_k».proof.Proof.Gen.PostRefIdeal
public import proofs.«01_k».proof.Proof.Gen.PostRefIdeal.Run
public import proofs.«01_k».proof.Proof.Gen.PostRefIdeal.Read
public import proofs.«01_k».proof.Proof.Gen.FirstRefIdeal
public import proofs.«01_k».proof.Proof.Gen.FirstRefIdeal.Run
public import proofs.«01_k».proof.Proof.Gen.FirstRefIdeal.Read
public import proofs.«01_k».proof.Proof.Ffn.FinalClaim
public import proofs.«01_k».proof.Proof.Ffn.PreClaim
public import proofs.«01_k».proof.Proof.Ffn.PostClaim
public import proofs.«01_k».proof.Proof.Ffn.FirstClaim
public import proofs.«01_k».proof.Proof.Mixer.Claim
public import proofs.«01_k».proof.Proof.Mixer.ConvClaim
public import Idealize.ShloMosaic.Adequacy
public import Idealize.ShloMosaic.Init

@[expose] public section

noncomputable section

namespace Cert.Proof

open Idealize.ShloMosaic Idealize.SL.Sem

/-- The frame of AttentionIdeal: a run of host operations, which changes no argument and has no semaphore. -/
theorem frame_AttentionIdeal : Cert.quiescent_AttentionIdeal (hAttentionIdeal := Cert.AttentionIdeal.Gen.facts) := fun m g _ =>
  (θ_run _ _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
    Idealize.ShloMosaic.sem_eq_zero_of_no_sems (by decide) r.2⟩) (Cert.AttentionIdeal.Value.run m g)

/-- The frame of ConvolutionIdeal: a run of host operations, which changes no argument and has no semaphore. -/
theorem frame_ConvolutionIdeal : Cert.quiescent_ConvolutionIdeal (hConvolutionIdeal := Cert.ConvolutionIdeal.Gen.facts) := fun m g _ =>
  (θ_run _ _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
    Idealize.ShloMosaic.sem_eq_zero_of_no_sems (by decide) r.2⟩) (Cert.ConvolutionIdeal.Value.run m g)

/-- The frame of FinalRefIdeal: a run of host operations, which changes no argument and has no semaphore. -/
theorem frame_FinalRefIdeal : Cert.quiescent_FinalRefIdeal (hFinalRefIdeal := Cert.FinalRefIdeal.Gen.facts) := fun m g _ =>
  (θ_run _ _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2⟩,
    Idealize.ShloMosaic.sem_eq_zero_of_no_sems (by decide) r.2⟩) (Cert.FinalRefIdeal.Value.run m g)

/-- The frame of PreRefIdeal: a run of host operations, which changes no argument and has no semaphore. -/
theorem frame_PreRefIdeal : Cert.quiescent_PreRefIdeal (hPreRefIdeal := Cert.PreRefIdeal.Gen.facts) := fun m g _ =>
  (θ_run _ _ _).mono (fun r h => ⟨fun c => ⟨(h c).2.1, (h c).2.2.1, (h c).2.2.2.1, (h c).2.2.2.2.1, (h c).2.2.2.2.2.1, (h c).2.2.2.2.2.2.1, (h c).2.2.2.2.2.2.2⟩,
    Idealize.ShloMosaic.sem_eq_zero_of_no_sems (by decide) r.2⟩) (Cert.PreRefIdeal.Value.run m g)

/-- The frame of PostRefIdeal: a run of host operations, which changes no argument and has no semaphore. -/
theorem frame_PostRefIdeal : Cert.quiescent_PostRefIdeal (hPostRefIdeal := Cert.PostRefIdeal.Gen.facts) := fun m g _ =>
  (θ_run _ _ _).mono (fun r h => ⟨fun c => ⟨(h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
    Idealize.ShloMosaic.sem_eq_zero_of_no_sems (by decide) r.2⟩) (Cert.PostRefIdeal.Value.run m g)

/-- The frame of FirstRefIdeal: a run of host operations, which changes no argument and has no semaphore. -/
theorem frame_FirstRefIdeal : Cert.quiescent_FirstRefIdeal (hFirstRefIdeal := Cert.FirstRefIdeal.Gen.facts) := fun m g _ =>
  (θ_run _ _ _).mono (fun r h => ⟨fun c => ⟨(h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
    Idealize.ShloMosaic.sem_eq_zero_of_no_sems (by decide) r.2⟩) (Cert.FirstRefIdeal.Value.run m g)

/-- Every claim of the certificate. -/
theorem claim : Cert.Claim :=
  ⟨Cert.Kernel.Gen.facts, Cert.KernelIdeal.Gen.facts, Cert.AttentionIdeal.Gen.facts, Cert.ConvolutionIdeal.Gen.facts, Cert.FinalFfn.Gen.facts, Cert.FinalFfnIdeal.Gen.facts, Cert.FinalRefIdeal.Gen.facts, Cert.PreFfn.Gen.facts, Cert.PreFfnIdeal.Gen.facts, Cert.PreRefIdeal.Gen.facts, Cert.PostFfn.Gen.facts, Cert.PostFfnIdeal.Gen.facts, Cert.PostRefIdeal.Gen.facts, Cert.FirstFfn.Gen.facts, Cert.FirstFfnIdeal.Gen.facts, Cert.FirstRefIdeal.Gen.facts, Cert.Pre_finite_attention.Gen.facts, Cert.On_attention_columns.Gen.facts, Cert.On_convolution_columns.Gen.facts,
    fun m g _ => Cert.Kernel.Gen.frame m g,
    fun m g _ => Cert.KernelIdeal.Gen.frame m g,
    fun m g _ => Cert.KernelIdeal.Gen.frame m g,
    frame_AttentionIdeal,
    fun m g _ => frame_AttentionIdeal m g trivial,
    frame_ConvolutionIdeal,
    fun m g _ => Cert.FinalFfn.Gen.frame m g,
    fun m g _ => Cert.FinalFfnIdeal.Gen.frame m g,
    frame_FinalRefIdeal,
    fun m g _ => Cert.PreFfn.Gen.frame m g,
    fun m g _ => Cert.PreFfnIdeal.Gen.frame m g,
    frame_PreRefIdeal,
    fun m g _ => Cert.PostFfn.Gen.frame m g,
    fun m g _ => Cert.PostFfnIdeal.Gen.frame m g,
    frame_PostRefIdeal,
    fun m g _ => Cert.FirstFfn.Gen.frame m g,
    fun m g _ => Cert.FirstFfnIdeal.Gen.frame m g,
    frame_FirstRefIdeal,
    trivial,
    Cert.Mixer.attention,
    Cert.Mixer.convolution,
    trivial,
    Cert.Ffn.final,
    trivial,
    Cert.Ffn.pre,
    trivial,
    Cert.Ffn.post,
    trivial,
    Cert.Ffn.first⟩

end Cert.Proof

end
